-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v192) = v1 c
          ∧ r.2.mem ((c.tc : Thread Cert.ReferenceIdeal.nD Cert.ReferenceIdeal.τ).loc Cert.ReferenceIdeal.main_v194) = v2 c
          ∧ r.2.mem ((c.tc : Thread Cert.ReferenceIdeal.nD Cert.ReferenceIdeal.τ).loc Cert.ReferenceIdeal.main_v119) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v54) = v0 c
          ∧ r.2.mem ((c.tc : Thread Cert.Reference3Ideal.nD Cert.Reference3Ideal.τ).loc Cert.Reference3Ideal.main_v55) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v44) = v0 c
          ∧ r.2.mem ((c.tc : Thread Cert.Reference7Ideal.nD Cert.Reference7Ideal.τ).loc Cert.Reference7Ideal.main_v45) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_v28) = v2 c
          ∧ r.2.mem ((c.tc : Thread Cert.Reference8Ideal.nD Cert.Reference8Ideal.τ).loc Cert.Reference8Ideal.main_v31) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v43) = v0 c
          ∧ r.2.mem ((c.tc : Thread Cert.Reference9Ideal.nD Cert.Reference9Ideal.τ).loc Cert.Reference9Ideal.main_v44) = v1 c
          ∧ r.2.mem ((c.tc : Thread Cert.Reference9Ideal.nD Cert.Reference9Ideal.τ).loc Cert.Reference9Ideal.main_v46) = v2 c
          ∧ r.2.mem ((c.tc : Thread Cert.Reference9Ideal.nD Cert.Reference9Ideal.τ).loc Cert.Reference9Ideal.main_v48) = v3 c
          ∧ r.2.mem ((c.tc : Thread Cert.Reference9Ideal.nD Cert.Reference9Ideal.τ).loc Cert.Reference9Ideal.main_v51) = v4 c
          ∧ r.2.mem ((c.tc : Thread Cert.Reference9Ideal.nD Cert.Reference9Ideal.τ).loc Cert.Reference9Ideal.main_v26) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v52) = v0 c
          ∧ r.2.mem ((c.tc : Thread Cert.Reference10Ideal.nD Cert.Reference10Ideal.τ).loc Cert.Reference10Ideal.main_v54) = v1 c
          ∧ r.2.mem ((c.tc : Thread Cert.Reference10Ideal.nD Cert.Reference10Ideal.τ).loc Cert.Reference10Ideal.main_v55) = v2 c
          ∧ r.2.mem ((c.tc : Thread Cert.Reference10Ideal.nD Cert.Reference10Ideal.τ).loc Cert.Reference10Ideal.main_v56) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_finite.lean ====
abbrev S2048x3072 : Shape := ⟨2, ![2048, 3072]⟩
abbrev S8x64x576 : Shape := ⟨3, ![8, 64, 576]⟩
abbrev S2048x512 : Shape := ⟨2, ![2048, 512]⟩
abbrev S8x128 : Shape := ⟨2, ![8, 128]⟩
abbrev S2048x1024 : Shape := ⟨2, ![2048, 1024]⟩
abbrev S_ : Shape := ⟨0, ![]⟩

class Facts : Prop where
  slices_S2048x3072_S2048x1024_0_1536 : S2048x3072.Slices ![0, 1536] S2048x1024
  bitsLt_bf16_f32 : FTy.bits .bf16 < FTy.bits .f32
  bcast_S_S2048x1024 : S_.BroadcastsInDim S2048x1024 (![] : Fin 0 → Fin S2048x1024.rank)
  bcast_S_S8x64x576 : S_.BroadcastsInDim S8x64x576 (![] : Fin 0 → Fin S8x64x576.rank)

variable [Facts]

def fn {F : FTy → Type} [FloatOps F] (main_arg0 : FVec F S2048x3072 .bf16) (main_arg1 : FVec F S8x64x576 .f32) (main_arg2 : FVec F S2048x512 .f32) (main_arg3 : FVec F S8x128 .f32) : IVec S2048x1024 1 × IVec S8x64x576 1 :=
  let main_v0 : FVec F S2048x1024 .bf16 := (extractStridedSlice S2048x1024 ![0, 1536] · slices_S2048x3072_S2048x1024_0_1536) main_arg0
  let main_v1 : FVec F S2048x1024 .f32 := (extf .f32 · bitsLt_bf16_f32) main_v0
  let main_v2 : FVec F S2048x1024 .f32 := Host.absf main_v1
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  let main_v5 : FVec F S8x64x576 .f32 := Host.absf main_arg1
  let main_cst_0 : FVec F S_ .f32 := constant S_ .f32 0x7F800000#32
  let main_v6 : FVec F S8x64x576 .f32 := broadcastInDim S8x64x576 ![] bcast_S_S8x64x576 main_cst_0
  let main_v7 : IVec S8x64x576 1 := cmpf .olt main_v5 main_v6
  (main_v4, main_v7)
-- ==== Kernel.lean ====
abbrev S2048x3072 : Shape := ⟨2, ![2048, 3072]⟩
abbrev S8x64x576 : Shape := ⟨3, ![8, 64, 576]⟩
abbrev S2048x512 : Shape := ⟨2, ![2048, 512]⟩
abbrev S8x128 : Shape := ⟨2, ![8, 128]⟩
abbrev S_ : Shape := ⟨0, ![]⟩
abbrev S8x64x640 : Shape := ⟨3, ![8, 64, 640]⟩
abbrev S8x128x640 : Shape := ⟨3, ![8, 128, 640]⟩
abbrev S128x512 : Shape := ⟨2, ![128, 512]⟩
abbrev S2560x512 : Shape := ⟨2, ![2560, 512]⟩
abbrev S512x512 : Shape := ⟨2, ![512, 512]⟩
abbrev S128x640 : Shape := ⟨2, ![128, 640]⟩
abbrev S1x128 : Shape := ⟨2, ![1, 128]⟩
abbrev S640x128 : Shape := ⟨2, ![640, 128]⟩
abbrev S128x128 : Shape := ⟨2, ![128, 128]⟩
abbrev S1x128x640 : Shape := ⟨3, ![1, 128, 640]⟩
abbrev S128 : Shape := ⟨1, ![128]⟩
abbrev S128x1 : Shape := ⟨2, ![128, 1]⟩

abbrev nBuf : Space → Nat
  | .hbm => 18
  | .vmem => 16
  | .smem => 0
  | _ => 0

abbrev bufTy : (tb : Table) → Fin (tcTables nBuf tb) → BufTy
  | .hbm, ⟨0, _⟩ => ⟨S2048x3072, .bf16⟩
  | .hbm, ⟨1, _⟩ => ⟨S8x64x576, .f32⟩
  | .hbm, ⟨2, _⟩ => ⟨S2048x512, .f32⟩
  | .hbm, ⟨3, _⟩ => ⟨S8x128, .f32⟩
  | .hbm, ⟨4, _⟩ => ⟨S_, .i32⟩
  | .hbm, ⟨5, _⟩ => ⟨S_, .f32⟩
  | .hbm, ⟨6, _⟩ => ⟨S8x64x640, .f32⟩
  | .hbm, ⟨7, _⟩ => ⟨S_, .i32⟩
  | .hbm, ⟨8, _⟩ => ⟨S_, .f32⟩
  | .hbm, ⟨9, _⟩ => ⟨S8x64x640, .f32⟩
  | .hbm, ⟨10, _⟩ => ⟨S8x128x640, .f32⟩
  | .hbm, ⟨11, _⟩ => ⟨S2048x512, .bf16⟩
  | .hbm, ⟨12, _⟩ => ⟨S2048x512, .bf16⟩
  | .hbm, ⟨13, _⟩ => ⟨S2048x512, .bf16⟩
  | .hbm, ⟨14, _⟩ => ⟨S8x128x640, .f32⟩
  | .hbm, ⟨15, _⟩ => ⟨S8x64x576, .f32⟩
  | .hbm, ⟨16, _⟩ => ⟨S8x64x576, .f32⟩
  | .hbm, ⟨17, _⟩ => ⟨S8x64x576, .f32⟩
  | .local _ .vmem, ⟨0, _⟩ => ⟨S128x512, .bf16⟩
  | .local _ .vmem, ⟨1, _⟩ => ⟨S128x512, .bf16⟩
  | .local _ .vmem, ⟨2, _⟩ => ⟨S2048x512, .bf16⟩
  | .local _ .vmem, ⟨3, _⟩ => ⟨S2048x512, .bf16⟩
  | .local _ .vmem, ⟨4, _⟩ => ⟨S8x128x640, .f32⟩
  | .local _ .vmem, ⟨5, _⟩ => ⟨S128x512, .f32⟩
  | .local _ .vmem, ⟨6, _⟩ => ⟨S128x512, .f32⟩
  | .local _ .vmem, ⟨7, _⟩ => ⟨S128x512, .bf16⟩
  | .local _ .vmem, ⟨8, _⟩ => ⟨S128x512, .bf16⟩
  | .local _ .vmem, ⟨9, _⟩ => ⟨S2048x512, .bf16⟩
  | .local _ .vmem, ⟨10, _⟩ => ⟨S2048x512, .bf16⟩
  | .local _ .vmem, ⟨11, _⟩ => ⟨S8x128x640, .f32⟩
  | .local _ .vmem, ⟨12, _⟩ => ⟨S2560x512, .bf16⟩
  | .local _ .vmem, ⟨13, _⟩ => ⟨S2560x512, .bf16⟩
  | .local _ .vmem, ⟨14, _⟩ => ⟨S2560x512, .f32⟩
  | .local _ .vmem, ⟨15, _⟩ => ⟨S2560x512, .f32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c128_i32 : BitVec 32 := 128#32
  let v3 : BitVec 32 := Scalar.muli arg0 c128_i32
  v3
def k0_off1 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v72 : Index := Scalar.indexCast v4
  let c0 : Index := 0#32
  ![v72.toNat, 0]
def k0_off2 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v74 : Index := Scalar.indexCast v4
  let c128 : Index := 128#32
  ![v74.toNat, 128]
def k0_off3 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v76 : Index := Scalar.indexCast v4
  let c256 : Index := 256#32
  ![v76.toNat, 256]
def k0_off4 (i : grid0.Coords) : Fin 2 → Nat :=
  let arg0 : BitVec 32 := BitVec.ofNat 32 (i 0).val
  let c128_i32 : BitVec 32 := 128#32
  let v3 : BitVec 32 := Scalar.muli arg0 c128_i32
  let v4 : BitVec 32 := v3
  let v78 : Index := Scalar.indexCast v4
  let c384 : Index := 384#32
  ![v78.toNat, 384]
def k0_cond2 (i : grid0.Coords) : BitVec 1 :=
  let arg0 : BitVec 32 := BitVec.ofNat 32 (i 0).val
  let c15_i32 : BitVec 32 := 15#32
  let v588 : BitVec 1 := Scalar.cmpi .eq arg0 c15_i32
  let v589 : BitVec 32 := Scalar.extui v588
  let c0_i32_253 : BitVec 32 := 0#32
  let v590 : BitVec 1 := Scalar.cmpi .ne v589 c0_i32_253
  v590

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_3 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2048x3072 : Shape := ⟨2, ![2048, 3072]⟩
abbrev S8x64x576 : Shape := ⟨3, ![8, 64, 576]⟩
abbrev S2048x512 : Shape := ⟨2, ![2048, 512]⟩
abbrev S8x128 : Shape := ⟨2, ![8, 128]⟩
abbrev S1x2048x512 : Shape := ⟨3, ![1, 2048, 512]⟩
abbrev S1x2048x8x64 : Shape := ⟨4, ![1, 2048, 8, 64]⟩
abbrev S1x8x2048x64 : Shape := ⟨4, ![1, 8, 2048, 64]⟩
abbrev S1x8x32x64x64 : Shape := ⟨5, ![1, 8, 32, 64, 64]⟩
abbrev S_ : Shape := ⟨0, ![]⟩
abbrev S1x8x8x64x64 : Shape := ⟨5, ![1, 8, 8, 64, 64]⟩
abbrev S1x8x40x64x64 : Shape := ⟨5, ![1, 8, 40, 64, 64]⟩
abbrev S1x8x32x576x64 : Shape := ⟨5, ![1, 8, 32, 576, 64]⟩
abbrev S1x8x32x64x576 : Shape := ⟨5, ![1, 8, 32, 64, 576]⟩
abbrev S1x8x1x64x576 : Shape := ⟨5, ![1, 8, 1, 64, 576]⟩
abbrev S576 : Shape := ⟨1, ![576]⟩
abbrev S32 : Shape := ⟨1, ![32]⟩
abbrev S32x1 : Shape := ⟨2, ![32, 1]⟩
abbrev S1x576 : Shape := ⟨2, ![1, 576]⟩
abbrev S32x576 : Shape := ⟨2, ![32, 576]⟩
abbrev S1x1x32x1x576 : Shape := ⟨5, ![1, 1, 32, 1, 576]⟩
abbrev S1x8x32x64 : Shape := ⟨4, ![1, 8, 32, 64]⟩
abbrev S1x8x32x64x1 : Shape := ⟨5, ![1, 8, 32, 64, 1]⟩
abbrev S8x32x64 : Shape := ⟨3, ![8, 32, 64]⟩
abbrev S1x8x64x576 : Shape := ⟨4, ![1, 8, 64, 576]⟩

abbrev nBuf : Space → Nat
  | .hbm => 264
  | .vmem => 0
  | .smem => 0
  | _ => 0

abbrev hbmTy0_0 (i : Nat) : BufTy := match i % 128 with
  | 0 => ⟨S2048x3072, .bf16⟩
  | 1 => ⟨S8x64x576, .f32⟩
  | 2 => ⟨S2048x512, .f32⟩
  | 3 => ⟨S8x128, .f32⟩
  | 4 => ⟨S2048x512, .bf16⟩
  | 5 => ⟨S1x2048x512, .bf16⟩
  | 6 => ⟨S1x2048x512, .f32⟩
  | 7 => ⟨S2048x512, .bf16⟩
  | 8 => ⟨S1x2048x512, .bf16⟩
  | 9 => ⟨S1x2048x512, .f32⟩
  | 10 => ⟨S2048x512, .bf16⟩
  | 11 => ⟨S1x2048x512, .bf16⟩
  | 12 => ⟨S1x2048x512, .f32⟩
  | 13 => ⟨S1x2048x8x64, .f32⟩
  | 14 => ⟨S1x8x2048x64, .f32⟩
  | 15 => ⟨S1x2048x8x64, .f32⟩
  | 16 => ⟨S1x8x2048x64, .f32⟩
  | 17 => ⟨S1x2048x8x64, .f32⟩
  | 18 => ⟨S1x8x2048x64, .f32⟩
  | 19 => ⟨S1x8x32x64x64, .f32⟩
  | 20 => ⟨S1x8x32x64x64, .f32⟩
  | 21 => ⟨S_, .f32⟩
  | 22 => ⟨S1x8x8x64x64, .f32⟩
  | 23 => ⟨S1x8x40x64x64, .f32⟩
  | 24 => ⟨S_, .f32⟩
  | 25 => ⟨S1x8x8x64x64, .f32⟩
  | 26 => ⟨S1x8x32x64x64, .f32⟩
  | 27 => ⟨S1x8x32x64x64, .f32⟩
  | 28 => ⟨S1x8x32x64x64, .f32⟩
  | 29 => ⟨S1x8x32x64x64, .f32⟩
  | 30 => ⟨S1x8x32x64x64, .f32⟩
  | 31 => ⟨S1x8x32x64x64, .f32⟩
  | 32 => ⟨S1x8x32x64x64, .f32⟩
  | 33 => ⟨S1x8x32x64x64, .f32⟩
  | 34 => ⟨S1x8x32x64x64, .f32⟩
  | 35 => ⟨S1x8x32x576x64, .f32⟩
  | 36 => ⟨S1x8x32x64x64, .f32⟩
  | 37 => ⟨S_, .f32⟩
  | 38 => ⟨S1x8x8x64x64, .f32⟩
  | 39 => ⟨S1x8x40x64x64, .f32⟩
  | 40 => ⟨S_, .f32⟩
  | 41 => ⟨S1x8x8x64x64, .f32⟩
  | 42 => ⟨S1x8x32x64x64, .f32⟩
  | 43 => ⟨S1x8x32x64x64, .f32⟩
  | 44 => ⟨S1x8x32x64x64, .f32⟩
  | 45 => ⟨S1x8x32x64x64, .f32⟩
  | 46 => ⟨S1x8x32x64x64, .f32⟩
  | 47 => ⟨S1x8x32x64x64, .f32⟩
  | 48 => ⟨S1x8x32x64x64, .f32⟩
  | 49 => ⟨S1x8x32x64x64, .f32⟩
  | 50 => ⟨S1x8x32x64x64, .f32⟩
  | 51 => ⟨S1x8x32x576x64, .f32⟩
  | 52 => ⟨S1x8x32x64x576, .f32⟩
  | 53 => ⟨S_, .f32⟩
  | 54 => ⟨S1x8x32x64x576, .f32⟩
  | 55 => ⟨S1x8x32x64x576, .f32⟩
  | 56 => ⟨S1x8x1x64x576, .f32⟩
  | 57 => ⟨S1x8x32x64x576, .f32⟩
  | 58 => ⟨S1x8x32x64x576, .f32⟩
  | 59 => ⟨S576, .i32⟩
  | 60 => ⟨S_, .i32⟩
  | 61 => ⟨S_, .i32⟩
  | 62 => ⟨S576, .i32⟩
  | 63 => ⟨S576, .i32⟩
  | 64 => ⟨S576, .i32⟩
  | 65 => ⟨S_, .i32⟩
  | 66 => ⟨S576, .i32⟩
  | 67 => ⟨S576, .i1⟩
  | 68 => ⟨S576, .i32⟩
  | 69 => ⟨S576, .i32⟩
  | 70 => ⟨S_, .i32⟩
  | 71 => ⟨S576, .i32⟩
  | 72 => ⟨S576, .i1⟩
  | 73 => ⟨S576, .i1⟩
  | 74 => ⟨S_, .i32⟩
  | 75 => ⟨S576, .i32⟩
  | 76 => ⟨S576, .i32⟩
  | 77 => ⟨S576, .i32⟩
  | 78 => ⟨S32, .i32⟩
  | 79 => ⟨S32x1, .i32⟩
  | 80 => ⟨S1x576, .i32⟩
  | 81 => ⟨S32x576, .i32⟩
  | 82 => ⟨S32x576, .i32⟩
  | 83 => ⟨S32x576, .i32⟩
  | 84 => ⟨S_, .i32⟩
  | 85 => ⟨S32x576, .i32⟩
  | 86 => ⟨S32x576, .i32⟩
  | 87 => ⟨S_, .i32⟩
  | 88 => ⟨S32x576, .i32⟩
  | 89 => ⟨S32x576, .i1⟩
  | 90 => ⟨S1x1x32x1x576, .i1⟩
  | 91 => ⟨S_, .f32⟩
  | 92 => ⟨S_, .f32⟩
  | 93 => ⟨S1x8x32x64x576, .i1⟩
  | 94 => ⟨S1x8x32x64x576, .f32⟩
  | 95 => ⟨S1x8x32x64x576, .f32⟩
  | 96 => ⟨S_, .f32⟩
  | 97 => ⟨S1x8x32x64x576, .f32⟩
  | 98 => ⟨S_, .f32⟩
  | 99 => ⟨S1x8x32x64, .f32⟩
  | 100 => ⟨S1x8x32x64x1, .f32⟩
  | 101 => ⟨S1x8x32x64x576, .f32⟩
  | 102 => ⟨S1x8x32x64x576, .i1⟩
  | 103 => ⟨S1x8x32x64x576, .f32⟩
  | 104 => ⟨S_, .f32⟩
  | 105 => ⟨S1x8x32x64, .f32⟩
  | 106 => ⟨S_, .f32⟩
  | 107 => ⟨S1x8x32x64, .f32⟩
  | 108 => ⟨S1x8x32x64, .f32⟩
  | 109 => ⟨S_, .f32⟩
  | 110 => ⟨S1x8x32x64, .f32⟩
  | 111 => ⟨S1x8x32x64, .i1⟩
  | 112 => ⟨S_, .f32⟩
  | 113 => ⟨S1x8x32x64, .f32⟩
  | 114 => ⟨S1x8x32x64, .i1⟩
  | 115 => ⟨S_, .f32⟩
  | 116 => ⟨S1x8x32x64, .f32⟩
  | 117 => ⟨S_, .f32⟩
  | 118 => ⟨S1x8x32x64, .f32⟩
  | 119 => ⟨S_, .f32⟩
  | 120 => ⟨S1x8x32x64, .f32⟩
  | 121 => ⟨S1x8x32x64, .f32⟩
  | 122 => ⟨S1x8x32x64, .f32⟩
  | 123 => ⟨S1x8x32x64x1, .f32⟩
  | 124 => ⟨S1x8x32x64x576, .f32⟩
  | 125 => ⟨S1x8x32x64x576, .f32⟩
  | 126 => ⟨S1x8x32x64x576, .f32⟩
  | 127 => ⟨S_, .f32⟩
  | _ => ⟨S2048x3072, .bf16⟩

abbrev hbmTy0_1 (i : Nat) : BufTy := match i % 128 with
  | 0 => ⟨S1x8x32x64, .f32⟩
  | 1 => ⟨S1x8x32x64x1, .f32⟩
  | 2 => ⟨S1x8x32x64x576, .f32⟩
  | 3 => ⟨S1x8x32x64x576, .f32⟩
  | 4 => ⟨S1x8x32x64x1, .f32⟩
  | 5 => ⟨S_, .f32⟩
  | 6 => ⟨S1x8x32x64x1, .f32⟩
  | 7 => ⟨S1x8x32x64x1, .f32⟩
  | 8 => ⟨S1x8x32x64x64, .f32⟩
  | 9 => ⟨S1x8x2048x64, .f32⟩
  | 10 => ⟨S1x2048x8x64, .f32⟩
  | 11 => ⟨S1x2048x512, .f32⟩
  | 12 => ⟨S1x2048x512, .f32⟩
  | 13 => ⟨S1x2048x8x64, .f32⟩
  | 14 => ⟨S1x8x2048x64, .f32⟩
  | 15 => ⟨S1x8x32x64x64, .f32⟩
  | 16 => ⟨S1x8x32x64x576, .f32⟩
  | 17 => ⟨S1x8x32x576x64, .f32⟩
  | 18 => ⟨S1x8x32x64x576, .f32⟩
  | 19 => ⟨S1x8x32x64x576, .f32⟩
  | 20 => ⟨S1x8x32x64x576, .f32⟩
  | 21 => ⟨S1x8x32x64x576, .f32⟩
  | 22 => ⟨S_, .f32⟩
  | 23 => ⟨S1x8x32x64, .f32⟩
  | 24 => ⟨S1x8x32x64x1, .f32⟩
  | 25 => ⟨S1x8x32x64x1, .f32⟩
  | 26 => ⟨S1x8x32x64x576, .f32⟩
  | 27 => ⟨S1x8x32x64x576, .f32⟩
  | 28 => ⟨S_, .f32⟩
  | 29 => ⟨S8x32x64, .f32⟩
  | 30 => ⟨S1x8x32x64, .f32⟩
  | 31 => ⟨S1x8x32x64x576, .f32⟩
  | 32 => ⟨S1x8x32x64x576, .f32⟩
  | 33 => ⟨S1x8x32x64x576, .f32⟩
  | 34 => ⟨S_, .f32⟩
  | 35 => ⟨S1x8x32x64x576, .f32⟩
  | 36 => ⟨S1x8x32x64x576, .f32⟩
  | 37 => ⟨S_, .f32⟩
  | 38 => ⟨S1x8x64x576, .f32⟩
  | 39 => ⟨S1x8x1x64x576, .f32⟩
  | 40 => ⟨S_, .f32⟩
  | 41 => ⟨S8x64x576, .f32⟩
  | 42 => ⟨S_, .f32⟩
  | 43 => ⟨S1x8x32x64x576, .f32⟩
  | 44 => ⟨S1x8x32x64x576, .f32⟩
  | 45 => ⟨S1x8x32x576x64, .f32⟩
  | 46 => ⟨S1x8x32x64x64, .f32⟩
  | 47 => ⟨S1x8x32x64x64, .f32⟩
  | 48 => ⟨S1x8x32x64x64, .f32⟩
  | 49 => ⟨S1x8x32x64x64, .f32⟩
  | 50 => ⟨S1x8x32x64x64, .f32⟩
  | 51 => ⟨S1x8x32x64x64, .f32⟩
  | 52 => ⟨S1x8x32x64x64, .f32⟩
  | 53 => ⟨S1x8x32x64x64, .f32⟩
  | 54 => ⟨S1x8x32x64x64, .f32⟩
  | 55 => ⟨S1x8x32x64x64, .f32⟩
  | 56 => ⟨S_, .f32⟩
  | 57 => ⟨S1x8x40x64x64, .f32⟩
  | 58 => ⟨S_, .f32⟩
  | 59 => ⟨S1x8x40x64x64, .f32⟩
  | 60 => ⟨S1x8x40x64x64, .f32⟩
  | 61 => ⟨S_, .f32⟩
  | 62 => ⟨S1x8x40x64x64, .f32⟩
  | 63 => ⟨S1x8x40x64x64, .f32⟩
  | 64 => ⟨S_, .f32⟩
  | 65 => ⟨S1x8x40x64x64, .f32⟩
  | 66 => ⟨S1x8x40x64x64, .f32⟩
  | 67 => ⟨S_, .f32⟩
  | 68 => ⟨S1x8x40x64x64, .f32⟩
  | 69 => ⟨S1x8x40x64x64, .f32⟩
  | 70 => ⟨S_, .f32⟩
  | 71 => ⟨S1x8x40x64x64, .f32⟩
  | 72 => ⟨S1x8x40x64x64, .f32⟩
  | 73 => ⟨S_, .f32⟩
  | 74 => ⟨S1x8x40x64x64, .f32⟩
  | 75 => ⟨S1x8x40x64x64, .f32⟩
  | 76 => ⟨S_, .f32⟩
  | 77 => ⟨S1x8x40x64x64, .f32⟩
  | 78 => ⟨S1x8x40x64x64, .f32⟩
  | 79 => ⟨S_, .f32⟩
  | 80 => ⟨S1x8x40x64x64, .f32⟩
  | 81 => ⟨S1x8x40x64x64, .f32⟩
  | 82 => ⟨S1x8x8x64x64, .f32⟩
  | 83 => ⟨S1x8x32x64x64, .f32⟩
  | 84 => ⟨S1x8x2048x64, .f32⟩
  | 85 => ⟨S1x8x32x64x64, .f32⟩
  | 86 => ⟨S1x8x32x64x64, .f32⟩
  | 87 => ⟨S1x8x32x64x64, .f32⟩
  | 88 => ⟨S1x8x32x64x64, .f32⟩
  | 89 => ⟨S1x8x32x64x64, .f32⟩
  | 90 => ⟨S1x8x32x64x64, .f32⟩
  | 91 => ⟨S1x8x32x64x64, .f32⟩
  | 92 => ⟨S1x8x32x64x64, .f32⟩
  | 93 => ⟨S1x8x32x64x64, .f32⟩
  | 94 => ⟨S_, .f32⟩
  | 95 => ⟨S1x8x40x64x64, .f32⟩
  | 96 => ⟨S_, .f32⟩
  | 97 => ⟨S1x8x40x64x64, .f32⟩
  | 98 => ⟨S1x8x40x64x64, .f32⟩
  | 99 => ⟨S_, .f32⟩
  | 100 => ⟨S1x8x40x64x64, .f32⟩
  | 101 => ⟨S1x8x40x64x64, .f32⟩
  | 102 => ⟨S_, .f32⟩
  | 103 => ⟨S1x8x40x64x64, .f32⟩
  | 104 => ⟨S1x8x40x64x64, .f32⟩
  | 105 => ⟨S_, .f32⟩
  | 106 => ⟨S1x8x40x64x64, .f32⟩
  | 107 => ⟨S1x8x40x64x64, .f32⟩
  | 108 => ⟨S_, .f32⟩
  | 109 => ⟨S1x8x40x64x64, .f32⟩
  | 110 => ⟨S1x8x40x64x64, .f32⟩
  | 111 => ⟨S_, .f32⟩
  | 112 => ⟨S1x8x40x64x64, .f32⟩
  | 113 => ⟨S1x8x40x64x64, .f32⟩
  | 114 => ⟨S_, .f32⟩
  | 115 => ⟨S1x8x40x64x64, .f32⟩
  | 116 => ⟨S1x8x40x64x64, .f32⟩
  | 117 => ⟨S_, .f32⟩
  | 118 => ⟨S1x8x40x64x64, .f32⟩
  | 119 => ⟨S1x8x40x64x64, .f32⟩
  | 120 => ⟨S1x8x8x64x64, .f32⟩
  | 121 => ⟨S1x8x32x64x64, .f32⟩
  | 122 => ⟨S1x8x2048x64, .f32⟩
  | 123 => ⟨S1x8x2048x64, .f32⟩
  | 124 => ⟨S1x2048x8x64, .f32⟩
  | 125 => ⟨S1x2048x512, .f32⟩
  | 126 => ⟨S1x2048x8x64, .f32⟩
  | 127 => ⟨S1x2048x512, .f32⟩
  | _ => ⟨S2048x3072, .bf16⟩

abbrev hbmTy0_2 (i : Nat) : BufTy := match i % 128 with
  | 0 => ⟨S1x2048x8x64, .f32⟩
  | 1 => ⟨S1x2048x512, .f32⟩
  | 2 => ⟨S2048x512, .f32⟩
  | 3 => ⟨S2048x512, .bf16⟩
  | 4 => ⟨S2048x512, .f32⟩
  | 5 => ⟨S2048x512, .bf16⟩
  | 6 => ⟨S2048x512, .f32⟩
  | 7 => ⟨S2048x512, .bf16⟩
  | _ => ⟨S2048x3072, .bf16⟩

abbrev hbmTy (i : Nat) : BufTy := match i / 128 with
  | 0 => hbmTy0_0 i
  | 1 => hbmTy0_1 i
  | 2 => hbmTy0_2 i
  | _ => ⟨S2048x3072, .bf16⟩

abbrev bufTy : (tb : Table) → Fin (tcTables nBuf tb) → BufTy
  | .hbm, ⟨i, _⟩ => hbmTy i
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_cst_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_3 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_c : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_c : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_c_0 : Ref sig .tc := ⟨.hbm, 74, rfl⟩
abbrev main_call0_v12 : Ref sig .tc := ⟨.hbm, 75, rfl⟩
abbrev main_call0_v13 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_4 : Ref sig .tc := ⟨.hbm, 84, rfl⟩
abbrev main_v58 : Ref sig .tc := ⟨.hbm, 85, rfl⟩
abbrev main_v59 : Ref sig .tc := ⟨.hbm, 86, rfl⟩
abbrev main_c_5 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_6 : Ref sig .tc := ⟨.hbm, 91, rfl⟩
abbrev main_call1_v0 : Ref sig .tc := ⟨.hbm, 92, rfl⟩
abbrev main_v63_1 : Ref sig .tc := ⟨.hbm, 93, rfl⟩
abbrev main_call1_v2 : Ref sig .tc := ⟨.hbm, 94, rfl⟩
abbrev main_v63_0 : Ref sig .tc := ⟨.hbm, 95, rfl⟩
abbrev main_call1_cst : Ref sig .tc := ⟨.hbm, 96, rfl⟩
abbrev main_v63_2 : Ref sig .tc := ⟨.hbm, 97, rfl⟩
abbrev main_cst_7 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_8 : Ref sig .tc := ⟨.hbm, 104, rfl⟩
abbrev main_v69 : Ref sig .tc := ⟨.hbm, 105, rfl⟩
abbrev main_cst_9 : Ref sig .tc := ⟨.hbm, 106, rfl⟩
abbrev main_v70 : Ref sig .tc := ⟨.hbm, 107, rfl⟩
abbrev main_v71 : Ref sig .tc := ⟨.hbm, 108, rfl⟩
abbrev main_cst_10 : Ref sig .tc := ⟨.hbm, 109, rfl⟩
abbrev main_v72 : Ref sig .tc := ⟨.hbm, 110, rfl⟩
abbrev main_v73 : Ref sig .tc := ⟨.hbm, 111, rfl⟩
abbrev main_cst_11 : Ref sig .tc := ⟨.hbm, 112, rfl⟩
abbrev main_v74 : Ref sig .tc := ⟨.hbm, 113, rfl⟩
abbrev main_v75 : Ref sig .tc := ⟨.hbm, 114, rfl⟩
abbrev main_cst_12 : Ref sig .tc := ⟨.hbm, 115, rfl⟩
abbrev main_v76 : Ref sig .tc := ⟨.hbm, 116, rfl⟩
abbrev main_cst_13 : Ref sig .tc := ⟨.hbm, 117, rfl⟩
abbrev main_v77 : Ref sig .tc := ⟨.hbm, 118, rfl⟩
abbrev main_cst_14 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_15 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_16 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_cst_17 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_18 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_call2_cst : Ref sig .tc := ⟨.hbm, 162, rfl⟩
abbrev main_call2_v0 : Ref sig .tc := ⟨.hbm, 163, rfl⟩
abbrev main_v116 : Ref sig .tc := ⟨.hbm, 164, rfl⟩
abbrev main_cst_19 : Ref sig .tc := ⟨.hbm, 165, rfl⟩
abbrev main_v117 : Ref sig .tc := ⟨.hbm, 166, rfl⟩
abbrev main_v118 : Ref sig .tc := ⟨.hbm, 167, rfl⟩
abbrev main_cst_20 : Ref sig .tc := ⟨.hbm, 168, rfl⟩
abbrev main_v119 : Ref sig .tc := ⟨.hbm, 169, rfl⟩
abbrev main_cst_21 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_22 : Ref sig .tc := ⟨.hbm, 184, rfl⟩
abbrev main_v133 : Ref sig .tc := ⟨.hbm, 185, rfl⟩
abbrev main_cst_23 : Ref sig .tc := ⟨.hbm, 186, rfl⟩
abbrev main_v134 : Ref sig .tc := ⟨.hbm, 187, rfl⟩
abbrev main_v135 : Ref sig .tc := ⟨.hbm, 188, rfl⟩
abbrev main_cst_24 : Ref sig .tc := ⟨.hbm, 189, rfl⟩
abbrev main_v136 : Ref sig .tc := ⟨.hbm, 190, rfl⟩
abbrev main_v137 : Ref sig .tc := ⟨.hbm, 191, rfl⟩
abbrev main_cst_25 : Ref sig .tc := ⟨.hbm, 192, rfl⟩
abbrev main_v138 : Ref sig .tc := ⟨.hbm, 193, rfl⟩
abbrev main_v139 : Ref sig .tc := ⟨.hbm, 194, rfl⟩
abbrev main_cst_26 : Ref sig .tc := ⟨.hbm, 195, rfl⟩
abbrev main_v140 : Ref sig .tc := ⟨.hbm, 196, rfl⟩
abbrev main_v141 : Ref sig .tc := ⟨.hbm, 197, rfl⟩
abbrev main_cst_27 : Ref sig .tc := ⟨.hbm, 198, rfl⟩
abbrev main_v142 : Ref sig .tc := ⟨.hbm, 199, rfl⟩
abbrev main_v143 : Ref sig .tc := ⟨.hbm, 200, rfl⟩
abbrev main_cst_28 : Ref sig .tc := ⟨.hbm, 201, rfl⟩
abbrev main_v144 : Ref sig .tc := ⟨.hbm, 202, rfl⟩
abbrev main_v145 : Ref sig .tc := ⟨.hbm, 203, rfl⟩
abbrev main_cst_29 : Ref sig .tc := ⟨.hbm, 204, rfl⟩
abbrev main_v146 : Ref sig .tc := ⟨.hbm, 205, rfl⟩
abbrev main_v147 : Ref sig .tc := ⟨.hbm, 206, rfl⟩
abbrev main_cst_30 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_cst_31 : Ref sig .tc := ⟨.hbm, 222, rfl⟩
abbrev main_v162 : Ref sig .tc := ⟨.hbm, 223, rfl⟩
abbrev main_cst_32 : Ref sig .tc := ⟨.hbm, 224, rfl⟩
abbrev main_v163 : Ref sig .tc := ⟨.hbm, 225, rfl⟩
abbrev main_v164 : Ref sig .tc := ⟨.hbm, 226, rfl⟩
abbrev main_cst_33 : Ref sig .tc := ⟨.hbm, 227, rfl⟩
abbrev main_v165 : Ref sig .tc := ⟨.hbm, 228, rfl⟩
abbrev main_v166 : Ref sig .tc := ⟨.hbm, 229, rfl⟩
abbrev main_cst_34 : Ref sig .tc := ⟨.hbm, 230, rfl⟩
abbrev main_v167 : Ref sig .tc := ⟨.hbm, 231, rfl⟩
abbrev main_v168 : Ref sig .tc := ⟨.hbm, 232, rfl⟩
abbrev main_cst_35 : Ref sig .tc := ⟨.hbm, 233, rfl⟩
abbrev main_v169 : Ref sig .tc := ⟨.hbm, 234, rfl⟩
abbrev main_v170 : Ref sig .tc := ⟨.hbm, 235, rfl⟩
abbrev main_cst_36 : Ref sig .tc := ⟨.hbm, 236, rfl⟩
abbrev main_v171 : Ref sig .tc := ⟨.hbm, 237, rfl⟩
abbrev main_v172 : Ref sig .tc := ⟨.hbm, 238, rfl⟩
abbrev main_cst_37 : Ref sig .tc := ⟨.hbm, 239, rfl⟩
abbrev main_v173 : Ref sig .tc := ⟨.hbm, 240, rfl⟩
abbrev main_v174 : Ref sig .tc := ⟨.hbm, 241, rfl⟩
abbrev main_cst_38 : Ref sig .tc := ⟨.hbm, 242, rfl⟩
abbrev main_v175 : Ref sig .tc := ⟨.hbm, 243, rfl⟩
abbrev main_v176 : Ref sig .tc := ⟨.hbm, 244, rfl⟩
abbrev main_cst_39 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩

abbrev nD : Nat := 1
abbrev τ : Topo := Topo.v7x

variable {F : FTy → Type} [FloatOps F]
-- ==== Kernel2.lean ====
abbrev S4x2048x704 : Shape := ⟨3, ![4, 2048, 704]⟩
abbrev S2048x1024 : Shape := ⟨2, ![2048, 1024]⟩
abbrev S1x2048x1024 : Shape := ⟨3, ![1, 2048, 1024]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .bf16⟩
  | .hbm, ⟨2, _⟩ => ⟨S1x2048x1024, .bf16⟩
  | .hbm, ⟨3, _⟩ => ⟨S4x704x1024, .f32⟩
  | .hbm, ⟨4, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x1024, .bf16⟩
  | .local _ .vmem, ⟨3, _⟩ => ⟨S1x704x1024, .f32⟩
  | .local _ .vmem, ⟨4, _⟩ => ⟨S1x704x1024, .f32⟩
  | .local _ .vmem, ⟨5, _⟩ => ⟨S1x704x1024, .bf16⟩
  | .local _ .vmem, ⟨6, _⟩ => ⟨S1x704x1024, .bf16⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4x2048x704 : Shape := ⟨3, ![4, 2048, 704]⟩
abbrev S2048x1024 : Shape := ⟨2, ![2048, 1024]⟩
abbrev S_ : Shape := ⟨0, ![]⟩
abbrev S1024x2816 : Shape := ⟨2, ![1024, 2816]⟩
abbrev S2048x2816 : Shape := ⟨2, ![2048, 2816]⟩
abbrev S2048x4x704 : Shape := ⟨3, ![2048, 4, 704]⟩
abbrev S2816x1024 : Shape := ⟨2, ![2816, 1024]⟩
abbrev S4x704x1024 : Shape := ⟨3, ![4, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .bf16⟩
  | .hbm, ⟨2, _⟩ => ⟨S_, .f32⟩
  | .hbm, ⟨3, _⟩ => ⟨S1024x2816, .f32⟩
  | .hbm, ⟨4, _⟩ => ⟨S2048x1024, .f32⟩
  | .hbm, ⟨5, _⟩ => ⟨S2048x2816, .f32⟩
  | .hbm, ⟨6, _⟩ => ⟨S4x2048x704, .f32⟩
  | .hbm, ⟨7, _⟩ => ⟨S2048x4x704, .f32⟩
  | .hbm, ⟨8, _⟩ => ⟨S2048x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S4x704x1024, .f32⟩
  | .hbm, ⟨13, _⟩ => ⟨S4x704x1024, .bf16⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S4x2048x704 : Shape := ⟨3, ![4, 2048, 704]⟩
abbrev S4x704x1024 : Shape := ⟨3, ![4, 704, 1024]⟩
abbrev S2048x1024 : Shape := ⟨2, ![2048, 1024]⟩
abbrev S1x1024 : Shape := ⟨2, ![1, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩
abbrev S1024 : Shape := ⟨1, ![1024]⟩
abbrev S1024x1 : Shape := ⟨2, ![1024, 1]⟩

abbrev nBuf : Space → Nat
  | .hbm => 9
  | .vmem => 17
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S4x704x1024, .bf16⟩
  | .hbm, ⟨3, _⟩ => ⟨S4x704x1024, .bf16⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S1x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .f32⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_14 : BitVec 32 := 0#32
  let v19 : BitVec 1 := Scalar.cmpi .ne v18 c0_i32_14
  v19

def k0_cond4 (i : grid0.Coords) : BitVec 1 :=
  let arg0 : BitVec 32 := BitVec.ofNat 32 (i 0).val
  let c0_i32_31 : BitVec 32 := 0#32
  let v53 : BitVec 1 := Scalar.cmpi .eq arg0 c0_i32_31
  let v54 : BitVec 32 := Scalar.extui v53
  let c0_i32_32 : BitVec 32 := 0#32
  let v55 : BitVec 1 := Scalar.cmpi .ne v54 c0_i32_32
  v55

def k0_cond5 (i : grid0.Coords) : BitVec 1 :=
  let arg0 : BitVec 32 := BitVec.ofNat 32 (i 0).val
  let c0_i32_31 : BitVec 32 := 0#32
  let v53 : BitVec 1 := Scalar.cmpi .eq arg0 c0_i32_31
  let true_33 : BitVec 1 := 1#1
  let v56 : BitVec 1 := Scalar.xori v53 true_33
  let v57 : BitVec 32 := Scalar.extui v56
  let c0_i32_34 : BitVec 32 := 0#32
  let v58 : BitVec 1 := Scalar.cmpi .ne v57 c0_i32_34
  v58

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference3Ideal.lean ====
abbrev S4x2048x704 : Shape := ⟨3, ![4, 2048, 704]⟩
abbrev S4x704x1024 : Shape := ⟨3, ![4, 704, 1024]⟩
abbrev S2048x1024 : Shape := ⟨2, ![2048, 1024]⟩
abbrev S1x1024 : Shape := ⟨2, ![1, 1024]⟩
abbrev S2816x1024 : Shape := ⟨2, ![2816, 1024]⟩
abbrev S1024x2816 : Shape := ⟨2, ![1024, 2816]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩
abbrev S2048x4x704 : Shape := ⟨3, ![2048, 4, 704]⟩

abbrev nBuf : Space → Nat
  | .hbm => 72
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S4x2048x704, .bf16⟩
  | .hbm, ⟨2, _⟩ => ⟨S4x704x1024, .bf16⟩
  | .hbm, ⟨3, _⟩ => ⟨S4x704x1024, .bf16⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S4x704x1024, .f32⟩
  | .hbm, ⟨8, _⟩ => ⟨S2816x1024, .f32⟩
  | .hbm, ⟨9, _⟩ => ⟨S1024x2816, .f32⟩
  | .hbm, ⟨10, _⟩ => ⟨S4x704x1024, .f32⟩
  | .hbm, ⟨11, _⟩ => ⟨S2816x1024, .f32⟩
  | .hbm, ⟨12, _⟩ => ⟨S1024x2816, .f32⟩
  | .hbm, ⟨13, _⟩ => ⟨S1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S2048x2816, .f32⟩
  | .hbm, ⟨35, _⟩ => ⟨S2048x2816, .f32⟩
  | .hbm, ⟨36, _⟩ => ⟨S4x2048x704, .f32⟩
  | .hbm, ⟨37, _⟩ => ⟨S2048x4x704, .f32⟩
  | .hbm, ⟨38, _⟩ => ⟨S2048x2816, .f32⟩
  | .hbm, ⟨39, _⟩ => ⟨S4x2048x704, .f32⟩
  | .hbm, ⟨40, _⟩ => ⟨S2048x4x704, .f32⟩
  | .hbm, ⟨41, _⟩ => ⟨S2048x2816, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S2048x1024, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x1024, .f32⟩
  | .hbm, ⟨58, _⟩ => ⟨S2048x1024, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S1x1024, .f32⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== Kernel4.lean ====
abbrev S4x2048x704 : Shape := ⟨3, ![4, 2048, 704]⟩
abbrev S2048x1024 : Shape := ⟨2, ![2048, 1024]⟩
abbrev S8x128 : Shape := ⟨2, ![8, 128]⟩
abbrev S1x2048x1024 : Shape := ⟨3, ![1, 2048, 1024]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .bf16⟩
  | .hbm, ⟨2, _⟩ => ⟨S8x128, .f32⟩
  | .hbm, ⟨3, _⟩ => ⟨S1x2048x1024, .bf16⟩
  | .hbm, ⟨4, _⟩ => ⟨S4x704x1024, .f32⟩
  | .hbm, ⟨5, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x1024, .bf16⟩
  | .local _ .vmem, ⟨3, _⟩ => ⟨S1x704x1024, .f32⟩
  | .local _ .vmem, ⟨4, _⟩ => ⟨S1x704x1024, .f32⟩
  | .local _ .vmem, ⟨5, _⟩ => ⟨S1x704x1024, .bf16⟩
  | .local _ .vmem, ⟨6, _⟩ => ⟨S1x704x1024, .bf16⟩
  | _, _ => ⟨S4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x2048x704 : Shape := ⟨3, ![4, 2048, 704]⟩
abbrev S2048x1024 : Shape := ⟨2, ![2048, 1024]⟩
abbrev S8x128 : Shape := ⟨2, ![8, 128]⟩
abbrev S_ : Shape := ⟨0, ![]⟩
abbrev S2816x1024 : Shape := ⟨2, ![2816, 1024]⟩
abbrev S2048x4x704 : Shape := ⟨3, ![2048, 4, 704]⟩
abbrev S2048x2816 : Shape := ⟨2, ![2048, 2816]⟩
abbrev S1024x2816 : Shape := ⟨2, ![1024, 2816]⟩
abbrev S4x704x1024 : Shape := ⟨3, ![4, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x704, .bf16⟩
  | .hbm, ⟨1, _⟩ => ⟨S2048x1024, .bf16⟩
  | .hbm, ⟨2, _⟩ => ⟨S8x128, .f32⟩
  | .hbm, ⟨3, _⟩ => ⟨S_, .f32⟩
  | .hbm, ⟨4, _⟩ => ⟨S2816x1024, .f32⟩
  | .hbm, ⟨5, _⟩ => ⟨S4x2048x704, .f32⟩
  | .hbm, ⟨6, _⟩ => ⟨S2048x4x704, .f32⟩
  | .hbm, ⟨7, _⟩ => ⟨S2048x2816, .f32⟩
  | .hbm, ⟨8, _⟩ => ⟨S2048x1024, .f32⟩
  | .hbm, ⟨9, _⟩ => ⟨S2048x1024, .f32⟩
  | .hbm, ⟨10, _⟩ => ⟨S1024x2816, .f32⟩
  | .hbm, ⟨11, _⟩ => ⟨S2816x1024, .f32⟩
  | .hbm, ⟨12, _⟩ => ⟨S4x704x1024, .f32⟩
  | .hbm, ⟨13, _⟩ => ⟨S4x704x1024, .bf16⟩
  | _, _ => ⟨S4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel5.lean ====
abbrev S2048x1024 : Shape := ⟨2, ![2048, 1024]⟩
abbrev S4x2048x704 : Shape := ⟨3, ![4, 2048, 704]⟩
abbrev S1x1024 : Shape := ⟨2, ![1, 1024]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S1024x704 : Shape := ⟨2, ![1024, 704]⟩
abbrev S704x1024 : Shape := ⟨2, ![704, 1024]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S4x2048x704, .bf16⟩
  | .hbm, ⟨2, _⟩ => ⟨S1x1024, .f32⟩
  | .hbm, ⟨3, _⟩ => ⟨S4x704x1024, .bf16⟩
  | .hbm, ⟨4, _⟩ => ⟨S2048x1024, .f32⟩
  | .hbm, ⟨5, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x704, .bf16⟩
  | .local _ .vmem, ⟨3, _⟩ => ⟨S1x1024x704, .bf16⟩
  | .local _ .vmem, ⟨4, _⟩ => ⟨S1x1024, .f32⟩
  | .local _ .vmem, ⟨5, _⟩ => ⟨S1x704x1024, .bf16⟩
  | .local _ .vmem, ⟨6, _⟩ => ⟨S1x704x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_7 : BitVec 32 := 0#32
  let v13 : BitVec 1 := Scalar.cmpi .ne v12 c0_i32_7
  v13

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32 : BitVec 32 := 0#32
  let v5 : BitVec 1 := Scalar.cmpi .eq arg1 c0_i32
  let v_true : BitVec 1 := 1#1
  let v8 : BitVec 1 := Scalar.xori v5 v_true
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S2048x1024 : Shape := ⟨2, ![2048, 1024]⟩
abbrev S4x2048x704 : Shape := ⟨3, ![4, 2048, 704]⟩
abbrev S1x1024 : Shape := ⟨2, ![1, 1024]⟩
abbrev S4x704x1024 : Shape := ⟨3, ![4, 704, 1024]⟩
abbrev S2048x4x704 : Shape := ⟨3, ![2048, 4, 704]⟩
abbrev S2048x2816 : Shape := ⟨2, ![2048, 2816]⟩
abbrev S2816x1024 : Shape := ⟨2, ![2816, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x2048x704, .bf16⟩
  | .hbm, ⟨2, _⟩ => ⟨S1x1024, .f32⟩
  | .hbm, ⟨3, _⟩ => ⟨S4x704x1024, .bf16⟩
  | .hbm, ⟨4, _⟩ => ⟨S4x2048x704, .f32⟩
  | .hbm, ⟨5, _⟩ => ⟨S2048x4x704, .f32⟩
  | .hbm, ⟨6, _⟩ => ⟨S2048x2816, .f32⟩
  | .hbm, ⟨7, _⟩ => ⟨S4x704x1024, .f32⟩
  | .hbm, ⟨8, _⟩ => ⟨S2816x1024, .f32⟩
  | .hbm, ⟨9, _⟩ => ⟨S2048x1024, .f32⟩
  | .hbm, ⟨10, _⟩ => ⟨S1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel6.lean ====
abbrev S2048x1024 : Shape := ⟨2, ![2048, 1024]⟩
abbrev S2048x512 : Shape := ⟨2, ![2048, 512]⟩
abbrev S4x1024x768 : Shape := ⟨3, ![4, 1024, 768]⟩
abbrev S1x512x768 : Shape := ⟨3, ![1, 512, 768]⟩
abbrev S2048x256 : Shape := ⟨2, ![2048, 256]⟩
abbrev S2048x768 : Shape := ⟨2, ![2048, 768]⟩
abbrev S512x768 : Shape := ⟨2, ![512, 768]⟩

abbrev nBuf : Space → Nat
  | .hbm => 9
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x512, .bf16⟩
  | .hbm, ⟨7, _⟩ => ⟨S4x1024x768, .f32⟩
  | .hbm, ⟨8, _⟩ => ⟨S4x1024x768, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x512x768, .f32⟩
  | .local _ .vmem, ⟨9, _⟩ => ⟨S1x512x768, .f32⟩
  | .local _ .vmem, ⟨10, _⟩ => ⟨S1x512x768, .bf16⟩
  | .local _ .vmem, ⟨11, _⟩ => ⟨S1x512x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S2048x1024 : Shape := ⟨2, ![2048, 1024]⟩
abbrev S2048x512 : Shape := ⟨2, ![2048, 512]⟩
abbrev S2048x3072 : Shape := ⟨2, ![2048, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S2048x512, .bf16⟩
  | .hbm, ⟨7, _⟩ => ⟨S2048x3072, .bf16⟩
  | .hbm, ⟨8, _⟩ => ⟨S2048x3072, .f32⟩
  | .hbm, ⟨9, _⟩ => ⟨S_, .f32⟩
  | .hbm, ⟨10, _⟩ => ⟨S1024x3072, .f32⟩
  | .hbm, ⟨11, _⟩ => ⟨S2048x1024, .f32⟩
  | .hbm, ⟨12, _⟩ => ⟨S2048x3072, .f32⟩
  | .hbm, ⟨13, _⟩ => ⟨S3072x1024, .f32⟩
  | .hbm, ⟨14, _⟩ => ⟨S1024x3072, .f32⟩
  | .hbm, ⟨15, _⟩ => ⟨S1024x4x768, .f32⟩
  | .hbm, ⟨16, _⟩ => ⟨S4x1024x768, .f32⟩
  | .hbm, ⟨17, _⟩ => ⟨S4x1024x768, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Kernel7.lean ====
abbrev S2048x512 : Shape := ⟨2, ![2048, 512]⟩
abbrev S4x1024x768 : Shape := ⟨3, ![4, 1024, 768]⟩
abbrev S2048x1024 : Shape := ⟨2, ![2048, 1024]⟩
abbrev S1x1024 : Shape := ⟨2, ![1, 1024]⟩
abbrev S1024x512 : Shape := ⟨2, ![1024, 512]⟩
abbrev S1x1024x768 : Shape := ⟨3, ![1, 1024, 768]⟩
abbrev S1024x1024 : Shape := ⟨2, ![1024, 1024]⟩
abbrev S1024x256 : Shape := ⟨2, ![1024, 256]⟩
abbrev S1024x768 : Shape := ⟨2, ![1024, 768]⟩
abbrev S1024 : Shape := ⟨1, ![1024]⟩
abbrev S1024x1 : Shape := ⟨2, ![1024, 1]⟩

abbrev nBuf : Space → Nat
  | .hbm => 12
  | .vmem => 23
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S4x1024x768, .bf16⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1x1024x768, .bf16⟩
  | .local _ .vmem, ⟨13, _⟩ => ⟨S1x1024x768, .bf16⟩
  | .local _ .vmem, ⟨14, _⟩ => ⟨S1024x1024, .f32⟩
  | .local _ .vmem, ⟨15, _⟩ => ⟨S1024x1024, .f32⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1x1024, .f32⟩
  | .local _ .vmem, ⟨22, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![2, 4], ![false, false]⟩

def k0_cond5 (i : grid0.Coords) : BitVec 1 :=
  let arg1 : BitVec 32 := BitVec.ofNat 32 (i 1).val
  let c3_i32_4 : BitVec 32 := 3#32
  let v12 : BitVec 1 := Scalar.cmpi .eq arg1 c3_i32_4
  let v13 : BitVec 32 := Scalar.extui v12
  let c0_i32_5 : BitVec 32 := 0#32
  let v14 : BitVec 1 := Scalar.cmpi .ne v13 c0_i32_5
  v14

def k0_cond6 (i : grid0.Coords) : BitVec 1 :=
  let arg0 : BitVec 32 := BitVec.ofNat 32 (i 0).val
  let c0_i32_20 : BitVec 32 := 0#32
  let v48 : BitVec 1 := Scalar.cmpi .eq arg0 c0_i32_20
  let v49 : BitVec 32 := Scalar.extui v48
  let c0_i32_21 : BitVec 32 := 0#32
  let v50 : BitVec 1 := Scalar.cmpi .ne v49 c0_i32_21
  v50

def k0_cond7 (i : grid0.Coords) : BitVec 1 :=
  let arg0 : BitVec 32 := BitVec.ofNat 32 (i 0).val
  let c0_i32_20 : BitVec 32 := 0#32
  let v48 : BitVec 1 := Scalar.cmpi .eq arg0 c0_i32_20
  let v_true : BitVec 1 := 1#1
  let v51 : BitVec 1 := Scalar.xori v48 v_true
  let v52 : BitVec 32 := Scalar.extui v51
  let c0_i32_22 : BitVec 32 := 0#32
  let v53 : BitVec 1 := Scalar.cmpi .ne v52 c0_i32_22
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Reference7Ideal.lean ====
abbrev S2048x512 : Shape := ⟨2, ![2048, 512]⟩
abbrev S4x1024x768 : Shape := ⟨3, ![4, 1024, 768]⟩
abbrev S2048x1024 : Shape := ⟨2, ![2048, 1024]⟩
abbrev S1x1024 : Shape := ⟨2, ![1, 1024]⟩
abbrev S1024x4x768 : Shape := ⟨3, ![1024, 4, 768]⟩
abbrev S1024x3072 : Shape := ⟨2, ![1024, 3072]⟩
abbrev S2048x3072 : Shape := ⟨2, ![2048, 3072]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 65
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x512, .bf16⟩
  | .hbm, ⟨2, _⟩ => ⟨S2048x512, .bf16⟩
  | .hbm, ⟨3, _⟩ => ⟨S2048x512, .bf16⟩
  | .hbm, ⟨4, _⟩ => ⟨S2048x512, .bf16⟩
  | .hbm, ⟨5, _⟩ => ⟨S2048x512, .bf16⟩
  | .hbm, ⟨6, _⟩ => ⟨S4x1024x768, .bf16⟩
  | .hbm, ⟨7, _⟩ => ⟨S2048x1024, .f32⟩
  | .hbm, ⟨8, _⟩ => ⟨S1x1024, .f32⟩
  | .hbm, ⟨9, _⟩ => ⟨S2048x1024, .f32⟩
  | .hbm, ⟨10, _⟩ => ⟨S4x1024x768, .f32⟩
  | .hbm, ⟨11, _⟩ => ⟨S1024x4x768, .f32⟩
  | .hbm, ⟨12, _⟩ => ⟨S1024x3072, .f32⟩
  | .hbm, ⟨13, _⟩ => ⟨S2048x3072, .bf16⟩
  | .hbm, ⟨14, _⟩ => ⟨S2048x3072, .f32⟩
  | .hbm, ⟨15, _⟩ => ⟨S1024, .f32⟩
  | .hbm, ⟨16, _⟩ => ⟨S2048x1024, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x3072, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S2048x1024, .f32⟩
  | .hbm, ⟨47, _⟩ => ⟨S_, .f32⟩
  | .hbm, ⟨48, _⟩ => ⟨S2048, .f32⟩
  | .hbm, ⟨49, _⟩ => ⟨S2048x1, .f32⟩
  | .hbm, ⟨50, _⟩ => ⟨S2048x1024, .f32⟩
  | .hbm, ⟨51, _⟩ => ⟨S2048x1024, .f32⟩
  | .hbm, ⟨52, _⟩ => ⟨S2048x1, .f32⟩
  | .hbm, ⟨53, _⟩ => ⟨S_, .f32⟩
  | .hbm, ⟨54, _⟩ => ⟨S2048x1, .f32⟩
  | .hbm, ⟨55, _⟩ => ⟨S2048x1, .f32⟩
  | .hbm, ⟨56, _⟩ => ⟨S_, .f32⟩
  | .hbm, ⟨57, _⟩ => ⟨S2048, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S1x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Kernel8.lean ====
abbrev S2048x1024 : Shape := ⟨2, ![2048, 1024]⟩
abbrev S1x1024 : Shape := ⟨2, ![1, 1024]⟩
abbrev S4x704x1024 : Shape := ⟨3, ![4, 704, 1024]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024 : Shape := ⟨1, ![1024]⟩
abbrev S1024x1 : Shape := ⟨2, ![1024, 1]⟩
abbrev S704x1024 : Shape := ⟨2, ![704, 1024]⟩
abbrev S1024x704 : Shape := ⟨2, ![1024, 704]⟩

abbrev nBuf : Space → Nat
  | .hbm => 8
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x704x1024, .bf16⟩
  | .hbm, ⟨3, _⟩ => ⟨S4x704x1024, .bf16⟩
  | .hbm, ⟨4, _⟩ => ⟨S2048x1024, .bf16⟩
  | .hbm, ⟨5, _⟩ => ⟨S4x2048x704, .f32⟩
  | .hbm, ⟨6, _⟩ => ⟨S4x2048x704, .f32⟩
  | .hbm, ⟨7, _⟩ => ⟨S4x2048x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024x704, .f32⟩
  | .local _ .vmem, ⟨10, _⟩ => ⟨S1x1024x704, .f32⟩
  | .local _ .vmem, ⟨11, _⟩ => ⟨S1x1024x704, .f32⟩
  | .local _ .vmem, ⟨12, _⟩ => ⟨S1x1024x704, .f32⟩
  | .local _ .vmem, ⟨13, _⟩ => ⟨S1x1024x704, .bf16⟩
  | .local _ .vmem, ⟨14, _⟩ => ⟨S1x1024x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S2048x1024 : Shape := ⟨2, ![2048, 1024]⟩
abbrev S1x1024 : Shape := ⟨2, ![1, 1024]⟩
abbrev S4x704x1024 : Shape := ⟨3, ![4, 704, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2816x1024 : Shape := ⟨2, ![2816, 1024]⟩
abbrev S1024x2816 : Shape := ⟨2, ![1024, 2816]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S4x704x1024, .bf16⟩
  | .hbm, ⟨3, _⟩ => ⟨S4x704x1024, .bf16⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S4x704x1024, .f32⟩
  | .hbm, ⟨22, _⟩ => ⟨S2816x1024, .f32⟩
  | .hbm, ⟨23, _⟩ => ⟨S1024x2816, .f32⟩
  | .hbm, ⟨24, _⟩ => ⟨S2048x2816, .f32⟩
  | .hbm, ⟨25, _⟩ => ⟨S4x704x1024, .f32⟩
  | .hbm, ⟨26, _⟩ => ⟨S2816x1024, .f32⟩
  | .hbm, ⟨27, _⟩ => ⟨S1024x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x1024, .bf16⟩
  | .hbm, ⟨40, _⟩ => ⟨S2048x4x704, .f32⟩
  | .hbm, ⟨41, _⟩ => ⟨S4x2048x704, .f32⟩
  | .hbm, ⟨42, _⟩ => ⟨S2048x4x704, .f32⟩
  | .hbm, ⟨43, _⟩ => ⟨S4x2048x704, .f32⟩
  | .hbm, ⟨44, _⟩ => ⟨S2048x4x704, .f32⟩
  | .hbm, ⟨45, _⟩ => ⟨S4x2048x704, .f32⟩
  | .hbm, ⟨46, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Kernel9.lean ====
abbrev S2048x1024 : Shape := ⟨2, ![2048, 1024]⟩
abbrev S1x1024 : Shape := ⟨2, ![1, 1024]⟩
abbrev S4x704x1024 : Shape := ⟨3, ![4, 704, 1024]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024 : Shape := ⟨1, ![1024]⟩
abbrev S1024x1 : Shape := ⟨2, ![1024, 1]⟩
abbrev S704x1024 : Shape := ⟨2, ![704, 1024]⟩
abbrev S1024x704 : Shape := ⟨2, ![1024, 704]⟩

abbrev nBuf : Space → Nat
  | .hbm => 12
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S4x704x1024, .bf16⟩
  | .hbm, ⟨4, _⟩ => ⟨S4x704x1024, .bf16⟩
  | .hbm, ⟨5, _⟩ => ⟨S4x704x1024, .bf16⟩
  | .hbm, ⟨6, _⟩ => ⟨S2048x1024, .f32⟩
  | .hbm, ⟨7, _⟩ => ⟨S2048x1024, .bf16⟩
  | .hbm, ⟨8, _⟩ => ⟨S4x2048x704, .f32⟩
  | .hbm, ⟨9, _⟩ => ⟨S4x2048x704, .f32⟩
  | .hbm, ⟨10, _⟩ => ⟨S4x2048x704, .bf16⟩
  | .hbm, ⟨11, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024x704, .f32⟩
  | .local _ .vmem, ⟨15, _⟩ => ⟨S1x1024x704, .f32⟩
  | .local _ .vmem, ⟨16, _⟩ => ⟨S1x1024x704, .f32⟩
  | .local _ .vmem, ⟨17, _⟩ => ⟨S1x1024x704, .f32⟩
  | .local _ .vmem, ⟨18, _⟩ => ⟨S1x1024x704, .bf16⟩
  | .local _ .vmem, ⟨19, _⟩ => ⟨S1x1024x704, .bf16⟩
  | .local _ .vmem, ⟨20, _⟩ => ⟨S1024x1024, .f32⟩
  | .local _ .vmem, ⟨21, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![2, 4], ![false, false]⟩

def k0_cond4 (i : grid0.Coords) : BitVec 1 :=
  let arg1 : BitVec 32 := BitVec.ofNat 32 (i 1).val
  let c3_i32 : BitVec 32 := 3#32
  let v38 : BitVec 1 := Scalar.cmpi .eq arg1 c3_i32
  let v39 : BitVec 32 := Scalar.extui v38
  let c0_i32_28 : BitVec 32 := 0#32
  let v40 : BitVec 1 := Scalar.cmpi .ne v39 c0_i32_28
  v40

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_25 : BitVec 32 := 0#32
  let v32 : BitVec 1 := Scalar.cmpi .eq arg1 c0_i32_25
  let v33 : BitVec 32 := Scalar.extui v32
  let c0_i32_26 : BitVec 32 := 0#32
  let v34 : BitVec 1 := Scalar.cmpi .ne v33 c0_i32_26
  v34

def k0_cond3 (i : grid0.Coords) : BitVec 1 :=
  let arg1 : BitVec 32 := BitVec.ofNat 32 (i 1).val
  let c0_i32_25 : BitVec 32 := 0#32
  let v32 : BitVec 1 := Scalar.cmpi .eq arg1 c0_i32_25
  let v_true : BitVec 1 := 1#1
  let v35 : BitVec 1 := Scalar.xori v32 v_true
  let v36 : BitVec 32 := Scalar.extui v35
  let c0_i32_27 : BitVec 32 := 0#32
  let v37 : BitVec 1 := Scalar.cmpi .ne v36 c0_i32_27
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference9Ideal.lean ====
abbrev S2048x1024 : Shape := ⟨2, ![2048, 1024]⟩
abbrev S1x1024 : Shape := ⟨2, ![1, 1024]⟩
abbrev S4x704x1024 : Shape := ⟨3, ![4, 704, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2816x1024 : Shape := ⟨2, ![2816, 1024]⟩
abbrev S1024x2816 : Shape := ⟨2, ![1024, 2816]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 73
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S4x704x1024, .bf16⟩
  | .hbm, ⟨4, _⟩ => ⟨S4x704x1024, .bf16⟩
  | .hbm, ⟨5, _⟩ => ⟨S4x704x1024, .bf16⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S1x1024, .f32⟩
  | .hbm, ⟨21, _⟩ => ⟨S2048x1024, .f32⟩
  | .hbm, ⟨22, _⟩ => ⟨S2048x1024, .f32⟩
  | .hbm, ⟨23, _⟩ => ⟨S4x704x1024, .f32⟩
  | .hbm, ⟨24, _⟩ => ⟨S2816x1024, .f32⟩
  | .hbm, ⟨25, _⟩ => ⟨S1024x2816, .f32⟩
  | .hbm, ⟨26, _⟩ => ⟨S2048x2816, .f32⟩
  | .hbm, ⟨27, _⟩ => ⟨S4x704x1024, .f32⟩
  | .hbm, ⟨28, _⟩ => ⟨S2816x1024, .f32⟩
  | .hbm, ⟨29, _⟩ => ⟨S1024x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S_, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S4x704x1024, .f32⟩
  | .hbm, ⟨42, _⟩ => ⟨S2816x1024, .f32⟩
  | .hbm, ⟨43, _⟩ => ⟨S2048x1024, .f32⟩
  | .hbm, ⟨44, _⟩ => ⟨S1024, .f32⟩
  | .hbm, ⟨45, _⟩ => ⟨S2048x1024, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S2048x1, .f32⟩
  | .hbm, ⟨56, _⟩ => ⟨S2048x1024, .f32⟩
  | .hbm, ⟨57, _⟩ => ⟨S2048x1024, .f32⟩
  | .hbm, ⟨58, _⟩ => ⟨S1x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .bf16⟩
  | .hbm, ⟨66, _⟩ => ⟨S2048x4x704, .f32⟩
  | .hbm, ⟨67, _⟩ => ⟨S4x2048x704, .f32⟩
  | .hbm, ⟨68, _⟩ => ⟨S2048x4x704, .f32⟩
  | .hbm, ⟨69, _⟩ => ⟨S4x2048x704, .f32⟩
  | .hbm, ⟨70, _⟩ => ⟨S2048x4x704, .f32⟩
  | .hbm, ⟨71, _⟩ => ⟨S4x2048x704, .f32⟩
  | .hbm, ⟨72, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== Kernel10.lean ====
abbrev S2048x1024 : Shape := ⟨2, ![2048, 1024]⟩
abbrev S1x1024 : Shape := ⟨2, ![1, 1024]⟩
abbrev S4x704x1024 : Shape := ⟨3, ![4, 704, 1024]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S1024 : Shape := ⟨1, ![1024]⟩
abbrev S1024x1 : Shape := ⟨2, ![1024, 1]⟩
abbrev S704x1024 : Shape := ⟨2, ![704, 1024]⟩
abbrev S1024x704 : Shape := ⟨2, ![1024, 704]⟩

abbrev nBuf : Space → Nat
  | .hbm => 10
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S4x704x1024, .bf16⟩
  | .hbm, ⟨4, _⟩ => ⟨S4x2048x704, .f32⟩
  | .hbm, ⟨5, _⟩ => ⟨S4x2048x704, .f32⟩
  | .hbm, ⟨6, _⟩ => ⟨S4x2048x704, .bf16⟩
  | .hbm, ⟨7, _⟩ => ⟨S4x2048x704, .bf16⟩
  | .hbm, ⟨8, _⟩ => ⟨S2048x1024, .bf16⟩
  | .hbm, ⟨9, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x704x1024, .bf16⟩
  | .local _ .vmem, ⟨6, _⟩ => ⟨S1x704x1024, .bf16⟩
  | .local _ .vmem, ⟨7, _⟩ => ⟨S1x1024x704, .f32⟩
  | .local _ .vmem, ⟨8, _⟩ => ⟨S1x1024x704, .f32⟩
  | .local _ .vmem, ⟨9, _⟩ => ⟨S1x1024x704, .f32⟩
  | .local _ .vmem, ⟨10, _⟩ => ⟨S1x1024x704, .f32⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_41 : BitVec 32 := 0#32
  let v74 : BitVec 1 := Scalar.cmpi .eq arg0 c0_i32_41
  let v75 : BitVec 32 := Scalar.extui v74
  let c0_i32_42 : BitVec 32 := 0#32
  let v76 : BitVec 1 := Scalar.cmpi .ne v75 c0_i32_42
  v76

def k0_cond3 (i : grid0.Coords) : BitVec 1 :=
  let arg0 : BitVec 32 := BitVec.ofNat 32 (i 0).val
  let c0_i32_41 : BitVec 32 := 0#32
  let v74 : BitVec 1 := Scalar.cmpi .eq arg0 c0_i32_41
  let v_true : BitVec 1 := 1#1
  let v77 : BitVec 1 := Scalar.xori v74 v_true
  let v78 : BitVec 32 := Scalar.extui v77
  let c0_i32_43 : BitVec 32 := 0#32
  let v79 : BitVec 1 := Scalar.cmpi .ne v78 c0_i32_43
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference10Ideal.lean ====
abbrev S2048x1024 : Shape := ⟨2, ![2048, 1024]⟩
abbrev S1x1024 : Shape := ⟨2, ![1, 1024]⟩
abbrev S4x704x1024 : Shape := ⟨3, ![4, 704, 1024]⟩
abbrev S4x2048x704 : Shape := ⟨3, ![4, 2048, 704]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2816x1024 : Shape := ⟨2, ![2816, 1024]⟩
abbrev S2048x2816 : Shape := ⟨2, ![2048, 2816]⟩
abbrev S2048x4x704 : Shape := ⟨3, ![2048, 4, 704]⟩

abbrev nBuf : Space → Nat
  | .hbm => 92
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S4x704x1024, .bf16⟩
  | .hbm, ⟨4, _⟩ => ⟨S4x2048x704, .f32⟩
  | .hbm, ⟨5, _⟩ => ⟨S4x2048x704, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S2048x1024, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x1024, .f32⟩
  | .hbm, ⟨46, _⟩ => ⟨S2048x1024, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S4x704x1024, .f32⟩
  | .hbm, ⟨59, _⟩ => ⟨S2816x1024, .f32⟩
  | .hbm, ⟨60, _⟩ => ⟨S_, .f32⟩
  | .hbm, ⟨61, _⟩ => ⟨S2048x2816, .f32⟩
  | .hbm, ⟨62, _⟩ => ⟨S2048x1024, .f32⟩
  | .hbm, ⟨63, _⟩ => ⟨S2048x2816, .f32⟩
  | .hbm, ⟨64, _⟩ => ⟨S2048x4x704, .f32⟩
  | .hbm, ⟨65, _⟩ => ⟨S4x2048x704, .f32⟩
  | .hbm, ⟨66, _⟩ => ⟨S_, .f32⟩
  | .hbm, ⟨67, _⟩ => ⟨S4x2048x704, .f32⟩
  | .hbm, ⟨68, _⟩ => ⟨S4x2048x704, .f32⟩
  | .hbm, ⟨69, _⟩ => ⟨S4x2048x704, .f32⟩
  | .hbm, ⟨70, _⟩ => ⟨S_, .f32⟩
  | .hbm, ⟨71, _⟩ => ⟨S4x2048x704, .f32⟩
  | .hbm, ⟨72, _⟩ => ⟨S4x2048x704, .f32⟩
  | .hbm, ⟨73, _⟩ => ⟨S_, .f32⟩
  | .hbm, ⟨74, _⟩ => ⟨S4x2048x704, .f32⟩
  | .hbm, ⟨75, _⟩ => ⟨S4x2048x704, .f32⟩
  | .hbm, ⟨76, _⟩ => ⟨S_, .f32⟩
  | .hbm, ⟨77, _⟩ => ⟨S4x2048x704, .f32⟩
  | .hbm, ⟨78, _⟩ => ⟨S4x2048x704, .f32⟩
  | .hbm, ⟨79, _⟩ => ⟨S4x2048x704, .f32⟩
  | .hbm, ⟨80, _⟩ => ⟨S4x2048x704, .f32⟩
  | .hbm, ⟨81, _⟩ => ⟨S4x2048x704, .f32⟩
  | .hbm, ⟨82, _⟩ => ⟨S4x2048x704, .f32⟩
  | .hbm, ⟨83, _⟩ => ⟨S4x2048x704, .f32⟩
  | .hbm, ⟨84, _⟩ => ⟨S4x2048x704, .f32⟩
  | .hbm, ⟨85, _⟩ => ⟨S4x2048x704, .f32⟩
  | .hbm, ⟨86, _⟩ => ⟨S4x2048x704, .f32⟩
  | .hbm, ⟨87, _⟩ => ⟨S4x2048x704, .bf16⟩
  | .hbm, ⟨88, _⟩ => ⟨S4x2048x704, .f32⟩
  | .hbm, ⟨89, _⟩ => ⟨S4x2048x704, .bf16⟩
  | .hbm, ⟨90, _⟩ => ⟨S2048x1024, .bf16⟩
  | .hbm, ⟨91, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_call0_cst_1 : Ref sig .tc := ⟨.hbm, 76, rfl⟩
abbrev main_call0_v6 : Ref sig .tc := ⟨.hbm, 77, rfl⟩
abbrev main_call0_v7 : Ref sig .tc := ⟨.hbm, 78, rfl⟩
abbrev main_call0_v8 : Ref sig .tc := ⟨.hbm, 79, rfl⟩
abbrev main_call0_v9 : Ref sig .tc := ⟨.hbm, 80, rfl⟩
abbrev main_v49_0 : Ref sig .tc := ⟨.hbm, 81, rfl⟩
abbrev main_call0_v11 : Ref sig .tc := ⟨.hbm, 82, rfl⟩
abbrev main_call0_v12 : Ref sig .tc := ⟨.hbm, 83, rfl⟩
abbrev main_v49_1 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩

abbrev nD : Nat := 1
abbrev τ : Topo := Topo.v7x

variable {F : FTy → Type} [FloatOps F]
-- ==== Proof.Dw.lean ====
/- The weight gradients of the FFN: the kernel's four blocks of `dyᵀ x`, and the reference's term for the same product. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Dw

open Cert.Kernel2Ideal Cert.Kernel2Ideal.Gen

variable (m : (ℓ : Loc nD τ sig) → Buf (Elt Ideal) ℓ)

/-- The reference's f32 result over the two arguments. -/
abbrev ref (Y : FVec Ideal S4x2048x704 .bf16) (X : FVec Ideal S2048x1024 .bf16) : FVec Ideal S4x704x1024 .f32 :=
  shapeCast _ (transpose Cert.Reference2Ideal.S2816x1024 [1, 0] (transpose Cert.Reference2Ideal.S1024x2816 [1, 0] (Host.dotGeneral Cert.Reference2Ideal.dot_S2048x2816_S2048x1024_S2816x1024_0_0_1_1_n_n none (shapeCast _ (transpose Cert.Reference2Ideal.S2048x4x704 [1, 0, 2] (extf .f32 Y Cert.Reference2Ideal.Gen.bitsLt_bf16_f32) Cert.Reference2Ideal.Gen.transposes_S4x2048x704_S2048x4x704_1_0_2) Cert.Reference2Ideal.Gen.shapeCasts_S2048x4x704_S2048x2816) (extf .f32 X Cert.Reference2Ideal.Gen.bitsLt_bf16_f32)) Cert.Reference2Ideal.Gen.transposes_S2816x1024_S1024x2816_1_0) Cert.Reference2Ideal.Gen.transposes_S1024x2816_S2816x1024_1_0) Cert.Reference2Ideal.Gen.shapeCasts_S2816x1024_S4x704x1024

/-- The windows' block indices: point `t` holds shard `t`. -/
theorem idx : ∀ t : Fin cfg0.N, win0_0.index t = ![t.val, 0, 0] ∧ win0_1.index t = ![0, 0, 0] ∧ win0_2.index t = ![t.val, 0, 0] ∧ win0_3.index t = ![t.val, 0, 0] :=
  (by decide +kernel : ∀ t : Fin grid0.N, _)

/-- Point `t`'s product is the reference's at the place where its block lies. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref]
  blk_point [iblk, V, idx t]

/-- The f32 gradients after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point m c t y

/-- The bf16 gradients after the run. -/
theorem final_half (c : Dev nD) : (dats m 0 c).arrAt 3 (cfgs 0).N
    = truncf .bf16 (ref (m ((c : Thread nD τ).loc main_arg0)) (m ((c : Thread nD τ).loc main_arg1))) Cert.Reference2Ideal.Gen.bitsLt_bf16_f32 := by
  refine (dats m 0 c).arrAt_eq_of_covers 3 _ (by decide +kernel) fun t _ y => ?_
  blk_simp
  rw [after0_3]
  unfold Gen.outsAt0
  frame_out
  pointwise [k0_pay2, k0_pay1, ref]
  blk_point [iblk, V, idx t]

end Cert.Kernel2Ideal.Dw

end
-- ==== Proof.Rms.lean ====
/- The RMS norm of a row over the extended reals: what its mean square can be, and the two ways its gradient is written. -/
module

public import Idealize.ShloMosaic.PureOps.Ideal
public import Idealize.ShloMosaic.Lib.IdealHost

@[expose] public section

noncomputable section

open Idealize.ShloMosaic

namespace Cert.Rms

/-- The row's length, the constant added to the mean square, minus a half and a half, as the programs write them. -/
abbrev len : EReal := Ideal.ofBits .f32 0x44800000#32
abbrev eps : EReal := Ideal.ofBits .f32 0x358637BD#32
abbrev mhalf : EReal := Ideal.ofBits .f32 0xBF000000#32
abbrev half : EReal := Ideal.ofBits .f32 0x3F000000#32

theorem len_eq : len = ((1024 : ℝ) : EReal) := by
  simp [len, Ideal.ofBits, Ideal.ieee, -EReal.coe_mul]; norm_num

theorem mhalf_eq : mhalf = ((-(1 / 2) : ℝ) : EReal) := by
  simp [mhalf, Ideal.ofBits, Ideal.ieee, -EReal.coe_mul]; norm_num

theorem half_eq : half = ((1 / 2 : ℝ) : EReal) := by
  simp [half, Ideal.ofBits, Ideal.ieee, -EReal.coe_mul]; norm_num

theorem eps_real : ∃ e : ℝ, 0 < e ∧ eps = (e : EReal) := by
  refine ⟨8796093 * (2 : ℝ) ^ (-43 : ℤ), by positivity, ?_⟩
  simp [eps, Ideal.ofBits, Ideal.ieee, -EReal.coe_mul]

/-- A nonnegative real factor comes out of a sum. -/
theorem sum_mul_real {ι : Type*} (s : Finset ι) (f : ι → EReal) (r : EReal) (h0 : 0 ≤ r) (ht : r ≠ ⊤) :
    (∑ i ∈ s, f i) * r = ∑ i ∈ s, f i * r := by
  classical
  induction s using Finset.induction_on with
  | empty => simp
  | insert a s ha ih => rw [Finset.sum_insert ha, Finset.sum_insert ha, EReal.right_distrib_of_nonneg_of_ne_top h0 ht, ih]

/-- The mean square of a row, with the small constant added. -/
def ms (x : Fin 1024 → EReal) : EReal := Ideal.div (∑ k, x k * x k) len + eps

theorem square_nonneg (x : EReal) : 0 ≤ x * x := by
  induction x using EReal.rec with
  | bot => rw [EReal.bot_mul_bot]; exact le_top
  | top => rw [EReal.top_mul_top]; exact le_top
  | coe x => rw [← EReal.coe_mul]; exact_mod_cast mul_self_nonneg x

/-- The mean square is infinite or a positive real. -/
theorem ms_cases (x : Fin 1024 → EReal) : ms x = ⊤ ∨ ∃ v : ℝ, 0 < v ∧ ms x = (v : EReal) := by
  obtain ⟨e, he, hE⟩ := eps_real
  have hs : 0 ≤ ∑ k, x k * x k := Finset.sum_nonneg fun k _ => square_nonneg (x k)
  unfold ms
  rw [len_eq, Ideal.div_coe (by norm_num), hE]
  generalize (∑ k, x k * x k) = s at hs
  induction s using EReal.rec with
  | bot => exact absurd hs (by simp)
  | top => left; rw [EReal.top_mul_coe_of_pos (by norm_num), EReal.top_add_coe]
  | coe s =>
    right
    have hs' : 0 ≤ s := by exact_mod_cast hs
    exact ⟨s * (1 / 1024) + e, by positivity, by push_cast; rfl⟩

/-- The reciprocal root of a row's mean square. -/
def rs (x : Fin 1024 → EReal) : EReal := Ideal.rsqrt (ms x)

/-- The reciprocal root is a nonnegative real, and divided by the mean square it is its cube. -/
theorem rs_real (x : Fin 1024 → EReal) : ∃ r : ℝ, 0 ≤ r ∧ rs x = (r : EReal) ∧ Ideal.div (rs x) (ms x) = ((r * r * r : ℝ) : EReal) := by
  unfold rs
  rcases ms_cases x with h | ⟨v, hv, h⟩
  · refine ⟨0, le_rfl, ?_, ?_⟩
    · rw [h]; rfl
    · rw [h]
      show Ideal.div 0 ⊤ = _
      unfold Ideal.div
      simp
  · have hr : Ideal.rsqrt (v : EReal) = ((Real.sqrt v)⁻¹ : ℝ) := by
      show (if v < 0 then (⊥ : EReal) else if v = 0 then ⊤ else (((Real.sqrt v)⁻¹ : ℝ) : EReal)) = _
      rw [if_neg hv.not_gt, if_neg hv.ne']
    refine ⟨(Real.sqrt v)⁻¹, by positivity, by rw [h, hr], ?_⟩
    rw [h, hr, Ideal.div_coe hv.ne', ← EReal.coe_mul]
    congr 1
    have hq : Real.sqrt v ≠ 0 := (Real.sqrt_pos.mpr hv).ne'
    have hm : v = Real.sqrt v * Real.sqrt v := (Real.mul_self_sqrt hv.le).symm
    rw [one_div]
    conv_lhs => rw [show v⁻¹ = (Real.sqrt v * Real.sqrt v)⁻¹ from congrArg _ hm]
    field_simp

/-- Half the coefficient of the row in its gradient, `h` being the gradient by the normalized row times the gain. -/
def coef (x h : Fin 1024 → EReal) : EReal := Ideal.div ((∑ k, x k * h k) * (mhalf * Ideal.div (rs x) (ms x))) len

/-- The gradient of a normalized row. -/
def grad (x h : Fin 1024 → EReal) (j : Fin 1024) : EReal :=
  rs x * (h j - x j * rs x * Ideal.div (∑ k, h k * (x k * rs x)) len)

/-- The gradient of a normalized row: scaling the row's part that is orthogonal to it, and the product rule. -/
theorem back (x h : Fin 1024 → EReal) (j : Fin 1024) :
    grad x h j = h j * rs x + x j * coef x h + coef x h * x j := by
  obtain ⟨r, h0, hr, hc⟩ := rs_real x
  have h0' : (0 : EReal) ≤ (r : EReal) := by exact_mod_cast h0
  have ht : ((r : ℝ) : EReal) ≠ ⊤ := EReal.coe_ne_top _
  unfold grad coef
  rw [hc, hr, mhalf_eq, len_eq, Ideal.div_coe (by norm_num), Ideal.div_coe (by norm_num)]
  have hs : (∑ k, h k * (x k * (r : EReal))) = (∑ k, x k * h k) * (r : EReal) := by
    rw [sum_mul_real _ _ _ h0' ht]
    exact Finset.sum_congr rfl fun k _ => by ac_rfl
  rw [hs]
  generalize (∑ k, x k * h k) = s
  rw [sub_eq_add_neg, mul_comm (r : EReal), EReal.right_distrib_of_nonneg_of_ne_top h0' ht, add_assoc]
  congr 1
  have hx : x j * (s * (((-(1 / 2) : ℝ) : EReal) * ((r * r * r : ℝ) : EReal)) * ((1 / 1024 : ℝ) : EReal))
      = (x j * s) * ((-(1 / 2048) * (r * r * r) : ℝ) : EReal) := by
    rw [show (-(1 / 2048) * (r * r * r) : ℝ) = (-(1 / 2)) * (r * r * r) * (1 / 1024) by ring]
    push_cast
    ac_rfl
  rw [mul_comm _ (x j), hx]
  have hl : -(x j * (r : EReal) * (s * (r : EReal) * ((1 / 1024 : ℝ) : EReal))) * (r : EReal)
      = (x j * s) * ((-(1 / 1024) * (r * r * r) : ℝ) : EReal) := by
    rw [show (-(1 / 1024) * (r * r * r) : ℝ) = -((r * r * r) * (1 / 1024)) by ring, EReal.coe_neg, mul_neg, neg_mul]
    push_cast
    congr 1
    ac_rfl
  rw [hl]
  generalize x j * s = p
  have hn : 0 ≤ 1 / 2048 * (r * r * r) := by positivity
  have hd : ∀ a : ℝ, 0 ≤ a → p * ((-(a + a) : ℝ) : EReal) = p * ((-a : ℝ) : EReal) + p * ((-a : ℝ) : EReal) := by
    intro a ha
    rw [EReal.coe_neg, EReal.coe_neg, mul_neg, mul_neg, EReal.coe_add]
    have ha' : (0 : EReal) ≤ (a : EReal) := by exact_mod_cast ha
    rw [EReal.left_distrib_of_nonneg ha' ha']
    rcases eq_or_lt_of_le ha with rfl | hp
    · simp
    induction p using EReal.rec with
    | bot => simp [EReal.bot_mul_coe_of_pos hp]
    | top => simp [EReal.top_mul_coe_of_pos hp]
    | coe p => norm_cast; ring
  have := hd _ hn
  rw [show (-(1 / 2048 * (r * r * r) + 1 / 2048 * (r * r * r)) : ℝ) = -(1 / 1024) * (r * r * r) by ring,
    show (-(1 / 2048 * (r * r * r)) : ℝ) = -(1 / 2048) * (r * r * r) by ring] at this
  exact this

end Cert.Rms

end
-- ==== Proof.InRef.lean ====
/- The reference's gradients at the input of a projection whose argument is normalized by its rows' mean square. -/
module

public import proofs.«01_k».proof.Proof.Gen.Reference3Ideal.Run
public import proofs.«01_k».proof.Proof.Rms
public import Idealize.ShloMosaic.Lib.Pointwise
public import Idealize.ShloMosaic.Lib.Tactic.CleanTypes

@[expose] public section

set_option maxRecDepth 16384

noncomputable section

open Idealize.ShloMosaic Idealize.SL.Sem

namespace Cert.Reference3Ideal.In

open Cert.Reference3Ideal

/-- The gradient by the normalized rows: the two products with the weights. -/
def dnR (DG DU : FVec Ideal S4x2048x704 .bf16) (WG WU : FVec Ideal S4x704x1024 .bf16) : FVec Ideal S2048x1024 .f32 :=
  (addf (Host.dotGeneral dot_S2048x2816_S1024x2816_S2048x1024_1_1_0_0_n_n none (shapeCast _ (transpose S2048x4x704 [1, 0, 2] (extf .f32 DU Gen.bitsLt_bf16_f32) Gen.transposes_S4x2048x704_S2048x4x704_1_0_2) Gen.shapeCasts_S2048x4x704_S2048x2816) (transpose S1024x2816 [1, 0] (shapeCast _ (extf .f32 WU Gen.bitsLt_bf16_f32) Gen.shapeCasts_S4x704x1024_S2816x1024) Gen.transposes_S2816x1024_S1024x2816_1_0)) (Host.dotGeneral dot_S2048x2816_S1024x2816_S2048x1024_1_1_0_0_n_n none (shapeCast _ (transpose S2048x4x704 [1, 0, 2] (extf .f32 DG Gen.bitsLt_bf16_f32) Gen.transposes_S4x2048x704_S2048x4x704_1_0_2) Gen.shapeCasts_S2048x4x704_S2048x2816) (transpose S1024x2816 [1, 0] (shapeCast _ (extf .f32 WG Gen.bitsLt_bf16_f32) Gen.shapeCasts_S4x704x1024_S2816x1024) Gen.transposes_S2816x1024_S1024x2816_1_0)))

/-- The rows' mean squares, with the small constant added. -/
def vR (X : FVec Ideal S2048x1024 .f32) : FVec Ideal S2048x1 .f32 :=
  (addf (Host.divf (broadcastInDim S2048x1 ![0] Gen.bcast_S2048_S2048x1_0 (Host.reduceAdd (mulf X X) (constant S_ .f32 0x00000000#32) Gen.reducesTo_S2048x1024_S2048_d1 Gen.h_S_)) (broadcastInDim S2048x1 ![] Gen.bcast_S_S2048x1 (constant S_ .f32 0x44800000#32))) (broadcastInDim S2048x1 ![] Gen.bcast_S_S2048x1 (constant S_ .f32 0x358637BD#32)))

/-- The gradient by the rows before the gain. -/
def hR (DN : FVec Ideal S2048x1024 .f32) (G : FVec Ideal S1x1024 .f32) : FVec Ideal S2048x1024 .f32 :=
  (mulf DN (broadcastInDim S2048x1024 ![0, 1] Gen.bcast_S1x1024_S2048x1024_0_1 (broadcastInDim S1x1024 ![1] Gen.bcast_S1024_S1x1024_1 (shapeCast _ G Gen.shapeCasts_S1x1024_S1024))))

/-- The rows' coefficients of the argument in its gradient, half of them. -/
def coR (DN X : FVec Ideal S2048x1024 .f32) (G : FVec Ideal S1x1024 .f32) : FVec Ideal S2048 .f32 :=
  (Host.reduceAdd (Host.divf (mulf (shapeCast _ (Host.reduceAdd (mulf X (hR DN G)) (constant S_ .f32 0x00000000#32) Gen.reducesTo_S2048x1024_S2048_d1 Gen.h_S_) Gen.shapeCasts_S2048_S2048x1) (mulf (broadcastInDim S2048x1 ![] Gen.bcast_S_S2048x1 (constant S_ .f32 0xBF000000#32)) (Host.divf (Host.rsqrt (vR X)) (vR X)))) (broadcastInDim S2048x1 ![] Gen.bcast_S_S2048x1 (constant S_ .f32 0x44800000#32))) (constant S_ .f32 0x00000000#32) Gen.reducesTo_S2048x1_S2048_d1 Gen.h_S_)

/-- The gradient by the argument, added to another one. -/
def dxR (DN X : FVec Ideal S2048x1024 .f32) (G : FVec Ideal S1x1024 .f32) (DH : FVec Ideal S2048x1024 .f32) : FVec Ideal S2048x1024 .f32 :=
  addf DH (addf (addf (mulf (hR DN G) (broadcastInDim S2048x1024 ![0, 1] Gen.bcast_S2048x1_S2048x1024_0_1 (Host.rsqrt (vR X)))) (mulf X (broadcastInDim S2048x1024 ![0] Gen.bcast_S2048_S2048x1024_0 (coR DN X G)))) (mulf (broadcastInDim S2048x1024 ![0] Gen.bcast_S2048_S2048x1024_0 (coR DN X G)) X))

/-- The gradient by the gain. -/
def dgR (DN X : FVec Ideal S2048x1024 .f32) : FVec Ideal S1x1024 .f32 :=
  broadcastInDim S1x1024 ![1] Gen.bcast_S1024_S1x1024_1 (Host.reduceAdd (shapeCast _ (Host.reduceAdd (mulf (mulf X (broadcastInDim S2048x1024 ![0, 1] Gen.bcast_S2048x1_S2048x1024_0_1 (Host.rsqrt (vR X)))) DN) (constant S_ .f32 0x00000000#32) Gen.reducesTo_S2048x1024_S1024_d0 Gen.h_S_) Gen.shapeCasts_S1024_S1x1024) (constant S_ .f32 0x00000000#32) Gen.reducesTo_S1x1024_S1024_d0 Gen.h_S_)

/-- An index of a two-axis array is its coordinates. -/
theorem eta2 {a b : ℕ} (j : (⟨2, ![a, b]⟩ : Shape).Idx) : ix2 (j 0) (j 1) = j := by
  funext k
  match k with
  | ⟨0, _⟩ => rfl
  | ⟨1, _⟩ => rfl

theorem dnR_at (DG DU WG WU) (j) : dnR DG DU WG WU j
    = (∑ x : Fin 2816, (DU (ix3 ⟨x.val / 704, by omega⟩ (j 0) ⟨x.val % 704, by omega⟩) * WU (ix3 ⟨x.val / 704, by omega⟩ ⟨x.val % 704, by omega⟩ (j 1)) : EReal))
      + ∑ x : Fin 2816, (DG (ix3 ⟨x.val / 704, by omega⟩ (j 0) ⟨x.val % 704, by omega⟩) * WG (ix3 ⟨x.val / 704, by omega⟩ ⟨x.val % 704, by omega⟩ (j 1)) : EReal) := by
  pointwise [dnR]

theorem vR_at (X) (j) : vR X j = Rms.ms fun k => X (ix2 (j 0) k) := by
  pointwise [vR]
  rfl

theorem hR_at (DN G) (j) : hR DN G j = (DN j : EReal) * G (ix2 0 (j 1)) := by
  pointwise [hR]

theorem coR_at (DN X G) (j) : coR DN X G j = Rms.coef (fun k => X (ix2 (j 0) k)) fun k => hR DN G (ix2 (j 0) k) := by
  unfold coR
  pointwise [vR_at]
  rw [Fin.sum_univ_one]
  rfl

theorem dxR_at (DN X G DH) (p : Fin 2048) (q : Fin 1024) : dxR DN X G DH (ix2 p q)
    = (DH (ix2 p q) : EReal) + Rms.grad (fun k => X (ix2 p k)) (fun k => hR DN G (ix2 p k)) q := by
  unfold dxR
  pointwise [vR_at, coR_at]
  refine congrArg (fun z : EReal => (DH (ix2 p q) : EReal) + z)
    (Eq.trans ?_ (Rms.back (fun k => X (ix2 p k)) (fun k => hR DN G (ix2 p k)) q).symm)
  rfl

theorem dgR_at (DN X) (j) : dgR DN X j
    = ∑ R : Fin 2048, (X (ix2 R (j 1)) : EReal) * Rms.rs (fun k => X (ix2 R k)) * DN (ix2 R (j 1)) := by
  unfold dgR
  pointwise [vR_at]
  rw [Fin.sum_univ_one]
  rfl

variable (m : (ℓ : Loc nD τ sig) → Buf (Elt Ideal) ℓ) (c : Dev nD)

/-- The first result over the definitions above. -/
theorem res_dx : Value.res_main_v54 m c = dxR (dnR (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg4)) (m ((c.tc : Thread nD τ).loc main_arg5)) (m ((c.tc : Thread nD τ).loc main_arg6)) := by
  unfold Value.res_main_v54
  rfl

end Cert.Reference3Ideal.In

end
-- ==== Proof.Shards.lean ====
/- A product over four shards' columns is the sum of the shards' products. -/
module

public import Idealize.ShloMosaic.Lib.Pipeline.ValueKit

@[expose] public section

noncomputable section

open Idealize.ShloMosaic

namespace Cert.Shards

/-- One shard's product at an index. -/
def term (Y : (⟨3, ![4, 2048, 704]⟩ : Shape).Idx → EReal) (W : (⟨3, ![4, 704, 1024]⟩ : Shape).Idx → EReal) (s : Fin 4) (R : Fin 2048) (q : Fin 1024) : EReal :=
  ∑ k : Fin 704, (Y (ix3 s R k) * W (ix3 s k q) : EReal)

/-- The shards' products together are the product over all columns. -/
theorem sum_term (Y : (⟨3, ![4, 2048, 704]⟩ : Shape).Idx → EReal) (W : (⟨3, ![4, 704, 1024]⟩ : Shape).Idx → EReal) (R : Fin 2048) (q : Fin 1024) :
    ∑ s : Fin 4, term Y W s R q = ∑ x : Fin 2816, (Y (ix3 ⟨x.val / 704, by omega⟩ R ⟨x.val % 704, by omega⟩) * W (ix3 ⟨x.val / 704, by omega⟩ ⟨x.val % 704, by omega⟩ q) : EReal) := by
  unfold term
  refine Fin.sum_mul_add_congr fun s k hl => ?_
  have d0 : (s.val * 704 + k.val) / 704 = s.val := by omega
  have d1 : (s.val * 704 + k.val) % 704 = k.val := by omega
  simp only [d0, d1]

end Cert.Shards

end
-- ==== Proof.InAcc.lean ====
/- The kernel's gradients at the input of a normalized projection: what it accumulates over the shards, and what it stores of it. -/
module

public import proofs.«01_k».proof.Proof.Gen.Kernel3Ideal.Value
public import proofs.«01_k».proof.Proof.InRef
public import proofs.«01_k».proof.Proof.Shards
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.In

open Cert.Kernel3Ideal Cert.Kernel3Ideal.Gen Cert.Reference3Ideal.In Cert.Shards

variable (m : (ℓ : Loc nD τ sig) → Buf (Elt Ideal) ℓ)

/-- The windows' block indices: point `t` holds row block `t / 4` of shard `t % 4`. -/
theorem idx : ∀ t : Fin cfg0.N, win0_0.index t = ![t.val % 4, t.val / 4, 0] ∧ win0_1.index t = ![t.val % 4, t.val / 4, 0] ∧ win0_2.index t = ![t.val % 4, 0, 0] ∧ win0_3.index t = ![t.val % 4, 0, 0]
    ∧ win0_4.index t = ![t.val / 4, 0] ∧ win0_5.index t = ![0, 0] ∧ win0_6.index t = ![t.val / 4, 0] ∧ win0_7.index t = ![t.val / 4, 0] ∧ win0_8.index t = ![0, 0] :=
  (by decide +kernel : ∀ t : Fin grid0.N, _)

/-- The first shard's point starts the accumulator. -/
theorem acc_first (c : Dev nD) (t : Fin cfg0.N) (h : t.val % 4 = 0) :
    (outsAt0 m c t.val t.isLt).2.2 = k0_pay1 (iblk m c 0 t) (iblk m c 2 t) (iblk m c 1 t) (iblk m c 3 t) := by
  rw [outsAt0_A m c t h (by omega) (by omega)]
  frame_out
  funext j
  pointwise [k0_pay2]

/-- Every other shard's point adds to it. -/
theorem acc_next (c : Dev nD) (t : Fin cfg0.N) (h : ¬t.val % 4 = 0) (j : S1024x1024.Idx) :
    (outsAt0 m c t.val t.isLt).2.2 j = ((outsAt0 m c (t.val - 1) (Nat.lt_of_le_of_lt (Nat.sub_le _ _) t.isLt)).2.2 j : EReal) + k0_pay1 (iblk m c 0 t) (iblk m c 2 t) (iblk m c 1 t) (iblk m c 3 t) j := by
  have hN : t.val < 8 := lt_of_lt_of_eq t.isLt N_0
  by_cases h2 : t.val % 4 = 3
  · by_cases h3 : t.val < 4
    · rw [outsAt0_C m c t h (by omega) h2 h3 (by omega)]
      frame_out
      pointwise [k0_pay3]
      rw [read_unread_whole]
    · rw [outsAt0_D m c t h (by omega) h2 h3 (by omega)]
      frame_out
      pointwise [k0_pay3]
      rw [read_unread_whole]
  · rw [outsAt0_B m c t h (by omega) h2]
    frame_out
    pointwise [k0_pay3]
    rw [read_unread_whole]

/-- A row block's last point stores the gradient by the argument, of the accumulator it leaves. -/
theorem out_last (c : Dev nD) (t : Fin cfg0.N) (h : t.val % 4 = 3) :
    (outsAt0 m c t.val t.isLt).1 = k0_pay8 (iblk m c 4 t) (iblk m c 5 t) (outsAt0 m c t.val t.isLt).2.2 (iblk m c 6 t) := by
  have hN : t.val < 8 := lt_of_lt_of_eq t.isLt N_0
  by_cases h3 : t.val < 4
  · rw [outsAt0_C m c t (by omega) (by omega) h h3 (by omega)]
    frame_out
  · rw [outsAt0_D m c t (by omega) (by omega) h h3 (by omega)]
    frame_out

/-- The first row block's last point starts the gradient by the gain. -/
theorem gain_first (c : Dev nD) (t : Fin cfg0.N) (h : t.val % 4 = 3) (h3 : t.val < 4) :
    (outsAt0 m c t.val t.isLt).2.1 = k0_pay9 (iblk m c 4 t) (outsAt0 m c t.val t.isLt).2.2 := by
  rw [outsAt0_C m c t (by omega) (by omega) h h3 (by omega)]
  frame_out

/-- The second row block's last point adds to it. -/
theorem gain_next (c : Dev nD) (t : Fin cfg0.N) (h : t.val % 4 = 3) (h3 : ¬t.val < 4) :
    (outsAt0 m c t.val t.isLt).2.1 = k0_pay4 (k0_pay7 (iblk m c 4 t) (outsAt0 m c t.val t.isLt).2.2) (outsAt0 m c (t.val - 1) (Nat.lt_of_le_of_lt (Nat.sub_le _ _) t.isLt)).2.1 := by
  rw [outsAt0_D m c t (by omega) (by omega) h h3 (by omega)]
  frame_out

/-- Every other point leaves it. -/
theorem gain_kept (c : Dev nD) (t : Fin cfg0.N) (h : ¬t.val % 4 = 3) (h0 : 0 < t.val) :
    (outsAt0 m c t.val t.isLt).2.1 = (outsAt0 m c (t.val - 1) (Nat.lt_of_le_of_lt (Nat.sub_le _ _) t.isLt)).2.1 := by
  by_cases h4 : t.val % 4 = 0
  · rw [outsAt0_A m c t h4 (by omega) (by omega)]
    rfl
  · rw [outsAt0_B m c t h4 (by omega) h]
    rfl

/-- The row of the whole array at place `p` of point `t`'s row block. -/
def row (t : Fin cfg0.N) (p : Fin 1024) : Fin 2048 :=
  ⟨1024 * (t.val / 4) + p.val, by have := lt_of_lt_of_eq t.isLt N_0; omega⟩

/-- The shard of point `t`. -/
def shard (t : Fin cfg0.N) : Fin 4 :=
  ⟨t.val % 4, Nat.mod_lt _ (by decide)⟩

/-- A point's products, read off the arguments. -/
theorem part (c : Dev nD) (t : Fin cfg0.N) (y : S1024x1024.Idx) : k0_pay1 (iblk m c 0 t) (iblk m c 2 t) (iblk m c 1 t) (iblk m c 3 t) y
    = term (m ((c : Thread nD τ).loc main_arg1)) (m ((c : Thread nD τ).loc main_arg3)) (shard t) (row t (y 0)) (y 1)
      + term (m ((c : Thread nD τ).loc main_arg0)) (m ((c : Thread nD τ).loc main_arg2)) (shard t) (row t (y 0)) (y 1) := by
  rw [add_comm]
  pointwise [k0_pay1, term]
  blk_point [iblk, V, idx t, row, shard]

/-- After a row block's last shard the accumulator holds the reference's gradient by the normalized rows. -/
theorem acc (c : Dev nD) (t : Fin cfg0.N) (h : t.val % 4 = 3) (y : S1024x1024.Idx) : (outsAt0 m c t.val t.isLt).2.2 y
    = dnR (m ((c : Thread nD τ).loc main_arg0)) (m ((c : Thread nD τ).loc main_arg1)) (m ((c : Thread nD τ).loc main_arg2)) (m ((c : Thread nD τ).loc main_arg3)) (ix2 (row t (y 0)) (y 1)) := by
  rw [dnR_at]
  refine (Pipeline.eq_sum_fin_of_reset_step_apply_of_flush (fun n h => ((outsAt0 m c n h).2.2 : S1024x1024.Idx → EReal)) 4 (fun _ => (0 : EReal))
    (fun t => k0_pay1 (iblk m c 0 t) (iblk m c 2 t) (iblk m c 1 t) (iblk m c 3 t))
    (fun t h i => (congrFun (acc_first m c t h) i).trans (zero_add _).symm) (fun t h i => acc_next m c t h i) t h y).trans ?_
  rw [zero_add]
  have hs (s : Fin 4) : shard ⟨4 * (t.val / 4) + s.val, Pipeline.run_point_lt_of_flush t h s⟩ = s :=
    Fin.ext (show (4 * (t.val / 4) + s.val) % 4 = s.val by omega)
  have hr (s : Fin 4) : row ⟨4 * (t.val / 4) + s.val, Pipeline.run_point_lt_of_flush t h s⟩ (y 0) = row t (y 0) :=
    Fin.ext (show 1024 * ((4 * (t.val / 4) + s.val) / 4) + (y 0).val = 1024 * (t.val / 4) + (y 0).val by omega)
  refine (Finset.sum_congr rfl fun s _ => (part m c ⟨4 * (t.val / 4) + s.val, Pipeline.run_point_lt_of_flush t h s⟩ y).trans
    (show _ = term (m ((c : Thread nD τ).loc main_arg1)) (m ((c : Thread nD τ).loc main_arg3)) s (row t (y 0)) (y 1)
      + term (m ((c : Thread nD τ).loc main_arg0)) (m ((c : Thread nD τ).loc main_arg2)) s (row t (y 0)) (y 1) by rw [hs, hr])).trans ?_
  rw [Finset.sum_add_distrib]
  exact congrArg₂ (fun a b : EReal => a + b) (sum_term _ _ _ _) (sum_term _ _ _ _)

end Cert.Kernel3Ideal.In

end
-- ==== Proof.InVal.lean ====
/- The kernel's two results at the input of a normalized projection are the reference's. -/
module

public import proofs.«01_k».proof.Proof.InAcc
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.In

open Cert.Kernel3Ideal Cert.Kernel3Ideal.Gen Cert.Reference3Ideal.In

variable (m : (ℓ : Loc nD τ sig) → Buf (Elt Ideal) ℓ)

/-- The stored gradient by the argument, at an index. -/
theorem pay8_at (x : Vec Ideal S1024x1024 .f32) (g : Vec Ideal S1x1024 .f32) (dn dh : Vec Ideal S1024x1024 .f32) (p q : Fin 1024) : k0_pay8 x g dn dh (ix2 p q)
    = (dh (ix2 p q) : EReal) + Rms.grad (fun k => x (ix2 p k)) (fun k => (dn (ix2 p k) : EReal) * g (ix2 0 k)) q := by
  pointwise [k0_pay8, k0_pay6, k0_pay5]
  rfl

/-- A row block's share of the gradient by the gain, at an index. -/
theorem pay7_at (x dn : Vec Ideal S1024x1024 .f32) (p : Fin 1) (q : Fin 1024) : k0_pay7 x dn (ix2 p q)
    = ∑ r : Fin 1024, (x (ix2 r q) : EReal) * Rms.rs (fun k => x (ix2 r k)) * dn (ix2 r q) := by
  pointwise [k0_pay7, k0_pay6, k0_pay5]
  exact Finset.sum_congr rfl fun r _ => mul_comm _ _

/-- The argument's block at point `t`. -/
theorem blk_x (c : Dev nD) (t : Fin cfg0.N) (p q : Fin 1024) : iblk m c 4 t (ix2 p q) = m ((c : Thread nD τ).loc main_arg4) (ix2 (row t p) q) := by
  blk_point [iblk, V, idx t, row]

/-- The gain's block. -/
theorem blk_g (c : Dev nD) (t : Fin cfg0.N) (p : Fin 1) (q : Fin 1024) : iblk m c 5 t (ix2 p q) = m ((c : Thread nD τ).loc main_arg5) (ix2 p q) := by
  blk_point [iblk, V, idx t]

/-- The other gradient's block at point `t`. -/
theorem blk_dh (c : Dev nD) (t : Fin cfg0.N) (p q : Fin 1024) : iblk m c 6 t (ix2 p q) = m ((c : Thread nD τ).loc main_arg6) (ix2 (row t p) q) := by
  blk_point [iblk, V, idx t, row]

/-- The reference's gradient by the normalized rows, of the arguments. -/
abbrev dn (c : Dev nD) : FVec Ideal S2048x1024 .f32 :=
  dnR (m ((c : Thread nD τ).loc main_arg0)) (m ((c : Thread nD τ).loc main_arg1)) (m ((c : Thread nD τ).loc main_arg2)) (m ((c : Thread nD τ).loc main_arg3))

/-- What a row block's last point stores is the reference's block. -/
theorem point (c : Dev nD) (t : Fin cfg0.N) (h : t.val % 4 = 3) (p q : Fin 1024) : (outsAt0 m c t.val t.isLt).1 (ix2 p q)
    = dxR (dn m c) (m ((c : Thread nD τ).loc main_arg4)) (m ((c : Thread nD τ).loc main_arg5)) (m ((c : Thread nD τ).loc main_arg6)) (ix2 (row t p) q) := by
  rw [out_last m c t h, pay8_at, dxR_at]
  simp only [hR_at, acc m c t h, blk_x, blk_g, blk_dh]
  rfl

/-- The gradient by the argument after the run. -/
theorem final (c : Dev nD) : (dats m 0 c).arrAt 7 (cfgs 0).N
    = dxR (dn m c) (m ((c : Thread nD τ).loc main_arg4)) (m ((c : Thread nD τ).loc main_arg5)) (m ((c : Thread nD τ).loc main_arg6)) := by
  refine (dats m 0 c).arrAt_eq_of_covers 7 _ (by decide +kernel) fun t hf y => ?_
  have h : t.val % 4 = 3 := (flush0_7 t).mp hf
  have e : ((cfg0.win 7).blk t).view.emb y = ix2 (row t (y 0)) (y 1) := by
    blk_ext [idx t, row]
  blk_simp
  rw [after0_7]
  refine (congrArg (outsAt0 m c t.val t.isLt).1 (eta2 y).symm).trans ((point m c t h (y 0) (y 1)).trans ?_)
  exact congrArg _ e.symm

/-- The argument. -/
abbrev arg (c : Dev nD) : FVec Ideal S2048x1024 .f32 := m ((c : Thread nD τ).loc main_arg4)

/-- A row's part of the gradient by the gain, of the arguments. -/
def rowPart (c : Dev nD) (q : Fin 1024) (R : Fin 2048) : EReal :=
  (arg m c (ix2 R q) : EReal) * Rms.rs (fun k => arg m c (ix2 R k)) * dn m c (ix2 R q)

/-- A row block's share of the gradient by the gain, of the arguments. -/
theorem share (c : Dev nD) (t : Fin cfg0.N) (h : t.val % 4 = 3) (p : Fin 1) (q : Fin 1024) : k0_pay7 (iblk m c 4 t) (outsAt0 m c t.val t.isLt).2.2 (ix2 p q)
    = ∑ r : Fin 1024, rowPart m c q (row t r) := by
  rw [pay7_at]
  simp only [acc m c t h, blk_x]
  rfl

/-- A point that stores nothing into the gradient by the gain leaves it. -/
theorem kept (c : Dev nD) (n : ℕ) (hn : n + 1 < cfg0.N) (h : ¬(n + 1) % 4 = 3) :
    (outsAt0 m c (n + 1) hn).2.1 = (outsAt0 m c n (Nat.lt_of_succ_lt hn)).2.1 :=
  gain_kept m c ⟨n + 1, hn⟩ h (Nat.succ_pos n)

/-- The two row blocks' shares together, at the last point. -/
theorem gain (c : Dev nD) (h : 7 < cfg0.N) (p : Fin 1) (q : Fin 1024) : (outsAt0 m c 7 h).2.1 (ix2 p q) = ∑ R : Fin 2048, rowPart m c q R := by
  have h3 : 3 < cfg0.N := by omega
  have e7 := gain_next m c ⟨7, h⟩ (show 7 % 4 = 3 from rfl) (show ¬7 < 4 by decide)
  have e6 : (outsAt0 m c 6 (by omega)).2.1 = (outsAt0 m c 3 h3).2.1 :=
    (kept m c 5 (by omega) (by decide)).trans ((kept m c 4 (by omega) (by decide)).trans (kept m c 3 (by omega) (by decide)))
  have e3 := gain_first m c ⟨3, h3⟩ (show 3 % 4 = 3 from rfl) (show 3 < 4 by decide)
  have a : (outsAt0 m c 7 h).2.1 (ix2 p q)
      = (k0_pay7 (iblk m c 4 ⟨3, h3⟩) (outsAt0 m c 3 h3).2.2 (ix2 p q) : EReal) + k0_pay7 (iblk m c 4 ⟨7, h⟩) (outsAt0 m c 7 h).2.2 (ix2 p q) := by
    refine (congrFun e7 _).trans ?_
    pointwise [k0_pay4]
    refine congrArg (fun z : EReal => z + k0_pay7 (iblk m c 4 ⟨7, h⟩) (outsAt0 m c 7 h).2.2 (ix2 p q)) ?_
    refine (congrFun (e6.trans e3) (ix2 p q)).trans ?_
    pointwise [k0_pay9]
  rw [a, share m c ⟨3, h3⟩ (show 3 % 4 = 3 from rfl), share m c ⟨7, h⟩ (show 7 % 4 = 3 from rfl)]
  refine Eq.trans (b := ∑ b : Fin 2, ∑ r : Fin 1024, rowPart m c q (⟨b.val * 1024 + r.val, by omega⟩ : Fin 2048)) ?_
    (Fin.sum_mul_add_congr fun b r hl => rfl)
  rw [Fin.sum_univ_two]
  exact congrArg₂ (fun a b : EReal => a + b)
    (Finset.sum_congr rfl fun r _ => congrArg (rowPart m c q) (Fin.ext (show 1024 * (3 / 4) + r.val = 0 * 1024 + r.val by omega)))
    (Finset.sum_congr rfl fun r _ => congrArg (rowPart m c q) (Fin.ext (show 1024 * (7 / 4) + r.val = 1 * 1024 + r.val by omega)))

/-- The gradient by the gain after the run. -/
theorem final_gain (c : Dev nD) : (dats m 0 c).arrAt 8 (cfgs 0).N = dgR (dn m c) (arg m c) := by
  refine (dats m 0 c).arrAt_eq_of_covers 8 _ (by decide +kernel) fun t hf y => ?_
  have e : ((cfg0.win 8).blk t).view.emb y = ix2 (y 0) (y 1) := by
    blk_ext [idx t]
  blk_simp
  rw [after0_8]
  have h7 : t = ⟨7, by decide⟩ := Fin.ext (by have := lt_of_lt_of_eq t.isLt N_0; have := (flush0_8 t).mp hf; show t.val = 7; omega)
  refine (congrArg (outsAt0 m c t.val t.isLt).2.1 (eta2 y).symm).trans (Eq.trans ?_ (congrArg (dgR (dn m c) (arg m c)) e.symm))
  subst h7
  exact (gain m c _ (y 0) (y 1)).trans (dgR_at _ _ (ix2 (y 0) (y 1))).symm

end Cert.Kernel3Ideal.In

end
-- ==== Proof.DwDown.lean ====
/- The weight gradient of the FFN's second projection, its call ordered after another: the kernel's four blocks of `actᵀ df`, and the reference's term for the same product. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.Dw

open Cert.Kernel4Ideal Cert.Kernel4Ideal.Gen

variable (m : (ℓ : Loc nD τ sig) → Buf (Elt Ideal) ℓ)

/-- The reference's f32 result over the two arguments. -/
def ref (Y : FVec Ideal S4x2048x704 .bf16) (X : FVec Ideal S2048x1024 .bf16) : FVec Ideal S4x704x1024 .f32 :=
  shapeCast _ (transpose Cert.Reference4Ideal.S2816x1024 [1, 0] (Host.dotGeneral Cert.Reference4Ideal.dot_S2048x1024_S2048x2816_S1024x2816_0_0_1_1_n_n none (extf .f32 X Cert.Reference4Ideal.Gen.bitsLt_bf16_f32) (shapeCast _ (transpose Cert.Reference4Ideal.S2048x4x704 [1, 0, 2] (extf .f32 Y Cert.Reference4Ideal.Gen.bitsLt_bf16_f32) Cert.Reference4Ideal.Gen.transposes_S4x2048x704_S2048x4x704_1_0_2) Cert.Reference4Ideal.Gen.shapeCasts_S2048x4x704_S2048x2816)) Cert.Reference4Ideal.Gen.transposes_S1024x2816_S2816x1024_1_0) Cert.Reference4Ideal.Gen.shapeCasts_S2816x1024_S4x704x1024

/-- The windows' block indices: point `t` holds shard `t`. -/
theorem idx : ∀ t : Fin cfg0.N, win0_0.index t = ![t.val, 0, 0] ∧ win0_1.index t = ![0, 0, 0] ∧ win0_2.index t = ![t.val, 0, 0] ∧ win0_3.index t = ![t.val, 0, 0] :=
  (by decide +kernel : ∀ t : Fin grid0.N, _)

/-- Point `t`'s product is the reference's at the place where its block lies. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref]
  refine Finset.sum_congr rfl fun x _ => (mul_comm _ _).trans ?_
  blk_point [iblk, V, idx t]

/-- The f32 gradients after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  unfold Gen.outsAt0
  frame_out
  exact point m c t y

/-- The bf16 gradients after the run. -/
theorem final_half (c : Dev nD) : (dats m 0 c).arrAt 3 (cfgs 0).N
    = truncf .bf16 (ref (m ((c : Thread nD τ).loc main_arg0)) (m ((c : Thread nD τ).loc main_arg1))) Cert.Reference4Ideal.Gen.bitsLt_bf16_f32 := by
  refine (dats m 0 c).arrAt_eq_of_covers 3 _ (by decide +kernel) fun t _ y => ?_
  blk_simp
  rw [after0_3]
  unfold Gen.outsAt0
  frame_out
  pointwise [k0_pay2]
  exact point m c t y

end Cert.Kernel4Ideal.Dw

end
-- ==== Proof.Down.lean ====
/- The FFN's second projection with the norm and the residual after it: the kernel's two results are the reference's. -/
module

public import proofs.«01_k».proof.Proof.Gen.Kernel5Ideal.Value
public import proofs.«01_k».proof.Proof.Gen.Reference5Ideal.Run
public import proofs.«01_k».proof.Proof.Shards
public import proofs.«01_k».proof.Proof.InRef
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference5Ideal.Down

open Cert.Reference5Ideal Cert.Reference3Ideal.In

/-- The projection. -/
def fR (A : FVec Ideal S4x2048x704 .bf16) (W : FVec Ideal S4x704x1024 .bf16) : FVec Ideal S2048x1024 .f32 :=
  Host.dotGeneral dot_S2048x2816_S2816x1024_S2048x1024_1_0_0_1_n_n none (shapeCast _ (transpose S2048x4x704 [1, 0, 2] (extf .f32 A Gen.bitsLt_bf16_f32) Gen.transposes_S4x2048x704_S2048x4x704_1_0_2) Gen.shapeCasts_S2048x4x704_S2048x2816) (shapeCast _ (extf .f32 W Gen.bitsLt_bf16_f32) Gen.shapeCasts_S4x704x1024_S2816x1024)

/-- The rows' mean squares, with the small constant added. -/
def vR (F : FVec Ideal S2048x1024 .f32) : FVec Ideal S2048x1 .f32 :=
  addf (Host.divf (broadcastInDim S2048x1 ![0] Gen.bcast_S2048_S2048x1_0 (Host.reduceAdd (mulf F F) (constant S_ .f32 0x00000000#32) Gen.reducesTo_S2048x1024_S2048_d1 Gen.h_S_)) (broadcastInDim S2048x1 ![] Gen.bcast_S_S2048x1 (constant S_ .f32 0x44800000#32))) (broadcastInDim S2048x1 ![] Gen.bcast_S_S2048x1 (constant S_ .f32 0x358637BD#32))

/-- The residual with half the normalized projection. -/
def hR (X F : FVec Ideal S2048x1024 .f32) (G : FVec Ideal S1x1024 .f32) : FVec Ideal S2048x1024 .f32 :=
  addf X (mulf (broadcastInDim S2048x1024 ![] Gen.bcast_S_S2048x1024 (constant S_ .f32 0x3F000000#32)) (mulf (mulf F (broadcastInDim S2048x1024 ![0, 1] Gen.bcast_S2048x1_S2048x1024_0_1 (Host.rsqrt (vR F)))) (broadcastInDim S2048x1024 ![0, 1] Gen.bcast_S1x1024_S2048x1024_0_1 (broadcastInDim S1x1024 ![1] Gen.bcast_S1024_S1x1024_1 (shapeCast _ G Gen.shapeCasts_S1x1024_S1024)))))

theorem fR_at (A W) (j) : fR A W j
    = ∑ x : Fin 2816, (A (ix3 ⟨x.val / 704, by omega⟩ (j 0) ⟨x.val % 704, by omega⟩) * W (ix3 ⟨x.val / 704, by omega⟩ ⟨x.val % 704, by omega⟩ (j 1)) : EReal) := by
  pointwise [fR]

theorem vR_at (F) (j) : vR F j = Rms.ms fun k => F (ix2 (j 0) k) := by
  pointwise [vR]
  rfl

theorem hR_at (X F G) (p : Fin 2048) (q : Fin 1024) : hR X F G (ix2 p q)
    = (X (ix2 p q) : EReal) + Rms.half * (F (ix2 p q) * Rms.rs (fun k => F (ix2 p k)) * G (ix2 0 q)) := by
  unfold hR
  pointwise [vR_at]
  rfl

end Cert.Reference5Ideal.Down

namespace Cert.Kernel5Ideal.Down

open Cert.Kernel5Ideal Cert.Kernel5Ideal.Gen Cert.Shards Cert.Reference5Ideal.Down
open Cert.Reference3Ideal.In (eta2)

variable (m : (ℓ : Loc nD τ sig) → Buf (Elt Ideal) ℓ)

/-- The windows' block indices: point `t` holds row block `t / 4` of shard `t % 4`. -/
theorem idx : ∀ t : Fin cfg0.N, win0_0.index t = ![t.val / 4, 0] ∧ win0_1.index t = ![t.val % 4, t.val / 4, 0] ∧ win0_2.index t = ![0, 0] ∧ win0_3.index t = ![t.val % 4, 0, 0]
    ∧ win0_4.index t = ![t.val / 4, 0] ∧ win0_5.index t = ![t.val / 4, 0] :=
  (by decide +kernel : ∀ t : Fin grid0.N, _)

/-- The first shard's point starts the accumulator. -/
theorem acc_first (c : Dev nD) (t : Fin cfg0.N) (h : t.val % 4 = 0) :
    (outsAt0 m c t.val t.isLt).2 = k0_pay1 (iblk m c 1 t) (iblk m c 3 t) := by
  rw [outsAt0_A m c t h (by omega) (by omega)]
  frame_out
  funext j
  pointwise [k0_pay2]

/-- Every other shard's point adds to it. -/
theorem acc_next (c : Dev nD) (t : Fin cfg0.N) (h : ¬t.val % 4 = 0) (j : S1024x1024.Idx) :
    (outsAt0 m c t.val t.isLt).2 j = ((outsAt0 m c (t.val - 1) (Nat.lt_of_le_of_lt (Nat.sub_le _ _) t.isLt)).2 j : EReal) + k0_pay1 (iblk m c 1 t) (iblk m c 3 t) j := by
  by_cases h2 : t.val % 4 = 3
  · rw [outsAt0_C m c t h (by omega) h2]
    frame_out
    pointwise [k0_pay3]
  · rw [outsAt0_B m c t h (by omega) h2]
    frame_out
    pointwise [k0_pay3]

/-- A row block's last point stores the residual's sum, of the accumulator it leaves. -/
theorem out_last (c : Dev nD) (t : Fin cfg0.N) (h : t.val % 4 = 3) :
    (outsAt0 m c t.val t.isLt).1 = k0_pay4 (iblk m c 0 t) (outsAt0 m c t.val t.isLt).2 (iblk m c 2 t) := by
  rw [outsAt0_C m c t (by omega) (by omega) h]
  frame_out

/-- The row of the whole array at place `p` of point `t`'s row block. -/
def row (t : Fin cfg0.N) (p : Fin 1024) : Fin 2048 :=
  ⟨1024 * (t.val / 4) + p.val, by have := lt_of_lt_of_eq t.isLt N_0; omega⟩

/-- The shard of point `t`. -/
def shard (t : Fin cfg0.N) : Fin 4 :=
  ⟨t.val % 4, Nat.mod_lt _ (by decide)⟩

/-- A point's product, read off the arguments. -/
theorem part (c : Dev nD) (t : Fin cfg0.N) (y : S1024x1024.Idx) : k0_pay1 (iblk m c 1 t) (iblk m c 3 t) y
    = term (m ((c : Thread nD τ).loc main_arg1)) (m ((c : Thread nD τ).loc main_arg3)) (shard t) (row t (y 0)) (y 1) := by
  pointwise [k0_pay1, term]
  blk_point [iblk, V, idx t, row, shard]

/-- The projection of the arguments. -/
abbrev f (c : Dev nD) : FVec Ideal S2048x1024 .f32 := fR (m ((c : Thread nD τ).loc main_arg1)) (m ((c : Thread nD τ).loc main_arg3))

/-- After a row block's last shard the accumulator holds the reference's projection. -/
theorem acc (c : Dev nD) (t : Fin cfg0.N) (h : t.val % 4 = 3) (y : S1024x1024.Idx) : (outsAt0 m c t.val t.isLt).2 y = f m c (ix2 (row t (y 0)) (y 1)) := by
  refine Eq.trans ?_ (fR_at (m ((c : Thread nD τ).loc main_arg1)) (m ((c : Thread nD τ).loc main_arg3)) (ix2 (row t (y 0)) (y 1))).symm
  refine (Pipeline.eq_sum_fin_of_reset_step_apply_of_flush (fun n h => ((outsAt0 m c n h).2 : S1024x1024.Idx → EReal)) 4 (fun _ => (0 : EReal))
    (fun t => k0_pay1 (iblk m c 1 t) (iblk m c 3 t))
    (fun t h i => (congrFun (acc_first m c t h) i).trans (zero_add _).symm) (fun t h i => acc_next m c t h i) t h y).trans ?_
  rw [zero_add]
  have hs (s : Fin 4) : shard ⟨4 * (t.val / 4) + s.val, Pipeline.run_point_lt_of_flush t h s⟩ = s :=
    Fin.ext (show (4 * (t.val / 4) + s.val) % 4 = s.val by omega)
  have hr (s : Fin 4) : row ⟨4 * (t.val / 4) + s.val, Pipeline.run_point_lt_of_flush t h s⟩ (y 0) = row t (y 0) :=
    Fin.ext (show 1024 * ((4 * (t.val / 4) + s.val) / 4) + (y 0).val = 1024 * (t.val / 4) + (y 0).val by omega)
  refine (Finset.sum_congr rfl fun s _ => (part m c ⟨4 * (t.val / 4) + s.val, Pipeline.run_point_lt_of_flush t h s⟩ y).trans
    (show _ = term (m ((c : Thread nD τ).loc main_arg1)) (m ((c : Thread nD τ).loc main_arg3)) s (row t (y 0)) (y 1) by rw [hs, hr])).trans ?_
  exact sum_term _ _ _ _

/-- The stored sum, at an index. -/
theorem pay4_at (x a : Vec Ideal S1024x1024 .f32) (g : Vec Ideal S1x1024 .f32) (p q : Fin 1024) : k0_pay4 x a g (ix2 p q)
    = (x (ix2 p q) : EReal) + Rms.half * (a (ix2 p q) * Rms.rs (fun k => a (ix2 p k)) * g (ix2 0 q)) := by
  pointwise [k0_pay4]
  rfl

/-- The residual's block at point `t`. -/
theorem blk_x (c : Dev nD) (t : Fin cfg0.N) (p q : Fin 1024) : iblk m c 0 t (ix2 p q) = m ((c : Thread nD τ).loc main_arg0) (ix2 (row t p) q) := by
  blk_point [iblk, V, idx t, row]

/-- The gain's block. -/
theorem blk_g (c : Dev nD) (t : Fin cfg0.N) (p : Fin 1) (q : Fin 1024) : iblk m c 2 t (ix2 p q) = m ((c : Thread nD τ).loc main_arg2) (ix2 p q) := by
  blk_point [iblk, V, idx t]

/-- What a row block's last point stores is the reference's block. -/
theorem point (c : Dev nD) (t : Fin cfg0.N) (h : t.val % 4 = 3) (p q : Fin 1024) : (outsAt0 m c t.val t.isLt).1 (ix2 p q)
    = hR (m ((c : Thread nD τ).loc main_arg0)) (f m c) (m ((c : Thread nD τ).loc main_arg2)) (ix2 (row t p) q) := by
  rw [out_last m c t h, pay4_at, hR_at]
  simp only [acc m c t h, blk_x, blk_g]
  rfl

/-- The residual's sum after the run. -/
theorem final (c : Dev nD) : (dats m 0 c).arrAt 4 (cfgs 0).N
    = hR (m ((c : Thread nD τ).loc main_arg0)) (f m c) (m ((c : Thread nD τ).loc main_arg2)) := by
  refine (dats m 0 c).arrAt_eq_of_covers 4 _ (by decide +kernel) fun t hf y => ?_
  have h : t.val % 4 = 3 := (flush0_4 t).mp hf
  have e : ((cfg0.win 4).blk t).view.emb y = ix2 (row t (y 0)) (y 1) := by
    blk_ext [idx t, row]
  blk_simp
  rw [after0_4]
  refine (congrArg (outsAt0 m c t.val t.isLt).1 (eta2 y).symm).trans ((point m c t h (y 0) (y 1)).trans ?_)
  exact congrArg _ e.symm

/-- The projection after the run. -/
theorem final_f (c : Dev nD) : (dats m 0 c).arrAt 5 (cfgs 0).N = f m c := by
  refine (dats m 0 c).arrAt_eq_of_covers 5 _ (by decide +kernel) fun t hf y => ?_
  have h : t.val % 4 = 3 := (flush0_5 t).mp hf
  have e : ((cfg0.win 5).blk t).view.emb y = ix2 (row t (y 0)) (y 1) := by
    blk_ext [idx t, row]
  blk_simp
  rw [after0_5]
  exact (acc m c t h y).trans (congrArg (f m c) e.symm)

end Cert.Kernel5Ideal.Down

end
-- ==== Proof.DwIn.lean ====
/- The weight gradient of the projection to queries, keys and values: the kernel's eight blocks of `nᵀ dqkv`, and the reference's term for the same product. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.DwIn

open Cert.Kernel6Ideal Cert.Kernel6Ideal.Gen

variable (m : (ℓ : Loc nD τ sig) → Buf (Elt Ideal) ℓ)

/-- The six gradients side by side. -/
def all (D1 D2 D3 D4 D5 D6 : FVec Ideal S2048x512 .bf16) : FVec Ideal Cert.Reference6Ideal.S2048x3072 .bf16 :=
  concatenate Cert.Reference6Ideal.S2048x3072 1 [⟨S2048x512, D1⟩, ⟨S2048x512, D2⟩, ⟨S2048x512, D3⟩, ⟨S2048x512, D4⟩, ⟨S2048x512, D5⟩, ⟨S2048x512, D6⟩] Cert.Reference6Ideal.Gen.concatenates_S2048x512_S2048x512_S2048x512_S2048x512_S2048x512_S2048x512_S2048x3072_d1

/-- The reference's f32 result over the arguments. -/
def ref (N : FVec Ideal S2048x1024 .bf16) (D1 D2 D3 D4 D5 D6 : FVec Ideal S2048x512 .bf16) : FVec Ideal S4x1024x768 .f32 :=
  transpose Cert.Reference6Ideal.S4x1024x768 [1, 0, 2] (shapeCast _ (transpose Cert.Reference6Ideal.S1024x3072 [1, 0] (Host.dotGeneral Cert.Reference6Ideal.dot_S2048x3072_S2048x1024_S3072x1024_0_0_1_1_n_n none (extf .f32 (all D1 D2 D3 D4 D5 D6) Cert.Reference6Ideal.Gen.bitsLt_bf16_f32) (extf .f32 N Cert.Reference6Ideal.Gen.bitsLt_bf16_f32)) Cert.Reference6Ideal.Gen.transposes_S3072x1024_S1024x3072_1_0) Cert.Reference6Ideal.Gen.shapeCasts_S1024x3072_S1024x4x768) Cert.Reference6Ideal.Gen.transposes_S1024x4x768_S4x1024x768_1_0_2

/-- The windows' block indices: point `t` holds rows' block `t / 4` of shard `t % 4`. -/
theorem idx : ∀ t : Fin cfg0.N, win0_0.index t = ![0, t.val / 4] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val % 4, t.val / 4, 0] ∧ win0_8.index t = ![t.val % 4, t.val / 4, 0] :=
  (by decide +kernel : ∀ t : Fin grid0.N, _)

/-- The reference's result over the arguments. -/
abbrev res (c : Dev nD) : FVec Ideal S4x1024x768 .f32 :=
  ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- The row of the result that row `p` of the block of point `t` is. -/
def row (t : Fin cfg0.N) (p : Fin 512) : Fin 1024 := ⟨512 * (t.val / 4) + p.val, by have := lt_of_lt_of_eq t.isLt N_0; omega⟩

/-- Where the element of an output block lies. -/
theorem place (t : Fin cfg0.N) (y : S1x512x768.Idx) : ((cfg0.win 7).blk t).view.emb y = ix3 (⟨t.val % 4, by omega⟩ : Fin 4) (row t (y 1)) (⟨(y 2).val, (y 2).isLt⟩ : Fin 768) := by
  blk_ext [idx t, row]

/-- The first shard's blocks are the reference's at the place where they lie. -/
theorem point_first (c : Dev nD) (t : Fin cfg0.N) (h : t.val % 4 = 0) (y : S1x512x768.Idx) : (outsAt0 m c t.val t.isLt).1 y = res m c (((cfg0.win 7).blk t).view.emb y) := by
  rw [outsAt0_A m c t h (by omega) (by omega) (by omega)]
  frame_out
  refine Eq.trans ?_ (congrArg (res m c) (place t y)).symm
  pointwise [k0_pay1, res, ref, all, row]
  refine Finset.sum_congr rfl fun R _ => (mul_comm _ _).trans ?_
  blk_point [iblk, V, idx t, h] <;> (exfalso; omega)

/-- The second shard's blocks are the reference's at the place where they lie. -/
theorem point_second (c : Dev nD) (t : Fin cfg0.N) (h : t.val % 4 = 1) (y : S1x512x768.Idx) : (outsAt0 m c t.val t.isLt).1 y = res m c (((cfg0.win 7).blk t).view.emb y) := by
  rw [outsAt0_B m c t (by omega) h (by omega) (by omega)]
  frame_out
  refine Eq.trans ?_ (congrArg (res m c) (place t y)).symm
  pointwise [k0_pay3, res, ref, all, row]
  refine Finset.sum_congr rfl fun R _ => (mul_comm _ _).trans ?_
  blk_point [iblk, V, idx t, h] <;> (exfalso; omega)

/-- The third shard's blocks are the reference's at the place where they lie. -/
theorem point_third (c : Dev nD) (t : Fin cfg0.N) (h : t.val % 4 = 2) (y : S1x512x768.Idx) : (outsAt0 m c t.val t.isLt).1 y = res m c (((cfg0.win 7).blk t).view.emb y) := by
  rw [outsAt0_C m c t (by omega) (by omega) h (by omega)]
  frame_out
  refine Eq.trans ?_ (congrArg (res m c) (place t y)).symm
  pointwise [k0_pay5, res, ref, all, row]
  refine Finset.sum_congr rfl fun R _ => (mul_comm _ _).trans ?_
  blk_point [iblk, V, idx t, h] <;> (exfalso; omega)

/-- The fourth shard's blocks are the reference's at the place where they lie. -/
theorem point_fourth (c : Dev nD) (t : Fin cfg0.N) (h : t.val % 4 = 3) (y : S1x512x768.Idx) : (outsAt0 m c t.val t.isLt).1 y = res m c (((cfg0.win 7).blk t).view.emb y) := by
  rw [outsAt0_D m c t (by omega) (by omega) (by omega) h]
  frame_out
  refine Eq.trans ?_ (congrArg (res m c) (place t y)).symm
  pointwise [k0_pay7, res, ref, all, row]
  refine Finset.sum_congr rfl fun R _ => (mul_comm _ _).trans ?_
  blk_point [iblk, V, idx t, h] <;> (exfalso; omega)

/-- Every block is the reference's at the place where it lies. -/
theorem point (c : Dev nD) (t : Fin cfg0.N) (y : S1x512x768.Idx) : (outsAt0 m c t.val t.isLt).1 y = res m c (((cfg0.win 7).blk t).view.emb y) := by
  have h : t.val % 4 = 0 ∨ t.val % 4 = 1 ∨ t.val % 4 = 2 ∨ t.val % 4 = 3 := by omega
  rcases h with h | h | h | h
  · exact point_first m c t h y
  · exact point_second m c t h y
  · exact point_third m c t h y
  · exact point_fourth m c t h y

/-- The second output of a point is its first at half width. -/
theorem half (c : Dev nD) (t : Fin cfg0.N) (y : S1x512x768.Idx) : (outsAt0 m c t.val t.isLt).2 y = (outsAt0 m c t.val t.isLt).1 y := by
  have h : t.val % 4 = 0 ∨ t.val % 4 = 1 ∨ t.val % 4 = 2 ∨ t.val % 4 = 3 := by omega
  rcases h with h | h | h | h
  · rw [outsAt0_A m c t h (by omega) (by omega) (by omega)]
    frame_out
    pointwise [k0_pay2]
  · rw [outsAt0_B m c t (by omega) h (by omega) (by omega)]
    frame_out
    pointwise [k0_pay4]
  · rw [outsAt0_C m c t (by omega) (by omega) h (by omega)]
    frame_out
    pointwise [k0_pay6]
  · rw [outsAt0_D m c t (by omega) (by omega) (by omega) h]
    frame_out
    pointwise [k0_pay8]

/-- The f32 gradients after the run. -/
theorem final (c : Dev nD) : (dats m 0 c).arrAt 7 (cfgs 0).N = res m c := by
  refine (dats m 0 c).arrAt_eq_of_covers 7 _ (by decide +kernel) fun t _ y => ?_
  blk_simp
  rw [after0_7]
  exact point m c t y

/-- The bf16 gradients after the run. -/
theorem final_half (c : Dev nD) : (dats m 0 c).arrAt 8 (cfgs 0).N
    = truncf .bf16 (res m c) Cert.Reference6Ideal.Gen.bitsLt_bf16_f32 := by
  refine (dats m 0 c).arrAt_eq_of_covers 8 _ (by decide +kernel) fun t _ y => ?_
  blk_simp
  rw [after0_8]
  exact (half m c t y).trans (point m c t y)

end Cert.Kernel6Ideal.DwIn

end
-- ==== Proof.QkvRef.lean ====
/- The reference's gradients at the input of the projection to queries, keys and values, over the definitions for a projection whose argument is normalized by its rows' mean square. -/
module

public import proofs.«01_k».proof.Proof.Gen.Reference7Ideal.Run
public import proofs.«01_k».proof.Proof.InRef
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.SL.Sem

namespace Cert.Reference7Ideal.Qkv

open Cert.Reference7Ideal

/-- The six gradients side by side. -/
def all (D1 D2 D3 D4 D5 D6 : FVec Ideal S2048x512 .bf16) : FVec Ideal S2048x3072 .bf16 :=
  concatenate S2048x3072 1 [⟨S2048x512, D1⟩, ⟨S2048x512, D2⟩, ⟨S2048x512, D3⟩, ⟨S2048x512, D4⟩, ⟨S2048x512, D5⟩, ⟨S2048x512, D6⟩] Gen.concatenates_S2048x512_S2048x512_S2048x512_S2048x512_S2048x512_S2048x512_S2048x3072_d1

/-- The product of the gradients side by side with the weights. -/
def prodR (Y : FVec Ideal S2048x3072 .bf16) (W : FVec Ideal S4x1024x768 .bf16) : FVec Ideal S2048x1024 .f32 :=
  Host.dotGeneral dot_S2048x3072_S1024x3072_S2048x1024_1_1_0_0_n_n none (extf .f32 Y Gen.bitsLt_bf16_f32) (shapeCast _ (transpose S1024x4x768 [1, 0, 2] (extf .f32 W Gen.bitsLt_bf16_f32) Gen.transposes_S4x1024x768_S1024x4x768_1_0_2) Gen.shapeCasts_S1024x4x768_S1024x3072)

/-- The gradient by the normalized rows. -/
def dnR (D1 D2 D3 D4 D5 D6 : FVec Ideal S2048x512 .bf16) (W : FVec Ideal S4x1024x768 .bf16) : FVec Ideal S2048x1024 .f32 :=
  prodR (all D1 D2 D3 D4 D5 D6) W

theorem prodR_at (Y W) (p : Fin 2048) (q : Fin 1024) : prodR Y W (ix2 p q)
    = ∑ x : Fin 3072, (Y (ix2 p x) * W (ix3 ⟨x.val / 768, by omega⟩ q ⟨x.val % 768, by omega⟩) : EReal) := by
  pointwise [prodR]

/-- One shard's product at an index. -/
def term (Y : FVec Ideal S2048x3072 .bf16) (W : FVec Ideal S4x1024x768 .bf16) (s : Fin 4) (p : Fin 2048) (q : Fin 1024) : EReal :=
  ∑ k : Fin 768, (Y (ix2 p ⟨s.val * 768 + k.val, by omega⟩) * W (ix3 s q k) : EReal)

/-- The shards' products together are the whole product. -/
theorem sum_term (Y W) (p : Fin 2048) (q : Fin 1024) : ∑ s : Fin 4, term Y W s p q = prodR Y W (ix2 p q) := by
  rw [prodR_at]
  unfold term
  refine Fin.sum_mul_add_congr fun s k hl => ?_
  have d0 : (s.val * 768 + k.val) / 768 = s.val := by omega
  have d1 : (s.val * 768 + k.val) % 768 = k.val := by omega
  simp only [d0, d1]

variable (m : (ℓ : Loc nD τ sig) → Buf (Elt Ideal) ℓ) (c : Dev nD)

/-- The first result over the definitions above. -/
theorem res_dx : Value.res_main_v44 m c = Cert.Reference3Ideal.In.dxR (dnR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
    (m ((c.tc : Thread nD τ).loc main_arg7)) (m ((c.tc : Thread nD τ).loc main_arg8)) (m ((c.tc : Thread nD τ).loc main_arg9)) := by
  unfold Value.res_main_v44
  rfl

end Cert.Reference7Ideal.Qkv

end
-- ==== Proof.QkvAcc.lean ====
/- The kernel's gradients at the input of the projection to queries, keys and values: what it accumulates over the shards, and what it stores of it. -/
module

public import proofs.«01_k».proof.Proof.Gen.Kernel7Ideal.Value
public import proofs.«01_k».proof.Proof.QkvRef
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Qkv

open Cert.Kernel7Ideal Cert.Kernel7Ideal.Gen Cert.Reference3Ideal.In Cert.Reference7Ideal.Qkv

variable (m : (ℓ : Loc nD τ sig) → Buf (Elt Ideal) ℓ)

/-- The windows' block indices: point `t` holds row block `t / 4` and shard `t % 4`. -/
theorem idx : ∀ t : Fin cfg0.N, win0_0.index t = ![t.val / 4, 0] ∧ win0_1.index t = ![t.val / 4, 0] ∧ win0_2.index t = ![t.val / 4, 0] ∧ win0_3.index t = ![t.val / 4, 0]
    ∧ win0_4.index t = ![t.val / 4, 0] ∧ win0_5.index t = ![t.val / 4, 0] ∧ win0_6.index t = ![t.val % 4, 0, 0] ∧ win0_7.index t = ![t.val / 4, 0] ∧ win0_8.index t = ![0, 0]
    ∧ win0_9.index t = ![t.val / 4, 0] ∧ win0_10.index t = ![t.val / 4, 0] ∧ win0_11.index t = ![0, 0] :=
  (by decide +kernel : ∀ t : Fin grid0.N, _)

/-- The row of the whole array at place `p` of point `t`'s row block. -/
def row (t : Fin cfg0.N) (p : Fin 1024) : Fin 2048 :=
  ⟨1024 * (t.val / 4) + p.val, by have := lt_of_lt_of_eq t.isLt N_0; omega⟩

/-- The shard of point `t`. -/
def shard (t : Fin cfg0.N) : Fin 4 :=
  ⟨t.val % 4, Nat.mod_lt _ (by decide)⟩

/-- A shard's three pieces side by side. -/
def three (p1 p2 p3 : Vec Ideal S1024x256 .bf16) : FVec Ideal S1024x768 .bf16 :=
  concatenate S1024x768 1 [⟨S1024x256, p1⟩, ⟨S1024x256, p2⟩, ⟨S1024x256, p3⟩] concatenates_S1024x256_S1024x256_S1024x256_S1024x768_d1

/-- A shard's product at an index. -/
theorem pay1_at (p1 p2 p3 : Vec Ideal S1024x256 .bf16) (w : Vec Ideal S1x1024x768 .bf16) (p q : Fin 1024) : k0_pay1 p1 p2 p3 w (ix2 p q)
    = ∑ k : Fin 768, (three p1 p2 p3 (ix2 p k) * w (ix3 0 q k) : EReal) := by
  pointwise [k0_pay1, three]

/-- A shard's product added to what was accumulated. -/
theorem pay2_at (p1 p2 p3 : Vec Ideal S1024x256 .bf16) (w : Vec Ideal S1x1024x768 .bf16) (a : Vec Ideal S1024x1024 .f32) (j) : k0_pay2 p1 p2 p3 w a j = (a j : EReal) + k0_pay1 p1 p2 p3 w j := by
  pointwise [k0_pay2, k0_pay1]

/-- The six gradients of the arguments side by side. -/
abbrev dall (c : Dev nD) : FVec Ideal Cert.Reference7Ideal.S2048x3072 .bf16 :=
  all (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- A point's product, of the arguments. -/
abbrev part (c : Dev nD) (t : Fin cfg0.N) (j : S1024x1024.Idx) : EReal :=
  term (dall m c) (m ((c : Thread nD τ).loc main_arg6)) (shard t) (row t (j 0)) (j 1)

/-- A block's left half of columns. -/
abbrev lo (b : Vec Ideal S1024x512 .bf16) : Vec Ideal S1024x256 .bf16 := View.ld b (Rect.unit ![0, 0] ![1024, 256] inb_S1024x512_S1024x256_0_0)
/-- A block's right half of columns. -/
abbrev hi (b : Vec Ideal S1024x512 .bf16) : Vec Ideal S1024x256 .bf16 := View.ld b (Rect.unit ![0, 256] ![1024, 256] inb_S1024x512_S1024x256_0_256)

/-- Three pieces that are a shard's columns give the point's product. -/
theorem part_of (c : Dev nD) (t : Fin cfg0.N) (p1 p2 p3 : Vec Ideal S1024x256 .bf16)
    (e : ∀ (p : Fin 1024) (k : Fin 768), three p1 p2 p3 (ix2 p k) = dall m c (ix2 (row t p) ⟨(shard t).val * 768 + k.val, by omega⟩)) (j : S1024x1024.Idx) :
    k0_pay1 p1 p2 p3 (iblk m c 6 t) j = part m c t j := by
  refine (congrArg (k0_pay1 p1 p2 p3 (iblk m c 6 t)) (eta2 j).symm).trans ((pay1_at _ _ _ _ _ _).trans ?_)
  refine Finset.sum_congr rfl fun k _ => congrArg₂ (fun a b : EReal => a * b) (e (j 0) k) ?_
  blk_point [iblk, V, idx t, shard]

/-- The first shard's pieces. -/
theorem pieces_first (c : Dev nD) (t : Fin cfg0.N) (h : t.val % 4 = 0) (p : Fin 1024) (k : Fin 768) :
    three (lo (iblk m c 0 t)) (hi (iblk m c 0 t)) (lo (iblk m c 1 t)) (ix2 p k) = dall m c (ix2 (row t p) ⟨(shard t).val * 768 + k.val, by omega⟩) := by
  pointwise [three, lo, hi, dall, all, row, shard]
  blk_point [iblk, V, idx t, h] <;> (exfalso; omega)

/-- The second shard's pieces. -/
theorem pieces_second (c : Dev nD) (t : Fin cfg0.N) (h : t.val % 4 = 1) (p : Fin 1024) (k : Fin 768) :
    three (hi (iblk m c 1 t)) (lo (iblk m c 2 t)) (hi (iblk m c 2 t)) (ix2 p k) = dall m c (ix2 (row t p) ⟨(shard t).val * 768 + k.val, by omega⟩) := by
  pointwise [three, lo, hi, dall, all, row, shard]
  blk_point [iblk, V, idx t, h] <;> (exfalso; omega)

/-- The third shard's pieces. -/
theorem pieces_third (c : Dev nD) (t : Fin cfg0.N) (h : t.val % 4 = 2) (p : Fin 1024) (k : Fin 768) :
    three (lo (iblk m c 3 t)) (hi (iblk m c 3 t)) (lo (iblk m c 4 t)) (ix2 p k) = dall m c (ix2 (row t p) ⟨(shard t).val * 768 + k.val, by omega⟩) := by
  pointwise [three, lo, hi, dall, all, row, shard]
  blk_point [iblk, V, idx t, h] <;> (exfalso; omega)

/-- The fourth shard's pieces. -/
theorem pieces_fourth (c : Dev nD) (t : Fin cfg0.N) (h : t.val % 4 = 3) (p : Fin 1024) (k : Fin 768) :
    three (hi (iblk m c 4 t)) (lo (iblk m c 5 t)) (hi (iblk m c 5 t)) (ix2 p k) = dall m c (ix2 (row t p) ⟨(shard t).val * 768 + k.val, by omega⟩) := by
  pointwise [three, lo, hi, dall, all, row, shard]
  blk_point [iblk, V, idx t, h] <;> (exfalso; omega)

/-- The first shard's point starts the accumulator. -/
theorem acc_first (c : Dev nD) (t : Fin cfg0.N) (h : t.val % 4 = 0) (j : S1024x1024.Idx) : (outsAt0 m c t.val t.isLt).2.2 j = part m c t j := by
  rw [outsAt0_A m c t h (by omega) (by omega) (by omega) (by omega)]
  frame_out
  exact part_of m c t _ _ _ (pieces_first m c t h) j

/-- The second shard's point adds to it. -/
theorem acc_second (c : Dev nD) (t : Fin cfg0.N) (h : t.val % 4 = 1) (j : S1024x1024.Idx) :
    (outsAt0 m c t.val t.isLt).2.2 j = ((outsAt0 m c (t.val - 1) (Nat.lt_of_le_of_lt (Nat.sub_le _ _) t.isLt)).2.2 j : EReal) + part m c t j := by
  rw [← part_of m c t _ _ _ (pieces_second m c t h) j]
  rw [outsAt0_B m c t (by omega) h (by omega) (by omega) (by omega)]
  frame_out
  rw [read_unread_whole]
  exact pay2_at _ _ _ _ _ j

/-- The third shard's point adds to it. -/
theorem acc_third (c : Dev nD) (t : Fin cfg0.N) (h : t.val % 4 = 2) (j : S1024x1024.Idx) :
    (outsAt0 m c t.val t.isLt).2.2 j = ((outsAt0 m c (t.val - 1) (Nat.lt_of_le_of_lt (Nat.sub_le _ _) t.isLt)).2.2 j : EReal) + part m c t j := by
  rw [← part_of m c t _ _ _ (pieces_third m c t h) j]
  rw [outsAt0_C m c t (by omega) (by omega) h (by omega) (by omega)]
  frame_out
  rw [read_unread_whole]
  exact pay2_at _ _ _ _ _ j

/-- The fourth shard's point adds to it. -/
theorem acc_fourth (c : Dev nD) (t : Fin cfg0.N) (h : t.val % 4 = 3) (j : S1024x1024.Idx) :
    (outsAt0 m c t.val t.isLt).2.2 j = ((outsAt0 m c (t.val - 1) (Nat.lt_of_le_of_lt (Nat.sub_le _ _) t.isLt)).2.2 j : EReal) + part m c t j := by
  rw [← part_of m c t _ _ _ (pieces_fourth m c t h) j]
  have hN : t.val < 8 := lt_of_lt_of_eq t.isLt N_0
  by_cases h3 : t.val < 4
  · rw [outsAt0_D m c t (by omega) (by omega) (by omega) h h h3 (by omega)]
    frame_out
    rw [read_unread_whole]
    exact pay2_at _ _ _ _ _ j
  · rw [outsAt0_E m c t (by omega) (by omega) (by omega) h h h3 (by omega)]
    frame_out
    rw [read_unread_whole]
    exact pay2_at _ _ _ _ _ j

/-- Every other shard's point adds to the accumulator. -/
theorem acc_next (c : Dev nD) (t : Fin cfg0.N) (h : ¬t.val % 4 = 0) (j : S1024x1024.Idx) :
    (outsAt0 m c t.val t.isLt).2.2 j = ((outsAt0 m c (t.val - 1) (Nat.lt_of_le_of_lt (Nat.sub_le _ _) t.isLt)).2.2 j : EReal) + part m c t j := by
  have h : t.val % 4 = 1 ∨ t.val % 4 = 2 ∨ t.val % 4 = 3 := by omega
  rcases h with h | h | h
  · exact acc_second m c t h j
  · exact acc_third m c t h j
  · exact acc_fourth m c t h j

/-- A row block's last point stores the gradient by the argument, of the accumulator it leaves. -/
theorem out_last (c : Dev nD) (t : Fin cfg0.N) (h : t.val % 4 = 3) :
    (outsAt0 m c t.val t.isLt).1 = k0_pay9 (iblk m c 7 t) (iblk m c 8 t) (outsAt0 m c t.val t.isLt).2.2 (iblk m c 9 t) := by
  have hN : t.val < 8 := lt_of_lt_of_eq t.isLt N_0
  by_cases h3 : t.val < 4
  · rw [outsAt0_D m c t (by omega) (by omega) (by omega) h h h3 (by omega)]
    frame_out
  · rw [outsAt0_E m c t (by omega) (by omega) (by omega) h h h3 (by omega)]
    frame_out

/-- The first row block's last point starts the gradient by the gain. -/
theorem gain_first (c : Dev nD) (t : Fin cfg0.N) (h : t.val % 4 = 3) (h3 : t.val < 4) :
    (outsAt0 m c t.val t.isLt).2.1 = k0_pay10 (iblk m c 7 t) (outsAt0 m c t.val t.isLt).2.2 := by
  rw [outsAt0_D m c t (by omega) (by omega) (by omega) h h h3 (by omega)]
  frame_out

/-- The second row block's last point adds to it. -/
theorem gain_next (c : Dev nD) (t : Fin cfg0.N) (h : t.val % 4 = 3) (h3 : ¬t.val < 4) :
    (outsAt0 m c t.val t.isLt).2.1 = k0_pay5 (k0_pay8 (iblk m c 7 t) (outsAt0 m c t.val t.isLt).2.2) (outsAt0 m c (t.val - 1) (Nat.lt_of_le_of_lt (Nat.sub_le _ _) t.isLt)).2.1 := by
  rw [outsAt0_E m c t (by omega) (by omega) (by omega) h h h3 (by omega)]
  frame_out

/-- Every other point leaves it. -/
theorem gain_kept (c : Dev nD) (t : Fin cfg0.N) (h : ¬t.val % 4 = 3) (h0 : 0 < t.val) :
    (outsAt0 m c t.val t.isLt).2.1 = (outsAt0 m c (t.val - 1) (Nat.lt_of_le_of_lt (Nat.sub_le _ _) t.isLt)).2.1 := by
  have h : t.val % 4 = 0 ∨ t.val % 4 = 1 ∨ t.val % 4 = 2 := by omega
  rcases h with h | h | h
  · rw [outsAt0_A m c t h (by omega) (by omega) (by omega) (by omega)]
    rfl
  · rw [outsAt0_B m c t (by omega) h (by omega) (by omega) (by omega)]
    rfl
  · rw [outsAt0_C m c t (by omega) (by omega) h (by omega) (by omega)]
    rfl

/-- The reference's gradient by the normalized rows, of the arguments. -/
abbrev dn (c : Dev nD) : FVec Ideal S2048x1024 .f32 :=
  dnR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-- After a row block's last shard the accumulator holds the reference's gradient by the normalized rows. -/
theorem acc (c : Dev nD) (t : Fin cfg0.N) (h : t.val % 4 = 3) (y : S1024x1024.Idx) : (outsAt0 m c t.val t.isLt).2.2 y
    = dn m c (ix2 (row t (y 0)) (y 1)) := by
  refine Eq.trans ?_ (sum_term (dall m c) (m ((c : Thread nD τ).loc main_arg6)) (row t (y 0)) (y 1))
  refine (Pipeline.eq_sum_fin_of_reset_step_apply_of_flush (fun n h => ((outsAt0 m c n h).2.2 : S1024x1024.Idx → EReal)) 4 (fun _ => (0 : EReal))
    (fun t => part m c t)
    (fun t h i => (acc_first m c t h i).trans (zero_add _).symm) (fun t h i => acc_next m c t h i) t h y).trans ?_
  rw [zero_add]
  have hs (s : Fin 4) : shard ⟨4 * (t.val / 4) + s.val, Pipeline.run_point_lt_of_flush t h s⟩ = s :=
    Fin.ext (show (4 * (t.val / 4) + s.val) % 4 = s.val by omega)
  have hr (s : Fin 4) : row ⟨4 * (t.val / 4) + s.val, Pipeline.run_point_lt_of_flush t h s⟩ (y 0) = row t (y 0) :=
    Fin.ext (show 1024 * ((4 * (t.val / 4) + s.val) / 4) + (y 0).val = 1024 * (t.val / 4) + (y 0).val by omega)
  refine Finset.sum_congr rfl fun s _ => ?_
  show term (dall m c) (m ((c : Thread nD τ).loc main_arg6)) (shard ⟨4 * (t.val / 4) + s.val, _⟩) (row ⟨4 * (t.val / 4) + s.val, _⟩ (y 0)) (y 1) = _
  rw [hs, hr]

end Cert.Kernel7Ideal.Qkv

end
-- ==== Proof.QkvVal.lean ====
/- The kernel's two results at the input of the projection to queries, keys and values are the reference's. -/
module

public import proofs.«01_k».proof.Proof.QkvAcc
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Qkv

open Cert.Kernel7Ideal Cert.Kernel7Ideal.Gen Cert.Reference3Ideal.In

variable (m : (ℓ : Loc nD τ sig) → Buf (Elt Ideal) ℓ)

/-- The stored gradient by the argument, at an index. -/
theorem pay9_at (x : Vec Ideal S1024x1024 .f32) (g : Vec Ideal S1x1024 .f32) (dn dh : Vec Ideal S1024x1024 .f32) (p q : Fin 1024) : k0_pay9 x g dn dh (ix2 p q)
    = (dh (ix2 p q) : EReal) + Rms.grad (fun k => x (ix2 p k)) (fun k => (dn (ix2 p k) : EReal) * g (ix2 0 k)) q := by
  pointwise [k0_pay9, k0_pay7, k0_pay6]
  rfl

/-- A row block's share of the gradient by the gain, at an index. -/
theorem pay8_at (x dn : Vec Ideal S1024x1024 .f32) (p : Fin 1) (q : Fin 1024) : k0_pay8 x dn (ix2 p q)
    = ∑ r : Fin 1024, (x (ix2 r q) : EReal) * Rms.rs (fun k => x (ix2 r k)) * dn (ix2 r q) := by
  pointwise [k0_pay8, k0_pay7, k0_pay6]
  exact Finset.sum_congr rfl fun r _ => mul_comm _ _

/-- The argument's block at point `t`. -/
theorem blk_x (c : Dev nD) (t : Fin cfg0.N) (p q : Fin 1024) : iblk m c 7 t (ix2 p q) = m ((c : Thread nD τ).loc main_arg7) (ix2 (row t p) q) := by
  blk_point [iblk, V, idx t, row]

/-- The gain's block. -/
theorem blk_g (c : Dev nD) (t : Fin cfg0.N) (p : Fin 1) (q : Fin 1024) : iblk m c 8 t (ix2 p q) = m ((c : Thread nD τ).loc main_arg8) (ix2 p q) := by
  blk_point [iblk, V, idx t]

/-- The other gradient's block at point `t`. -/
theorem blk_dh (c : Dev nD) (t : Fin cfg0.N) (p q : Fin 1024) : iblk m c 9 t (ix2 p q) = m ((c : Thread nD τ).loc main_arg9) (ix2 (row t p) q) := by
  blk_point [iblk, V, idx t, row]

/-- What a row block's last point stores is the reference's block. -/
theorem point (c : Dev nD) (t : Fin cfg0.N) (h : t.val % 4 = 3) (p q : Fin 1024) : (outsAt0 m c t.val t.isLt).1 (ix2 p q)
    = dxR (dn m c) (m ((c : Thread nD τ).loc main_arg7)) (m ((c : Thread nD τ).loc main_arg8)) (m ((c : Thread nD τ).loc main_arg9)) (ix2 (row t p) q) := by
  rw [out_last m c t h, pay9_at, dxR_at]
  simp only [hR_at, acc m c t h, blk_x, blk_g, blk_dh]
  rfl

/-- The gradient by the argument after the run. -/
theorem final (c : Dev nD) : (dats m 0 c).arrAt 10 (cfgs 0).N
    = dxR (dn m c) (m ((c : Thread nD τ).loc main_arg7)) (m ((c : Thread nD τ).loc main_arg8)) (m ((c : Thread nD τ).loc main_arg9)) := by
  refine (dats m 0 c).arrAt_eq_of_covers 10 _ (by decide +kernel) fun t hf y => ?_
  have h : t.val % 4 = 3 := (flush0_10 t).mp hf
  have e : ((cfg0.win 10).blk t).view.emb y = ix2 (row t (y 0)) (y 1) := by
    blk_ext [idx t, row]
  blk_simp
  rw [after0_10]
  refine (congrArg (outsAt0 m c t.val t.isLt).1 (eta2 y).symm).trans ((point m c t h (y 0) (y 1)).trans ?_)
  exact congrArg _ e.symm

/-- The argument. -/
abbrev arg (c : Dev nD) : FVec Ideal S2048x1024 .f32 := m ((c : Thread nD τ).loc main_arg7)

/-- A row's part of the gradient by the gain, of the arguments. -/
def rowPart (c : Dev nD) (q : Fin 1024) (R : Fin 2048) : EReal :=
  (arg m c (ix2 R q) : EReal) * Rms.rs (fun k => arg m c (ix2 R k)) * dn m c (ix2 R q)

/-- A row block's share of the gradient by the gain, of the arguments. -/
theorem share (c : Dev nD) (t : Fin cfg0.N) (h : t.val % 4 = 3) (p : Fin 1) (q : Fin 1024) : k0_pay8 (iblk m c 7 t) (outsAt0 m c t.val t.isLt).2.2 (ix2 p q)
    = ∑ r : Fin 1024, rowPart m c q (row t r) := by
  rw [pay8_at]
  simp only [acc m c t h, blk_x]
  rfl

/-- A point that stores nothing into the gradient by the gain leaves it. -/
theorem kept (c : Dev nD) (n : ℕ) (hn : n + 1 < cfg0.N) (h : ¬(n + 1) % 4 = 3) :
    (outsAt0 m c (n + 1) hn).2.1 = (outsAt0 m c n (Nat.lt_of_succ_lt hn)).2.1 :=
  gain_kept m c ⟨n + 1, hn⟩ h (Nat.succ_pos n)

/-- The two row blocks' shares together, at the last point. -/
theorem gain (c : Dev nD) (h : 7 < cfg0.N) (p : Fin 1) (q : Fin 1024) : (outsAt0 m c 7 h).2.1 (ix2 p q) = ∑ R : Fin 2048, rowPart m c q R := by
  have h3 : 3 < cfg0.N := by omega
  have e7 := gain_next m c ⟨7, h⟩ (show 7 % 4 = 3 from rfl) (show ¬7 < 4 by decide)
  have e6 : (outsAt0 m c 6 (by omega)).2.1 = (outsAt0 m c 3 h3).2.1 :=
    (kept m c 5 (by omega) (by decide)).trans ((kept m c 4 (by omega) (by decide)).trans (kept m c 3 (by omega) (by decide)))
  have e3 := gain_first m c ⟨3, h3⟩ (show 3 % 4 = 3 from rfl) (show 3 < 4 by decide)
  have a : (outsAt0 m c 7 h).2.1 (ix2 p q)
      = (k0_pay8 (iblk m c 7 ⟨3, h3⟩) (outsAt0 m c 3 h3).2.2 (ix2 p q) : EReal) + k0_pay8 (iblk m c 7 ⟨7, h⟩) (outsAt0 m c 7 h).2.2 (ix2 p q) := by
    refine (congrFun e7 _).trans ?_
    pointwise [k0_pay5]
    refine congrArg (fun z : EReal => z + k0_pay8 (iblk m c 7 ⟨7, h⟩) (outsAt0 m c 7 h).2.2 (ix2 p q)) ?_
    refine (congrFun (e6.trans e3) (ix2 p q)).trans ?_
    pointwise [k0_pay10]
  rw [a, share m c ⟨3, h3⟩ (show 3 % 4 = 3 from rfl), share m c ⟨7, h⟩ (show 7 % 4 = 3 from rfl)]
  refine Eq.trans (b := ∑ b : Fin 2, ∑ r : Fin 1024, rowPart m c q (⟨b.val * 1024 + r.val, by omega⟩ : Fin 2048)) ?_
    (Fin.sum_mul_add_congr fun b r hl => rfl)
  rw [Fin.sum_univ_two]
  exact congrArg₂ (fun a b : EReal => a + b)
    (Finset.sum_congr rfl fun r _ => congrArg (rowPart m c q) (Fin.ext (show 1024 * (3 / 4) + r.val = 0 * 1024 + r.val by omega)))
    (Finset.sum_congr rfl fun r _ => congrArg (rowPart m c q) (Fin.ext (show 1024 * (7 / 4) + r.val = 1 * 1024 + r.val by omega)))

/-- The gradient by the gain after the run. -/
theorem final_gain (c : Dev nD) : (dats m 0 c).arrAt 11 (cfgs 0).N = dgR (dn m c) (arg m c) := by
  refine (dats m 0 c).arrAt_eq_of_covers 11 _ (by decide +kernel) fun t hf y => ?_
  have e : ((cfg0.win 11).blk t).view.emb y = ix2 (y 0) (y 1) := by
    blk_ext [idx t]
  blk_simp
  rw [after0_11]
  have h7 : t = ⟨7, by decide⟩ := Fin.ext (by have := lt_of_lt_of_eq t.isLt N_0; have := (flush0_11 t).mp hf; show t.val = 7; omega)
  refine (congrArg (outsAt0 m c t.val t.isLt).2.1 (eta2 y).symm).trans (Eq.trans ?_ (congrArg (dgR (dn m c) (arg m c)) e.symm))
  subst h7
  exact (gain m c _ (y 0) (y 1)).trans (dgR_at _ _ (ix2 (y 0) (y 1))).symm

end Cert.Kernel7Ideal.Qkv

end
-- ==== Proof.Whole.lean ====
/- A buffer that is stored into as a whole. -/
module

public import Idealize.ShloMosaic.Lib.Pipeline.ReadBack

@[expose] public section

namespace Cert.Whole

open Idealize.ShloMosaic

/-- A buffer stored into as a whole reads back as what was stored. -/
theorem read_whole {F : FTy → Type} [FloatOps F] {sig : RefSig} {κ : Kind} {S : Shape} {e : EltTy} {sp : Space} (v : View sig κ sp S e) (f : v.ty.Contents (Elt F)) {off : Fin S.rank → Nat}
    (inb : ∀ a, off a + S.size a ≤ S.size a) (w : S.Idx → Elt F e) (L : List (View.Piece (Elt F) S e)) (h : ∀ a, off a = 0) :
    v.read (Elt F) (v.writes (Elt F) f (⟨Rect.unit off (no_index S.size) inb, w⟩ :: L)) = w := by
  obtain rfl := View.eq_zero_of_forall h
  exact (View.read_writes_of_cover v f v v.junk _ (fun y => ⟨_, List.mem_cons_self, by
    show y ∈ (Rect.whole S).set; rw [Rect.set_whole]; exact Finset.mem_univ y⟩)).trans (by rw [View.read_writes_junk_eq_canon, View.canon_cons_unit_zero rfl])

end Cert.Whole
-- ==== Proof.UpRun.lean ====
module

public import proofs.«01_k».proof.Proof.Gen.Kernel8Ideal.Skeleton
public import proofs.«01_k».proof.Proof.Gen.Kernel8Ideal.Frame
public import Idealize.ShloMosaic.Lib.Pipeline.ValueKit
public import proofs.«01_k».proof.Proof.Whole

@[expose] public section

set_option maxRecDepth 16384

/-! # The body of the FFN's first projections: what its run leaves in the staging buffers -/

noncomputable section

namespace Cert.Kernel8Ideal.Up

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

variable {F : FTy → Type} [FloatOps F]

local notation "𝕄" => MT nD τ sig Unit (Elt F) ℕ (UR sig nD τ) ℕ

set_option maxHeartbeats 1000000 in
/-- At a row block's first point the normalized rows are stored and the products are taken of them. -/
theorem runFirst (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1024x1024 .bf16) (harg6 : arg6.IsWhole) (arg7 : Memref sig .tc .vmem S1x1024x704 .f32) (harg7 : arg7.IsWhole) (arg8 : Memref sig .tc .vmem S1x1024x704 .f32) (harg8 : arg8.IsWhole) (arg9 : Memref sig .tc .vmem S1x1024x704 .bf16) (harg9 : arg9.IsWhole) (hc : k0_cond1 i = 1#1)
    (x0 : Vec F S1024x1024 .f32) (x1 : Vec F S1x1024 .f32) (x2 x3 : Vec F S1x704x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay1 x0 x1) ∗ owns (c : Thread nD τ) arg7 fullShare (k0_pay4 (k0_pay1 x0 x1) x2) ∗ owns (c : Thread nD τ) arg8 fullShare (k0_pay5 (k0_pay1 x0 x1) x3) ∗ owns (c : Thread nD τ) arg9 fullShare (k0_pay6 (k0_pay1 x0 x1) x2 x3)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro; (try delta Cert.Kernel8Ideal.Up.runFirst.sl.v3); (try delta Cert.Kernel8Ideal.Up.runFirst.sl.H4_1); simp (disch := decide) only [read_whole, View.readAt_eq_ld, View.ld_unit_lit', View.readCov_unit_lit', View.readCov_cons_unit_lit', Memref.IsWhole.read_unread]
  isplitl [H5]
  · iexists _; isplitr; swap; · iexact H5
    ipureintro; (try delta Cert.Kernel8Ideal.Up.runFirst.sl.v3); (try delta Cert.Kernel8Ideal.Up.runFirst.sl.H4_1); simp (disch := decide) only [read_whole, View.readAt_eq_ld, View.ld_unit_lit', View.readCov_unit_lit', View.readCov_cons_unit_lit', Memref.IsWhole.read_unread]
  isplitl [H6]
  · iexists _; isplitr; swap; · iexact H6
    ipureintro; (try delta Cert.Kernel8Ideal.Up.runFirst.sl.v3); (try delta Cert.Kernel8Ideal.Up.runFirst.sl.H4_1); simp (disch := decide) only [read_whole, View.readAt_eq_ld, View.ld_unit_lit', View.readCov_unit_lit', View.readCov_cons_unit_lit', Memref.IsWhole.read_unread]
  iexists _; isplitr; swap; · iexact H7
  ipureintro; (try delta Cert.Kernel8Ideal.Up.runFirst.sl.v3); (try delta Cert.Kernel8Ideal.Up.runFirst.sl.H4_1); simp (disch := decide) only [read_whole, View.readAt_eq_ld, View.ld_unit_lit', View.readCov_unit_lit', View.readCov_cons_unit_lit', Memref.IsWhole.read_unread]

set_option maxHeartbeats 1000000 in
/-- At every other point the products are taken of the normalized rows found. -/
theorem runNext (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x704x1024 .bf16) (harg4 : arg4.IsWhole) (arg5 : Memref sig .tc .vmem S1x704x1024 .bf16) (harg5 : arg5.IsWhole) (arg6 : Memref sig .tc .vmem S1024x1024 .bf16) (harg6 : arg6.IsWhole) (arg7 : Memref sig .tc .vmem S1x1024x704 .f32) (harg7 : arg7.IsWhole) (arg8 : Memref sig .tc .vmem S1x1024x704 .f32) (harg8 : arg8.IsWhole) (arg9 : Memref sig .tc .vmem S1x1024x704 .bf16) (harg9 : arg9.IsWhole) (hc : ¬k0_cond1 i = 1#1)
    (x0 : Vec F S1024x1024 .f32) (x1 : Vec F S1x1024 .f32) (x2 x3 : Vec F S1x704x1024 .bf16) (xn : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xn ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xn ∗ owns (c : Thread nD τ) arg7 fullShare (k0_pay4 xn x2) ∗ owns (c : Thread nD τ) arg8 fullShare (k0_pay5 xn x3) ∗ owns (c : Thread nD τ) arg9 fullShare (k0_pay6 xn x2 x3)) -∗ K ⟨⟩))
      ⊢ wp frame (wpE (defs₀ (F := F)) Variants.none c none) E (cc0_ffn_up i arg2 harg2 arg3 harg3 arg4 harg4 arg5 harg5 arg6 harg6 arg7 harg7 arg8 harg8 arg9 harg9) K := by
  simp only [cc0_ffn_up_eq_skeleton]; unfold cc0_ffn_up_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3
  obtain rfl := harg6.eq_unread hf4
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro; simp (disch := decide) only [read_whole, View.readAt_eq_ld, View.ld_unit_lit', View.readCov_unit_lit', View.readCov_cons_unit_lit', Memref.IsWhole.read_unread]
  isplitl [H6]
  · iexists _; isplitr; swap; · iexact H6
    ipureintro; simp (disch := decide) only [read_whole, View.readAt_eq_ld, View.ld_unit_lit', View.readCov_unit_lit', View.readCov_cons_unit_lit', Memref.IsWhole.read_unread]
  iexists _; isplitr; swap; · iexact H7
  ipureintro; simp (disch := decide) only [read_whole, View.readAt_eq_ld, View.ld_unit_lit', View.readCov_unit_lit', View.readCov_cons_unit_lit', Memref.IsWhole.read_unread]

end Cert.Kernel8Ideal.Up

end
-- ==== Proof.UpFrame.lean ====
module

public import proofs.«01_k».proof.Proof.UpRun
public import Idealize.ShloMosaic.Lib.Claim
public import Idealize.ShloMosaic.Lib.Pipeline.TableIdle

@[expose] public section

set_option maxRecDepth 16384

/-! # The run of the FFN's first projections: what every window holds after each point of the grid -/

noncomputable section

namespace Cert.Kernel8Ideal.Up

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' block indices: point `t` works on row block `t / 4` and shard `t % 4`. -/
theorem idx : ∀ t : Fin cfg0.N, win0_0.index t = ![t.val / 4, 0] ∧ win0_1.index t = ![0, 0] ∧ win0_2.index t = ![t.val % 4, 0, 0] ∧ win0_3.index t = ![t.val % 4, 0, 0]
    ∧ win0_4.index t = ![t.val / 4, 0] ∧ win0_5.index t = ![t.val % 4, t.val / 4, 0] ∧ win0_6.index t = ![t.val % 4, t.val / 4, 0] ∧ win0_7.index t = ![t.val % 4, t.val / 4, 0] :=
  (by decide +kernel : ∀ t : Fin grid0.N, _)

/-- The body's condition: the point is the first of its row block. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The window of normalized rows is idle at every point but the first of a row block. -/
theorem idle4 : ∀ t : Fin cfg0.N, cfg0.idle 4 (grid0.coords t) = !(decide (t.val % 4 = 0)) :=
  (by decide +kernel : ∀ t : Fin grid0.N, cfg0.idle 4 (grid0.coords t) = !(decide (t.val % 4 = 0)))

/-- The window of normalized rows holds nothing known exactly at the first point of a row block. -/
theorem fresh4 : ∀ t : Fin cfg0.N, cfg0.fresh 4 t.val = decide (t.val % 4 = 0) :=
  (by decide +kernel : ∀ t : Fin grid0.N, cfg0.fresh 4 t.val = decide (t.val % 4 = 0))

/-- Window 0's staging buffer at a point. -/
abbrev ms0 (t : Fin cfg0.N) : Memref sig .tc .vmem S1024x1024 .f32 := win0_0.stage (cfg0.slots t 0)
/-- Window 1's staging buffer at a point. -/
abbrev ms1 (t : Fin cfg0.N) : Memref sig .tc .vmem S1x1024 .f32 := win0_1.stage (cfg0.slots t 1)
/-- Window 2's staging buffer at a point. -/
abbrev ms2 (t : Fin cfg0.N) : Memref sig .tc .vmem S1x704x1024 .bf16 := win0_2.stage (cfg0.slots t 2)
/-- Window 3's staging buffer at a point. -/
abbrev ms3 (t : Fin cfg0.N) : Memref sig .tc .vmem S1x704x1024 .bf16 := win0_3.stage (cfg0.slots t 3)
/-- Window 4's staging buffer at a point. -/
abbrev ms4 (t : Fin cfg0.N) : Memref sig .tc .vmem S1024x1024 .bf16 := win0_4.stage (cfg0.slots t 4)
/-- Window 5's staging buffer at a point. -/
abbrev ms5 (t : Fin cfg0.N) : Memref sig .tc .vmem S1x1024x704 .f32 := win0_5.stage (cfg0.slots t 5)
/-- Window 6's staging buffer at a point. -/
abbrev ms6 (t : Fin cfg0.N) : Memref sig .tc .vmem S1x1024x704 .f32 := win0_6.stage (cfg0.slots t 6)
/-- Window 7's staging buffer at a point. -/
abbrev ms7 (t : Fin cfg0.N) : Memref sig .tc .vmem S1x1024x704 .bf16 := win0_7.stage (cfg0.slots t 7)

/-- The normalized rows of the row block a point belongs to. -/
def rowsAt (c : Dev nD) (t : Fin cfg0.N) : Vec F S1024x1024 .bf16 := k0_pay1 (iblk m c 0 t) (iblk m c 1 t)

/-- What every window's staging buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowsAt m c t
    | ⟨5, _⟩ => k0_pay4 (rowsAt m c t) (iblk m c 2 t)
    | ⟨6, _⟩ => k0_pay5 (rowsAt m c t) (iblk m c 3 t)
    | ⟨7, _⟩ => k0_pay6 (rowsAt m c t) (iblk m c 2 t) (iblk m c 3 t)
    | ⟨_ + 8, h⟩ => absurd h (Nat.not_lt.2 (Nat.le_add_left _ _))
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- Window 0 after the body. -/
theorem after0 (c : Dev nD) (t : Fin cfg0.N) : (dats m 0 c).after 0 t = iblk m c 0 t := by dsimp only [dats]
/-- Window 1 after the body. -/
theorem after1 (c : Dev nD) (t : Fin cfg0.N) : (dats m 0 c).after 1 t = iblk m c 1 t := by dsimp only [dats]
/-- Window 2 after the body. -/
theorem after2 (c : Dev nD) (t : Fin cfg0.N) : (dats m 0 c).after 2 t = iblk m c 2 t := by dsimp only [dats]
/-- Window 3 after the body. -/
theorem after3 (c : Dev nD) (t : Fin cfg0.N) : (dats m 0 c).after 3 t = iblk m c 3 t := by dsimp only [dats]
/-- Window 4 after the body. -/
theorem after4 (c : Dev nD) (t : Fin cfg0.N) : (dats m 0 c).after 4 t = rowsAt m c t := by dsimp only [dats]
/-- Window 5 after the body. -/
theorem after5 (c : Dev nD) (t : Fin cfg0.N) : (dats m 0 c).after 5 t = k0_pay4 (rowsAt m c t) (iblk m c 2 t) := by dsimp only [dats]
/-- Window 6 after the body. -/
theorem after6 (c : Dev nD) (t : Fin cfg0.N) : (dats m 0 c).after 6 t = k0_pay5 (rowsAt m c t) (iblk m c 3 t) := by dsimp only [dats]
/-- Window 7 after the body. -/
theorem after7 (c : Dev nD) (t : Fin cfg0.N) : (dats m 0 c).after 7 t = k0_pay6 (rowsAt m c t) (iblk m c 2 t) (iblk m c 3 t) := by dsimp only [dats]
/-- Window 0 before the body. -/
theorem before0 (c : Dev nD) (t : Fin cfg0.N) (d) : (dats m 0 c).before 0 t d = iblk m c 0 t :=
  before0_0_of m (dats m 0 c) (A_eq m c 0) (after0 m c) t d
/-- Window 1 before the body. -/
theorem before1 (c : Dev nD) (t : Fin cfg0.N) (d) : (dats m 0 c).before 1 t d = iblk m c 1 t :=
  before0_1_of m (dats m 0 c) (A_eq m c 1) (after1 m c) t d
/-- Window 2 before the body. -/
theorem before2 (c : Dev nD) (t : Fin cfg0.N) (d) : (dats m 0 c).before 2 t d = iblk m c 2 t :=
  before0_2_of m (dats m 0 c) (A_eq m c 2) (after2 m c) t d
/-- Window 3 before the body. -/
theorem before3 (c : Dev nD) (t : Fin cfg0.N) (d) : (dats m 0 c).before 3 t d = iblk m c 3 t :=
  before0_3_of m (dats m 0 c) (A_eq m c 3) (after3 m c) t d

/-- Within a row block the normalized rows are the same at every point. -/
theorem rowsAt_pred (c : Dev nD) (t : Fin cfg0.N) (h : t.val % 4 ≠ 0) : rowsAt m c t = rowsAt m c ⟨t.val - 1, by omega⟩ := by
  have hN : t.val < 8 := lt_of_lt_of_eq t.isLt N_0
  unfold rowsAt
  have e0 : iblk m c 0 t = iblk m c 0 ⟨t.val - 1, by omega⟩ := by
    funext y
    blk_point [iblk, V, idx t, idx ⟨t.val - 1, by omega⟩]
  have e1 : iblk m c 1 t = iblk m c 1 ⟨t.val - 1, by omega⟩ := by
    funext y
    blk_point [iblk, V, idx t, idx ⟨t.val - 1, by omega⟩]
  rw [e0, e1]

/-- The window of normalized rows before the body, at every point but the first of a row block. -/
theorem before4 (c : Dev nD) (t : Fin cfg0.N) (h : t.val % 4 ≠ 0) (d) : (dats m 0 c).before 4 t d = rowsAt m c t := by
  rw [Dat.before_out_traj (dats m 0 c) 4 rfl (fun _ _ => rfl) (fun t _ hi hf => by
      rw [idle4] at hi
      rw [after4, after4]
      exact rowsAt_pred m c t (by simpa using hi)) t.val t rfl d, fresh4, if_neg (by simpa using h), after4]
  exact (rowsAt_pred m c t h).symm

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))

/-- What the body leaves at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- Window 0 is never idle. -/
theorem leaves0 (c : Dev nD) (t : Fin cfg0.N) : (dats m 0 c).leavesExact 0 t = owns (c : Thread nD τ) (ms0 t) fullShare ((dats m 0 c).after 0 t) := by
  unfold Dat.leavesExact; rw [show cfg0.idle 0 (cfg0.grid.coords t) = false from rfl]
/-- Window 1 is never idle. -/
theorem leaves1 (c : Dev nD) (t : Fin cfg0.N) : (dats m 0 c).leavesExact 1 t = owns (c : Thread nD τ) (ms1 t) fullShare ((dats m 0 c).after 1 t) := by
  unfold Dat.leavesExact; rw [show cfg0.idle 1 (cfg0.grid.coords t) = false from rfl]
/-- Window 2 is never idle. -/
theorem leaves2 (c : Dev nD) (t : Fin cfg0.N) : (dats m 0 c).leavesExact 2 t = owns (c : Thread nD τ) (ms2 t) fullShare ((dats m 0 c).after 2 t) := by
  unfold Dat.leavesExact; rw [show cfg0.idle 2 (cfg0.grid.coords t) = false from rfl]
/-- Window 3 is never idle. -/
theorem leaves3 (c : Dev nD) (t : Fin cfg0.N) : (dats m 0 c).leavesExact 3 t = owns (c : Thread nD τ) (ms3 t) fullShare ((dats m 0 c).after 3 t) := by
  unfold Dat.leavesExact; rw [show cfg0.idle 3 (cfg0.grid.coords t) = false from rfl]
/-- Window 5 is never idle. -/
theorem leaves5 (c : Dev nD) (t : Fin cfg0.N) : (dats m 0 c).leavesExact 5 t = owns (c : Thread nD τ) (ms5 t) fullShare ((dats m 0 c).after 5 t) := by
  unfold Dat.leavesExact; rw [show cfg0.idle 5 (cfg0.grid.coords t) = false from rfl]
/-- Window 6 is never idle. -/
theorem leaves6 (c : Dev nD) (t : Fin cfg0.N) : (dats m 0 c).leavesExact 6 t = owns (c : Thread nD τ) (ms6 t) fullShare ((dats m 0 c).after 6 t) := by
  unfold Dat.leavesExact; rw [show cfg0.idle 6 (cfg0.grid.coords t) = false from rfl]
/-- Window 7 is never idle. -/
theorem leaves7 (c : Dev nD) (t : Fin cfg0.N) : (dats m 0 c).leavesExact 7 t = owns (c : Thread nD τ) (ms7 t) fullShare ((dats m 0 c).after 7 t) := by
  unfold Dat.leavesExact; rw [show cfg0.idle 7 (cfg0.grid.coords t) = false from rfl]
/-- The normalized rows are enough for what the body leaves in their window. -/
theorem leaves4 (c : Dev nD) (t : Fin cfg0.N) : owns (c : Thread nD τ) (ms4 t) fullShare (rowsAt m c t) ⊢ ((dats m 0 c).leavesExact 4 t : sProp 𝕄) := by
  by_cases h : t.val % 4 = 0
  · unfold Dat.leavesExact; rw [show cfg0.idle 4 (cfg0.grid.coords t) = false from (idle4 t).trans (by simp [h]), after4]
  · have hi : cfg0.idle 4 (cfg0.grid.coords t) = true := (idle4 t).trans (by simp [h])
    cases hf : (cfg0.win 4).flush t
    · rw [Dat.leavesExact_idle (dats m 0 c) 4 t hi hf]
      iintro H
      iexists (rowsAt m c t)
      rw [before4 m c t h]
      iexact H
    · unfold Dat.leavesExact; rw [hi, hf, after4]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl]
  rw [leaves0, leaves1, leaves2, leaves3, leaves5, leaves6, leaves7, after0, after1, after2, after3, after5, after6, after7]
  by_cases h0 : t.val % 4 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runFirst c (grid0.coords t) _ _ _ _ _ _ _ _ _ _ _ _ _ _ _ _ ((first_iff t).mpr h0) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply leaves4 m c t; iexact H4
    isplitl [H5]; · iexact H5
    isplitl [H6]; · iexact H6
    iexact H7
  · simp only [before4 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (runNext c (grid0.coords t) _ _ _ _ _ _ _ _ _ _ _ _ _ _ _ _ (fun h => h0 ((first_iff t).mp h)) (iblk m c 0 t) (iblk m c 1 t) (iblk m c 2 t) (iblk m c 3 t) (rowsAt m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply leaves4 m c t; iexact H4
    isplitl [H5]; · iexact H5
    isplitl [H6]; · iexact H6
    iexact H7

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body does at every point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program, with every counter at zero at its end. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run of the whole program. -/
theorem run_main : θ_run defs (onTc (τ := τ) (main (F := F))) (s₀ m ρ) (Pipeline.FramePost cfgs (dats m) 0 (V m)) :=
  (θ_run defs _ _).mono (fun _ h => h.1) (run_main_quiescent m ρ)

/-- The run with each result named and the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_v0_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1 4, (h c).1 5, (h c).1 6, (h c).1 7, ((h c).1 0).trans (((dats m 0 c).arrAt_in 0 rfl _).trans ((A_eq m c 0).trans (V_main_arg0 m c))), ((h c).1 1).trans (((dats m 0 c).arrAt_in 1 rfl _).trans ((A_eq m c 1).trans (V_main_arg1 m c))), ((h c).1 2).trans (((dats m 0 c).arrAt_in 2 rfl _).trans ((A_eq m c 2).trans (V_main_arg2 m c))), ((h c).1 3).trans (((dats m 0 c).arrAt_in 3 rfl _).trans ((A_eq m c 3).trans (V_main_arg3 m c)))⟩)
    (run_main m ρ)

/-- The frame: the run finishes, the arguments are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel8Ideal.Up

end
-- ==== Proof.UpRef.lean ====
/- The FFN's first projections as the reference writes them: the normalized rows, the two products with the weights, and the gated activation. -/
module

public import proofs.«01_k».proof.Proof.Gen.Reference8Ideal.Run
public import proofs.«01_k».proof.Proof.Rms
public import Idealize.ShloMosaic.Lib.Pointwise
public import Idealize.ShloMosaic.Lib.Tactic.CleanTypes

@[expose] public section

set_option maxRecDepth 16384

noncomputable section

open Idealize.ShloMosaic Idealize.SL.Sem

namespace Cert.Reference8Ideal.Up

open Cert.Reference8Ideal

/-- The rows' mean squares, with the small constant added. -/
def vR (X : FVec Ideal S2048x1024 .f32) : FVec Ideal S2048x1 .f32 :=
  addf (Host.divf (broadcastInDim S2048x1 ![0] Gen.bcast_S2048_S2048x1_0 (Host.reduceAdd (mulf X X) (constant S_ .f32 0x00000000#32) Gen.reducesTo_S2048x1024_S2048_d1 Gen.h_S_)) (broadcastInDim S2048x1 ![] Gen.bcast_S_S2048x1 (constant S_ .f32 0x44800000#32))) (broadcastInDim S2048x1 ![] Gen.bcast_S_S2048x1 (constant S_ .f32 0x358637BD#32))

/-- The normalized rows. -/
def nR (X : FVec Ideal S2048x1024 .f32) (G : FVec Ideal S1x1024 .f32) : FVec Ideal S2048x1024 .f32 :=
  mulf (mulf X (broadcastInDim S2048x1024 ![0, 1] Gen.bcast_S2048x1_S2048x1024_0_1 (Host.rsqrt (vR X)))) (broadcastInDim S2048x1024 ![0, 1] Gen.bcast_S1x1024_S2048x1024_0_1 (broadcastInDim S1x1024 ![1] Gen.bcast_S1024_S1x1024_1 (shapeCast _ G Gen.shapeCasts_S1x1024_S1024)))

/-- The product of rows with a projection's weights, which lie by shards of their columns. -/
def projR (N : FVec Ideal S2048x1024 .f32) (W : FVec Ideal S4x704x1024 .bf16) : FVec Ideal S2048x2816 .f32 :=
  Host.dotGeneral dot_S2048x1024_S1024x2816_S2048x2816_1_0_0_1_n_n none N (transpose S1024x2816 [1, 0] (shapeCast _ (extf .f32 W Gen.bitsLt_bf16_f32) Gen.shapeCasts_S4x704x1024_S2816x1024) Gen.transposes_S2816x1024_S1024x2816_1_0)

/-- The columns laid out by shards. -/
def shardsR (P : FVec Ideal S2048x2816 .f32) : FVec Ideal S4x2048x704 .f32 :=
  transpose S4x2048x704 [1, 0, 2] (shapeCast _ P Gen.shapeCasts_S2048x2816_S2048x4x704) Gen.transposes_S2048x4x704_S4x2048x704_1_0_2

/-- The gated activation. -/
def actR (G U : FVec Ideal S2048x2816 .f32) : FVec Ideal S2048x2816 .f32 :=
  mulf (mulf G (Host.divf (broadcastInDim S2048x2816 ![] Gen.bcast_S_S2048x2816 (constant S_ .f32 0x3F800000#32)) (addf (broadcastInDim S2048x2816 ![] Gen.bcast_S_S2048x2816 (constant S_ .f32 0x3F800000#32)) (Host.exp (Host.negf G))))) U

/-- The gated activation of two values. -/
def act (g u : EReal) : EReal := g * Ideal.div 1 (1 + Ideal.exp (-g)) * u

/-- The rows' mean squares, at an index. -/
theorem vR_at (X) (j) : vR X j = Rms.ms fun k => X (ix2 (j 0) k) := by
  pointwise [vR]
  rfl

/-- The normalized rows, at an index. -/
theorem nR_at (X G) (p : Fin 2048) (q : Fin 1024) : nR X G (ix2 p q) = (X (ix2 p q) : EReal) * Rms.rs (fun k => X (ix2 p k)) * G (ix2 0 q) := by
  unfold nR
  pointwise [vR_at]
  rfl

/-- A projection, at an index. -/
theorem projR_at (N W) (p : Fin 2048) (q : Fin 2816) : projR N W (ix2 p q)
    = ∑ k : Fin 1024, (N (ix2 p k) * W (ix3 ⟨q.val / 704, by omega⟩ ⟨q.val % 704, by omega⟩ k) : EReal) := by
  pointwise [projR]

/-- The shards of a projection, at an index. -/
theorem shardsR_at (P) (s : Fin 4) (p : Fin 2048) (q : Fin 704) : shardsR P (ix3 s p q) = P (ix2 p ⟨s.val * 704 + q.val, by omega⟩) := by
  pointwise [shardsR]

/-- The gated activation, at an index. -/
theorem actR_at (G U) (j) : actR G U j = act (G j) (U j) := by
  pointwise [actR]
  rfl

end Cert.Reference8Ideal.Up

end
-- ==== Proof.UpVal.lean ====
/- The kernel's four results of the FFN's first projections are the reference's. -/
module

public import proofs.«01_k».proof.Proof.UpFrame
public import proofs.«01_k».proof.Proof.UpRef

@[expose] public section

set_option maxRecDepth 16384

noncomputable section

open Idealize.ShloMosaic Idealize.ShloMosaic.TcCoe Idealize.SL.Sem
open Idealize.ShloMosaic.Pipeline (Dat)

namespace Cert.Kernel8Ideal.Up

open Cert.Kernel8Ideal Cert.Kernel8Ideal.Gen Cert.Reference8Ideal.Up

variable (m : (ℓ : Loc nD τ sig) → Buf (Elt Ideal) ℓ)

/-- The row of the whole array at place `p` of point `t`'s row block. -/
def row (t : Fin cfg0.N) (p : Fin 1024) : Fin 2048 :=
  ⟨1024 * (t.val / 4) + p.val, by have := lt_of_lt_of_eq t.isLt N_0; omega⟩

/-- The shard of point `t`. -/
def shard (t : Fin cfg0.N) : Fin 4 :=
  ⟨t.val % 4, Nat.mod_lt _ (by decide)⟩

/-- The column of the whole projection at place `q` of point `t`'s shard. -/
def col (t : Fin cfg0.N) (q : Fin 704) : Fin 2816 :=
  ⟨(shard t).val * 704 + q.val, by have := (shard t).isLt; omega⟩

/-- A two-coordinate index is its coordinates. -/
theorem pair (y : S1024x1024.Idx) : ix2 (y 0) (y 1) = y := by
  funext a
  refine Fin.cases rfl (fun a => Fin.cases rfl (fun a => a.elim0) a) a

/-- A three-coordinate index of one shard's block is its coordinates. -/
theorem triple (y : S1x1024x704.Idx) : ix3 0 (y 1) (y 2) = y := by
  funext a
  refine Fin.cases (Subsingleton.elim (α := Fin 1) _ _) (fun a => Fin.cases rfl (fun a => Fin.cases rfl (fun a => a.elim0) a) a) a

/-- The normalized rows of a block, at an index. -/
theorem pay1_at (x : Vec Ideal S1024x1024 .f32) (g : Vec Ideal S1x1024 .f32) (p q : Fin 1024) : k0_pay1 x g (ix2 p q)
    = (x (ix2 p q) : EReal) * Rms.rs (fun k => x (ix2 p k)) * g (ix2 0 q) := by
  pointwise [k0_pay1]
  rfl

/-- The first product of a block, at an index. -/
theorem pay4_at (x : Vec Ideal S1024x1024 .bf16) (w : Vec Ideal S1x704x1024 .bf16) (p : Fin 1024) (q : Fin 704) : k0_pay4 x w (ix3 0 p q)
    = ∑ k : Fin 1024, (x (ix2 p k) : EReal) * w (ix3 0 q k) := by
  pointwise [k0_pay4, k0_pay2]

/-- The second product of a block, at an index. -/
theorem pay5_at (x : Vec Ideal S1024x1024 .bf16) (w : Vec Ideal S1x704x1024 .bf16) (p : Fin 1024) (q : Fin 704) : k0_pay5 x w (ix3 0 p q)
    = ∑ k : Fin 1024, (x (ix2 p k) : EReal) * w (ix3 0 q k) := by
  pointwise [k0_pay5, k0_pay3]

/-- The gated activation of a block, at an index. -/
theorem pay6_at (x : Vec Ideal S1024x1024 .bf16) (w v : Vec Ideal S1x704x1024 .bf16) (p : Fin 1024) (q : Fin 704) : k0_pay6 x w v (ix3 0 p q)
    = act (∑ k : Fin 1024, (x (ix2 p k) : EReal) * w (ix3 0 q k)) (∑ k : Fin 1024, (x (ix2 p k) : EReal) * v (ix3 0 q k)) := by
  pointwise [k0_pay6, k0_pay2, k0_pay3]
  simp only [zero_sub]
  rfl

/-- The argument's block at point `t`. -/
theorem blk_x (c : Dev nD) (t : Fin cfg0.N) (p q : Fin 1024) : iblk m c 0 t (ix2 p q) = m ((c : Thread nD τ).loc main_arg0) (ix2 (row t p) q) := by
  blk_point [iblk, V, idx t, row]

/-- The gain's block. -/
theorem blk_g (c : Dev nD) (t : Fin cfg0.N) (p : Fin 1) (q : Fin 1024) : iblk m c 1 t (ix2 p q) = m ((c : Thread nD τ).loc main_arg1) (ix2 p q) := by
  blk_point [iblk, V, idx t]

/-- The gate weights' block at point `t`. -/
theorem blk_w (c : Dev nD) (t : Fin cfg0.N) (p : Fin 1) (q : Fin 704) (k : Fin 1024) : iblk m c 2 t (ix3 p q k) = m ((c : Thread nD τ).loc main_arg2) (ix3 (shard t) q k) := by
  blk_point [iblk, V, idx t, shard]

/-- The up weights' block at point `t`. -/
theorem blk_v (c : Dev nD) (t : Fin cfg0.N) (p : Fin 1) (q : Fin 704) (k : Fin 1024) : iblk m c 3 t (ix3 p q k) = m ((c : Thread nD τ).loc main_arg3) (ix3 (shard t) q k) := by
  blk_point [iblk, V, idx t, shard]

/-- The reference's normalized rows, of the arguments. -/
abbrev rows (c : Dev nD) : FVec Ideal S2048x1024 .f32 := nR (m ((c : Thread nD τ).loc main_arg0)) (m ((c : Thread nD τ).loc main_arg1))

/-- The reference's gate, of the arguments. -/
abbrev gate (c : Dev nD) : FVec Ideal Cert.Reference8Ideal.S2048x2816 .f32 := projR (rows m c) (m ((c : Thread nD τ).loc main_arg2))

/-- The reference's up projection, of the arguments. -/
abbrev up (c : Dev nD) : FVec Ideal Cert.Reference8Ideal.S2048x2816 .f32 := projR (rows m c) (m ((c : Thread nD τ).loc main_arg3))

/-- A row block's normalized rows are the reference's. -/
theorem rows_at (c : Dev nD) (t : Fin cfg0.N) (p q : Fin 1024) : rowsAt m c t (ix2 p q) = rows m c (ix2 (row t p) q) := by
  rw [rowsAt, pay1_at, rows, nR_at]
  simp only [blk_x, blk_g]

/-- A column of a point's shard is one of the whole projection. -/
theorem col_div (t : Fin cfg0.N) (q : Fin 704) : (⟨(col t q).val / 704, by omega⟩ : Fin 4) = shard t :=
  Fin.ext (show ((shard t).val * 704 + q.val) / 704 = (shard t).val by omega)

/-- Its place in the shard. -/
theorem col_mod (t : Fin cfg0.N) (q : Fin 704) : (⟨(col t q).val % 704, by omega⟩ : Fin 704) = q :=
  Fin.ext (show ((shard t).val * 704 + q.val) % 704 = q.val by omega)

/-- The sum of a row's products with a column of the gate weights is the reference's. -/
theorem gate_at (c : Dev nD) (t : Fin cfg0.N) (p : Fin 1024) (q : Fin 704) :
    ∑ k : Fin 1024, (rowsAt m c t (ix2 p k) : EReal) * iblk m c 2 t (ix3 0 q k) = gate m c (ix2 (row t p) (col t q)) := by
  rw [gate, projR_at, col_div, col_mod]
  simp only [rows_at, blk_w]

/-- The sum of a row's products with a column of the up weights is the reference's. -/
theorem up_at (c : Dev nD) (t : Fin cfg0.N) (p : Fin 1024) (q : Fin 704) :
    ∑ k : Fin 1024, (rowsAt m c t (ix2 p k) : EReal) * iblk m c 3 t (ix3 0 q k) = up m c (ix2 (row t p) (col t q)) := by
  rw [up, projR_at, col_div, col_mod]
  simp only [rows_at, blk_v]

/-- The normalized rows after the run. -/
theorem final_rows (c : Dev nD) : (dats m 0 c).arrAt 4 (cfgs 0).N = truncf .bf16 (rows m c) bitsLt_bf16_f32 := by
  refine (dats m 0 c).arrAt_eq_of_covers 4 _ (by decide +kernel) fun t hf y => ?_
  have e : ((cfg0.win 4).blk t).view.emb y = ix2 (row t (y 0)) (y 1) := by
    blk_ext [idx t, row]
  blk_simp
  rw [after4]
  exact (congrArg (rowsAt m c t) (pair y).symm).trans ((rows_at m c t (y 0) (y 1)).trans (congrArg (rows m c) e.symm))

/-- The gate after the run. -/
theorem final_gate (c : Dev nD) : (dats m 0 c).arrAt 5 (cfgs 0).N = shardsR (gate m c) := by
  refine (dats m 0 c).arrAt_eq_of_covers 5 _ (by decide +kernel) fun t hf y => ?_
  have e : ((cfg0.win 5).blk t).view.emb y = ix3 (shard t) (row t (y 1)) (y 2) := by
    blk_ext [idx t, row, shard]
  blk_simp
  rw [after5]
  refine (congrArg (k0_pay4 (rowsAt m c t) (iblk m c 2 t)) (triple y).symm).trans (((pay4_at _ _ (y 1) (y 2)).trans (gate_at m c t (y 1) (y 2))).trans ?_)
  exact (shardsR_at (gate m c) (shard t) (row t (y 1)) (y 2)).symm.trans (congrArg (shardsR (gate m c)) e.symm)

/-- The up projection after the run. -/
theorem final_up (c : Dev nD) : (dats m 0 c).arrAt 6 (cfgs 0).N = shardsR (up m c) := by
  refine (dats m 0 c).arrAt_eq_of_covers 6 _ (by decide +kernel) fun t hf y => ?_
  have e : ((cfg0.win 6).blk t).view.emb y = ix3 (shard t) (row t (y 1)) (y 2) := by
    blk_ext [idx t, row, shard]
  blk_simp
  rw [after6]
  refine (congrArg (k0_pay5 (rowsAt m c t) (iblk m c 3 t)) (triple y).symm).trans (((pay5_at _ _ (y 1) (y 2)).trans (up_at m c t (y 1) (y 2))).trans ?_)
  exact (shardsR_at (up m c) (shard t) (row t (y 1)) (y 2)).symm.trans (congrArg (shardsR (up m c)) e.symm)

/-- A point's activation is the reference's. -/
theorem act_at (c : Dev nD) (t : Fin cfg0.N) (p : Fin 1024) (q : Fin 704) : k0_pay6 (rowsAt m c t) (iblk m c 2 t) (iblk m c 3 t) (ix3 0 p q)
    = shardsR (actR (gate m c) (up m c)) (ix3 (shard t) (row t p) q) := by
  rw [pay6_at, gate_at, up_at, shardsR_at, actR_at]
  rfl

/-- The activation after the run. -/
theorem final_act (c : Dev nD) : (dats m 0 c).arrAt 7 (cfgs 0).N = truncf .bf16 (shardsR (actR (gate m c) (up m c))) bitsLt_bf16_f32 := by
  refine (dats m 0 c).arrAt_eq_of_covers 7 _ (by decide +kernel) fun t hf y => ?_
  have e : ((cfg0.win 7).blk t).view.emb y = ix3 (shard t) (row t (y 1)) (y 2) := by
    blk_ext [idx t, row, shard]
  blk_simp
  rw [after7]
  exact (congrArg (k0_pay6 (rowsAt m c t) (iblk m c 2 t) (iblk m c 3 t)) (triple y).symm).trans ((act_at m c t (y 1) (y 2)).trans (congrArg (shardsR (actR (gate m c) (up m c))) e.symm))

end Cert.Kernel8Ideal.Up

end
-- ==== Proof.UpWord.lean ====
module

public import proofs.«01_k».proof.Defs
public import proofs.«01_k».proof.Proof.Gen.Kernel8
public import proofs.«01_k».proof.Proof.UpFrame

@[expose] public section

set_option maxRecDepth 16384

/-!
# The frame over bit patterns, of the FFN's first projections

The two prints of the kernel are one program, and the run of the one holds over any reading of the floats.
-/

noncomputable section

namespace Cert.Kernel8.Up

open Idealize.ShloMosaic Idealize.SL.Sem

attribute [local instance] Cert.Kernel8.Gen.facts Cert.Kernel8Ideal.Gen.facts

/-- The two bodies are one program. -/
theorem body_same (i) (a1 h1 a2 h2 a3 h3 a4 h4 a5 h5 a6 h6 a7 h7 a8 h8) :
    Cert.Kernel8.cc0_ffn_up (F := Bits) i a1 h1 a2 h2 a3 h3 a4 h4 a5 h5 a6 h6 a7 h7 a8 h8
    = Cert.Kernel8Ideal.cc0_ffn_up (F := Bits) i a1 h1 a2 h2 a3 h3 a4 h4 a5 h5 a6 h6 a7 h7 a8 h8 := rfl

/-- The two tables of bodies, before the pipelines, are one. -/
theorem defs0_same : (Cert.Kernel8.defs₀ (F := Bits)) = (Cert.Kernel8Ideal.defs₀ (F := Bits)) := by
  unfold Cert.Kernel8.defs₀ Cert.Kernel8Ideal.defs₀
  refine congrArg Defs.onTc ?_
  funext l x
  obtain ⟨n, hn⟩ := l
  cases n with
  | zero => exact body_same ..
  | succ n => exact absurd hn (Nat.not_lt.2 (Nat.le_add_left _ _))

/-- The two tables of bodies are one. -/
theorem defs_same : (Cert.Kernel8.defs (F := Bits)) = (Cert.Kernel8Ideal.defs (F := Bits)) :=
  congrArg (Pipeline.defs _) defs0_same

/-- The two host programs are one. -/
theorem main_same : (Cert.Kernel8.main (F := Bits)) = (Cert.Kernel8Ideal.main (F := Bits)) := rfl

/-- The frame: the run finishes, the arguments are unchanged and every counter is at zero. -/
theorem frame (m : (ℓ : Loc Cert.Kernel8.nD Cert.Kernel8.τ Cert.Kernel8.sig) → Buf (Elt Bits) ℓ) (ρ : Dev Cert.Kernel8.nD → PrngReg) :
    θ_run (Cert.Kernel8.defs (F := Bits)) (onTc (τ := Cert.Kernel8.τ) (Cert.Kernel8.main (F := Bits))) ⟨m, fun _ => 0, ρ⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0) := by
  rw [main_same, defs_same]
  exact Cert.Kernel8Ideal.Up.frame (F := Bits) m ρ

end Cert.Kernel8.Up

end
-- ==== Proof.FwdRun.lean ====
module

public import proofs.«01_k».proof.Proof.Gen.Kernel9Ideal.Skeleton
public import proofs.«01_k».proof.Proof.Gen.Kernel9Ideal.Frame
public import Idealize.ShloMosaic.Lib.Pipeline.ValueKit
public import proofs.«01_k».proof.Proof.Whole

@[expose] public section

set_option maxRecDepth 16384

/-! # The body of the whole FFN in the forward pass: what its run leaves in the staging buffers -/

noncomputable section

namespace Cert.Kernel9Ideal.Fwd

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

variable {F : FTy → Type} [FloatOps F]

local notation "𝕄" => MT nD τ sig Unit (Elt F) ℕ (UR sig nD τ) ℕ

set_option maxHeartbeats 2000000 in
/-- At a row block's first point the normalized rows are stored, the first products are taken of them, and the last product starts. -/
theorem runFirst (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024x704 .f32) (harg10 : arg10.IsWhole) (arg11 : Memref sig .tc .vmem S1x1024x704 .f32) (harg11 : arg11.IsWhole) (arg12 : Memref sig .tc .vmem S1x1024x704 .bf16) (harg12 : arg12.IsWhole) (arg13 : Memref sig .tc .vmem S1024x1024 .f32) (harg13 : arg13.IsWhole) (hc1 : k0_cond1 i = 1#1) (hc2 : k0_cond2 i = 1#1) (hc3 : ¬k0_cond3 i = 1#1) (hc4 : ¬k0_cond4 i = 1#1)
    (x0 : Vec F S1024x1024 .f32) (x1 x2 : Vec F S1x1024 .f32) (x3 x4 x5 : Vec F S1x704x1024 .bf16) (xh : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xh ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xh ∗ owns (c : Thread nD τ) arg9 fullShare (k0_pay5 x0 x1) ∗ owns (c : Thread nD τ) arg10 fullShare (k0_pay8 (k0_pay5 x0 x1) x3) ∗ owns (c : Thread nD τ) arg11 fullShare (k0_pay9 (k0_pay5 x0 x1) x4) ∗ owns (c : Thread nD τ) arg12 fullShare (k0_pay11 (k0_pay5 x0 x1) x3 x4) ∗ owns (c : Thread nD τ) arg13 fullShare (k0_pay2 (k0_pay10 (k0_pay5 x0 x1) x3 x4) x5)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  simp only [cc0_ffn_fwd_eq_skeleton]; unfold cc0_ffn_fwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro; (try delta Cert.Kernel9Ideal.Fwd.runFirst.sl.v3); (try delta Cert.Kernel9Ideal.Fwd.runFirst.sl.v29); (try delta Cert.Kernel9Ideal.Fwd.runFirst.sl.v41); (try delta Cert.Kernel9Ideal.Fwd.runFirst.sl.v42); (try delta Cert.Kernel9Ideal.Fwd.runFirst.sl.H7_1); (try delta Cert.Kernel9Ideal.Fwd.runFirst.sl.H11_1); (try delta Cert.Kernel9Ideal.Fwd.runFirst.sl.H8_1); (try delta Cert.Kernel9Ideal.Fwd.runFirst.sl.H9_1); (try delta Cert.Kernel9Ideal.Fwd.runFirst.sl.H10_1); simp (disch := decide) only [read_whole, View.readAt_eq_ld, View.ld_unit_lit', View.readCov_unit_lit', View.readCov_cons_unit_lit', Memref.IsWhole.read_unread]
  isplitl [H8]
  · iexists _; isplitr; swap; · iexact H8
    ipureintro; (try delta Cert.Kernel9Ideal.Fwd.runFirst.sl.v3); (try delta Cert.Kernel9Ideal.Fwd.runFirst.sl.v29); (try delta Cert.Kernel9Ideal.Fwd.runFirst.sl.v41); (try delta Cert.Kernel9Ideal.Fwd.runFirst.sl.v42); (try delta Cert.Kernel9Ideal.Fwd.runFirst.sl.H7_1); (try delta Cert.Kernel9Ideal.Fwd.runFirst.sl.H11_1); (try delta Cert.Kernel9Ideal.Fwd.runFirst.sl.H8_1); (try delta Cert.Kernel9Ideal.Fwd.runFirst.sl.H9_1); (try delta Cert.Kernel9Ideal.Fwd.runFirst.sl.H10_1); simp (disch := decide) only [read_whole, View.readAt_eq_ld, View.ld_unit_lit', View.readCov_unit_lit', View.readCov_cons_unit_lit', Memref.IsWhole.read_unread]
  isplitl [H9]
  · iexists _; isplitr; swap; · iexact H9
    ipureintro; (try delta Cert.Kernel9Ideal.Fwd.runFirst.sl.v3); (try delta Cert.Kernel9Ideal.Fwd.runFirst.sl.v29); (try delta Cert.Kernel9Ideal.Fwd.runFirst.sl.v41); (try delta Cert.Kernel9Ideal.Fwd.runFirst.sl.v42); (try delta Cert.Kernel9Ideal.Fwd.runFirst.sl.H7_1); (try delta Cert.Kernel9Ideal.Fwd.runFirst.sl.H11_1); (try delta Cert.Kernel9Ideal.Fwd.runFirst.sl.H8_1); (try delta Cert.Kernel9Ideal.Fwd.runFirst.sl.H9_1); (try delta Cert.Kernel9Ideal.Fwd.runFirst.sl.H10_1); simp (disch := decide) only [read_whole, View.readAt_eq_ld, View.ld_unit_lit', View.readCov_unit_lit', View.readCov_cons_unit_lit', Memref.IsWhole.read_unread]
  isplitl [H10]
  · iexists _; isplitr; swap; · iexact H10
    ipureintro; (try delta Cert.Kernel9Ideal.Fwd.runFirst.sl.v3); (try delta Cert.Kernel9Ideal.Fwd.runFirst.sl.v29); (try delta Cert.Kernel9Ideal.Fwd.runFirst.sl.v41); (try delta Cert.Kernel9Ideal.Fwd.runFirst.sl.v42); (try delta Cert.Kernel9Ideal.Fwd.runFirst.sl.H7_1); (try delta Cert.Kernel9Ideal.Fwd.runFirst.sl.H11_1); (try delta Cert.Kernel9Ideal.Fwd.runFirst.sl.H8_1); (try delta Cert.Kernel9Ideal.Fwd.runFirst.sl.H9_1); (try delta Cert.Kernel9Ideal.Fwd.runFirst.sl.H10_1); simp (disch := decide) only [read_whole, View.readAt_eq_ld, View.ld_unit_lit', View.readCov_unit_lit', View.readCov_cons_unit_lit', Memref.IsWhole.read_unread]
  iexists _; isplitr; swap; · iexact H11
  ipureintro; (try delta Cert.Kernel9Ideal.Fwd.runFirst.sl.v3); (try delta Cert.Kernel9Ideal.Fwd.runFirst.sl.v29); (try delta Cert.Kernel9Ideal.Fwd.runFirst.sl.v41); (try delta Cert.Kernel9Ideal.Fwd.runFirst.sl.v42); (try delta Cert.Kernel9Ideal.Fwd.runFirst.sl.H7_1); (try delta Cert.Kernel9Ideal.Fwd.runFirst.sl.H11_1); (try delta Cert.Kernel9Ideal.Fwd.runFirst.sl.H8_1); (try delta Cert.Kernel9Ideal.Fwd.runFirst.sl.H9_1); (try delta Cert.Kernel9Ideal.Fwd.runFirst.sl.H10_1); simp (disch := decide) only [read_whole, View.readAt_eq_ld, View.ld_unit_lit', View.readCov_unit_lit', View.readCov_cons_unit_lit', Memref.IsWhole.read_unread]

set_option maxHeartbeats 2000000 in
/-- At a point between, the first products are taken of the normalized rows found, and the last product grows by the shard's. -/
theorem runMid (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024x704 .f32) (harg10 : arg10.IsWhole) (arg11 : Memref sig .tc .vmem S1x1024x704 .f32) (harg11 : arg11.IsWhole) (arg12 : Memref sig .tc .vmem S1x1024x704 .bf16) (harg12 : arg12.IsWhole) (arg13 : Memref sig .tc .vmem S1024x1024 .f32) (harg13 : arg13.IsWhole) (hc1 : ¬k0_cond1 i = 1#1) (hc2 : ¬k0_cond2 i = 1#1) (hc3 : k0_cond3 i = 1#1) (hc4 : ¬k0_cond4 i = 1#1)
    (x0 : Vec F S1024x1024 .f32) (x1 x2 : Vec F S1x1024 .f32) (x3 x4 x5 : Vec F S1x704x1024 .bf16) (xn : Vec F S1024x1024 .bf16) (xf : Vec F S1024x1024 .f32) (xh : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xh ∗ owns (c : Thread nD τ) arg9 fullShare xn ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xf
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xh ∗ owns (c : Thread nD τ) arg9 fullShare xn ∗ owns (c : Thread nD τ) arg10 fullShare (k0_pay8 xn x3) ∗ owns (c : Thread nD τ) arg11 fullShare (k0_pay9 xn x4) ∗ owns (c : Thread nD τ) arg12 fullShare (k0_pay11 xn x3 x4) ∗ owns (c : Thread nD τ) arg13 fullShare (k0_pay3 (k0_pay10 xn x3 x4) x5 xf)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  simp only [cc0_ffn_fwd_eq_skeleton]; unfold cc0_ffn_fwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg13.eq_unread hf11
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; swap; · iexact H8
    ipureintro; (try delta Cert.Kernel9Ideal.Fwd.runMid.sl.v3); (try delta Cert.Kernel9Ideal.Fwd.runMid.sl.v29); (try delta Cert.Kernel9Ideal.Fwd.runMid.sl.v41); (try delta Cert.Kernel9Ideal.Fwd.runMid.sl.v42); (try delta Cert.Kernel9Ideal.Fwd.runMid.sl.H7_1); (try delta Cert.Kernel9Ideal.Fwd.runMid.sl.H11_1); (try delta Cert.Kernel9Ideal.Fwd.runMid.sl.H8_1); (try delta Cert.Kernel9Ideal.Fwd.runMid.sl.H9_1); (try delta Cert.Kernel9Ideal.Fwd.runMid.sl.H10_1); simp (disch := decide) only [read_whole, View.readAt_eq_ld, View.ld_unit_lit', View.readCov_unit_lit', View.readCov_cons_unit_lit', Memref.IsWhole.read_unread]
  isplitl [H9]
  · iexists _; isplitr; swap; · iexact H9
    ipureintro; (try delta Cert.Kernel9Ideal.Fwd.runMid.sl.v3); (try delta Cert.Kernel9Ideal.Fwd.runMid.sl.v29); (try delta Cert.Kernel9Ideal.Fwd.runMid.sl.v41); (try delta Cert.Kernel9Ideal.Fwd.runMid.sl.v42); (try delta Cert.Kernel9Ideal.Fwd.runMid.sl.H7_1); (try delta Cert.Kernel9Ideal.Fwd.runMid.sl.H11_1); (try delta Cert.Kernel9Ideal.Fwd.runMid.sl.H8_1); (try delta Cert.Kernel9Ideal.Fwd.runMid.sl.H9_1); (try delta Cert.Kernel9Ideal.Fwd.runMid.sl.H10_1); simp (disch := decide) only [read_whole, View.readAt_eq_ld, View.ld_unit_lit', View.readCov_unit_lit', View.readCov_cons_unit_lit', Memref.IsWhole.read_unread]
  isplitl [H10]
  · iexists _; isplitr; swap; · iexact H10
    ipureintro; (try delta Cert.Kernel9Ideal.Fwd.runMid.sl.v3); (try delta Cert.Kernel9Ideal.Fwd.runMid.sl.v29); (try delta Cert.Kernel9Ideal.Fwd.runMid.sl.v41); (try delta Cert.Kernel9Ideal.Fwd.runMid.sl.v42); (try delta Cert.Kernel9Ideal.Fwd.runMid.sl.H7_1); (try delta Cert.Kernel9Ideal.Fwd.runMid.sl.H11_1); (try delta Cert.Kernel9Ideal.Fwd.runMid.sl.H8_1); (try delta Cert.Kernel9Ideal.Fwd.runMid.sl.H9_1); (try delta Cert.Kernel9Ideal.Fwd.runMid.sl.H10_1); simp (disch := decide) only [read_whole, View.readAt_eq_ld, View.ld_unit_lit', View.readCov_unit_lit', View.readCov_cons_unit_lit', Memref.IsWhole.read_unread]
  iexists _; isplitr; swap; · iexact H11
  ipureintro; (try delta Cert.Kernel9Ideal.Fwd.runMid.sl.v3); (try delta Cert.Kernel9Ideal.Fwd.runMid.sl.v29); (try delta Cert.Kernel9Ideal.Fwd.runMid.sl.v41); (try delta Cert.Kernel9Ideal.Fwd.runMid.sl.v42); (try delta Cert.Kernel9Ideal.Fwd.runMid.sl.H7_1); (try delta Cert.Kernel9Ideal.Fwd.runMid.sl.H11_1); (try delta Cert.Kernel9Ideal.Fwd.runMid.sl.H8_1); (try delta Cert.Kernel9Ideal.Fwd.runMid.sl.H9_1); (try delta Cert.Kernel9Ideal.Fwd.runMid.sl.H10_1); simp (disch := decide) only [read_whole, View.readAt_eq_ld, View.ld_unit_lit', View.readCov_unit_lit', View.readCov_cons_unit_lit', Memref.IsWhole.read_unread]

set_option maxHeartbeats 2000000 in
/-- At a row block's last point the residual's sum is stored too. -/
theorem runLast (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x704x1024 .bf16) (harg6 : arg6.IsWhole) (arg7 : Memref sig .tc .vmem S1x704x1024 .bf16) (harg7 : arg7.IsWhole) (arg8 : Memref sig .tc .vmem S1024x1024 .f32) (harg8 : arg8.IsWhole) (arg9 : Memref sig .tc .vmem S1024x1024 .bf16) (harg9 : arg9.IsWhole) (arg10 : Memref sig .tc .vmem S1x1024x704 .f32) (harg10 : arg10.IsWhole) (arg11 : Memref sig .tc .vmem S1x1024x704 .f32) (harg11 : arg11.IsWhole) (arg12 : Memref sig .tc .vmem S1x1024x704 .bf16) (harg12 : arg12.IsWhole) (arg13 : Memref sig .tc .vmem S1024x1024 .f32) (harg13 : arg13.IsWhole) (hc1 : ¬k0_cond1 i = 1#1) (hc2 : ¬k0_cond2 i = 1#1) (hc3 : k0_cond3 i = 1#1) (hc4 : k0_cond4 i = 1#1)
    (x0 : Vec F S1024x1024 .f32) (x1 x2 : Vec F S1x1024 .f32) (x3 x4 x5 : Vec F S1x704x1024 .bf16) (xn : Vec F S1024x1024 .bf16) (xf : Vec F S1024x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xn ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xf
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay4 x0 (k0_pay3 (k0_pay10 xn x3 x4) x5 xf) x2) ∗ owns (c : Thread nD τ) arg9 fullShare xn ∗ owns (c : Thread nD τ) arg10 fullShare (k0_pay8 xn x3) ∗ owns (c : Thread nD τ) arg11 fullShare (k0_pay9 xn x4) ∗ owns (c : Thread nD τ) arg12 fullShare (k0_pay11 xn x3 x4) ∗ owns (c : Thread nD τ) arg13 fullShare (k0_pay3 (k0_pay10 xn x3 x4) x5 xf)) -∗ K ⟨⟩))
      ⊢ wp frame (wpE (defs₀ (F := F)) Variants.none c none) E (cc0_ffn_fwd i arg2 harg2 arg3 harg3 arg4 harg4 arg5 harg5 arg6 harg6 arg7 harg7 arg8 harg8 arg9 harg9 arg10 harg10 arg11 harg11 arg12 harg12 arg13 harg13) K := by
  simp only [cc0_ffn_fwd_eq_skeleton]; unfold cc0_ffn_fwd_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, ⟨%d10, %f10, -, H10⟩, ⟨%f11, %hf11, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg13.eq_unread hf11
  sl_exec (disch := first | sl_exact hc1 | sl_exact hc2 | sl_exact hc3 | sl_exact hc4)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; (try delta Cert.Kernel9Ideal.Fwd.runLast.sl.v3); (try delta Cert.Kernel9Ideal.Fwd.runLast.sl.v29); (try delta Cert.Kernel9Ideal.Fwd.runLast.sl.v41); (try delta Cert.Kernel9Ideal.Fwd.runLast.sl.v42); (try delta Cert.Kernel9Ideal.Fwd.runLast.sl.H7_1); (try delta Cert.Kernel9Ideal.Fwd.runLast.sl.H11_1); (try delta Cert.Kernel9Ideal.Fwd.runLast.sl.H8_1); (try delta Cert.Kernel9Ideal.Fwd.runLast.sl.H9_1); (try delta Cert.Kernel9Ideal.Fwd.runLast.sl.H10_1); simp (disch := decide) only [read_whole, View.readAt_eq_ld, View.ld_unit_lit', View.readCov_unit_lit', View.readCov_cons_unit_lit', Memref.IsWhole.read_unread]
  isplitl [H7]
  · iexists _; isplitr; · ipureintro; exact harg9.read_unread _
    iexact H7
  isplitl [H8]
  · iexists _; isplitr; swap; · iexact H8
    ipureintro; (try delta Cert.Kernel9Ideal.Fwd.runLast.sl.v3); (try delta Cert.Kernel9Ideal.Fwd.runLast.sl.v29); (try delta Cert.Kernel9Ideal.Fwd.runLast.sl.v41); (try delta Cert.Kernel9Ideal.Fwd.runLast.sl.v42); (try delta Cert.Kernel9Ideal.Fwd.runLast.sl.H7_1); (try delta Cert.Kernel9Ideal.Fwd.runLast.sl.H11_1); (try delta Cert.Kernel9Ideal.Fwd.runLast.sl.H8_1); (try delta Cert.Kernel9Ideal.Fwd.runLast.sl.H9_1); (try delta Cert.Kernel9Ideal.Fwd.runLast.sl.H10_1); simp (disch := decide) only [read_whole, View.readAt_eq_ld, View.ld_unit_lit', View.readCov_unit_lit', View.readCov_cons_unit_lit', Memref.IsWhole.read_unread]
  isplitl [H9]
  · iexists _; isplitr; swap; · iexact H9
    ipureintro; (try delta Cert.Kernel9Ideal.Fwd.runLast.sl.v3); (try delta Cert.Kernel9Ideal.Fwd.runLast.sl.v29); (try delta Cert.Kernel9Ideal.Fwd.runLast.sl.v41); (try delta Cert.Kernel9Ideal.Fwd.runLast.sl.v42); (try delta Cert.Kernel9Ideal.Fwd.runLast.sl.H7_1); (try delta Cert.Kernel9Ideal.Fwd.runLast.sl.H11_1); (try delta Cert.Kernel9Ideal.Fwd.runLast.sl.H8_1); (try delta Cert.Kernel9Ideal.Fwd.runLast.sl.H9_1); (try delta Cert.Kernel9Ideal.Fwd.runLast.sl.H10_1); simp (disch := decide) only [read_whole, View.readAt_eq_ld, View.ld_unit_lit', View.readCov_unit_lit', View.readCov_cons_unit_lit', Memref.IsWhole.read_unread]
  isplitl [H10]
  · iexists _; isplitr; swap; · iexact H10
    ipureintro; (try delta Cert.Kernel9Ideal.Fwd.runLast.sl.v3); (try delta Cert.Kernel9Ideal.Fwd.runLast.sl.v29); (try delta Cert.Kernel9Ideal.Fwd.runLast.sl.v41); (try delta Cert.Kernel9Ideal.Fwd.runLast.sl.v42); (try delta Cert.Kernel9Ideal.Fwd.runLast.sl.H7_1); (try delta Cert.Kernel9Ideal.Fwd.runLast.sl.H11_1); (try delta Cert.Kernel9Ideal.Fwd.runLast.sl.H8_1); (try delta Cert.Kernel9Ideal.Fwd.runLast.sl.H9_1); (try delta Cert.Kernel9Ideal.Fwd.runLast.sl.H10_1); simp (disch := decide) only [read_whole, View.readAt_eq_ld, View.ld_unit_lit', View.readCov_unit_lit', View.readCov_cons_unit_lit', Memref.IsWhole.read_unread]
  iexists _; isplitr; swap; · iexact H11
  ipureintro; (try delta Cert.Kernel9Ideal.Fwd.runLast.sl.v3); (try delta Cert.Kernel9Ideal.Fwd.runLast.sl.v29); (try delta Cert.Kernel9Ideal.Fwd.runLast.sl.v41); (try delta Cert.Kernel9Ideal.Fwd.runLast.sl.v42); (try delta Cert.Kernel9Ideal.Fwd.runLast.sl.H7_1); (try delta Cert.Kernel9Ideal.Fwd.runLast.sl.H11_1); (try delta Cert.Kernel9Ideal.Fwd.runLast.sl.H8_1); (try delta Cert.Kernel9Ideal.Fwd.runLast.sl.H9_1); (try delta Cert.Kernel9Ideal.Fwd.runLast.sl.H10_1); simp (disch := decide) only [read_whole, View.readAt_eq_ld, View.ld_unit_lit', View.readCov_unit_lit', View.readCov_cons_unit_lit', Memref.IsWhole.read_unread]

end Cert.Kernel9Ideal.Fwd

end
-- ==== Proof.FwdFrame.lean ====
module

public import proofs.«01_k».proof.Proof.FwdRun
public import Idealize.ShloMosaic.Lib.Claim
public import Idealize.ShloMosaic.Lib.Pipeline.TableIdle

@[expose] public section

set_option maxRecDepth 16384

/-! # The run of the whole FFN in the forward pass: what every window holds after each point of the grid -/

noncomputable section

namespace Cert.Kernel9Ideal.Fwd

open Cert.Kernel9Ideal Cert.Kernel9Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' block indices: point `t` works on row block `t / 4` and shard `t % 4`. -/
theorem idx : ∀ t : Fin cfg0.N, win0_0.index t = ![t.val / 4, 0]
    ∧ win0_1.index t = ![0, 0]
    ∧ win0_2.index t = ![0, 0]
    ∧ win0_3.index t = ![t.val % 4, 0, 0]
    ∧ win0_4.index t = ![t.val % 4, 0, 0]
    ∧ win0_5.index t = ![t.val % 4, 0, 0]
    ∧ win0_6.index t = ![t.val / 4, 0]
    ∧ win0_7.index t = ![t.val / 4, 0]
    ∧ win0_8.index t = ![t.val % 4, t.val / 4, 0]
    ∧ win0_9.index t = ![t.val % 4, t.val / 4, 0]
    ∧ win0_10.index t = ![t.val % 4, t.val / 4, 0]
    ∧ win0_11.index t = ![t.val / 4, 0] :=
  (by decide +kernel : ∀ t : Fin grid0.N, _)

/-- The normalized rows are stored at the first point of a row block. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The last product starts at the first point of a row block. -/
theorem start_iff : ∀ t : Fin cfg0.N, k0_cond2 (grid0.coords t) = 1#1 ↔ t.val % 4 = 0 :=
  (by decide +kernel : ∀ t : Fin grid0.N, k0_cond2 (grid0.coords t) = 1#1 ↔ t.val % 4 = 0)

/-- The last product grows at every other point. -/
theorem next_iff : ∀ t : Fin cfg0.N, k0_cond3 (grid0.coords t) = 1#1 ↔ ¬t.val % 4 = 0 :=
  (by decide +kernel : ∀ t : Fin grid0.N, k0_cond3 (grid0.coords t) = 1#1 ↔ ¬t.val % 4 = 0)

/-- The residual's sum is stored at the last point of a row block. -/
theorem last_iff : ∀ t : Fin cfg0.N, k0_cond4 (grid0.coords t) = 1#1 ↔ t.val % 4 = 3 :=
  (by decide +kernel : ∀ t : Fin grid0.N, k0_cond4 (grid0.coords t) = 1#1 ↔ t.val % 4 = 3)

/-- The residual's window is idle at every point but the last of a row block. -/
theorem idle6 : ∀ t : Fin cfg0.N, cfg0.idle 6 (grid0.coords t) = !(decide (t.val % 4 = 3)) :=
  (by decide +kernel : ∀ t : Fin grid0.N, cfg0.idle 6 (grid0.coords t) = !(decide (t.val % 4 = 3)))

/-- The window of normalized rows is idle at every point but the first of a row block. -/
theorem idle7 : ∀ t : Fin cfg0.N, cfg0.idle 7 (grid0.coords t) = !(decide (t.val % 4 = 0)) :=
  (by decide +kernel : ∀ t : Fin grid0.N, cfg0.idle 7 (grid0.coords t) = !(decide (t.val % 4 = 0)))

/-- The last product's window is never idle. -/
theorem idle11 : ∀ t : Fin cfg0.N, cfg0.idle 11 (grid0.coords t) = false :=
  (by decide +kernel : ∀ t : Fin grid0.N, cfg0.idle 11 (grid0.coords t) = false)

/-- The window of normalized rows holds nothing known exactly at the first point of a row block. -/
theorem fresh7 : ∀ t : Fin cfg0.N, cfg0.fresh 7 t.val = decide (t.val % 4 = 0) :=
  (by decide +kernel : ∀ t : Fin grid0.N, cfg0.fresh 7 t.val = decide (t.val % 4 = 0))

/-- The last product's window holds nothing known exactly at the first point of a row block. -/
theorem fresh11 : ∀ t : Fin cfg0.N, cfg0.fresh 11 t.val = decide (t.val % 4 = 0) :=
  (by decide +kernel : ∀ t : Fin grid0.N, cfg0.fresh 11 t.val = decide (t.val % 4 = 0))

/-- Window 0's staging buffer at a point. -/
abbrev ms0 (t : Fin cfg0.N) : Memref sig .tc .vmem S1024x1024 .f32 := win0_0.stage (cfg0.slots t 0)
/-- Window 1's staging buffer at a point. -/
abbrev ms1 (t : Fin cfg0.N) : Memref sig .tc .vmem S1x1024 .f32 := win0_1.stage (cfg0.slots t 1)
/-- Window 2's staging buffer at a point. -/
abbrev ms2 (t : Fin cfg0.N) : Memref sig .tc .vmem S1x1024 .f32 := win0_2.stage (cfg0.slots t 2)
/-- Window 3's staging buffer at a point. -/
abbrev ms3 (t : Fin cfg0.N) : Memref sig .tc .vmem S1x704x1024 .bf16 := win0_3.stage (cfg0.slots t 3)
/-- Window 4's staging buffer at a point. -/
abbrev ms4 (t : Fin cfg0.N) : Memref sig .tc .vmem S1x704x1024 .bf16 := win0_4.stage (cfg0.slots t 4)
/-- Window 5's staging buffer at a point. -/
abbrev ms5 (t : Fin cfg0.N) : Memref sig .tc .vmem S1x704x1024 .bf16 := win0_5.stage (cfg0.slots t 5)
/-- Window 6's staging buffer at a point. -/
abbrev ms6 (t : Fin cfg0.N) : Memref sig .tc .vmem S1024x1024 .f32 := win0_6.stage (cfg0.slots t 6)
/-- Window 7's staging buffer at a point. -/
abbrev ms7 (t : Fin cfg0.N) : Memref sig .tc .vmem S1024x1024 .bf16 := win0_7.stage (cfg0.slots t 7)
/-- Window 8's staging buffer at a point. -/
abbrev ms8 (t : Fin cfg0.N) : Memref sig .tc .vmem S1x1024x704 .f32 := win0_8.stage (cfg0.slots t 8)
/-- Window 9's staging buffer at a point. -/
abbrev ms9 (t : Fin cfg0.N) : Memref sig .tc .vmem S1x1024x704 .f32 := win0_9.stage (cfg0.slots t 9)
/-- Window 10's staging buffer at a point. -/
abbrev ms10 (t : Fin cfg0.N) : Memref sig .tc .vmem S1x1024x704 .bf16 := win0_10.stage (cfg0.slots t 10)
/-- Window 11's staging buffer at a point. -/
abbrev ms11 (t : Fin cfg0.N) : Memref sig .tc .vmem S1024x1024 .f32 := win0_11.stage (cfg0.slots t 11)

/-- The normalized rows of the row block a point belongs to. -/
def rowsAt (c : Dev nD) (t : Fin cfg0.N) : Vec F S1024x1024 .bf16 := k0_pay5 (iblk m c 0 t) (iblk m c 1 t)

/-- The activation of a point's rows and shard. -/
def actAt (c : Dev nD) (t : Fin cfg0.N) : FVec F S1024x704 .bf16 := k0_pay10 (rowsAt m c t) (iblk m c 3 t) (iblk m c 4 t)

/-- The last product as far as its shards have come: it starts at a row block's first point. -/
def accAt (c : Dev nD) : (n : ℕ) → n < cfg0.N → Vec F S1024x1024 .f32
  | 0, h => k0_pay2 (actAt m c ⟨0, h⟩) (iblk m c 5 ⟨0, h⟩)
  | n + 1, h => if (n + 1) % 4 = 0 then k0_pay2 (actAt m c ⟨n + 1, h⟩) (iblk m c 5 ⟨n + 1, h⟩)
      else k0_pay3 (actAt m c ⟨n + 1, h⟩) (iblk m c 5 ⟨n + 1, h⟩) (accAt c n (Nat.lt_of_succ_lt h))

/-- A row block's first point starts the last product. -/
theorem accAt_first (c : Dev nD) : ∀ t : Fin cfg0.N, t.val % 4 = 0 → accAt m c t.val t.isLt = k0_pay2 (actAt m c t) (iblk m c 5 t)
  | ⟨0, _⟩, _ => rfl
  | ⟨n + 1, h⟩, e => if_pos e

/-- Every other point adds to it. -/
theorem accAt_next (c : Dev nD) : ∀ t : Fin cfg0.N, ¬t.val % 4 = 0 →
    accAt m c t.val t.isLt = k0_pay3 (actAt m c t) (iblk m c 5 t) (accAt m c (t.val - 1) (Nat.lt_of_le_of_lt (Nat.sub_le _ _) t.isLt))
  | ⟨0, _⟩, e => absurd rfl e
  | ⟨n + 1, h⟩, e => if_neg e

/-- What every window's staging buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay4 (iblk m c 0 t) (accAt m c t.val t.isLt) (iblk m c 2 t)
    | ⟨7, _⟩ => rowsAt m c t
    | ⟨8, _⟩ => k0_pay8 (rowsAt m c t) (iblk m c 3 t)
    | ⟨9, _⟩ => k0_pay9 (rowsAt m c t) (iblk m c 4 t)
    | ⟨10, _⟩ => k0_pay11 (rowsAt m c t) (iblk m c 3 t) (iblk m c 4 t)
    | ⟨11, _⟩ => accAt m c t.val t.isLt
    | ⟨_ + 12, h⟩ => absurd h (Nat.not_lt.2 (Nat.le_add_left _ _))
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- Window 0 after the body. -/
theorem after0 (c : Dev nD) (t : Fin cfg0.N) : (dats m 0 c).after 0 t = iblk m c 0 t := by dsimp only [dats]
/-- Window 1 after the body. -/
theorem after1 (c : Dev nD) (t : Fin cfg0.N) : (dats m 0 c).after 1 t = iblk m c 1 t := by dsimp only [dats]
/-- Window 2 after the body. -/
theorem after2 (c : Dev nD) (t : Fin cfg0.N) : (dats m 0 c).after 2 t = iblk m c 2 t := by dsimp only [dats]
/-- Window 3 after the body. -/
theorem after3 (c : Dev nD) (t : Fin cfg0.N) : (dats m 0 c).after 3 t = iblk m c 3 t := by dsimp only [dats]
/-- Window 4 after the body. -/
theorem after4 (c : Dev nD) (t : Fin cfg0.N) : (dats m 0 c).after 4 t = iblk m c 4 t := by dsimp only [dats]
/-- Window 5 after the body. -/
theorem after5 (c : Dev nD) (t : Fin cfg0.N) : (dats m 0 c).after 5 t = iblk m c 5 t := by dsimp only [dats]
/-- Window 6 after the body. -/
theorem after6 (c : Dev nD) (t : Fin cfg0.N) : (dats m 0 c).after 6 t = k0_pay4 (iblk m c 0 t) (accAt m c t.val t.isLt) (iblk m c 2 t) := by dsimp only [dats]
/-- Window 7 after the body. -/
theorem after7 (c : Dev nD) (t : Fin cfg0.N) : (dats m 0 c).after 7 t = rowsAt m c t := by dsimp only [dats]
/-- Window 8 after the body. -/
theorem after8 (c : Dev nD) (t : Fin cfg0.N) : (dats m 0 c).after 8 t = k0_pay8 (rowsAt m c t) (iblk m c 3 t) := by dsimp only [dats]
/-- Window 9 after the body. -/
theorem after9 (c : Dev nD) (t : Fin cfg0.N) : (dats m 0 c).after 9 t = k0_pay9 (rowsAt m c t) (iblk m c 4 t) := by dsimp only [dats]
/-- Window 10 after the body. -/
theorem after10 (c : Dev nD) (t : Fin cfg0.N) : (dats m 0 c).after 10 t = k0_pay11 (rowsAt m c t) (iblk m c 3 t) (iblk m c 4 t) := by dsimp only [dats]
/-- Window 11 after the body. -/
theorem after11 (c : Dev nD) (t : Fin cfg0.N) : (dats m 0 c).after 11 t = accAt m c t.val t.isLt := by dsimp only [dats]
/-- Window 0 before the body. -/
theorem before0 (c : Dev nD) (t : Fin cfg0.N) (d) : (dats m 0 c).before 0 t d = iblk m c 0 t :=
  before0_0_of m (dats m 0 c) (A_eq m c 0) (after0 m c) t d
/-- Window 1 before the body. -/
theorem before1 (c : Dev nD) (t : Fin cfg0.N) (d) : (dats m 0 c).before 1 t d = iblk m c 1 t :=
  before0_1_of m (dats m 0 c) (A_eq m c 1) (after1 m c) t d
/-- Window 2 before the body. -/
theorem before2 (c : Dev nD) (t : Fin cfg0.N) (d) : (dats m 0 c).before 2 t d = iblk m c 2 t :=
  before0_2_of m (dats m 0 c) (A_eq m c 2) (after2 m c) t d
/-- Window 3 before the body. -/
theorem before3 (c : Dev nD) (t : Fin cfg0.N) (d) : (dats m 0 c).before 3 t d = iblk m c 3 t :=
  before0_3_of m (dats m 0 c) (A_eq m c 3) (after3 m c) t d
/-- Window 4 before the body. -/
theorem before4 (c : Dev nD) (t : Fin cfg0.N) (d) : (dats m 0 c).before 4 t d = iblk m c 4 t :=
  before0_4_of m (dats m 0 c) (A_eq m c 4) (after4 m c) t d
/-- Window 5 before the body. -/
theorem before5 (c : Dev nD) (t : Fin cfg0.N) (d) : (dats m 0 c).before 5 t d = iblk m c 5 t :=
  before0_5_of m (dats m 0 c) (A_eq m c 5) (after5 m c) t d

/-- Within a row block the normalized rows are the same at every point. -/
theorem rowsAt_pred (c : Dev nD) (t : Fin cfg0.N) (h : t.val % 4 ≠ 0) : rowsAt m c t = rowsAt m c ⟨t.val - 1, by omega⟩ := by
  have hN : t.val < 8 := lt_of_lt_of_eq t.isLt N_0
  unfold rowsAt
  have e0 : iblk m c 0 t = iblk m c 0 ⟨t.val - 1, by omega⟩ := by
    funext y
    blk_point [iblk, V, idx t, idx ⟨t.val - 1, by omega⟩]
  have e1 : iblk m c 1 t = iblk m c 1 ⟨t.val - 1, by omega⟩ := by
    funext y
    blk_point [iblk, V, idx t, idx ⟨t.val - 1, by omega⟩]
  rw [e0, e1]

/-- The window of normalized rows before the body, at every point but the first of a row block. -/
theorem before7 (c : Dev nD) (t : Fin cfg0.N) (h : t.val % 4 ≠ 0) (d) : (dats m 0 c).before 7 t d = rowsAt m c t := by
  rw [Dat.before_out_traj (dats m 0 c) 7 rfl (fun _ _ => rfl) (fun t _ hi hf => by
      rw [idle7] at hi
      rw [after7, after7]
      exact rowsAt_pred m c t (by simpa using hi)) t.val t rfl d, fresh7, if_neg (by simpa using h), after7]
  exact (rowsAt_pred m c t h).symm

/-- The last product's window before the body, at every point but the first of a row block. -/
theorem before11 (c : Dev nD) (t : Fin cfg0.N) (h : t.val % 4 ≠ 0) (d) :
    (dats m 0 c).before 11 t d = accAt m c (t.val - 1) (Nat.lt_of_le_of_lt (Nat.sub_le _ _) t.isLt) := by
  rw [Dat.before_out_traj (dats m 0 c) 11 rfl (fun _ _ => rfl) (fun t _ hi hf => by
      rw [idle11] at hi
      exact absurd hi Bool.false_ne_true) t.val t rfl d, fresh11, if_neg (by simpa using h), after11]

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- What the body leaves at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- Window 0 is never idle. -/
theorem leaves0 (c : Dev nD) (t : Fin cfg0.N) : (dats m 0 c).leavesExact 0 t = owns (c : Thread nD τ) (ms0 t) fullShare ((dats m 0 c).after 0 t) := by
  unfold Dat.leavesExact; rw [show cfg0.idle 0 (cfg0.grid.coords t) = false from rfl]
/-- Window 1 is never idle. -/
theorem leaves1 (c : Dev nD) (t : Fin cfg0.N) : (dats m 0 c).leavesExact 1 t = owns (c : Thread nD τ) (ms1 t) fullShare ((dats m 0 c).after 1 t) := by
  unfold Dat.leavesExact; rw [show cfg0.idle 1 (cfg0.grid.coords t) = false from rfl]
/-- Window 2 is never idle. -/
theorem leaves2 (c : Dev nD) (t : Fin cfg0.N) : (dats m 0 c).leavesExact 2 t = owns (c : Thread nD τ) (ms2 t) fullShare ((dats m 0 c).after 2 t) := by
  unfold Dat.leavesExact; rw [show cfg0.idle 2 (cfg0.grid.coords t) = false from rfl]
/-- Window 3 is never idle. -/
theorem leaves3 (c : Dev nD) (t : Fin cfg0.N) : (dats m 0 c).leavesExact 3 t = owns (c : Thread nD τ) (ms3 t) fullShare ((dats m 0 c).after 3 t) := by
  unfold Dat.leavesExact; rw [show cfg0.idle 3 (cfg0.grid.coords t) = false from rfl]
/-- Window 4 is never idle. -/
theorem leaves4 (c : Dev nD) (t : Fin cfg0.N) : (dats m 0 c).leavesExact 4 t = owns (c : Thread nD τ) (ms4 t) fullShare ((dats m 0 c).after 4 t) := by
  unfold Dat.leavesExact; rw [show cfg0.idle 4 (cfg0.grid.coords t) = false from rfl]
/-- Window 5 is never idle. -/
theorem leaves5 (c : Dev nD) (t : Fin cfg0.N) : (dats m 0 c).leavesExact 5 t = owns (c : Thread nD τ) (ms5 t) fullShare ((dats m 0 c).after 5 t) := by
  unfold Dat.leavesExact; rw [show cfg0.idle 5 (cfg0.grid.coords t) = false from rfl]
/-- Window 8 is never idle. -/
theorem leaves8 (c : Dev nD) (t : Fin cfg0.N) : (dats m 0 c).leavesExact 8 t = owns (c : Thread nD τ) (ms8 t) fullShare ((dats m 0 c).after 8 t) := by
  unfold Dat.leavesExact; rw [show cfg0.idle 8 (cfg0.grid.coords t) = false from rfl]
/-- Window 9 is never idle. -/
theorem leaves9 (c : Dev nD) (t : Fin cfg0.N) : (dats m 0 c).leavesExact 9 t = owns (c : Thread nD τ) (ms9 t) fullShare ((dats m 0 c).after 9 t) := by
  unfold Dat.leavesExact; rw [show cfg0.idle 9 (cfg0.grid.coords t) = false from rfl]
/-- Window 10 is never idle. -/
theorem leaves10 (c : Dev nD) (t : Fin cfg0.N) : (dats m 0 c).leavesExact 10 t = owns (c : Thread nD τ) (ms10 t) fullShare ((dats m 0 c).after 10 t) := by
  unfold Dat.leavesExact; rw [show cfg0.idle 10 (cfg0.grid.coords t) = false from rfl]
/-- Window 11 is never idle. -/
theorem leaves11 (c : Dev nD) (t : Fin cfg0.N) : (dats m 0 c).leavesExact 11 t = owns (c : Thread nD τ) (ms11 t) fullShare ((dats m 0 c).after 11 t) := by
  unfold Dat.leavesExact; rw [show cfg0.idle 11 (cfg0.grid.coords t) = false from idle11 t]
/-- At a row block's last point the residual's sum is what its window is left with. -/
theorem leaves6_last (c : Dev nD) (t : Fin cfg0.N) (h : t.val % 4 = 3) : (dats m 0 c).leavesExact 6 t = owns (c : Thread nD τ) (ms6 t) fullShare ((dats m 0 c).after 6 t) := by
  unfold Dat.leavesExact; rw [show cfg0.idle 6 (cfg0.grid.coords t) = false from (idle6 t).trans (by simp [h])]

/-- At every other point the residual's window is left as it was found. -/
theorem leaves6_idle (c : Dev nD) (t : Fin cfg0.N) (h : ¬t.val % 4 = 3) (d) : owns (c : Thread nD τ) (ms6 t) fullShare ((dats m 0 c).before 6 t d) ⊢ ((dats m 0 c).leavesExact 6 t : sProp 𝕄) := by
  rw [Dat.leavesExact_idle (dats m 0 c) 6 t ((idle6 t).trans (by simp [h])) (Bool.eq_false_iff.mpr fun hf => h ((flush0_6 t).mp hf))]
  iintro H
  iexists d
  iexact H

/-- The normalized rows are enough for what the body leaves in their window. -/
theorem leaves7 (c : Dev nD) (t : Fin cfg0.N) : owns (c : Thread nD τ) (ms7 t) fullShare (rowsAt m c t) ⊢ ((dats m 0 c).leavesExact 7 t : sProp 𝕄) := by
  by_cases h : t.val % 4 = 0
  · unfold Dat.leavesExact; rw [show cfg0.idle 7 (cfg0.grid.coords t) = false from (idle7 t).trans (by simp [h]), after7]
  · have hi : cfg0.idle 7 (cfg0.grid.coords t) = true := (idle7 t).trans (by simp [h])
    cases hf : (cfg0.win 7).flush t
    · rw [Dat.leavesExact_idle (dats m 0 c) 7 t hi hf]
      iintro H
      iexists (rowsAt m c t)
      rw [before7 m c t h]
      iexact H
    · unfold Dat.leavesExact; rw [hi, hf, after7]

set_option maxHeartbeats 1600000 in
/-- The body at a row block's first point. -/
theorem soundFirst (c : Dev nD) (t : Fin cfg0.N) (h0 : t.val % 4 = 0) :
    bodyPre m c t ⊢ wp frame (wpE (defs₀ (F := F)) Variants.none c none) Set.univ (bodyAt0 t) (fun _ => bodyPost m c t) := by
  have h3 : ¬t.val % 4 = 3 := by omega
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves8, leaves9, leaves10, leaves11, after0, after1, after2, after3, after4, after5, after8, after9, after10, after11, accAt_first m c t h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runFirst c (grid0.coords t) _ _ _ _ _ _ _ _ _ _ _ _ _ _ _ _ _ _ _ _ _ _ _ _ ((first_iff t).mpr h0) ((start_iff t).mpr h0) (fun h => (next_iff t).mp h h0) (fun h => h3 ((last_iff t).mp h)) (iblk m c 0 t) (iblk m c 1 t) (iblk m c 2 t) (iblk m c 3 t) (iblk m c 4 t) (iblk m c 5 t) ((dats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply leaves6_idle m c t h3 d6; iexact H6
  isplitl [H7]; · iapply leaves7 m c t; iexact H7
  isplitl [H8]; · iexact H8
  isplitl [H9]; · iexact H9
  isplitl [H10]; · iexact H10
  iexact H11

set_option maxHeartbeats 1600000 in
/-- The body at a point between. -/
theorem soundMid (c : Dev nD) (t : Fin cfg0.N) (h0 : ¬t.val % 4 = 0) (h3 : ¬t.val % 4 = 3) :
    bodyPre m c t ⊢ wp frame (wpE (defs₀ (F := F)) Variants.none c none) Set.univ (bodyAt0 t) (fun _ => bodyPost m c t) := by
  unfold bodyPre bodyPost bodyAt0
  simp only [before0, before1, before2, before3, before4, before5, before7 m c t h0, before11 m c t h0]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves8, leaves9, leaves10, leaves11, after0, after1, after2, after3, after4, after5, after8, after9, after10, after11, accAt_next m c t h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runMid c (grid0.coords t) _ _ _ _ _ _ _ _ _ _ _ _ _ _ _ _ _ _ _ _ _ _ _ _ (fun h => h0 ((first_iff t).mp h)) (fun h => h0 ((start_iff t).mp h)) ((next_iff t).mpr h0) (fun h => h3 ((last_iff t).mp h)) (iblk m c 0 t) (iblk m c 1 t) (iblk m c 2 t) (iblk m c 3 t) (iblk m c 4 t) (iblk m c 5 t) (rowsAt m c t) (accAt m c (t.val - 1) (Nat.lt_of_le_of_lt (Nat.sub_le _ _) t.isLt)) ((dats m 0 c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply leaves6_idle m c t h3 d6; iexact H6
  isplitl [H7]; · iapply leaves7 m c t; iexact H7
  isplitl [H8]; · iexact H8
  isplitl [H9]; · iexact H9
  isplitl [H10]; · iexact H10
  iexact H11

set_option maxHeartbeats 1600000 in
/-- The body at a row block's last point. -/
theorem soundLast (c : Dev nD) (t : Fin cfg0.N) (h3 : t.val % 4 = 3) :
    bodyPre m c t ⊢ wp frame (wpE (defs₀ (F := F)) Variants.none c none) Set.univ (bodyAt0 t) (fun _ => bodyPost m c t) := by
  have h0 : ¬t.val % 4 = 0 := by omega
  unfold bodyPre bodyPost bodyAt0
  simp only [before0, before1, before2, before3, before4, before5, before7 m c t h0, before11 m c t h0]
  rw [show (dats m 0 c).Φ t.succ = (dats m 0 c).Φ t.castSucc from rfl,
    show (dats m 0 c).owesAt () t.succ = (dats m 0 c).owesAt () t.castSucc from rfl]
  rw [leaves0, leaves1, leaves2, leaves3, leaves4, leaves5, leaves8, leaves9, leaves10, leaves11, after0, after1, after2, after3, after4, after5, after8, after9, after10, after11, leaves6_last m c t h3, after6, accAt_next m c t h0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runLast c (grid0.coords t) _ _ _ _ _ _ _ _ _ _ _ _ _ _ _ _ _ _ _ _ _ _ _ _ (fun h => h0 ((first_iff t).mp h)) (fun h => h0 ((start_iff t).mp h)) ((next_iff t).mpr h0) ((last_iff t).mpr h3) (iblk m c 0 t) (iblk m c 1 t) (iblk m c 2 t) (iblk m c 3 t) (iblk m c 4 t) (iblk m c 5 t) (rowsAt m c t) (accAt m c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H8]; · iexists _; iexact H8
  isplitl [H9]; · iexists _; iexact H9
  isplitl [H10]; · iexists _; iexact H10
  isplitl [H11]; · iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply leaves7 m c t; iexact H7
  isplitl [H8]; · iexact H8
  isplitl [H9]; · iexact H9
  isplitl [H10]; · iexact H10
  iexact H11

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · exact soundFirst m c t h0
  · by_cases h3 : t.val % 4 = 3
    · exact soundLast m c t h3
    · exact soundMid m c t h0 h3

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body does at every point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program, with every counter at zero at its end. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run of the whole program. -/
theorem run_main : θ_run defs (onTc (τ := τ) (main (F := F))) (s₀ m ρ) (Pipeline.FramePost cfgs (dats m) 0 (V m)) :=
  (θ_run defs _ _).mono (fun _ h => h.1) (run_main_quiescent m ρ)

/-- The run with each result named and the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_v0_4) = (dats m 0 c).arrAt 10 cfg0.N
      ∧ r.2.mem ((c : Thread nD τ).loc main_v0_5) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, (h c).1 8, (h c).1 9, (h c).1 10, (h c).1 11, ((h c).1 0).trans (((dats m 0 c).arrAt_in 0 rfl _).trans ((A_eq m c 0).trans (V_main_arg0 m c))), ((h c).1 1).trans (((dats m 0 c).arrAt_in 1 rfl _).trans ((A_eq m c 1).trans (V_main_arg1 m c))), ((h c).1 2).trans (((dats m 0 c).arrAt_in 2 rfl _).trans ((A_eq m c 2).trans (V_main_arg2 m c))), ((h c).1 3).trans (((dats m 0 c).arrAt_in 3 rfl _).trans ((A_eq m c 3).trans (V_main_arg3 m c))), ((h c).1 4).trans (((dats m 0 c).arrAt_in 4 rfl _).trans ((A_eq m c 4).trans (V_main_arg4 m c))), ((h c).1 5).trans (((dats m 0 c).arrAt_in 5 rfl _).trans ((A_eq m c 5).trans (V_main_arg5 m c)))⟩)
    (run_main m ρ)

/-- The frame: the run finishes, the arguments are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel9Ideal.Fwd

end
-- ==== Proof.FwdRef.lean ====
/- The FFN's second projection and the residual's sum as the reference of the whole FFN writes them. -/
module

public import proofs.«01_k».proof.Proof.Gen.Reference9Ideal.Run
public import proofs.«01_k».proof.Proof.UpRef
public import proofs.«01_k».proof.Proof.Shards

@[expose] public section

set_option maxRecDepth 16384

noncomputable section

open Idealize.ShloMosaic Idealize.SL.Sem

namespace Cert.Reference9Ideal.Fwd

open Cert.Reference9Ideal Cert.Reference8Ideal.Up

/-- The second projection of the activation. -/
def fR (A : FVec Ideal S2048x2816 .f32) (W : FVec Ideal S4x704x1024 .bf16) : FVec Ideal S2048x1024 .f32 :=
  Host.dotGeneral dot_S2048x2816_S2816x1024_S2048x1024_1_0_0_1_n_n none A (shapeCast _ (extf .f32 W Gen.bitsLt_bf16_f32) Gen.shapeCasts_S4x704x1024_S2816x1024)

/-- The residual with half the normalized projection. -/
def hR (X F : FVec Ideal S2048x1024 .f32) (G : FVec Ideal S1x1024 .f32) : FVec Ideal S2048x1024 .f32 :=
  addf X (mulf (broadcastInDim S2048x1024 ![] Gen.bcast_S_S2048x1024 (constant S_ .f32 0x3F000000#32)) (nR F G))

/-- The second projection is the sum over the shards of their products. -/
theorem fR_at (A W) (p : Fin 2048) (q : Fin 1024) : fR A W (ix2 p q) = ∑ s : Fin 4, Shards.term (shardsR A) W s p q := by
  rw [Shards.sum_term]
  have e : fR A W (ix2 p q) = ∑ x : Fin 2816, (A (ix2 p x) * W (ix3 ⟨x.val / 704, by omega⟩ ⟨x.val % 704, by omega⟩ q) : EReal) := by
    pointwise [fR]
  rw [e]
  refine Finset.sum_congr rfl fun x _ => ?_
  rw [shardsR_at]
  refine congrArg (fun z : Fin 2816 => (A (ix2 p z) * W (ix3 ⟨x.val / 704, by omega⟩ ⟨x.val % 704, by omega⟩ q) : EReal)) (Fin.ext ?_)
  show x.val = x.val / 704 * 704 + x.val % 704
  omega

/-- The residual's sum, at an index. -/
theorem hR_at (X F G) (p : Fin 2048) (q : Fin 1024) : hR X F G (ix2 p q)
    = (X (ix2 p q) : EReal) + Rms.half * (F (ix2 p q) * Rms.rs (fun k => F (ix2 p k)) * G (ix2 0 q)) := by
  unfold hR
  pointwise [nR_at]

end Cert.Reference9Ideal.Fwd

end
-- ==== Proof.FwdVal.lean ====
/- The kernel's six results of the whole FFN in the forward pass are the reference's. -/
module

public import proofs.«01_k».proof.Proof.FwdFrame
public import proofs.«01_k».proof.Proof.FwdRef

@[expose] public section

set_option maxRecDepth 16384

noncomputable section

open Idealize.ShloMosaic Idealize.ShloMosaic.TcCoe Idealize.SL.Sem
open Idealize.ShloMosaic.Pipeline (Dat)

namespace Cert.Kernel9Ideal.Fwd

open Cert.Kernel9Ideal Cert.Kernel9Ideal.Gen Cert.Reference8Ideal.Up Cert.Reference9Ideal.Fwd Cert.Shards

variable (m : (ℓ : Loc nD τ sig) → Buf (Elt Ideal) ℓ)

/-- The row of the whole array at place `p` of point `t`'s row block. -/
def row (t : Fin cfg0.N) (p : Fin 1024) : Fin 2048 :=
  ⟨1024 * (t.val / 4) + p.val, by have := lt_of_lt_of_eq t.isLt N_0; omega⟩

/-- The shard of point `t`. -/
def shard (t : Fin cfg0.N) : Fin 4 :=
  ⟨t.val % 4, Nat.mod_lt _ (by decide)⟩

/-- The column of the whole projection at place `q` of point `t`'s shard. -/
def col (t : Fin cfg0.N) (q : Fin 704) : Fin 2816 :=
  ⟨(shard t).val * 704 + q.val, by have := (shard t).isLt; omega⟩

/-- A two-coordinate index is its coordinates. -/
theorem pair (y : S1024x1024.Idx) : ix2 (y 0) (y 1) = y := by
  funext a
  refine Fin.cases rfl (fun a => Fin.cases rfl (fun a => a.elim0) a) a

/-- A three-coordinate index of one shard's block is its coordinates. -/
theorem triple (y : S1x1024x704.Idx) : ix3 0 (y 1) (y 2) = y := by
  funext a
  refine Fin.cases (Subsingleton.elim (α := Fin 1) _ _) (fun a => Fin.cases rfl (fun a => Fin.cases rfl (fun a => a.elim0) a) a) a

/-- The normalized rows of a block, at an index. -/
theorem pay5_at (x : Vec Ideal S1024x1024 .f32) (g : Vec Ideal S1x1024 .f32) (p q : Fin 1024) : k0_pay5 x g (ix2 p q)
    = (x (ix2 p q) : EReal) * Rms.rs (fun k => x (ix2 p k)) * g (ix2 0 q) := by
  pointwise [k0_pay5]
  rfl

/-- The first product of a block, at an index. -/
theorem pay8_at (x : Vec Ideal S1024x1024 .bf16) (w : Vec Ideal S1x704x1024 .bf16) (p : Fin 1024) (q : Fin 704) : k0_pay8 x w (ix3 0 p q)
    = ∑ k : Fin 1024, (x (ix2 p k) : EReal) * w (ix3 0 q k) := by
  pointwise [k0_pay8, k0_pay6]

/-- The second product of a block, at an index. -/
theorem pay9_at (x : Vec Ideal S1024x1024 .bf16) (w : Vec Ideal S1x704x1024 .bf16) (p : Fin 1024) (q : Fin 704) : k0_pay9 x w (ix3 0 p q)
    = ∑ k : Fin 1024, (x (ix2 p k) : EReal) * w (ix3 0 q k) := by
  pointwise [k0_pay9, k0_pay7]

/-- The gated activation of a block, at an index. -/
theorem pay11_at (x : Vec Ideal S1024x1024 .bf16) (w v : Vec Ideal S1x704x1024 .bf16) (p : Fin 1024) (q : Fin 704) : k0_pay11 x w v (ix3 0 p q)
    = act (∑ k : Fin 1024, (x (ix2 p k) : EReal) * w (ix3 0 q k)) (∑ k : Fin 1024, (x (ix2 p k) : EReal) * v (ix3 0 q k)) := by
  pointwise [k0_pay11, k0_pay10, k0_pay6, k0_pay7]
  simp only [zero_sub]
  rfl

/-- The argument's block at point `t`. -/
theorem blk_x (c : Dev nD) (t : Fin cfg0.N) (p q : Fin 1024) : iblk m c 0 t (ix2 p q) = m ((c : Thread nD τ).loc main_arg0) (ix2 (row t p) q) := by
  blk_point [iblk, V, idx t, row]

/-- The gain's block. -/
theorem blk_g (c : Dev nD) (t : Fin cfg0.N) (p : Fin 1) (q : Fin 1024) : iblk m c 1 t (ix2 p q) = m ((c : Thread nD τ).loc main_arg1) (ix2 p q) := by
  blk_point [iblk, V, idx t]

/-- The gate weights' block at point `t`. -/
theorem blk_w (c : Dev nD) (t : Fin cfg0.N) (p : Fin 1) (q : Fin 704) (k : Fin 1024) : iblk m c 3 t (ix3 p q k) = m ((c : Thread nD τ).loc main_arg3) (ix3 (shard t) q k) := by
  blk_point [iblk, V, idx t, shard]

/-- The up weights' block at point `t`. -/
theorem blk_v (c : Dev nD) (t : Fin cfg0.N) (p : Fin 1) (q : Fin 704) (k : Fin 1024) : iblk m c 4 t (ix3 p q k) = m ((c : Thread nD τ).loc main_arg4) (ix3 (shard t) q k) := by
  blk_point [iblk, V, idx t, shard]

/-- The reference's normalized rows, of the arguments. -/
abbrev rows (c : Dev nD) : FVec Ideal S2048x1024 .f32 := nR (m ((c : Thread nD τ).loc main_arg0)) (m ((c : Thread nD τ).loc main_arg1))

/-- The reference's gate, of the arguments. -/
abbrev gate (c : Dev nD) : FVec Ideal Cert.Reference8Ideal.S2048x2816 .f32 := projR (rows m c) (m ((c : Thread nD τ).loc main_arg3))

/-- The reference's up projection, of the arguments. -/
abbrev up (c : Dev nD) : FVec Ideal Cert.Reference8Ideal.S2048x2816 .f32 := projR (rows m c) (m ((c : Thread nD τ).loc main_arg4))

/-- A row block's normalized rows are the reference's. -/
theorem rows_at (c : Dev nD) (t : Fin cfg0.N) (p q : Fin 1024) : rowsAt m c t (ix2 p q) = rows m c (ix2 (row t p) q) := by
  rw [rowsAt, pay5_at, rows, nR_at]
  simp only [blk_x, blk_g]

/-- A column of a point's shard is one of the whole projection. -/
theorem col_div (t : Fin cfg0.N) (q : Fin 704) : (⟨(col t q).val / 704, by omega⟩ : Fin 4) = shard t :=
  Fin.ext (show ((shard t).val * 704 + q.val) / 704 = (shard t).val by omega)

/-- Its place in the shard. -/
theorem col_mod (t : Fin cfg0.N) (q : Fin 704) : (⟨(col t q).val % 704, by omega⟩ : Fin 704) = q :=
  Fin.ext (show ((shard t).val * 704 + q.val) % 704 = q.val by omega)

/-- The sum of a row's products with a column of the gate weights is the reference's. -/
theorem gate_at (c : Dev nD) (t : Fin cfg0.N) (p : Fin 1024) (q : Fin 704) :
    ∑ k : Fin 1024, (rowsAt m c t (ix2 p k) : EReal) * iblk m c 3 t (ix3 0 q k) = gate m c (ix2 (row t p) (col t q)) := by
  rw [gate, projR_at, col_div, col_mod]
  simp only [rows_at, blk_w]

/-- The sum of a row's products with a column of the up weights is the reference's. -/
theorem up_at (c : Dev nD) (t : Fin cfg0.N) (p : Fin 1024) (q : Fin 704) :
    ∑ k : Fin 1024, (rowsAt m c t (ix2 p k) : EReal) * iblk m c 4 t (ix3 0 q k) = up m c (ix2 (row t p) (col t q)) := by
  rw [up, projR_at, col_div, col_mod]
  simp only [rows_at, blk_v]

/-- The normalized rows after the run. -/
theorem final_rows (c : Dev nD) : (dats m 0 c).arrAt 7 (cfgs 0).N = truncf .bf16 (rows m c) bitsLt_bf16_f32 := by
  refine (dats m 0 c).arrAt_eq_of_covers 7 _ (by decide +kernel) fun t hf y => ?_
  have e : ((cfg0.win 7).blk t).view.emb y = ix2 (row t (y 0)) (y 1) := by
    blk_ext [idx t, row]
  blk_simp
  rw [after7]
  exact (congrArg (rowsAt m c t) (pair y).symm).trans ((rows_at m c t (y 0) (y 1)).trans (congrArg (rows m c) e.symm))

/-- The gate after the run. -/
theorem final_gate (c : Dev nD) : (dats m 0 c).arrAt 8 (cfgs 0).N = shardsR (gate m c) := by
  refine (dats m 0 c).arrAt_eq_of_covers 8 _ (by decide +kernel) fun t hf y => ?_
  have e : ((cfg0.win 8).blk t).view.emb y = ix3 (shard t) (row t (y 1)) (y 2) := by
    blk_ext [idx t, row, shard]
  blk_simp
  rw [after8]
  refine (congrArg (k0_pay8 (rowsAt m c t) (iblk m c 3 t)) (triple y).symm).trans (((pay8_at _ _ (y 1) (y 2)).trans (gate_at m c t (y 1) (y 2))).trans ?_)
  exact (shardsR_at (gate m c) (shard t) (row t (y 1)) (y 2)).symm.trans (congrArg (shardsR (gate m c)) e.symm)

/-- The up projection after the run. -/
theorem final_up (c : Dev nD) : (dats m 0 c).arrAt 9 (cfgs 0).N = shardsR (up m c) := by
  refine (dats m 0 c).arrAt_eq_of_covers 9 _ (by decide +kernel) fun t hf y => ?_
  have e : ((cfg0.win 9).blk t).view.emb y = ix3 (shard t) (row t (y 1)) (y 2) := by
    blk_ext [idx t, row, shard]
  blk_simp
  rw [after9]
  refine (congrArg (k0_pay9 (rowsAt m c t) (iblk m c 4 t)) (triple y).symm).trans (((pay9_at _ _ (y 1) (y 2)).trans (up_at m c t (y 1) (y 2))).trans ?_)
  exact (shardsR_at (up m c) (shard t) (row t (y 1)) (y 2)).symm.trans (congrArg (shardsR (up m c)) e.symm)

/-- A point's activation is the reference's. -/
theorem act_at (c : Dev nD) (t : Fin cfg0.N) (p : Fin 1024) (q : Fin 704) : k0_pay11 (rowsAt m c t) (iblk m c 3 t) (iblk m c 4 t) (ix3 0 p q)
    = shardsR (actR (gate m c) (up m c)) (ix3 (shard t) (row t p) q) := by
  rw [pay11_at, gate_at, up_at, shardsR_at, actR_at]
  rfl

/-- The activation after the run. -/
theorem final_act (c : Dev nD) : (dats m 0 c).arrAt 10 (cfgs 0).N = truncf .bf16 (shardsR (actR (gate m c) (up m c))) bitsLt_bf16_f32 := by
  refine (dats m 0 c).arrAt_eq_of_covers 10 _ (by decide +kernel) fun t hf y => ?_
  have e : ((cfg0.win 10).blk t).view.emb y = ix3 (shard t) (row t (y 1)) (y 2) := by
    blk_ext [idx t, row, shard]
  blk_simp
  rw [after10]
  exact (congrArg (k0_pay11 (rowsAt m c t) (iblk m c 3 t) (iblk m c 4 t)) (triple y).symm).trans ((act_at m c t (y 1) (y 2)).trans (congrArg (shardsR (actR (gate m c) (up m c))) e.symm))

/-- The activation of a point, at an index, is the reference's. -/
theorem actAt_at (c : Dev nD) (t : Fin cfg0.N) (p : Fin 1024) (q : Fin 704) : actAt m c t (ix2 p q)
    = shardsR (actR (gate m c) (up m c)) (ix3 (shard t) (row t p) q) := by
  refine Eq.trans ?_ (act_at m c t p q)
  rw [actAt]
  pointwise [k0_pay11]

/-- The reference's activation, of the arguments. -/
abbrev actv (c : Dev nD) : FVec Ideal Cert.Reference8Ideal.S2048x2816 .f32 := actR (gate m c) (up m c)

/-- The reference's second projection, of the arguments. -/
abbrev f (c : Dev nD) : FVec Ideal S2048x1024 .f32 := fR (actv m c) (m ((c : Thread nD τ).loc main_arg5))

/-- A shard's product of a block, at an index. -/
theorem pay1_at (a : FVec Ideal S1024x704 .bf16) (w : Vec Ideal S1x704x1024 .bf16) (p q : Fin 1024) : k0_pay1 a w (ix2 p q)
    = ∑ k : Fin 704, (a (ix2 p k) : EReal) * w (ix3 0 k q) := by
  pointwise [k0_pay1]

/-- The down weights' block at point `t`. -/
theorem blk_d (c : Dev nD) (t : Fin cfg0.N) (p : Fin 1) (q : Fin 704) (k : Fin 1024) : iblk m c 5 t (ix3 p q k) = m ((c : Thread nD τ).loc main_arg5) (ix3 (shard t) q k) := by
  blk_point [iblk, V, idx t, shard]

/-- A point's product is a shard's term. -/
theorem part (c : Dev nD) (t : Fin cfg0.N) (y : S1024x1024.Idx) : k0_pay1 (actAt m c t) (iblk m c 5 t) y
    = term (shardsR (actv m c)) (m ((c : Thread nD τ).loc main_arg5)) (shard t) (row t (y 0)) (y 1) := by
  refine (congrArg (k0_pay1 (actAt m c t) (iblk m c 5 t)) (pair y).symm).trans ((pay1_at _ _ (y 0) (y 1)).trans ?_)
  unfold term
  exact Finset.sum_congr rfl fun k _ => congrArg₂ (fun a b : EReal => a * b) (actAt_at m c t (y 0) k) (blk_d m c t 0 k (y 1))

/-- The first shard's point starts the accumulator. -/
theorem acc_first (c : Dev nD) (t : Fin cfg0.N) (h : t.val % 4 = 0) (j : S1024x1024.Idx) :
    accAt m c t.val t.isLt j = (0 : EReal) + k0_pay1 (actAt m c t) (iblk m c 5 t) j := by
  rw [accAt_first m c t h, zero_add]
  pointwise [k0_pay2]

/-- Every other shard's point adds to it. -/
theorem acc_next (c : Dev nD) (t : Fin cfg0.N) (h : ¬t.val % 4 = 0) (j : S1024x1024.Idx) :
    accAt m c t.val t.isLt j = (accAt m c (t.val - 1) (Nat.lt_of_le_of_lt (Nat.sub_le _ _) t.isLt) j : EReal) + k0_pay1 (actAt m c t) (iblk m c 5 t) j := by
  rw [accAt_next m c t h]
  pointwise [k0_pay3]

/-- After a row block's last shard the accumulator holds the reference's second projection. -/
theorem acc (c : Dev nD) (t : Fin cfg0.N) (h : t.val % 4 = 3) (y : S1024x1024.Idx) : accAt m c t.val t.isLt y = f m c (ix2 (row t (y 0)) (y 1)) := by
  refine Eq.trans ?_ (fR_at (actv m c) (m ((c : Thread nD τ).loc main_arg5)) (row t (y 0)) (y 1)).symm
  refine (Pipeline.eq_sum_fin_of_reset_step_apply_of_flush (fun n h => (accAt m c n h : S1024x1024.Idx → EReal)) 4 (fun _ => (0 : EReal))
    (fun t => k0_pay1 (actAt m c t) (iblk m c 5 t))
    (fun t h i => acc_first m c t h i) (fun t h i => acc_next m c t h i) t h y).trans ?_
  rw [zero_add]
  have hs (s : Fin 4) : shard ⟨4 * (t.val / 4) + s.val, Pipeline.run_point_lt_of_flush t h s⟩ = s :=
    Fin.ext (show (4 * (t.val / 4) + s.val) % 4 = s.val by omega)
  have hr (s : Fin 4) : row ⟨4 * (t.val / 4) + s.val, Pipeline.run_point_lt_of_flush t h s⟩ (y 0) = row t (y 0) :=
    Fin.ext (show 1024 * ((4 * (t.val / 4) + s.val) / 4) + (y 0).val = 1024 * (t.val / 4) + (y 0).val by omega)
  exact Finset.sum_congr rfl fun s _ => (part m c ⟨4 * (t.val / 4) + s.val, Pipeline.run_point_lt_of_flush t h s⟩ y).trans
    (show _ = term (shardsR (actv m c)) (m ((c : Thread nD τ).loc main_arg5)) s (row t (y 0)) (y 1) by rw [hs, hr])

/-- The stored sum, at an index. -/
theorem pay4_at (x a : Vec Ideal S1024x1024 .f32) (g : Vec Ideal S1x1024 .f32) (p q : Fin 1024) : k0_pay4 x a g (ix2 p q)
    = (x (ix2 p q) : EReal) + Rms.half * (a (ix2 p q) * Rms.rs (fun k => a (ix2 p k)) * g (ix2 0 q)) := by
  pointwise [k0_pay4]
  rfl

/-- The second gain's block. -/
theorem blk_g2 (c : Dev nD) (t : Fin cfg0.N) (p : Fin 1) (q : Fin 1024) : iblk m c 2 t (ix2 p q) = m ((c : Thread nD τ).loc main_arg2) (ix2 p q) := by
  blk_point [iblk, V, idx t]

/-- What a row block's last point stores is the reference's block. -/
theorem point (c : Dev nD) (t : Fin cfg0.N) (h : t.val % 4 = 3) (p q : Fin 1024) : k0_pay4 (iblk m c 0 t) (accAt m c t.val t.isLt) (iblk m c 2 t) (ix2 p q)
    = hR (m ((c : Thread nD τ).loc main_arg0)) (f m c) (m ((c : Thread nD τ).loc main_arg2)) (ix2 (row t p) q) := by
  rw [pay4_at, hR_at]
  simp only [acc m c t h, blk_x, blk_g2]
  rfl

/-- The residual's sum after the run. -/
theorem final_sum (c : Dev nD) : (dats m 0 c).arrAt 6 (cfgs 0).N
    = hR (m ((c : Thread nD τ).loc main_arg0)) (f m c) (m ((c : Thread nD τ).loc main_arg2)) := by
  refine (dats m 0 c).arrAt_eq_of_covers 6 _ (by decide +kernel) fun t hf y => ?_
  have h : t.val % 4 = 3 := (flush0_6 t).mp hf
  have e : ((cfg0.win 6).blk t).view.emb y = ix2 (row t (y 0)) (y 1) := by
    blk_ext [idx t, row]
  blk_simp
  rw [after6]
  refine (congrArg (k0_pay4 (iblk m c 0 t) (accAt m c t.val t.isLt) (iblk m c 2 t)) (pair y).symm).trans ((point m c t h (y 0) (y 1)).trans ?_)
  exact congrArg _ e.symm

/-- The second projection after the run. -/
theorem final_f (c : Dev nD) : (dats m 0 c).arrAt 11 (cfgs 0).N = f m c := by
  refine (dats m 0 c).arrAt_eq_of_covers 11 _ (by decide +kernel) fun t hf y => ?_
  have h : t.val % 4 = 3 := (flush0_11 t).mp hf
  have e : ((cfg0.win 11).blk t).view.emb y = ix2 (row t (y 0)) (y 1) := by
    blk_ext [idx t, row]
  blk_simp
  rw [after11]
  exact (acc m c t h y).trans (congrArg (f m c) e.symm)

end Cert.Kernel9Ideal.Fwd

end
-- ==== Proof.FwdWord.lean ====
module

public import proofs.«01_k».proof.Defs
public import proofs.«01_k».proof.Proof.Gen.Kernel9
public import proofs.«01_k».proof.Proof.FwdFrame

@[expose] public section

set_option maxRecDepth 16384

/-!
# The frame over bit patterns, of the whole FFN

The two prints of the kernel are one program, and the run of the one holds over any reading of the floats.
-/

noncomputable section

namespace Cert.Kernel9.Fwd

open Idealize.ShloMosaic Idealize.SL.Sem

attribute [local instance] Cert.Kernel9.Gen.facts Cert.Kernel9Ideal.Gen.facts

/-- The two bodies are one program. -/
theorem body_same (i) (a1 h1 a2 h2 a3 h3 a4 h4 a5 h5 a6 h6 a7 h7 a8 h8 a9 h9 a10 h10 a11 h11 a12 h12) :
    Cert.Kernel9.cc0_ffn_fwd (F := Bits) i a1 h1 a2 h2 a3 h3 a4 h4 a5 h5 a6 h6 a7 h7 a8 h8 a9 h9 a10 h10 a11 h11 a12 h12
    = Cert.Kernel9Ideal.cc0_ffn_fwd (F := Bits) i a1 h1 a2 h2 a3 h3 a4 h4 a5 h5 a6 h6 a7 h7 a8 h8 a9 h9 a10 h10 a11 h11 a12 h12 := rfl

/-- The two tables of bodies, before the pipelines, are one. -/
theorem defs0_same : (Cert.Kernel9.defs₀ (F := Bits)) = (Cert.Kernel9Ideal.defs₀ (F := Bits)) := by
  unfold Cert.Kernel9.defs₀ Cert.Kernel9Ideal.defs₀
  refine congrArg Defs.onTc ?_
  funext l x
  obtain ⟨n, hn⟩ := l
  cases n with
  | zero => exact body_same ..
  | succ n => exact absurd hn (Nat.not_lt.2 (Nat.le_add_left _ _))

/-- The two tables of bodies are one. -/
theorem defs_same : (Cert.Kernel9.defs (F := Bits)) = (Cert.Kernel9Ideal.defs (F := Bits)) :=
  congrArg (Pipeline.defs _) defs0_same

/-- The two host programs are one. -/
theorem main_same : (Cert.Kernel9.main (F := Bits)) = (Cert.Kernel9Ideal.main (F := Bits)) := rfl

/-- The frame: the run finishes, the arguments are unchanged and every counter is at zero. -/
theorem frame (m : (ℓ : Loc Cert.Kernel9.nD Cert.Kernel9.τ Cert.Kernel9.sig) → Buf (Elt Bits) ℓ) (ρ : Dev Cert.Kernel9.nD → PrngReg) :
    θ_run (Cert.Kernel9.defs (F := Bits)) (onTc (τ := Cert.Kernel9.τ) (Cert.Kernel9.main (F := Bits))) ⟨m, fun _ => 0, ρ⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0) := by
  rw [main_same, defs_same]
  exact Cert.Kernel9Ideal.Fwd.frame (F := Bits) m ρ

end Cert.Kernel9.Fwd

end
-- ==== Proof.ActRun.lean ====
module

public import proofs.«01_k».proof.Proof.Gen.Kernel10Ideal.Skeleton
public import proofs.«01_k».proof.Proof.Gen.Kernel10Ideal.Frame
public import Idealize.ShloMosaic.Lib.Pipeline.ValueKit
public import proofs.«01_k».proof.Proof.Whole

@[expose] public section

set_option maxRecDepth 16384

/-! # The body of the FFN's backward pass to its activations: what its run leaves in the staging buffers -/

noncomputable section

namespace Cert.Kernel10Ideal.Act

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Whole

variable {F : FTy → Type} [FloatOps F]

local notation "𝕄" => MT nD τ sig Unit (Elt F) ℕ (UR sig nD τ) ℕ

set_option maxHeartbeats 2000000 in
/-- At the first point the rows' gradient is stored, the gain's starts, and the activations' gradients are taken. -/
theorem runFirst (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x1024x704 .f32) (harg6 : arg6.IsWhole) (arg7 : Memref sig .tc .vmem S1x1024x704 .f32) (harg7 : arg7.IsWhole) (arg8 : Memref sig .tc .vmem S1x1024x704 .bf16) (harg8 : arg8.IsWhole) (arg9 : Memref sig .tc .vmem S1x1024x704 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (hc1 : k0_cond1 i = 1#1) (hc2 : k0_cond2 i = 1#1) (hc3 : ¬k0_cond3 i = 1#1)
    (x0 x1 : Vec F S1024x1024 .f32) (x2 : Vec F S1x1024 .f32) (x3 : Vec F S1x704x1024 .bf16) (x4 x5 : Vec F S1x1024x704 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay1 (k0_pay14 (k0_pay6 x1 x2 x0) x3 x4 x5)) ∗ owns (c : Thread nD τ) arg9 fullShare (k0_pay13 (k0_pay6 x1 x2 x0) x3 x4) ∗ owns (c : Thread nD τ) arg10 fullShare (k0_pay7 (k0_pay6 x1 x2 x0)) ∗ owns (c : Thread nD τ) arg11 fullShare (k0_pay8 (k0_pay5 x1 x0)) ∗ owns (c : Thread nD τ) arg12 fullShare (k0_pay6 x1 x2 x0)) -∗ K ⟨⟩))
      ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12) K := by
  simp only [cc0_ffn_bwd_act_eq_skeleton]; unfold cc0_ffn_bwd_act_skel
  simp only [k0_part2_eq_skeleton]; unfold k0_part2_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; (try delta Cert.Kernel10Ideal.Act.runFirst.sl.v3); (try delta Cert.Kernel10Ideal.Act.runFirst.sl.v53); (try delta Cert.Kernel10Ideal.Act.runFirst.sl.v70); (try delta Cert.Kernel10Ideal.Act.runFirst.sl.v80); (try delta Cert.Kernel10Ideal.Act.runFirst.sl.H10_1); (try delta Cert.Kernel10Ideal.Act.runFirst.sl.H8_1); (try delta Cert.Kernel10Ideal.Act.runFirst.sl.H9_1); (try delta Cert.Kernel10Ideal.Act.runFirst.sl.H7_1); (try delta Cert.Kernel10Ideal.Act.runFirst.sl.H6_1); simp (disch := decide) only [read_whole, View.readAt_eq_ld, View.ld_unit_lit', View.readCov_unit_lit', View.readCov_cons_unit_lit', Memref.IsWhole.read_unread]
  isplitl [H7]
  · iexists _; isplitr; swap; · iexact H7
    ipureintro; (try delta Cert.Kernel10Ideal.Act.runFirst.sl.v3); (try delta Cert.Kernel10Ideal.Act.runFirst.sl.v53); (try delta Cert.Kernel10Ideal.Act.runFirst.sl.v70); (try delta Cert.Kernel10Ideal.Act.runFirst.sl.v80); (try delta Cert.Kernel10Ideal.Act.runFirst.sl.H10_1); (try delta Cert.Kernel10Ideal.Act.runFirst.sl.H8_1); (try delta Cert.Kernel10Ideal.Act.runFirst.sl.H9_1); (try delta Cert.Kernel10Ideal.Act.runFirst.sl.H7_1); (try delta Cert.Kernel10Ideal.Act.runFirst.sl.H6_1); simp (disch := decide) only [read_whole, View.readAt_eq_ld, View.ld_unit_lit', View.readCov_unit_lit', View.readCov_cons_unit_lit', Memref.IsWhole.read_unread]
  isplitl [H8]
  · iexists _; isplitr; swap; · iexact H8
    ipureintro; (try delta Cert.Kernel10Ideal.Act.runFirst.sl.v3); (try delta Cert.Kernel10Ideal.Act.runFirst.sl.v53); (try delta Cert.Kernel10Ideal.Act.runFirst.sl.v70); (try delta Cert.Kernel10Ideal.Act.runFirst.sl.v80); (try delta Cert.Kernel10Ideal.Act.runFirst.sl.H10_1); (try delta Cert.Kernel10Ideal.Act.runFirst.sl.H8_1); (try delta Cert.Kernel10Ideal.Act.runFirst.sl.H9_1); (try delta Cert.Kernel10Ideal.Act.runFirst.sl.H7_1); (try delta Cert.Kernel10Ideal.Act.runFirst.sl.H6_1); simp (disch := decide) only [read_whole, View.readAt_eq_ld, View.ld_unit_lit', View.readCov_unit_lit', View.readCov_cons_unit_lit', Memref.IsWhole.read_unread]
  isplitl [H9]
  · iexists _; isplitr; swap; · iexact H9
    ipureintro; (try delta Cert.Kernel10Ideal.Act.runFirst.sl.v3); (try delta Cert.Kernel10Ideal.Act.runFirst.sl.v53); (try delta Cert.Kernel10Ideal.Act.runFirst.sl.v70); (try delta Cert.Kernel10Ideal.Act.runFirst.sl.v80); (try delta Cert.Kernel10Ideal.Act.runFirst.sl.H10_1); (try delta Cert.Kernel10Ideal.Act.runFirst.sl.H8_1); (try delta Cert.Kernel10Ideal.Act.runFirst.sl.H9_1); (try delta Cert.Kernel10Ideal.Act.runFirst.sl.H7_1); (try delta Cert.Kernel10Ideal.Act.runFirst.sl.H6_1); simp (disch := decide) only [read_whole, View.readAt_eq_ld, View.ld_unit_lit', View.readCov_unit_lit', View.readCov_cons_unit_lit', Memref.IsWhole.read_unread]
  iexists _; isplitr; swap; · iexact H10
  ipureintro; (try delta Cert.Kernel10Ideal.Act.runFirst.sl.v3); (try delta Cert.Kernel10Ideal.Act.runFirst.sl.v53); (try delta Cert.Kernel10Ideal.Act.runFirst.sl.v70); (try delta Cert.Kernel10Ideal.Act.runFirst.sl.v80); (try delta Cert.Kernel10Ideal.Act.runFirst.sl.H10_1); (try delta Cert.Kernel10Ideal.Act.runFirst.sl.H8_1); (try delta Cert.Kernel10Ideal.Act.runFirst.sl.H9_1); (try delta Cert.Kernel10Ideal.Act.runFirst.sl.H7_1); (try delta Cert.Kernel10Ideal.Act.runFirst.sl.H6_1); simp (disch := decide) only [read_whole, View.readAt_eq_ld, View.ld_unit_lit', View.readCov_unit_lit', View.readCov_cons_unit_lit', Memref.IsWhole.read_unread]

set_option maxHeartbeats 2000000 in
/-- At the other row block's first point the rows' gradient is stored, the gain's grows, and the activations' gradients are taken. -/
theorem runNext (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x1024x704 .f32) (harg6 : arg6.IsWhole) (arg7 : Memref sig .tc .vmem S1x1024x704 .f32) (harg7 : arg7.IsWhole) (arg8 : Memref sig .tc .vmem S1x1024x704 .bf16) (harg8 : arg8.IsWhole) (arg9 : Memref sig .tc .vmem S1x1024x704 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (hc1 : k0_cond1 i = 1#1) (hc2 : ¬k0_cond2 i = 1#1) (hc3 : k0_cond3 i = 1#1)
    (x0 x1 : Vec F S1024x1024 .f32) (x2 : Vec F S1x1024 .f32) (x3 : Vec F S1x704x1024 .bf16) (x4 x5 : Vec F S1x1024x704 .f32) (xg : Vec F S1x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xg ∗ (∃ d, owns (c : Thread nD τ) arg12 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay1 (k0_pay14 (k0_pay6 x1 x2 x0) x3 x4 x5)) ∗ owns (c : Thread nD τ) arg9 fullShare (k0_pay13 (k0_pay6 x1 x2 x0) x3 x4) ∗ owns (c : Thread nD τ) arg10 fullShare (k0_pay7 (k0_pay6 x1 x2 x0)) ∗ owns (c : Thread nD τ) arg11 fullShare (k0_pay9 (k0_pay5 x1 x0) xg) ∗ owns (c : Thread nD τ) arg12 fullShare (k0_pay6 x1 x2 x0)) -∗ K ⟨⟩))
      ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12) K := by
  simp only [cc0_ffn_bwd_act_eq_skeleton]; unfold cc0_ffn_bwd_act_skel
  simp only [k0_part2_eq_skeleton]; unfold k0_part2_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%d10, %f10, -, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hf9
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; (try delta Cert.Kernel10Ideal.Act.runNext.sl.v3); (try delta Cert.Kernel10Ideal.Act.runNext.sl.v53); (try delta Cert.Kernel10Ideal.Act.runNext.sl.v70); (try delta Cert.Kernel10Ideal.Act.runNext.sl.v80); (try delta Cert.Kernel10Ideal.Act.runNext.sl.H10_1); (try delta Cert.Kernel10Ideal.Act.runNext.sl.H8_1); (try delta Cert.Kernel10Ideal.Act.runNext.sl.H9_1); (try delta Cert.Kernel10Ideal.Act.runNext.sl.H7_1); (try delta Cert.Kernel10Ideal.Act.runNext.sl.H6_1); simp (disch := decide) only [read_whole, View.readAt_eq_ld, View.ld_unit_lit', View.readCov_unit_lit', View.readCov_cons_unit_lit', Memref.IsWhole.read_unread]
  isplitl [H7]
  · iexists _; isplitr; swap; · iexact H7
    ipureintro; (try delta Cert.Kernel10Ideal.Act.runNext.sl.v3); (try delta Cert.Kernel10Ideal.Act.runNext.sl.v53); (try delta Cert.Kernel10Ideal.Act.runNext.sl.v70); (try delta Cert.Kernel10Ideal.Act.runNext.sl.v80); (try delta Cert.Kernel10Ideal.Act.runNext.sl.H10_1); (try delta Cert.Kernel10Ideal.Act.runNext.sl.H8_1); (try delta Cert.Kernel10Ideal.Act.runNext.sl.H9_1); (try delta Cert.Kernel10Ideal.Act.runNext.sl.H7_1); (try delta Cert.Kernel10Ideal.Act.runNext.sl.H6_1); simp (disch := decide) only [read_whole, View.readAt_eq_ld, View.ld_unit_lit', View.readCov_unit_lit', View.readCov_cons_unit_lit', Memref.IsWhole.read_unread]
  isplitl [H8]
  · iexists _; isplitr; swap; · iexact H8
    ipureintro; (try delta Cert.Kernel10Ideal.Act.runNext.sl.v3); (try delta Cert.Kernel10Ideal.Act.runNext.sl.v53); (try delta Cert.Kernel10Ideal.Act.runNext.sl.v70); (try delta Cert.Kernel10Ideal.Act.runNext.sl.v80); (try delta Cert.Kernel10Ideal.Act.runNext.sl.H10_1); (try delta Cert.Kernel10Ideal.Act.runNext.sl.H8_1); (try delta Cert.Kernel10Ideal.Act.runNext.sl.H9_1); (try delta Cert.Kernel10Ideal.Act.runNext.sl.H7_1); (try delta Cert.Kernel10Ideal.Act.runNext.sl.H6_1); simp (disch := decide) only [read_whole, View.readAt_eq_ld, View.ld_unit_lit', View.readCov_unit_lit', View.readCov_cons_unit_lit', Memref.IsWhole.read_unread]
  isplitl [H9]
  · iexists _; isplitr; swap; · iexact H9
    ipureintro; (try delta Cert.Kernel10Ideal.Act.runNext.sl.v3); (try delta Cert.Kernel10Ideal.Act.runNext.sl.v53); (try delta Cert.Kernel10Ideal.Act.runNext.sl.v70); (try delta Cert.Kernel10Ideal.Act.runNext.sl.v80); (try delta Cert.Kernel10Ideal.Act.runNext.sl.H10_1); (try delta Cert.Kernel10Ideal.Act.runNext.sl.H8_1); (try delta Cert.Kernel10Ideal.Act.runNext.sl.H9_1); (try delta Cert.Kernel10Ideal.Act.runNext.sl.H7_1); (try delta Cert.Kernel10Ideal.Act.runNext.sl.H6_1); simp (disch := decide) only [read_whole, View.readAt_eq_ld, View.ld_unit_lit', View.readCov_unit_lit', View.readCov_cons_unit_lit', Memref.IsWhole.read_unread]
  iexists _; isplitr; swap; · iexact H10
  ipureintro; (try delta Cert.Kernel10Ideal.Act.runNext.sl.v3); (try delta Cert.Kernel10Ideal.Act.runNext.sl.v53); (try delta Cert.Kernel10Ideal.Act.runNext.sl.v70); (try delta Cert.Kernel10Ideal.Act.runNext.sl.v80); (try delta Cert.Kernel10Ideal.Act.runNext.sl.H10_1); (try delta Cert.Kernel10Ideal.Act.runNext.sl.H8_1); (try delta Cert.Kernel10Ideal.Act.runNext.sl.H9_1); (try delta Cert.Kernel10Ideal.Act.runNext.sl.H7_1); (try delta Cert.Kernel10Ideal.Act.runNext.sl.H6_1); simp (disch := decide) only [read_whole, View.readAt_eq_ld, View.ld_unit_lit', View.readCov_unit_lit', View.readCov_cons_unit_lit', Memref.IsWhole.read_unread]

set_option maxHeartbeats 2000000 in
/-- At every other point the activations' gradients are taken of the rows' gradient found. -/
theorem runRest (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1x704x1024 .bf16) (harg5 : arg5.IsWhole) (arg6 : Memref sig .tc .vmem S1x1024x704 .f32) (harg6 : arg6.IsWhole) (arg7 : Memref sig .tc .vmem S1x1024x704 .f32) (harg7 : arg7.IsWhole) (arg8 : Memref sig .tc .vmem S1x1024x704 .bf16) (harg8 : arg8.IsWhole) (arg9 : Memref sig .tc .vmem S1x1024x704 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1024x1024 .bf16) (harg12 : arg12.IsWhole) (hc1 : ¬k0_cond1 i = 1#1)
    (x0 x1 : Vec F S1024x1024 .f32) (x2 : Vec F S1x1024 .f32) (x3 : Vec F S1x704x1024 .bf16) (x4 x5 : Vec F S1x1024x704 .f32) (xf : Vec F S1024x1024 .bf16) (xg : Vec F S1x1024 .f32) (xs : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xf ∗ owns (c : Thread nD τ) arg11 fullShare xg ∗ owns (c : Thread nD τ) arg12 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay1 (k0_pay14 xs x3 x4 x5)) ∗ owns (c : Thread nD τ) arg9 fullShare (k0_pay13 xs x3 x4) ∗ owns (c : Thread nD τ) arg10 fullShare xf ∗ owns (c : Thread nD τ) arg11 fullShare xg ∗ owns (c : Thread nD τ) arg12 fullShare xs) -∗ K ⟨⟩))
      ⊢ wp frame (wpE (defs₀ (F := F)) Variants.none c none) E (cc0_ffn_bwd_act i arg2 harg2 arg3 harg3 arg4 harg4 arg5 harg5 arg6 harg6 arg7 harg7 arg8 harg8 arg9 harg9 arg10 harg10 arg11 harg11 arg12 harg12) K := by
  simp only [cc0_ffn_bwd_act_eq_skeleton]; unfold cc0_ffn_bwd_act_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%f10, %hf10, H10⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8; obtain rfl := harg11.eq_unread hf9; obtain rfl := harg12.eq_unread hf10
  sl_exec (disch := sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; (try delta Cert.Kernel10Ideal.Act.runRest.sl.v3); (try delta Cert.Kernel10Ideal.Act.runRest.sl.v53); (try delta Cert.Kernel10Ideal.Act.runRest.sl.v70); (try delta Cert.Kernel10Ideal.Act.runRest.sl.v80); (try delta Cert.Kernel10Ideal.Act.runRest.sl.H10_1); (try delta Cert.Kernel10Ideal.Act.runRest.sl.H8_1); (try delta Cert.Kernel10Ideal.Act.runRest.sl.H9_1); (try delta Cert.Kernel10Ideal.Act.runRest.sl.H7_1); (try delta Cert.Kernel10Ideal.Act.runRest.sl.H6_1); simp (disch := decide) only [read_whole, View.readAt_eq_ld, View.ld_unit_lit', View.readCov_unit_lit', View.readCov_cons_unit_lit', Memref.IsWhole.read_unread]
  isplitl [H7]
  · iexists _; isplitr; swap; · iexact H7
    ipureintro; (try delta Cert.Kernel10Ideal.Act.runRest.sl.v3); (try delta Cert.Kernel10Ideal.Act.runRest.sl.v53); (try delta Cert.Kernel10Ideal.Act.runRest.sl.v70); (try delta Cert.Kernel10Ideal.Act.runRest.sl.v80); (try delta Cert.Kernel10Ideal.Act.runRest.sl.H10_1); (try delta Cert.Kernel10Ideal.Act.runRest.sl.H8_1); (try delta Cert.Kernel10Ideal.Act.runRest.sl.H9_1); (try delta Cert.Kernel10Ideal.Act.runRest.sl.H7_1); (try delta Cert.Kernel10Ideal.Act.runRest.sl.H6_1); simp (disch := decide) only [read_whole, View.readAt_eq_ld, View.ld_unit_lit', View.readCov_unit_lit', View.readCov_cons_unit_lit', Memref.IsWhole.read_unread]
  isplitl [H8]
  · iexists _; isplitr; · ipureintro; exact harg10.read_unread _
    iexact H8
  isplitl [H9]
  · iexists _; isplitr; · ipureintro; exact harg11.read_unread _
    iexact H9
  iexists _; isplitr; · ipureintro; exact harg12.read_unread _
  iexact H10

end Cert.Kernel10Ideal.Act

end
-- ==== Proof.ActFrame.lean ====
module

public import proofs.«01_k».proof.Proof.ActRun
public import Idealize.ShloMosaic.Lib.Claim
public import Idealize.ShloMosaic.Lib.Pipeline.TableIdle

@[expose] public section

set_option maxRecDepth 16384

/-! # The run of the FFN's backward pass to its activations: what every window holds after each point of the grid -/

noncomputable section

namespace Cert.Kernel10Ideal.Act

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' block indices: point `t` works on row block `t / 4` and shard `t % 4`. -/
theorem idx : ∀ t : Fin cfg0.N, win0_0.index t = ![t.val / 4, 0]
    ∧ win0_1.index t = ![t.val / 4, 0]
    ∧ win0_2.index t = ![0, 0]
    ∧ win0_3.index t = ![t.val % 4, 0, 0]
    ∧ win0_4.index t = ![t.val % 4, t.val / 4, 0]
    ∧ win0_5.index t = ![t.val % 4, t.val / 4, 0]
    ∧ win0_6.index t = ![t.val % 4, t.val / 4, 0]
    ∧ win0_7.index t = ![t.val % 4, t.val / 4, 0]
    ∧ win0_8.index t = ![t.val / 4, 0]
    ∧ win0_9.index t = ![0, 0] :=
  (by decide +kernel : ∀ t : Fin grid0.N, _)

/-- The rows' gradient is stored at the first point of a row block. -/
theorem first_iff : ∀ t : Fin cfg0.N, k0_cond1 (grid0.coords t) = 1#1 ↔ t.val % 4 = 0 :=
  (by decide +kernel : ∀ t : Fin grid0.N, k0_cond1 (grid0.coords t) = 1#1 ↔ t.val % 4 = 0)

/-- The gain's gradient starts in the first row block. -/
theorem start_iff : ∀ t : Fin cfg0.N, k0_cond2 (grid0.coords t) = 1#1 ↔ t.val / 4 = 0 :=
  (by decide +kernel : ∀ t : Fin grid0.N, k0_cond2 (grid0.coords t) = 1#1 ↔ t.val / 4 = 0)

/-- The gain's gradient grows in the other. -/
theorem next_iff : ∀ t : Fin cfg0.N, k0_cond3 (grid0.coords t) = 1#1 ↔ ¬t.val / 4 = 0 :=
  (by decide +kernel : ∀ t : Fin grid0.N, k0_cond3 (grid0.coords t) = 1#1 ↔ ¬t.val / 4 = 0)

/-- The window of the rows' gradient is idle at every point but the first of a row block. -/
theorem idle8 : ∀ t : Fin cfg0.N, cfg0.idle 8 (grid0.coords t) = !(decide (t.val % 4 = 0)) :=
  (by decide +kernel : ∀ t : Fin grid0.N, cfg0.idle 8 (grid0.coords t) = !(decide (t.val % 4 = 0)))

/-- The gain's window is idle at every point but the first of a row block. -/
theorem idle9 : ∀ t : Fin cfg0.N, cfg0.idle 9 (grid0.coords t) = !(decide (t.val % 4 = 0)) :=
  (by decide +kernel : ∀ t : Fin grid0.N, cfg0.idle 9 (grid0.coords t) = !(decide (t.val % 4 = 0)))

/-- The window of the rows' gradient holds nothing known exactly at the first point of a row block. -/
theorem fresh8 : ∀ t : Fin cfg0.N, cfg0.fresh 8 t.val = decide (t.val % 4 = 0) :=
  (by decide +kernel : ∀ t : Fin grid0.N, cfg0.fresh 8 t.val = decide (t.val % 4 = 0))

/-- The gain's window holds nothing known exactly at the first point. -/
theorem fresh9 : ∀ t : Fin cfg0.N, cfg0.fresh 9 t.val = decide (t.val = 0) :=
  (by decide +kernel : ∀ t : Fin grid0.N, cfg0.fresh 9 t.val = decide (t.val = 0))

/-- Window 0's staging buffer at a point. -/
abbrev ms0 (t : Fin cfg0.N) : Memref sig .tc .vmem S1024x1024 .f32 := win0_0.stage (cfg0.slots t 0)
/-- Window 1's staging buffer at a point. -/
abbrev ms1 (t : Fin cfg0.N) : Memref sig .tc .vmem S1024x1024 .f32 := win0_1.stage (cfg0.slots t 1)
/-- Window 2's staging buffer at a point. -/
abbrev ms2 (t : Fin cfg0.N) : Memref sig .tc .vmem S1x1024 .f32 := win0_2.stage (cfg0.slots t 2)
/-- Window 3's staging buffer at a point. -/
abbrev ms3 (t : Fin cfg0.N) : Memref sig .tc .vmem S1x704x1024 .bf16 := win0_3.stage (cfg0.slots t 3)
/-- Window 4's staging buffer at a point. -/
abbrev ms4 (t : Fin cfg0.N) : Memref sig .tc .vmem S1x1024x704 .f32 := win0_4.stage (cfg0.slots t 4)
/-- Window 5's staging buffer at a point. -/
abbrev ms5 (t : Fin cfg0.N) : Memref sig .tc .vmem S1x1024x704 .f32 := win0_5.stage (cfg0.slots t 5)
/-- Window 6's staging buffer at a point. -/
abbrev ms6 (t : Fin cfg0.N) : Memref sig .tc .vmem S1x1024x704 .bf16 := win0_6.stage (cfg0.slots t 6)
/-- Window 7's staging buffer at a point. -/
abbrev ms7 (t : Fin cfg0.N) : Memref sig .tc .vmem S1x1024x704 .bf16 := win0_7.stage (cfg0.slots t 7)
/-- Window 8's staging buffer at a point. -/
abbrev ms8 (t : Fin cfg0.N) : Memref sig .tc .vmem S1024x1024 .bf16 := win0_8.stage (cfg0.slots t 8)
/-- Window 9's staging buffer at a point. -/
abbrev ms9 (t : Fin cfg0.N) : Memref sig .tc .vmem S1x1024 .f32 := win0_9.stage (cfg0.slots t 9)

/-- The buffer the body keeps the rows' gradient in. -/
abbrev kept : Memref sig .tc .vmem S1024x1024 .bf16 := Memref.whole cc0_scratch0

/-- The launch's invariant with that buffer named. -/
theorem PhiA_eq (c : Dev nD) : (Pipeline.ΦA spec0 c : sProp 𝕄) = iprop(iprop((∃ d, owns (c : Thread nD τ) kept fullShare d)) ∗ (∃ r, prngReg c r)) := by
  unfold Pipeline.ΦA; rw [scopedRest0_eq]; simp only [kept, owns_whole]; try rfl

/-- The rows' gradient in the row block a point belongs to. -/
def dfAt (c : Dev nD) (t : Fin cfg0.N) : FVec F S1024x1024 .bf16 := k0_pay6 (iblk m c 1 t) (iblk m c 2 t) (iblk m c 0 t)

/-- A row block's share of the gain's gradient. -/
def shareAt (c : Dev nD) (t : Fin cfg0.N) : FVec F S1x1024 .f32 := k0_pay5 (iblk m c 1 t) (iblk m c 0 t)

/-- The gain's gradient as far as the row blocks have come. -/
def gainAt (c : Dev nD) : (n : ℕ) → n < cfg0.N → Vec F S1x1024 .f32
  | 0, h => k0_pay8 (shareAt m c ⟨0, h⟩)
  | n + 1, h => if (n + 1) % 4 = 0 then k0_pay9 (shareAt m c ⟨n + 1, h⟩) (gainAt c n (Nat.lt_of_succ_lt h)) else gainAt c n (Nat.lt_of_succ_lt h)

/-- It starts at the first point. -/
theorem gainAt_zero (c : Dev nD) : ∀ t : Fin cfg0.N, t.val = 0 → gainAt m c t.val t.isLt = k0_pay8 (shareAt m c t)
  | ⟨0, _⟩, _ => rfl
  | ⟨n + 1, h⟩, e => absurd e (Nat.succ_ne_zero n)

/-- It grows at the other row block's first point. -/
theorem gainAt_next (c : Dev nD) : ∀ t : Fin cfg0.N, t.val % 4 = 0 → t.val ≠ 0 →
    gainAt m c t.val t.isLt = k0_pay9 (shareAt m c t) (gainAt m c (t.val - 1) (Nat.lt_of_le_of_lt (Nat.sub_le _ _) t.isLt))
  | ⟨0, _⟩, _, e => absurd rfl e
  | ⟨n + 1, h⟩, e, _ => if_pos e

/-- It stays at every other point. -/
theorem gainAt_rest (c : Dev nD) : ∀ t : Fin cfg0.N, ¬t.val % 4 = 0 →
    gainAt m c t.val t.isLt = gainAt m c (t.val - 1) (Nat.lt_of_le_of_lt (Nat.sub_le _ _) t.isLt)
  | ⟨0, _⟩, e => absurd rfl e
  | ⟨n + 1, h⟩, e => if_neg e

/-- What holds between the points: from the first on, the kept buffer holds the rows' gradient. -/
def PhiS (c : Dev nD) : (n : ℕ) → n ≤ cfg0.N → sProp 𝕄
  | 0, _ => Pipeline.ΦA spec0 c
  | n + 1, hn => iprop(owns (c : Thread nD τ) kept fullShare (dfAt m c ⟨n, hn⟩) ∗ (∃ r, prngReg c r))

/-- Before the first point nothing is known. -/
theorem PhiS_zero (c : Dev nD) (n : ℕ) (h : n ≤ cfg0.N) (hz : n = 0) : PhiS m c n h = Pipeline.ΦA spec0 c := by
  subst hz; rfl

/-- After a point. -/
theorem PhiS_succ (c : Dev nD) (n : ℕ) (hn : n < cfg0.N) :
    PhiS m c (n + 1) hn = iprop(owns (c : Thread nD τ) kept fullShare (dfAt m c ⟨n, hn⟩) ∗ (∃ r, prngReg c r)) := rfl

/-- Before any other point. -/
theorem PhiS_pos (c : Dev nD) (n : ℕ) (h : n ≤ cfg0.N) (hz : n ≠ 0) :
    PhiS m c n h = iprop(owns (c : Thread nD τ) kept fullShare (dfAt m c ⟨n - 1, by omega⟩) ∗ (∃ r, prngReg c r)) := by
  cases n with
  | zero => exact absurd rfl hz
  | succ n => rfl

/-- What every window's staging buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay1 (k0_pay14 (dfAt m c t) (iblk m c 3 t) (iblk m c 4 t) (iblk m c 5 t))
    | ⟨7, _⟩ => k0_pay13 (dfAt m c t) (iblk m c 3 t) (iblk m c 4 t)
    | ⟨8, _⟩ => k0_pay7 (dfAt m c t)
    | ⟨9, _⟩ => gainAt m c t.val t.isLt
    | ⟨_ + 10, h⟩ => absurd h (Nat.not_lt.2 (Nat.le_add_left _ _))
  Φ t := PhiS m c t.val (Nat.le_of_lt_succ t.isLt)
  q _ := fullShare
  owed _ := 0

/-- The arrays are as the region finds them. -/
theorem A_eq (c : Dev nD) (w : Fin cfg0.W) : (dats m 0 c).A w = V m c (Pipeline.arrRef spec0 w) := by
  dsimp only [dats]

/-- What holds before a point. -/
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-- Window 0 after the body. -/
theorem after0 (c : Dev nD) (t : Fin cfg0.N) : (dats m 0 c).after 0 t = iblk m c 0 t := by dsimp only [dats]
/-- Window 1 after the body. -/
theorem after1 (c : Dev nD) (t : Fin cfg0.N) : (dats m 0 c).after 1 t = iblk m c 1 t := by dsimp only [dats]
/-- Window 2 after the body. -/
theorem after2 (c : Dev nD) (t : Fin cfg0.N) : (dats m 0 c).after 2 t = iblk m c 2 t := by dsimp only [dats]
/-- Window 3 after the body. -/
theorem after3 (c : Dev nD) (t : Fin cfg0.N) : (dats m 0 c).after 3 t = iblk m c 3 t := by dsimp only [dats]
/-- Window 4 after the body. -/
theorem after4 (c : Dev nD) (t : Fin cfg0.N) : (dats m 0 c).after 4 t = iblk m c 4 t := by dsimp only [dats]
/-- Window 5 after the body. -/
theorem after5 (c : Dev nD) (t : Fin cfg0.N) : (dats m 0 c).after 5 t = iblk m c 5 t := by dsimp only [dats]
/-- Window 6 after the body. -/
theorem after6 (c : Dev nD) (t : Fin cfg0.N) : (dats m 0 c).after 6 t = k0_pay1 (k0_pay14 (dfAt m c t) (iblk m c 3 t) (iblk m c 4 t) (iblk m c 5 t)) := by dsimp only [dats]
/-- Window 7 after the body. -/
theorem after7 (c : Dev nD) (t : Fin cfg0.N) : (dats m 0 c).after 7 t = k0_pay13 (dfAt m c t) (iblk m c 3 t) (iblk m c 4 t) := by dsimp only [dats]
/-- Window 8 after the body. -/
theorem after8 (c : Dev nD) (t : Fin cfg0.N) : (dats m 0 c).after 8 t = k0_pay7 (dfAt m c t) := by dsimp only [dats]
/-- Window 9 after the body. -/
theorem after9 (c : Dev nD) (t : Fin cfg0.N) : (dats m 0 c).after 9 t = gainAt m c t.val t.isLt := by dsimp only [dats]
/-- Window 0 before the body. -/
theorem before0 (c : Dev nD) (t : Fin cfg0.N) (d) : (dats m 0 c).before 0 t d = iblk m c 0 t :=
  before0_0_of m (dats m 0 c) (A_eq m c 0) (after0 m c) t d
/-- Window 1 before the body. -/
theorem before1 (c : Dev nD) (t : Fin cfg0.N) (d) : (dats m 0 c).before 1 t d = iblk m c 1 t :=
  before0_1_of m (dats m 0 c) (A_eq m c 1) (after1 m c) t d
/-- Window 2 before the body. -/
theorem before2 (c : Dev nD) (t : Fin cfg0.N) (d) : (dats m 0 c).before 2 t d = iblk m c 2 t :=
  before0_2_of m (dats m 0 c) (A_eq m c 2) (after2 m c) t d
/-- Window 3 before the body. -/
theorem before3 (c : Dev nD) (t : Fin cfg0.N) (d) : (dats m 0 c).before 3 t d = iblk m c 3 t :=
  before0_3_of m (dats m 0 c) (A_eq m c 3) (after3 m c) t d
/-- Window 4 before the body. -/
theorem before4 (c : Dev nD) (t : Fin cfg0.N) (d) : (dats m 0 c).before 4 t d = iblk m c 4 t :=
  before0_4_of m (dats m 0 c) (A_eq m c 4) (after4 m c) t d
/-- Window 5 before the body. -/
theorem before5 (c : Dev nD) (t : Fin cfg0.N) (d) : (dats m 0 c).before 5 t d = iblk m c 5 t :=
  before0_5_of m (dats m 0 c) (A_eq m c 5) (after5 m c) t d

/-- Within a row block the rows' gradient is the same at every point. -/
theorem dfAt_pred (c : Dev nD) (t : Fin cfg0.N) (h : t.val % 4 ≠ 0) : dfAt m c t = dfAt m c ⟨t.val - 1, by omega⟩ := by
  have hN : t.val < 8 := lt_of_lt_of_eq t.isLt N_0
  unfold dfAt
  have e0 : iblk m c 0 t = iblk m c 0 ⟨t.val - 1, by omega⟩ := by
    funext y
    blk_point [iblk, V, idx t, idx ⟨t.val - 1, by omega⟩]
  have e1 : iblk m c 1 t = iblk m c 1 ⟨t.val - 1, by omega⟩ := by
    funext y
    blk_point [iblk, V, idx t, idx ⟨t.val - 1, by omega⟩]
  have e2 : iblk m c 2 t = iblk m c 2 ⟨t.val - 1, by omega⟩ := by
    funext y
    blk_point [iblk, V, idx t, idx ⟨t.val - 1, by omega⟩]
  rw [e0, e1, e2]

/-- The window of the rows' gradient before the body, at every point but the first of a row block. -/
theorem before8 (c : Dev nD) (t : Fin cfg0.N) (h : t.val % 4 ≠ 0) (d) : (dats m 0 c).before 8 t d = k0_pay7 (dfAt m c t) := by
  rw [Dat.before_out_traj (dats m 0 c) 8 rfl (fun _ _ => rfl) (fun t _ hi hf => by
      rw [idle8] at hi
      rw [after8, after8]
      exact congrArg k0_pay7 (dfAt_pred m c t (by simpa using hi))) t.val t rfl d, fresh8, if_neg (by simpa using h), after8]
  exact congrArg k0_pay7 (dfAt_pred m c t h).symm

/-- The gain's window before the body, at every point but the first. -/
theorem before9 (c : Dev nD) (t : Fin cfg0.N) (h : t.val ≠ 0) (d) :
    (dats m 0 c).before 9 t d = gainAt m c (t.val - 1) (Nat.lt_of_le_of_lt (Nat.sub_le _ _) t.isLt) := by
  rw [Dat.before_out_traj (dats m 0 c) 9 rfl (fun _ _ => rfl) (fun t _ hi hf => by
      rw [idle9] at hi
      rw [after9, after9]
      exact gainAt_rest m c t (by simpa using hi)) t.val t rfl d, fresh9, if_neg (by simpa using h), after9]

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- What the body leaves at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- Window 0 is never idle. -/
theorem leaves0 (c : Dev nD) (t : Fin cfg0.N) : (dats m 0 c).leavesExact 0 t = owns (c : Thread nD τ) (ms0 t) fullShare ((dats m 0 c).after 0 t) := by
  unfold Dat.leavesExact; rw [show cfg0.idle 0 (cfg0.grid.coords t) = false from rfl]
/-- Window 1 is never idle. -/
theorem leaves1 (c : Dev nD) (t : Fin cfg0.N) : (dats m 0 c).leavesExact 1 t = owns (c : Thread nD τ) (ms1 t) fullShare ((dats m 0 c).after 1 t) := by
  unfold Dat.leavesExact; rw [show cfg0.idle 1 (cfg0.grid.coords t) = false from rfl]
/-- Window 2 is never idle. -/
theorem leaves2 (c : Dev nD) (t : Fin cfg0.N) : (dats m 0 c).leavesExact 2 t = owns (c : Thread nD τ) (ms2 t) fullShare ((dats m 0 c).after 2 t) := by
  unfold Dat.leavesExact; rw [show cfg0.idle 2 (cfg0.grid.coords t) = false from rfl]
/-- Window 3 is never idle. -/
theorem leaves3 (c : Dev nD) (t : Fin cfg0.N) : (dats m 0 c).leavesExact 3 t = owns (c : Thread nD τ) (ms3 t) fullShare ((dats m 0 c).after 3 t) := by
  unfold Dat.leavesExact; rw [show cfg0.idle 3 (cfg0.grid.coords t) = false from rfl]
/-- Window 4 is never idle. -/
theorem leaves4 (c : Dev nD) (t : Fin cfg0.N) : (dats m 0 c).leavesExact 4 t = owns (c : Thread nD τ) (ms4 t) fullShare ((dats m 0 c).after 4 t) := by
  unfold Dat.leavesExact; rw [show cfg0.idle 4 (cfg0.grid.coords t) = false from rfl]
/-- Window 5 is never idle. -/
theorem leaves5 (c : Dev nD) (t : Fin cfg0.N) : (dats m 0 c).leavesExact 5 t = owns (c : Thread nD τ) (ms5 t) fullShare ((dats m 0 c).after 5 t) := by
  unfold Dat.leavesExact; rw [show cfg0.idle 5 (cfg0.grid.coords t) = false from rfl]
/-- Window 6 is never idle. -/
theorem leaves6 (c : Dev nD) (t : Fin cfg0.N) : (dats m 0 c).leavesExact 6 t = owns (c : Thread nD τ) (ms6 t) fullShare ((dats m 0 c).after 6 t) := by
  unfold Dat.leavesExact; rw [show cfg0.idle 6 (cfg0.grid.coords t) = false from rfl]
/-- Window 7 is never idle. -/
theorem leaves7 (c : Dev nD) (t : Fin cfg0.N) : (dats m 0 c).leavesExact 7 t = owns (c : Thread nD τ) (ms7 t) fullShare ((dats m 0 c).after 7 t) := by
  unfold Dat.leavesExact; rw [show cfg0.idle 7 (cfg0.grid.coords t) = false from rfl]

/-- The rows' gradient is enough for what the body leaves in its window. -/
theorem leaves8 (c : Dev nD) (t : Fin cfg0.N) : owns (c : Thread nD τ) (ms8 t) fullShare (k0_pay7 (dfAt m c t)) ⊢ ((dats m 0 c).leavesExact 8 t : sProp 𝕄) := by
  by_cases h : t.val % 4 = 0
  · unfold Dat.leavesExact; rw [show cfg0.idle 8 (cfg0.grid.coords t) = false from (idle8 t).trans (by simp [h]), after8]
  · have hi : cfg0.idle 8 (cfg0.grid.coords t) = true := (idle8 t).trans (by simp [h])
    cases hf : (cfg0.win 8).flush t
    · rw [Dat.leavesExact_idle (dats m 0 c) 8 t hi hf]
      iintro H
      iexists (k0_pay7 (dfAt m c t))
      rw [before8 m c t h]
      iexact H
    · unfold Dat.leavesExact; rw [hi, hf, after8]

/-- The gain's gradient is enough for what the body leaves in its window. -/
theorem leaves9 (c : Dev nD) (t : Fin cfg0.N) : owns (c : Thread nD τ) (ms9 t) fullShare (gainAt m c t.val t.isLt) ⊢ ((dats m 0 c).leavesExact 9 t : sProp 𝕄) := by
  by_cases h : t.val % 4 = 0
  · unfold Dat.leavesExact; rw [show cfg0.idle 9 (cfg0.grid.coords t) = false from (idle9 t).trans (by simp [h]), after9]
  · have hi : cfg0.idle 9 (cfg0.grid.coords t) = true := (idle9 t).trans (by simp [h])
    cases hf : (cfg0.win 9).flush t
    · rw [Dat.leavesExact_idle (dats m 0 c) 9 t hi hf]
      iintro H
      iexists (gainAt m c t.val t.isLt)
      rw [before9 m c t (fun e => h (by rw [e])), ← gainAt_rest m c t h]
      iexact H
    · unfold Dat.leavesExact; rw [hi, hf, after9]

set_option maxHeartbeats 1600000 in
/-- The body at the first point. -/
theorem soundFirst (c : Dev nD) (t : Fin cfg0.N) (hz : t.val = 0) :
    bodyPre m c t ⊢ wp frame (wpE (defs₀ (F := F)) Variants.none c none) Set.univ (bodyAt0 t) (fun _ => bodyPost m c t) := by
  have h0 : t.val % 4 = 0 := by omega
  have hq : t.val / 4 = 0 := by omega
  unfold bodyPre bodyPost bodyAt0
  simp only [before0, before1, before2, before3, before4, before5]
  rw [show (dats m 0 c).Φ t.succ = PhiS m c (t.val + 1) t.isLt from rfl, PhiS_succ, PhiS_castSucc,
    show (dats m 0 c).owesAt () t.succ = (dats m 0 c).owesAt () t.castSucc from rfl]
  rw [leaves0, leaves1, leaves2, leaves3, leaves4, leaves5, leaves6, leaves7, after0, after1, after2, after3, after4, after5, after6, after7, PhiS_zero m c _ _ hz, PhiA_eq]
  iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runFirst c (grid0.coords t) _ _ _ _ _ _ _ _ _ _ _ _ _ _ _ _ _ _ _ _ _ _ ((first_iff t).mpr h0) ((start_iff t).mpr hq) (fun h => (next_iff t).mp h hq) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS]; · iexact HS
  iintro ⟨H0, H1, H2, H3, H4, H5, H6, H7, H8, H9, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply leaves8 m c t; iexact H8
  iapply leaves9 m c t; rw [gainAt_zero m c t hz]; iexact H9

set_option maxHeartbeats 1600000 in
/-- The body at the other row block's first point. -/
theorem soundNext (c : Dev nD) (t : Fin cfg0.N) (h0 : t.val % 4 = 0) (hz : t.val ≠ 0) :
    bodyPre m c t ⊢ wp frame (wpE (defs₀ (F := F)) Variants.none c none) Set.univ (bodyAt0 t) (fun _ => bodyPost m c t) := by
  have hq : ¬t.val / 4 = 0 := by omega
  unfold bodyPre bodyPost bodyAt0
  simp only [before0, before1, before2, before3, before4, before5, before9 m c t hz]
  rw [show (dats m 0 c).Φ t.succ = PhiS m c (t.val + 1) t.isLt from rfl, PhiS_succ, PhiS_castSucc,
    show (dats m 0 c).owesAt () t.succ = (dats m 0 c).owesAt () t.castSucc from rfl]
  rw [leaves0, leaves1, leaves2, leaves3, leaves4, leaves5, leaves6, leaves7, after0, after1, after2, after3, after4, after5, after6, after7, PhiS_pos m c _ _ hz]
  iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runNext c (grid0.coords t) _ _ _ _ _ _ _ _ _ _ _ _ _ _ _ _ _ _ _ _ _ _ ((first_iff t).mpr h0) (fun h => hq ((start_iff t).mp h)) ((next_iff t).mpr hq) (iblk m c 0 t) (iblk m c 1 t) (iblk m c 2 t) (iblk m c 3 t) (iblk m c 4 t) (iblk m c 5 t) (gainAt m c (t.val - 1) (Nat.lt_of_le_of_lt (Nat.sub_le _ _) t.isLt)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  isplitl [HS]; · iexists _; iexact HS
  iintro ⟨H0, H1, H2, H3, H4, H5, H6, H7, H8, H9, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply leaves8 m c t; iexact H8
  iapply leaves9 m c t; rw [gainAt_next m c t h0 hz]; iexact H9

set_option maxHeartbeats 1600000 in
/-- The body at every other point. -/
theorem soundRest (c : Dev nD) (t : Fin cfg0.N) (h0 : ¬t.val % 4 = 0) :
    bodyPre m c t ⊢ wp frame (wpE (defs₀ (F := F)) Variants.none c none) Set.univ (bodyAt0 t) (fun _ => bodyPost m c t) := by
  have hz : t.val ≠ 0 := fun e => h0 (by rw [e])
  unfold bodyPre bodyPost bodyAt0
  simp only [before0, before1, before2, before3, before4, before5, before9 m c t hz, before8 m c t h0]
  rw [show (dats m 0 c).Φ t.succ = PhiS m c (t.val + 1) t.isLt from rfl, PhiS_succ, PhiS_castSucc,
    show (dats m 0 c).owesAt () t.succ = (dats m 0 c).owesAt () t.castSucc from rfl]
  rw [leaves0, leaves1, leaves2, leaves3, leaves4, leaves5, leaves6, leaves7, after0, after1, after2, after3, after4, after5, after6, after7, PhiS_pos m c _ _ hz, ← dfAt_pred m c t h0, ← gainAt_rest m c t h0]
  iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runRest c (grid0.coords t) _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (k0_pay7 (dfAt m c t)) (gainAt m c t.val t.isLt) (dfAt m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [HS]; · iexact HS
  iintro ⟨H0, H1, H2, H3, H4, H5, H6, H7, H8, H9, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply leaves8 m c t; iexact H8
  iapply leaves9 m c t; iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 0
  · by_cases hz : t.val = 0
    · exact soundFirst m c t hz
    · exact soundNext m c t h0 hz
  · exact soundRest m c t h0

/-- What the launch gives is what holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- What holds after the last point gives back what the launch gave. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), PhiA_eq]
  iintro ⟨HS, Hr⟩
  isplitl [HS]
  · iexists _; iexact HS
  iexact Hr

/-- The body table's row at a point is the body there. -/
theorem defs₀_row (t : Fin cfg0.N) :
    defs₀ (F := F) .tc cfg0.body (cfg0.bodyArgs t (cfg0.slots t)) = bodyAt0 t := by
  unfold defs₀; rw [Defs.onTc_tc]

/-- The body does at every point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program, with every counter at zero at its end. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run of the whole program. -/
theorem run_main : θ_run defs (onTc (τ := τ) (main (F := F))) (s₀ m ρ) (Pipeline.FramePost cfgs (dats m) 0 (V m)) :=
  (θ_run defs _ _).mono (fun _ h => h.1) (run_main_quiescent m ρ)

/-- The run with each result named and the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, (h c).1 8, (h c).1 9, ((h c).1 0).trans (((dats m 0 c).arrAt_in 0 rfl _).trans ((A_eq m c 0).trans (V_main_arg0 m c))), ((h c).1 1).trans (((dats m 0 c).arrAt_in 1 rfl _).trans ((A_eq m c 1).trans (V_main_arg1 m c))), ((h c).1 2).trans (((dats m 0 c).arrAt_in 2 rfl _).trans ((A_eq m c 2).trans (V_main_arg2 m c))), ((h c).1 3).trans (((dats m 0 c).arrAt_in 3 rfl _).trans ((A_eq m c 3).trans (V_main_arg3 m c))), ((h c).1 4).trans (((dats m 0 c).arrAt_in 4 rfl _).trans ((A_eq m c 4).trans (V_main_arg4 m c))), ((h c).1 5).trans (((dats m 0 c).arrAt_in 5 rfl _).trans ((A_eq m c 5).trans (V_main_arg5 m c)))⟩)
    (run_main m ρ)

/-- The frame: the run finishes, the arguments are unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel10Ideal.Act

end
-- ==== Proof.Silu.lean ====
/- The logistic gate over the extended reals, and the two ways its derivative is written. -/
module

public import proofs.«01_k».proof.Proof.Rms

@[expose] public section

noncomputable section

open Idealize.ShloMosaic

namespace Cert.Silu

/-- The logistic function. -/
def sig (g : EReal) : EReal := Ideal.div 1 (1 + Ideal.exp (-g))

/-- It is a nonnegative real everywhere, at the infinities too. -/
theorem sig_real (g : EReal) : ∃ s : ℝ, 0 ≤ s ∧ sig g = (s : EReal) := by
  unfold sig
  induction g using EReal.rec with
  | bot =>
    refine ⟨0, le_rfl, ?_⟩
    rw [EReal.neg_bot]
    show Ideal.div 1 (1 + ⊤) = _
    have h : (1 : EReal) + ⊤ = ⊤ := EReal.coe_add_top 1
    rw [h]
    unfold Ideal.div
    simp
  | top =>
    refine ⟨1, zero_le_one, ?_⟩
    rw [EReal.neg_top]
    show Ideal.div 1 (1 + 0) = _
    unfold Ideal.div
    simp
  | coe r =>
    refine ⟨1 / (1 + Real.exp (-r)), by positivity, ?_⟩
    rw [← EReal.coe_neg]
    show Ideal.div 1 (1 + ((Real.exp (-r) : ℝ) : EReal)) = _
    have h : (1 : EReal) + ((Real.exp (-r) : ℝ) : EReal) = ((1 + Real.exp (-r) : ℝ) : EReal) := by push_cast; rfl
    rw [h, Ideal.div_coe (by positivity), one_mul]

/-- The gate's derivative by the product rule and with the logistic factor taken out. -/
theorem deriv (g : EReal) : sig g * (1 + g * (1 - sig g)) = 1 * sig g + g * (1 * (sig g * (1 - sig g))) := by
  obtain ⟨s, h0, h⟩ := sig_real g
  rw [h]
  have h0' : (0 : EReal) ≤ (s : EReal) := by exact_mod_cast h0
  rw [mul_comm, EReal.right_distrib_of_nonneg_of_ne_top h0' (EReal.coe_ne_top s)]
  simp only [one_mul]
  generalize (1 - (s : EReal)) = d
  congr 1
  ac_rfl

end Cert.Silu

end
-- ==== Proof.ActRef.lean ====
/- The gradients of the FFN's activations as the reference of its backward pass writes them. -/
module

public import proofs.«01_k».proof.Proof.Gen.Reference10Ideal.Run
public import proofs.«01_k».proof.Proof.Rms
public import proofs.«01_k».proof.Proof.Silu
public import Idealize.ShloMosaic.Lib.Pointwise
public import Idealize.ShloMosaic.Lib.Tactic.CleanTypes

@[expose] public section

set_option maxRecDepth 16384

noncomputable section

open Idealize.ShloMosaic Idealize.SL.Sem

namespace Cert.Reference10Ideal.Act

open Cert.Reference10Ideal

/-- The gradient by the normalized rows: half the residual's. -/
def dnR (DH : FVec Ideal S2048x1024 .f32) : FVec Ideal S2048x1024 .f32 :=
  mulf (broadcastInDim S2048x1024 ![] Gen.bcast_S_S2048x1024 (constant S_ .f32 0x3F000000#32)) DH

/-- The rows' mean squares, with the small constant added. -/
def vR (X : FVec Ideal S2048x1024 .f32) : FVec Ideal S2048x1 .f32 :=
  (addf (Host.divf (broadcastInDim S2048x1 ![0] Gen.bcast_S2048_S2048x1_0 (Host.reduceAdd (mulf X X) (constant S_ .f32 0x00000000#32) Gen.reducesTo_S2048x1024_S2048_d1 Gen.h_S_)) (broadcastInDim S2048x1 ![] Gen.bcast_S_S2048x1 (constant S_ .f32 0x44800000#32))) (broadcastInDim S2048x1 ![] Gen.bcast_S_S2048x1 (constant S_ .f32 0x358637BD#32)))

/-- The gradient by the rows before the gain. -/
def hR (DN : FVec Ideal S2048x1024 .f32) (G : FVec Ideal S1x1024 .f32) : FVec Ideal S2048x1024 .f32 :=
  (mulf DN (broadcastInDim S2048x1024 ![0, 1] Gen.bcast_S1x1024_S2048x1024_0_1 (broadcastInDim S1x1024 ![1] Gen.bcast_S1024_S1x1024_1 (shapeCast _ G Gen.shapeCasts_S1x1024_S1024))))

/-- The rows' coefficients of the argument in its gradient, half of them. -/
def coR (DN X : FVec Ideal S2048x1024 .f32) (G : FVec Ideal S1x1024 .f32) : FVec Ideal S2048 .f32 :=
  (Host.reduceAdd (Host.divf (mulf (shapeCast _ (Host.reduceAdd (mulf X (hR DN G)) (constant S_ .f32 0x00000000#32) Gen.reducesTo_S2048x1024_S2048_d1 Gen.h_S_) Gen.shapeCasts_S2048_S2048x1) (mulf (broadcastInDim S2048x1 ![] Gen.bcast_S_S2048x1 (constant S_ .f32 0xBF000000#32)) (Host.divf (Host.rsqrt (vR X)) (vR X)))) (broadcastInDim S2048x1 ![] Gen.bcast_S_S2048x1 (constant S_ .f32 0x44800000#32))) (constant S_ .f32 0x00000000#32) Gen.reducesTo_S2048x1_S2048_d1 Gen.h_S_)

/-- The gradient by the projection the norm is taken of. -/
def dfR (DN X : FVec Ideal S2048x1024 .f32) (G : FVec Ideal S1x1024 .f32) : FVec Ideal S2048x1024 .f32 :=
  addf (addf (mulf (hR DN G) (broadcastInDim S2048x1024 ![0, 1] Gen.bcast_S2048x1_S2048x1024_0_1 (Host.rsqrt (vR X)))) (mulf X (broadcastInDim S2048x1024 ![0] Gen.bcast_S2048_S2048x1024_0 (coR DN X G)))) (mulf (broadcastInDim S2048x1024 ![0] Gen.bcast_S2048_S2048x1024_0 (coR DN X G)) X)

/-- The gradient by the gain. -/
def dgR (DN X : FVec Ideal S2048x1024 .f32) : FVec Ideal S1x1024 .f32 :=
  broadcastInDim S1x1024 ![1] Gen.bcast_S1024_S1x1024_1 (Host.reduceAdd (shapeCast _ (Host.reduceAdd (mulf (mulf X (broadcastInDim S2048x1024 ![0, 1] Gen.bcast_S2048x1_S2048x1024_0_1 (Host.rsqrt (vR X)))) DN) (constant S_ .f32 0x00000000#32) Gen.reducesTo_S2048x1024_S1024_d0 Gen.h_S_) Gen.shapeCasts_S1024_S1x1024) (constant S_ .f32 0x00000000#32) Gen.reducesTo_S1x1024_S1024_d0 Gen.h_S_)

/-- The gradient by the gated activation, laid out by shards. -/
def dactR (DF : FVec Ideal S2048x1024 .f32) (W : FVec Ideal S4x704x1024 .bf16) : FVec Ideal S4x2048x704 .f32 :=
  transpose S4x2048x704 [1, 0, 2] (shapeCast _ (Host.dotGeneral dot_S2048x1024_S2816x1024_S2048x2816_1_1_0_0_n_n none DF (shapeCast _ (extf .f32 W Gen.bitsLt_bf16_f32) Gen.shapeCasts_S4x704x1024_S2816x1024)) Gen.shapeCasts_S2048x2816_S2048x4x704) Gen.transposes_S2048x4x704_S4x2048x704_1_0_2

/-- Ones. -/
def oneR : FVec Ideal S4x2048x704 .f32 := broadcastInDim S4x2048x704 ![] Gen.bcast_S_S4x2048x704 (constant S_ .f32 0x3F800000#32)

/-- The logistic function of the gate. -/
def sigR (G : FVec Ideal S4x2048x704 .f32) : FVec Ideal S4x2048x704 .f32 := Host.divf oneR (addf oneR (Host.exp (Host.negf G)))

/-- The gradient by the up projection. -/
def dupR (D G : FVec Ideal S4x2048x704 .f32) : FVec Ideal S4x2048x704 .f32 := mulf D (mulf G (sigR G))

/-- The gradient by the gate. -/
def dgateR (D G U : FVec Ideal S4x2048x704 .f32) : FVec Ideal S4x2048x704 .f32 :=
  mulf (mulf D U) (addf (mulf oneR (sigR G)) (mulf G (mulf oneR (mulf (sigR G) (subf oneR (sigR G))))))

/-- The gradient by the normalized rows, at an index. -/
theorem dnR_at (DH) (j) : dnR DH j = Rms.half * (DH j : EReal) := by
  pointwise [dnR]

/-- The rows' mean squares, at an index. -/
theorem vR_at (X) (j) : vR X j = Rms.ms fun k => X (ix2 (j 0) k) := by
  pointwise [vR]
  rfl

/-- The gradient by the rows before the gain, at an index. -/
theorem hR_at (DN G) (j) : hR DN G j = (DN j : EReal) * G (ix2 0 (j 1)) := by
  pointwise [hR]

/-- The rows' coefficients, at an index. -/
theorem coR_at (DN X G) (j) : coR DN X G j = Rms.coef (fun k => X (ix2 (j 0) k)) fun k => hR DN G (ix2 (j 0) k) := by
  unfold coR
  pointwise [vR_at]
  rw [Fin.sum_univ_one]
  rfl

/-- The gradient by the projection, at an index. -/
theorem dfR_at (DN X G) (p : Fin 2048) (q : Fin 1024) : dfR DN X G (ix2 p q)
    = Rms.grad (fun k => X (ix2 p k)) (fun k => hR DN G (ix2 p k)) q := by
  unfold dfR
  pointwise [vR_at, coR_at]
  exact (Rms.back (fun k => X (ix2 p k)) (fun k => hR DN G (ix2 p k)) q).symm

/-- The gradient by the gain, at an index. -/
theorem dgR_at (DN X) (j) : dgR DN X j
    = ∑ R : Fin 2048, (X (ix2 R (j 1)) : EReal) * Rms.rs (fun k => X (ix2 R k)) * DN (ix2 R (j 1)) := by
  unfold dgR
  pointwise [vR_at]
  rw [Fin.sum_univ_one]
  rfl

/-- The gradient by the gated activation, at an index. -/
theorem dactR_at (DF W) (s : Fin 4) (p : Fin 2048) (q : Fin 704) : dactR DF W (ix3 s p q)
    = ∑ k : Fin 1024, (DF (ix2 p k) * W (ix3 s q k) : EReal) := by
  pointwise [dactR]

/-- The gradient by the up projection, at an index. -/
theorem dupR_at (D G) (j) : dupR D G j = (D j : EReal) * (G j * Silu.sig (G j)) := by
  pointwise [dupR, sigR, oneR]
  rfl

/-- The gradient by the gate, at an index. -/
theorem dgateR_at (D G U) (j) : dgateR D G U j = (D j : EReal) * U j * (Silu.sig (G j) * (1 + G j * (1 - Silu.sig (G j)))) := by
  rw [Silu.deriv]
  pointwise [dgateR, sigR, oneR]
  simp only [Silu.sig, one_mul]

end Cert.Reference10Ideal.Act

end
-- ==== Proof.ActVal.lean ====
/- The kernel's four results of the FFN's backward pass to its activations are the reference's. -/
module

public import proofs.«01_k».proof.Proof.ActFrame
public import proofs.«01_k».proof.Proof.ActRef

@[expose] public section

set_option maxRecDepth 16384

noncomputable section

open Idealize.ShloMosaic Idealize.ShloMosaic.TcCoe Idealize.SL.Sem
open Idealize.ShloMosaic.Pipeline (Dat)

namespace Cert.Kernel10Ideal.Act

open Cert.Kernel10Ideal Cert.Kernel10Ideal.Gen Cert.Reference10Ideal.Act

variable (m : (ℓ : Loc nD τ sig) → Buf (Elt Ideal) ℓ)

/-- The row of the whole array at place `p` of point `t`'s row block. -/
def row (t : Fin cfg0.N) (p : Fin 1024) : Fin 2048 :=
  ⟨1024 * (t.val / 4) + p.val, by have := lt_of_lt_of_eq t.isLt N_0; omega⟩

/-- The shard of point `t`. -/
def shard (t : Fin cfg0.N) : Fin 4 :=
  ⟨t.val % 4, Nat.mod_lt _ (by decide)⟩

/-- A two-coordinate index is its coordinates. -/
theorem pair (y : S1024x1024.Idx) : ix2 (y 0) (y 1) = y := by
  funext a
  refine Fin.cases rfl (fun a => Fin.cases rfl (fun a => a.elim0) a) a

/-- A three-coordinate index of one shard's block is its coordinates. -/
theorem triple (y : S1x1024x704.Idx) : ix3 0 (y 1) (y 2) = y := by
  funext a
  refine Fin.cases (Subsingleton.elim (α := Fin 1) _ _) (fun a => Fin.cases rfl (fun a => Fin.cases rfl (fun a => a.elim0) a) a) a

/-- A one-row index is its coordinates. -/
theorem single (y : S1x1024.Idx) : ix2 (y 0) (y 1) = y := by
  funext a
  refine Fin.cases rfl (fun a => Fin.cases rfl (fun a => a.elim0) a) a

/-- A block's gradient by the projection the norm is taken of, at an index. -/
theorem pay6_at (f : Vec Ideal S1024x1024 .f32) (g : Vec Ideal S1x1024 .f32) (dh : Vec Ideal S1024x1024 .f32) (p q : Fin 1024) : k0_pay6 f g dh (ix2 p q)
    = Rms.grad (fun k => f (ix2 p k)) (fun k => Rms.half * (dh (ix2 p k) : EReal) * g (ix2 0 k)) q := by
  pointwise [k0_pay6, k0_pay4, k0_pay3, k0_pay2]
  rfl

/-- A row block's share of the gradient by the gain, at an index. -/
theorem pay5_at (f dh : Vec Ideal S1024x1024 .f32) (p : Fin 1) (q : Fin 1024) : k0_pay5 f dh (ix2 p q)
    = ∑ r : Fin 1024, (f (ix2 r q) : EReal) * Rms.rs (fun k => f (ix2 r k)) * (Rms.half * dh (ix2 r q)) := by
  pointwise [k0_pay5, k0_pay4, k0_pay3, k0_pay2]
  exact Finset.sum_congr rfl fun r _ => mul_comm _ _

/-- A block's gradient by the up projection, at an index. -/
theorem pay13_at (s : Vec Ideal S1024x1024 .bf16) (w : Vec Ideal S1x704x1024 .bf16) (a : Vec Ideal S1x1024x704 .f32) (p : Fin 1024) (q : Fin 704) :
    k0_pay13 s w a (ix3 0 p q) = (∑ k : Fin 1024, (s (ix2 p k) : EReal) * w (ix3 0 q k)) * (a (ix3 0 p q) * Silu.sig (a (ix3 0 p q))) := by
  pointwise [k0_pay13, k0_pay10, k0_pay11, k0_pay12]
  simp only [zero_sub]
  rfl

/-- A block's gradient by the gate, at an index. -/
theorem pay14_at (s : Vec Ideal S1024x1024 .bf16) (w : Vec Ideal S1x704x1024 .bf16) (a b : Vec Ideal S1x1024x704 .f32) (p : Fin 1024) (q : Fin 704) :
    k0_pay1 (k0_pay14 s w a b) (ix3 0 p q) = (∑ k : Fin 1024, (s (ix2 p k) : EReal) * w (ix3 0 q k)) * b (ix3 0 p q)
      * (Silu.sig (a (ix3 0 p q)) * (1 + a (ix3 0 p q) * (1 - Silu.sig (a (ix3 0 p q))))) := by
  pointwise [k0_pay1, k0_pay14, k0_pay10, k0_pay11, k0_pay12]
  simp only [zero_sub]
  rfl

/-- The residual gradient's block at point `t`. -/
theorem blk_dh (c : Dev nD) (t : Fin cfg0.N) (p q : Fin 1024) : iblk m c 0 t (ix2 p q) = m ((c : Thread nD τ).loc main_arg0) (ix2 (row t p) q) := by
  blk_point [iblk, V, idx t, row]

/-- The projection's block at point `t`. -/
theorem blk_f (c : Dev nD) (t : Fin cfg0.N) (p q : Fin 1024) : iblk m c 1 t (ix2 p q) = m ((c : Thread nD τ).loc main_arg1) (ix2 (row t p) q) := by
  blk_point [iblk, V, idx t, row]

/-- The gain's block. -/
theorem blk_g (c : Dev nD) (t : Fin cfg0.N) (p : Fin 1) (q : Fin 1024) : iblk m c 2 t (ix2 p q) = m ((c : Thread nD τ).loc main_arg2) (ix2 p q) := by
  blk_point [iblk, V, idx t]

/-- The down weights' block at point `t`. -/
theorem blk_w (c : Dev nD) (t : Fin cfg0.N) (p : Fin 1) (q : Fin 704) (k : Fin 1024) : iblk m c 3 t (ix3 p q k) = m ((c : Thread nD τ).loc main_arg3) (ix3 (shard t) q k) := by
  blk_point [iblk, V, idx t, shard]

/-- The gate's block at point `t`. -/
theorem blk_a (c : Dev nD) (t : Fin cfg0.N) (s : Fin 1) (p : Fin 1024) (q : Fin 704) : iblk m c 4 t (ix3 s p q) = m ((c : Thread nD τ).loc main_arg4) (ix3 (shard t) (row t p) q) := by
  blk_point [iblk, V, idx t, row, shard]

/-- The up projection's block at point `t`. -/
theorem blk_b (c : Dev nD) (t : Fin cfg0.N) (s : Fin 1) (p : Fin 1024) (q : Fin 704) : iblk m c 5 t (ix3 s p q) = m ((c : Thread nD τ).loc main_arg5) (ix3 (shard t) (row t p) q) := by
  blk_point [iblk, V, idx t, row, shard]

/-- The projection the norm is taken of. -/
abbrev proj (c : Dev nD) : FVec Ideal S2048x1024 .f32 := m ((c : Thread nD τ).loc main_arg1)

/-- The gate. -/
abbrev gate (c : Dev nD) : FVec Ideal S4x2048x704 .f32 := m ((c : Thread nD τ).loc main_arg4)

/-- The up projection. -/
abbrev up (c : Dev nD) : FVec Ideal S4x2048x704 .f32 := m ((c : Thread nD τ).loc main_arg5)

/-- The reference's gradient by the normalized rows, of the arguments. -/
abbrev dn (c : Dev nD) : FVec Ideal S2048x1024 .f32 := dnR (m ((c : Thread nD τ).loc main_arg0))

/-- The reference's gradient by the projection the norm is taken of, of the arguments. -/
abbrev df (c : Dev nD) : FVec Ideal S2048x1024 .f32 := dfR (dn m c) (proj m c) (m ((c : Thread nD τ).loc main_arg2))

/-- The reference's gradient by the gated activation, of the arguments. -/
abbrev dact (c : Dev nD) : FVec Ideal S4x2048x704 .f32 := dactR (df m c) (m ((c : Thread nD τ).loc main_arg3))

/-- A row block's gradient by the projection is the reference's. -/
theorem df_at (c : Dev nD) (t : Fin cfg0.N) (p q : Fin 1024) : dfAt m c t (ix2 p q) = df m c (ix2 (row t p) q) := by
  rw [dfAt, pay6_at, df, dfR_at]
  simp only [hR_at, dn, dnR_at, blk_f, blk_dh, blk_g]
  rfl

/-- The sum of a row's products with a column of the down weights is the reference's. -/
theorem dact_at (c : Dev nD) (t : Fin cfg0.N) (p : Fin 1024) (q : Fin 704) :
    ∑ k : Fin 1024, (dfAt m c t (ix2 p k) : EReal) * iblk m c 3 t (ix3 0 q k) = dact m c (ix3 (shard t) (row t p) q) := by
  rw [dact, dactR_at]
  simp only [df_at, blk_w]

/-- A point's gradient by the up projection is the reference's. -/
theorem dup_at (c : Dev nD) (t : Fin cfg0.N) (p : Fin 1024) (q : Fin 704) : k0_pay13 (dfAt m c t) (iblk m c 3 t) (iblk m c 4 t) (ix3 0 p q)
    = dupR (dact m c) (gate m c) (ix3 (shard t) (row t p) q) := by
  rw [pay13_at, dact_at, dupR_at, blk_a]

/-- A point's gradient by the gate is the reference's. -/
theorem dgate_at (c : Dev nD) (t : Fin cfg0.N) (p : Fin 1024) (q : Fin 704) :
    k0_pay1 (k0_pay14 (dfAt m c t) (iblk m c 3 t) (iblk m c 4 t) (iblk m c 5 t)) (ix3 0 p q)
    = dgateR (dact m c) (gate m c) (up m c) (ix3 (shard t) (row t p) q) := by
  rw [pay14_at, dact_at, dgateR_at, blk_a, blk_b]

/-- The gradient by the gate after the run. -/
theorem final_gate (c : Dev nD) : (dats m 0 c).arrAt 6 (cfgs 0).N = truncf .bf16 (dgateR (dact m c) (gate m c) (up m c)) bitsLt_bf16_f32 := by
  refine (dats m 0 c).arrAt_eq_of_covers 6 _ (by decide +kernel) fun t hf y => ?_
  have e : ((cfg0.win 6).blk t).view.emb y = ix3 (shard t) (row t (y 1)) (y 2) := by
    blk_ext [idx t, row, shard]
  blk_simp
  rw [after6]
  exact (congrArg (k0_pay1 (k0_pay14 (dfAt m c t) (iblk m c 3 t) (iblk m c 4 t) (iblk m c 5 t))) (triple y).symm).trans
    ((dgate_at m c t (y 1) (y 2)).trans (congrArg (dgateR (dact m c) (gate m c) (up m c)) e.symm))

/-- The gradient by the up projection after the run. -/
theorem final_up (c : Dev nD) : (dats m 0 c).arrAt 7 (cfgs 0).N = truncf .bf16 (dupR (dact m c) (gate m c)) bitsLt_bf16_f32 := by
  refine (dats m 0 c).arrAt_eq_of_covers 7 _ (by decide +kernel) fun t hf y => ?_
  have e : ((cfg0.win 7).blk t).view.emb y = ix3 (shard t) (row t (y 1)) (y 2) := by
    blk_ext [idx t, row, shard]
  blk_simp
  rw [after7]
  exact (congrArg (k0_pay13 (dfAt m c t) (iblk m c 3 t) (iblk m c 4 t)) (triple y).symm).trans
    ((dup_at m c t (y 1) (y 2)).trans (congrArg (dupR (dact m c) (gate m c)) e.symm))

/-- The gradient by the projection the norm is taken of after the run. -/
theorem final_df (c : Dev nD) : (dats m 0 c).arrAt 8 (cfgs 0).N = truncf .bf16 (df m c) bitsLt_bf16_f32 := by
  refine (dats m 0 c).arrAt_eq_of_covers 8 _ (by decide +kernel) fun t hf y => ?_
  have e : ((cfg0.win 8).blk t).view.emb y = ix2 (row t (y 0)) (y 1) := by
    blk_ext [idx t, row]
  blk_simp
  rw [after8]
  have k : k0_pay7 (dfAt m c t) (ix2 (y 0) (y 1)) = dfAt m c t (ix2 (y 0) (y 1)) := by
    pointwise [k0_pay7]
  exact (congrArg (k0_pay7 (dfAt m c t)) (pair y).symm).trans (k.trans ((df_at m c t (y 0) (y 1)).trans (congrArg (df m c) e.symm)))

/-- A row's part of the gradient by the gain, of the arguments. -/
def rowPart (c : Dev nD) (q : Fin 1024) (R : Fin 2048) : EReal :=
  (proj m c (ix2 R q) : EReal) * Rms.rs (fun k => proj m c (ix2 R k)) * dn m c (ix2 R q)

/-- A row block's share of the gradient by the gain, of the arguments. -/
theorem share (c : Dev nD) (t : Fin cfg0.N) (p : Fin 1) (q : Fin 1024) : shareAt m c t (ix2 p q) = ∑ r : Fin 1024, rowPart m c q (row t r) := by
  rw [shareAt, pay5_at]
  simp only [rowPart, dn, dnR_at, blk_f, blk_dh]

/-- The two row blocks' shares together, at the last point. -/
theorem gain (c : Dev nD) (h : 7 < cfg0.N) (p : Fin 1) (q : Fin 1024) : gainAt m c 7 h (ix2 p q) = ∑ R : Fin 2048, rowPart m c q R := by
  have h4 : 4 < cfg0.N := by omega
  have h0 : 0 < cfg0.N := by omega
  have e7 : gainAt m c 7 h = gainAt m c 4 h4 :=
    (gainAt_rest m c ⟨7, h⟩ (show ¬7 % 4 = 0 by decide)).trans ((gainAt_rest m c ⟨6, by omega⟩ (show ¬6 % 4 = 0 by decide)).trans (gainAt_rest m c ⟨5, by omega⟩ (show ¬5 % 4 = 0 by decide)))
  have e4 := gainAt_next m c ⟨4, h4⟩ (show 4 % 4 = 0 from rfl) (show 4 ≠ 0 by decide)
  have e3 : gainAt m c 3 (by omega) = gainAt m c 0 h0 :=
    (gainAt_rest m c ⟨3, by omega⟩ (show ¬3 % 4 = 0 by decide)).trans ((gainAt_rest m c ⟨2, by omega⟩ (show ¬2 % 4 = 0 by decide)).trans (gainAt_rest m c ⟨1, by omega⟩ (show ¬1 % 4 = 0 by decide)))
  have e0 := gainAt_zero m c ⟨0, h0⟩ rfl
  have a : gainAt m c 7 h (ix2 p q) = (shareAt m c ⟨0, h0⟩ (ix2 p q) : EReal) + shareAt m c ⟨4, h4⟩ (ix2 p q) := by
    refine (congrFun (e7.trans e4) _).trans ?_
    pointwise [k0_pay9]
    refine congrArg (fun z : EReal => z + shareAt m c ⟨4, h4⟩ (ix2 p q)) ?_
    refine (congrFun (e3.trans e0) (ix2 p q)).trans ?_
    pointwise [k0_pay8]
  rw [a, share m c ⟨0, h0⟩, share m c ⟨4, h4⟩]
  refine Eq.trans (b := ∑ b : Fin 2, ∑ r : Fin 1024, rowPart m c q (⟨b.val * 1024 + r.val, by omega⟩ : Fin 2048)) ?_
    (Fin.sum_mul_add_congr fun b r hl => rfl)
  rw [Fin.sum_univ_two]
  exact congrArg₂ (fun a b : EReal => a + b)
    (Finset.sum_congr rfl fun r _ => congrArg (rowPart m c q) (Fin.ext (show 1024 * (0 / 4) + r.val = 0 * 1024 + r.val by omega)))
    (Finset.sum_congr rfl fun r _ => congrArg (rowPart m c q) (Fin.ext (show 1024 * (4 / 4) + r.val = 1 * 1024 + r.val by omega)))

/-- The gradient by the gain after the run. -/
theorem final_gain (c : Dev nD) : (dats m 0 c).arrAt 9 (cfgs 0).N = dgR (dn m c) (proj m c) := by
  refine (dats m 0 c).arrAt_eq_of_covers 9 _ (by decide +kernel) fun t hf y => ?_
  have e : ((cfg0.win 9).blk t).view.emb y = ix2 (y 0) (y 1) := by
    blk_ext [idx t]
  blk_simp
  rw [after9]
  have h7 : t = ⟨7, by decide⟩ := Fin.ext (by have := lt_of_lt_of_eq t.isLt N_0; have := (flush0_9 t).mp hf; show t.val = 7; omega)
  refine (congrArg (gainAt m c t.val t.isLt) (single y).symm).trans (Eq.trans ?_ (congrArg (dgR (dn m c) (proj m c)) e.symm))
  subst h7
  exact (gain m c _ (y 0) (y 1)).trans (dgR_at _ _ (ix2 (y 0) (y 1))).symm

end Cert.Kernel10Ideal.Act

end
-- ==== Proof.ActWord.lean ====
module

public import proofs.«01_k».proof.Defs
public import proofs.«01_k».proof.Proof.Gen.Kernel10
public import proofs.«01_k».proof.Proof.ActFrame

@[expose] public section

set_option maxRecDepth 16384

/-!
# The frame over bit patterns, of the FFN's backward pass to its activations

The two prints of the kernel are one program, and the run of the one holds over any reading of the floats.
-/

noncomputable section

namespace Cert.Kernel10.Act

open Idealize.ShloMosaic Idealize.SL.Sem

attribute [local instance] Cert.Kernel10.Gen.facts Cert.Kernel10Ideal.Gen.facts

/-- The two bodies are one program. -/
theorem body_same (i) (a1 h1 a2 h2 a3 h3 a4 h4 a5 h5 a6 h6 a7 h7 a8 h8 a9 h9 a10 h10 a11 h11) :
    Cert.Kernel10.cc0_ffn_bwd_act (F := Bits) i a1 h1 a2 h2 a3 h3 a4 h4 a5 h5 a6 h6 a7 h7 a8 h8 a9 h9 a10 h10 a11 h11
    = Cert.Kernel10Ideal.cc0_ffn_bwd_act (F := Bits) i a1 h1 a2 h2 a3 h3 a4 h4 a5 h5 a6 h6 a7 h7 a8 h8 a9 h9 a10 h10 a11 h11 := rfl

/-- The two tables of bodies, before the pipelines, are one. -/
theorem defs0_same : (Cert.Kernel10.defs₀ (F := Bits)) = (Cert.Kernel10Ideal.defs₀ (F := Bits)) := by
  unfold Cert.Kernel10.defs₀ Cert.Kernel10Ideal.defs₀
  refine congrArg Defs.onTc ?_
  funext l x
  obtain ⟨n, hn⟩ := l
  cases n with
  | zero => exact body_same ..
  | succ n => exact absurd hn (Nat.not_lt.2 (Nat.le_add_left _ _))

/-- The two tables of bodies are one. -/
theorem defs_same : (Cert.Kernel10.defs (F := Bits)) = (Cert.Kernel10Ideal.defs (F := Bits)) :=
  congrArg (Pipeline.defs _) defs0_same

/-- The two host programs are one. -/
theorem main_same : (Cert.Kernel10.main (F := Bits)) = (Cert.Kernel10Ideal.main (F := Bits)) := rfl

/-- The frame: the run finishes, the arguments are unchanged and every counter is at zero. -/
theorem frame (m : (ℓ : Loc Cert.Kernel10.nD Cert.Kernel10.τ Cert.Kernel10.sig) → Buf (Elt Bits) ℓ) (ρ : Dev Cert.Kernel10.nD → PrngReg) :
    θ_run (Cert.Kernel10.defs (F := Bits)) (onTc (τ := Cert.Kernel10.τ) (Cert.Kernel10.main (F := Bits))) ⟨m, fun _ => 0, ρ⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0) := by
  rw [main_same, defs_same]
  exact Cert.Kernel10Ideal.Act.frame (F := Bits) m ρ

end Cert.Kernel10.Act

end
-- ==== Proof.Model.lean ====
module

public import proofs.«01_k».proof.Proof.Gen.KernelIdeal.Skeleton
public import proofs.«01_k».proof.Proof.Gen.KernelIdeal.Frame
public import Idealize.ShloMosaic.Lib.VecWindow

@[expose] public section

set_option maxRecDepth 16384

/-!
# One grid point of the banded attention's backward pass, over plain arrays

A grid point holds 128 query rows (two chunks of 64) and the window of 640 key rows they look at.
The 512 columns are four pairs of heads, 128 columns a pair; the two heads of a pair are told apart
by a mask on the columns.
-/

noncomputable section

namespace Cert.KernelIdeal.Band

open Cert.KernelIdeal Cert.KernelIdeal.Gen
open Idealize.ShloMosaic Idealize.ShloMosaic.TcCoe

variable {F : FTy → Type} [FloatOps F] [Named F]

/-- The offsets of the window of 640 key rows of one grid point, at the columns of one pair of heads. -/
def offW (i : grid0.Coords) (p : Fin 4) : Fin 2 → ℕ := ![128 * (i 0).val, 128 * p.val]

theorem offW_inb (i : grid0.Coords) (p : Fin 4) (a : Fin 2) : offW i p a + S640x128.size a ≤ S2560x512.size a := by
  have h : (i 0).val < 16 := (i 0).isLt
  have hp := p.isLt
  revert a; refine Fin.forall_fin_two.mpr ⟨?_, ?_⟩
  · show 128 * (i 0).val + 640 ≤ 2560; omega
  · show 128 * p.val + 128 ≤ 512; omega

/-- One pair's window of an array of 2560 padded key rows. -/
def winB {e : EltTy} (i : grid0.Coords) (p : Fin 4) (x : Vec F S2560x512 e) : Vec F S640x128 e :=
  VecWindow.window x (offW i p) S640x128.size (offW_inb i p)

theorem col_inb (p : Fin 4) (a : Fin 2) : (![0, 128 * p.val] : Fin 2 → ℕ) a + S128x128.size a ≤ S128x512.size a := by
  have hp := p.isLt
  revert a; refine Fin.forall_fin_two.mpr ⟨?_, ?_⟩
  · show 0 + 128 ≤ 128; omega
  · show 128 * p.val + 128 ≤ 512; omega

/-- One pair's columns of a block of 128 query rows. -/
def colB {e : EltTy} (p : Fin 4) (x : Vec F S128x512 e) : Vec F S128x128 e :=
  VecWindow.window x ![0, 128 * p.val] S128x128.size (col_inb p)

theorem head_inb (h : Fin 8) (a : Fin 3) : (![h.val, 0, 0] : Fin 3 → ℕ) a + S1x128x640.size a ≤ S8x128x640.size a := by
  have hp := h.isLt
  fin_cases a
  · show h.val + 1 ≤ 8; omega
  · show 0 + 128 ≤ 128; omega
  · show 0 + 640 ≤ 640; omega

/-- One head's slab of an array of eight heads. -/
def slabB (h : Fin 8) (x : Vec F S8x128x640 .f32) : Vec F S1x128x640 .f32 :=
  VecWindow.window x ![h.val, 0, 0] S1x128x640.size (head_inb h)

/-- Which slots of the window each query row looks at. -/
def validOf (i : grid0.Coords) : IVec S128x640 1 :=
  k0_pay13 (BitVec.ofNat 32 (i 0).val) k0_pay10 (iota .tc S128x640 32 [1] iota_S128x640_d1_w32) 64#32 k0_pay11 k0_pay12
    (Scalar.extui (Scalar.cmpi .sgt 64#32 0#32)) (Scalar.cmpi .slt 64#32 0#32)

/-- The columns of one head of a pair. -/
def lane : Fin 2 → IVec S1x128 1 := ![k0_pay14, k0_pay15]

/-- The queries of one head: the other head's columns are zero. -/
def qOf (h : Fin 2) (q : Vec F S128x128 .bf16) : Vec F S128x128 .bf16 := k0_pay16 (lane h) q

/-- The rounded cotangent of one head: the other head's columns are zero. -/
def doOf (h : Fin 2) (d : Vec F S128x128 .f32) : Vec F S128x128 .bf16 := k0_pay24 (lane h) d

/-- The scores of one head over the window. -/
def scoreOf (h : Fin 2) (q : Vec F S128x128 .bf16) (kw : Vec F S640x128 .bf16) : Vec F S128x640 .f32 :=
  k0_pay33 kw (qOf h q)

/-- The attention's weights of one head over the window. -/
def probOf (i : grid0.Coords) (h : Fin 2) (q : Vec F S128x128 .bf16) (kw : Vec F S640x128 .bf16) (b : Vec F S1x128x640 .f32) :
    Vec F S128x640 .f32 := k0_pay50 (validOf i) (scoreOf h q kw) b

/-- The gradient by the weights of one head. -/
def dpOf (h : Fin 2) (d : Vec F S128x128 .f32) (vw : Vec F S640x128 .bf16) : Vec F S128x640 .f32 :=
  k0_pay39 vw (doOf h d)

/-- The gradient by the masked scores: `p · (dp − Σ dp · p)`. -/
def dzOf (p dp : Vec F S128x640 .f32) : Vec F S128x640 .f32 := k0_pay62 dp p

/-- One head's gradient by the masked scores, of the loaded blocks. -/
def dzHead (i : grid0.Coords) (h : Fin 2) (q : Vec F S128x128 .bf16) (kw vw : Vec F S640x128 .bf16) (d : Vec F S128x128 .f32)
    (b : Vec F S1x128x640 .f32) : Vec F S128x640 .f32 := dzOf (probOf i h q kw b) (dpOf h d vw)

/-- The gradient of one pair's queries. -/
def dqPair (i : grid0.Coords) (q : Vec F S128x128 .bf16) (kw vw : Vec F S640x128 .bf16) (d : Vec F S128x128 .f32)
    (b0 b1 : Vec F S1x128x640 .f32) : Vec F S128x128 .bf16 :=
  k0_pay112 (k0_pay88 (lane 0) kw (k0_pay79 (dzHead i 0 q kw vw d b0))) (k0_pay88 (lane 1) kw (k0_pay79 (dzHead i 1 q kw vw d b1)))

/-- What one grid point adds to the gradient of one pair's keys. -/
def dkPair (i : grid0.Coords) (q : Vec F S128x128 .bf16) (kw vw : Vec F S640x128 .bf16) (d : Vec F S128x128 .f32)
    (b0 b1 : Vec F S1x128x640 .f32) : Vec F S640x128 .f32 :=
  addf (k0_pay96 (qOf 0 q) (k0_pay79 (dzHead i 0 q kw vw d b0))) (k0_pay96 (qOf 1 q) (k0_pay79 (dzHead i 1 q kw vw d b1)))

/-- What one grid point adds to the gradient of one pair's values. -/
def dvPair (i : grid0.Coords) (q : Vec F S128x128 .bf16) (kw : Vec F S640x128 .bf16) (d : Vec F S128x128 .f32)
    (b0 b1 : Vec F S1x128x640 .f32) : Vec F S640x128 .f32 :=
  addf (k0_pay103 (doOf 0 d) (probOf i 0 q kw b0)) (k0_pay103 (doOf 1 d) (probOf i 1 q kw b1))

/-- The sum kept of one head's gradient by the masked scores, one grid point on. -/
def dbAdd (old : Vec F S1x128x640 .f32) (dz : Vec F S128x640 .f32) : Vec F S1x128x640 .f32 := k0_pay70 dz old

/-- A window of a kept sum, one grid point on. -/
def winAdd (old new : Vec F S640x128 .f32) : Vec F S640x128 .f32 := shapeCast S640x128 (addf old new) shapeCasts_S640x128_S640x128

/-- The number of one head of a pair. -/
def headNo (p : Fin 4) (h : Fin 2) : Fin 8 := ⟨2 * p.val + h.val, by have := p.isLt; have := h.isLt; omega⟩

section Point

variable (i : grid0.Coords) (x2 : Vec F S128x512 .bf16) (x5 : Vec F S8x128x640 .f32) (x6 : Vec F S128x512 .f32)
  (kp vp : Vec F S2560x512 .bf16)

/-- One head's gradient by the masked scores at a grid point. -/
def dzAt (p : Fin 4) (h : Fin 2) : Vec F S128x640 .f32 :=
  dzHead i h (colB p x2) (winB i p kp) (winB i p vp) (colB p x6) (slabB (headNo p h) x5)

/-- One pair's gradient of the queries at a grid point. -/
def dqAt (p : Fin 4) : Vec F S128x128 .bf16 :=
  dqPair i (colB p x2) (winB i p kp) (winB i p vp) (colB p x6) (slabB (headNo p 0) x5) (slabB (headNo p 1) x5)

/-- What a grid point adds to one pair's gradient of the keys. -/
def dkAt (p : Fin 4) : Vec F S640x128 .f32 :=
  dkPair i (colB p x2) (winB i p kp) (winB i p vp) (colB p x6) (slabB (headNo p 0) x5) (slabB (headNo p 1) x5)

/-- What a grid point adds to one pair's gradient of the values. -/
def dvAt (p : Fin 4) : Vec F S640x128 .f32 :=
  dvPair i (colB p x2) (winB i p kp) (colB p x6) (slabB (headNo p 0) x5) (slabB (headNo p 1) x5)

/-- Four blocks of 128 columns side by side, over an array of rows. -/
def put4 (x : Vec F S128x512 .bf16) (w : Fin 4 → Vec F S128x128 .bf16) : Vec F S128x512 .bf16 :=
  VecWindow.put (VecWindow.put (VecWindow.put (VecWindow.put x ![0, 0] S128x128.size (w 0))
    ![0, 128] S128x128.size (w 1)) ![0, 256] S128x128.size (w 2)) ![0, 384] S128x128.size (w 3)

/-- Four windows of 640 rows, one a pair, over an array of padded key rows. -/
def putW (x : Vec F S2560x512 .f32) (w : Fin 4 → Vec F S640x128 .f32) : Vec F S2560x512 .f32 :=
  VecWindow.put (VecWindow.put (VecWindow.put (VecWindow.put x (offW i 0) S640x128.size (w 0))
    (offW i 1) S640x128.size (w 1)) (offW i 2) S640x128.size (w 2)) (offW i 3) S640x128.size (w 3)

/-- Eight slabs, one a head. -/
def putH (x : Vec F S8x128x640 .f32) (w : Fin 8 → Vec F S1x128x640 .f32) : Vec F S8x128x640 .f32 :=
  VecWindow.put (VecWindow.put (VecWindow.put (VecWindow.put (VecWindow.put (VecWindow.put (VecWindow.put (VecWindow.put x
    ![0, 0, 0] S1x128x640.size (w 0)) ![1, 0, 0] S1x128x640.size (w 1)) ![2, 0, 0] S1x128x640.size (w 2))
    ![3, 0, 0] S1x128x640.size (w 3)) ![4, 0, 0] S1x128x640.size (w 4)) ![5, 0, 0] S1x128x640.size (w 5))
    ![6, 0, 0] S1x128x640.size (w 6)) ![7, 0, 0] S1x128x640.size (w 7)

/-- The block of query gradients a grid point stores. -/
def outDq : Vec F S128x512 .bf16 := put4 (fun _ => Scalar.ofBits .bf16 0x0000#16) (dqAt i x2 x5 x6 kp vp)

/-- The kept sum over grid points of the gradient by the masked scores, one point on. -/
def stepDb (x10 : Vec F S8x128x640 .f32) : Vec F S8x128x640 .f32 :=
  putH x10 fun h => dbAdd (slabB h x10) (dzAt i x2 x5 x6 kp vp ⟨h.val / 2, by have := h.isLt; omega⟩ ⟨h.val % 2, by omega⟩)

/-- The kept gradient of the padded keys, one point on. -/
def stepDk (x13 : Vec F S2560x512 .f32) : Vec F S2560x512 .f32 :=
  putW i x13 fun p => winAdd (winB i p x13) (dkAt i x2 x5 x6 kp vp p)

/-- The kept gradient of the padded values, one point on. -/
def stepDv (x14 : Vec F S2560x512 .f32) : Vec F S2560x512 .f32 :=
  putW i x14 fun p => winAdd (winB i p x14) (dvAt i x2 x5 x6 kp p)

end Point

theorem pad_inb (a : Fin 2) : (![512, 0] : Fin 2 → ℕ) a + S2048x512.size a ≤ S2560x512.size a := by
  revert a; refine Fin.forall_fin_two.mpr ⟨?_, ?_⟩
  · show 512 + 2048 ≤ 2560; omega
  · show 0 + 512 ≤ 512; omega

/-- The rows of an array under 512 rows of zeros. -/
def padded (x : Vec F S2048x512 .bf16) : Vec F S2560x512 .bf16 :=
  VecWindow.put (VecWindow.put (fun _ => Scalar.ofBits .bf16 0x0000#16) ![0, 0] S512x512.size k0_pay3) ![512, 0] S2048x512.size (k0_pay4 x)

/-- The rows past the padding, rounded. -/
def unpad (x : Vec F S2560x512 .f32) : Vec F S2048x512 .bf16 := k0_pay1 (VecWindow.window x ![512, 0] S2048x512.size pad_inb)

end Cert.KernelIdeal.Band

end
-- ==== Proof.RunMid.lean ====
module

public import proofs.«01_k».proof.Proof.Gen.KernelIdeal.Skeleton
public import proofs.«01_k».proof.Proof.Gen.KernelIdeal.Frame

@[expose] public section

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the first branch: the first grid point. -/
abbrev isFirst (i : grid0.Coords) : Prop := (Scalar.cmpi .ne (Scalar.extui (Scalar.cmpi .eq (BitVec.ofNat 32 (i 0).val) 0#32)) 0#32) = 1#1

set_option maxHeartbeats 4000000 in
noncomputable def runMid (c : Dev nD) (i : grid0.Coords) (arg1 : Memref sig .tc .hbm S8x128 .f32) (harg1 : arg1.IsWhole) (arg2 : Memref sig .tc .vmem S128x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S8x128x640 .f32) (harg5 : arg5.IsWhole) (arg6 : Memref sig .tc .vmem S128x512 .f32) (harg6 : arg6.IsWhole) (arg7 : Memref sig .tc .vmem S128x512 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S8x128x640 .f32) (harg10 : arg10.IsWhole) (arg11 : Memref sig .tc .vmem S2560x512 .bf16) (harg11 : arg11.IsWhole) (arg12 : Memref sig .tc .vmem S2560x512 .bf16) (harg12 : arg12.IsWhole) (arg13 : Memref sig .tc .vmem S2560x512 .f32) (harg13 : arg13.IsWhole) (arg14 : Memref sig .tc .vmem S2560x512 .f32) (harg14 : arg14.IsWhole) (h0 : ¬isFirst i) (h1 : ¬k0_cond2 i = 1#1)
    (x2 : Vec F S128x512 .bf16) (x3 x4 : Vec F S2048x512 .bf16) (x5 : Vec F S8x128x640 .f32) (x6 : Vec F S128x512 .f32) (x10 : Vec F S8x128x640 .f32) (x11 x12 : Vec F S2560x512 .bf16) (x13 x14 : Vec F S2560x512 .f32) :
    { L : List (View.Piece (Elt F) S128x512 .bf16) × List (View.Piece (Elt F) S8x128x640 .f32) × List (View.Piece (Elt F) S2560x512 .f32) × List (View.Piece (Elt F) S2560x512 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L.1) ∗ (arg10.view.loc (c : Thread nD τ) ↦[arg10.view.set]{fullShare} arg10.view.writes (Elt F) (harg10.unread x10) L.2.1) ∗ owns (c : Thread nD τ) arg11 fullShare x11 ∗ owns (c : Thread nD τ) arg12 fullShare x12 ∗ (arg13.view.loc (c : Thread nD τ) ↦[arg13.view.set]{fullShare} arg13.view.writes (Elt F) (harg13.unread x13) L.2.2.1) ∗ (arg14.view.loc (c : Thread nD τ) ↦[arg14.view.set]{fullShare} arg14.view.writes (Elt F) (harg14.unread x14) L.2.2.2)) -∗ K ⟨⟩))
          ⊢ wp frame (wpE (defs₀ (F := F)) Variants.none c none) E (cc0_ch_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨(?_, ?_, ?_, ?_), fun E K => ?run⟩
  case run =>
    simp only [cc0_ch_bwd_eq_skeleton]; unfold cc0_ch_bwd_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf2; obtain rfl := harg3.eq_unread hf3; obtain rfl := harg4.eq_unread hf4; obtain rfl := harg5.eq_unread hf5; obtain rfl := harg6.eq_unread hf6; obtain rfl := harg10.eq_unread hf10; obtain rfl := harg11.eq_unread hf11; obtain rfl := harg12.eq_unread hf12; obtain rfl := harg13.eq_unread hf13; obtain rfl := harg14.eq_unread hf14
    sl_exec (disch := first | sl_exact h0 | sl_exact h1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H10]
    · iexact H10
    isplitl [H11]
    · iexists _; isplitr; · ipureintro; exact harg11.read_unread _
      iexact H11
    isplitl [H12]
    · iexists _; isplitr; · ipureintro; exact harg12.read_unread _
      iexact H12
    isplitl [H13]
    · iexact H13
    iexact H14

end Cert.KernelIdeal.Band

end
-- ==== Proof.State.lean ====
module

public import proofs.«01_k».proof.Proof.Model
public import proofs.«01_k».proof.Proof.RunMid
public import Idealize.ShloMosaic.Lib.Claim

@[expose] public section

set_option maxRecDepth 16384

/-!
# What the kernel keeps from one grid point to the next

The padded keys and values are stored once, at the first point. The three sums (of the gradient by the
masked scores, by the padded keys and by the padded values) are set to zero at the first point and added to at every point.
-/

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The padded keys. -/
def keysA (c : Dev nD) : Vec F S2560x512 .bf16 := padded (iblk m c 1 t0_0)

/-- The padded values. -/
def valsA (c : Dev nD) : Vec F S2560x512 .bf16 := padded (iblk m c 2 t0_0)

/-- The three sums. -/
abbrev Sums (F : FTy → Type) [FloatOps F] : Type := Vec F S8x128x640 .f32 × Vec F S2560x512 .f32 × Vec F S2560x512 .f32

/-- The three sums, one point on. -/
def step (c : Dev nD) (t : Fin cfg0.N) (s : Sums F) : Sums F :=
  (stepDb (grid0.coords t) (iblk m c 0 t) (iblk m c 3 t) (iblk m c 4 t) (keysA m c) (valsA m c) s.1,
   stepDk (grid0.coords t) (iblk m c 0 t) (iblk m c 3 t) (iblk m c 4 t) (keysA m c) (valsA m c) s.2.1,
   stepDv (grid0.coords t) (iblk m c 0 t) (iblk m c 3 t) (iblk m c 4 t) (keysA m c) s.2.2)

/-- The three sums after point `n`. -/
def acc (c : Dev nD) : (n : ℕ) → n < cfg0.N → Sums F
  | 0, hn => step m c ⟨0, hn⟩ (k0_pay9, k0_pay7, k0_pay7)
  | n + 1, hn => step m c ⟨n + 1, hn⟩ (acc c n (Nat.lt_of_succ_lt hn))

theorem acc_first (c : Dev nD) (t : Fin cfg0.N) (h : t.val = 0) :
    acc m c t.val t.isLt = step m c t (k0_pay9, k0_pay7, k0_pay7) := by
  obtain ⟨n, hn⟩ := t; cases n with
  | zero => rfl
  | succ n => exact absurd h (Nat.succ_ne_zero n)

theorem acc_later (c : Dev nD) (t : Fin cfg0.N) (h : t.val ≠ 0) :
    acc m c t.val t.isLt = step m c t (acc m c (t.val - 1) (Nat.lt_of_le_of_lt (Nat.sub_le _ _) t.isLt)) := by
  obtain ⟨n, hn⟩ := t; cases n with
  | zero => exact absurd rfl h
  | succ n => rfl

/-- Each window's staging buffer at a point, and each scratch buffer. -/
abbrev ms0 (t : Fin cfg0.N) : Memref sig .tc .vmem S128x512 .bf16 := win0_0.stage (cfg0.slots t 0)
abbrev ms1 (t : Fin cfg0.N) : Memref sig .tc .vmem S2048x512 .bf16 := win0_1.stage (cfg0.slots t 1)
abbrev ms2 (t : Fin cfg0.N) : Memref sig .tc .vmem S2048x512 .bf16 := win0_2.stage (cfg0.slots t 2)
abbrev ms3 (t : Fin cfg0.N) : Memref sig .tc .vmem S8x128x640 .f32 := win0_3.stage (cfg0.slots t 3)
abbrev ms4 (t : Fin cfg0.N) : Memref sig .tc .vmem S128x512 .f32 := win0_4.stage (cfg0.slots t 4)
abbrev ms5 (t : Fin cfg0.N) : Memref sig .tc .vmem S128x512 .bf16 := win0_5.stage (cfg0.slots t 5)
abbrev ms6 (t : Fin cfg0.N) : Memref sig .tc .vmem S2048x512 .bf16 := win0_6.stage (cfg0.slots t 6)
abbrev ms7 (t : Fin cfg0.N) : Memref sig .tc .vmem S2048x512 .bf16 := win0_7.stage (cfg0.slots t 7)
abbrev ms8 (t : Fin cfg0.N) : Memref sig .tc .vmem S8x128x640 .f32 := win0_8.stage (cfg0.slots t 8)
abbrev sc0 : Memref sig .tc .vmem S2560x512 .bf16 := Memref.whole cc0_scratch0
abbrev sc1 : Memref sig .tc .vmem S2560x512 .bf16 := Memref.whole cc0_scratch1
abbrev sc2 : Memref sig .tc .vmem S2560x512 .f32 := Memref.whole cc0_scratch2
abbrev sc3 : Memref sig .tc .vmem S2560x512 .f32 := Memref.whole cc0_scratch3

/-- The scratch after point `n`: the padded keys and values, and two of the sums. -/
def Kept (c : Dev nD) (n : ℕ) (hn : n < cfg0.N) : sProp 𝕄 :=
  iprop(owns (c : Thread nD τ) sc0 fullShare (keysA m c) ∗ owns (c : Thread nD τ) sc1 fullShare (valsA m c)
    ∗ owns (c : Thread nD τ) sc2 fullShare (acc m c n hn).2.1 ∗ owns (c : Thread nD τ) sc3 fullShare (acc m c n hn).2.2
    ∗ (∃ r, prngReg c r))

/-- What holds before a point: at the first the scratch holds anything. -/
def PhiS (c : Dev nD) : (n : ℕ) → n ≤ cfg0.N → sProp 𝕄
  | 0, _ => Pipeline.ΦA spec0 c
  | n + 1, hn => Kept m c n hn

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) : PhiS m c n h = Kept m c (n - 1) (by omega) := by
  cases n with
  | zero => exact absurd rfl hz
  | succ n => rfl

theorem PhiA_eq (c : Dev nD) :
    (Pipeline.ΦA spec0 c : sProp 𝕄)
      = iprop(((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The proof data: the arrays as the region finds them, the inputs' buffers at their blocks, and what the body leaves in
    the outputs' buffers. The array the queries, keys and values share is held by shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outDq (grid0.coords t) (iblk m c 0 t) (iblk m c 3 t) (iblk m c 4 t) (keysA m c) (valsA m c)
    | ⟨6, _⟩ => unpad (acc m c t.val t.isLt).2.1
    | ⟨7, _⟩ => unpad (acc m c t.val t.isLt).2.2
    | ⟨8, _⟩ => (acc m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outDq (grid0.coords t) (iblk m c 0 t) (iblk m c 3 t) (iblk m c 4 t) (keysA m c) (valsA m c) := by dsimp only [dats]
theorem after_6 (c : Dev nD) (t : Fin cfg0.N) : (dats m 0 c).after 6 t = unpad (acc m c t.val t.isLt).2.1 := by dsimp only [dats]
theorem after_7 (c : Dev nD) (t : Fin cfg0.N) : (dats m 0 c).after 7 t = unpad (acc m c t.val t.isLt).2.2 := by dsimp only [dats]
theorem after_8 (c : Dev nD) (t : Fin cfg0.N) : (dats m 0 c).after 8 t = (acc m c t.val t.isLt).1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem lt16 (t : Fin cfg0.N) : t.val < 16 := lt_of_lt_of_eq t.isLt (show cfg0.N = 16 from N_0)

/-- The sum kept in an output's buffer, before a later point: what the point before left. -/
theorem before_8 (c : Dev nD) (t : Fin cfg0.N) (h : t.val ≠ 0) (d) :
    (dats m 0 c).before 8 t d = (acc m c (t.val - 1) (Nat.lt_of_le_of_lt (Nat.sub_le _ _) t.isLt)).1 := by
  have hf : (cfg0.win 8).flush ⟨t.val - 1, Nat.lt_of_le_of_lt (Nat.sub_le _ _) t.isLt⟩ = false := by
    rw [Bool.eq_false_iff]
    intro hc
    have h1 := (flush0_8 _).mp hc
    have := lt16 t
    dsimp only at h1; omega
  rw [(dats m 0 c).before_out_kept 8 rfl t h hf (fun _ => rfl) (fun _ _ => rfl) d, after_8]

theorem first_iff : ∀ t : Fin cfg0.N, isFirst (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [isFirst, e0]
    word_cmp
    all_goals omega)

theorem last_iff : ∀ t : Fin cfg0.N, k0_cond2 (grid0.coords t) = 1#1 ↔ t.val = 15 :=
  (fun t => by
    have ht : t.val < 16 := Nat.lt_of_lt_of_eq t.isLt N_0
    have e0 : (grid0.coords t 0).val = t.val / 1 % 16 := Pipeline.Grid.coords_val t 0 (by decide) rfl
    simp only [k0_cond2, e0]
    word_cmp
    all_goals omega)

theorem idle_6 (t : Fin cfg0.N) (h : t.val ≠ 15) : cfg0.idle 6 (grid0.coords t) = true := by
  show (!(k0_cond2 (grid0.coords t) == 1#1)) = true
  rw [Bool.not_eq_true', beq_eq_false_iff_ne]
  exact fun hc => h ((last_iff t).mp hc)

theorem idle_7 (t : Fin cfg0.N) (h : t.val ≠ 15) : cfg0.idle 7 (grid0.coords t) = true := idle_6 t h

theorem busy_6 (t : Fin cfg0.N) (h : t.val = 15) : cfg0.idle 6 (grid0.coords t) = false := by
  show (!(k0_cond2 (grid0.coords t) == 1#1)) = false
  rw [(last_iff t).mpr h]; rfl

theorem busy_7 (t : Fin cfg0.N) (h : t.val = 15) : cfg0.idle 7 (grid0.coords t) = false := busy_6 t h

theorem flush_6 (t : Fin cfg0.N) (h : t.val ≠ 15) : (cfg0.win 6).flush t = false := by
  rw [Bool.eq_false_iff]; intro hc; have h1 := (flush0_6 t).mp hc; have := lt16 t; omega

theorem flush_7 (t : Fin cfg0.N) (h : t.val ≠ 15) : (cfg0.win 7).flush t = false := by
  rw [Bool.eq_false_iff]; intro hc; have h1 := (flush0_7 t).mp hc; have := lt16 t; omega

end Cert.KernelIdeal.Band

end
-- ==== Proof.Body.lean ====
module

public import proofs.«01_k».proof.Proof.State

@[expose] public section

set_option maxRecDepth 16384

/-! # What the body is called with and what it returns -/

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

end Cert.KernelIdeal.Band

end
-- ==== Proof.Pieces.lean ====
module

public import proofs.«01_k».proof.Proof.Model

@[expose] public section

set_option maxRecDepth 16384

/-!
# What a run of the body leaves, as plain arrays

The body's loads and stores are at the rectangles of `offW`, of a pair's 128 columns and of a head's
slab; the lists of stores below are over the loaded blocks.
-/

noncomputable section

namespace Cert.KernelIdeal.Band

open Cert.KernelIdeal Cert.KernelIdeal.Gen
open Idealize.ShloMosaic Idealize.ShloMosaic.TcCoe

variable {F : FTy → Type} [FloatOps F] [Named F]

theorem off1_eq (i : grid0.Coords) : k0_off1 i = offW i 0 := by
  have h : ∀ n : Fin 16, (Scalar.indexCast (Scalar.muli (BitVec.ofNat 32 n.val) 128#32) : BitVec 32).toNat = 128 * n.val := by decide
  exact congrArg (fun z : ℕ => (![z, 0] : Fin 2 → ℕ)) (h (i 0))

theorem off2_eq (i : grid0.Coords) : k0_off2 i = offW i 1 := by
  have h := congrFun (off1_eq i) 0
  exact congrArg (fun z : ℕ => (![z, 128] : Fin 2 → ℕ)) h

theorem off3_eq (i : grid0.Coords) : k0_off3 i = offW i 2 := by
  have h := congrFun (off1_eq i) 0
  exact congrArg (fun z : ℕ => (![z, 256] : Fin 2 → ℕ)) h

theorem off4_eq (i : grid0.Coords) : k0_off4 i = offW i 3 := by
  have h := congrFun (off1_eq i) 0
  exact congrArg (fun z : ℕ => (![z, 384] : Fin 2 → ℕ)) h

/-- The four loads of 128 columns of a block of query rows. -/
def rdQ {e : EltTy} (m : Memref sig .tc .vmem S128x512 e) (f : m.view.ty.Contents (Elt F)) : Fin 4 → Vec F S128x128 e :=
  ![m.view.readAt (Elt F) (Rect.unit (s := S128x512) ![0, 0] S128x128.size inb_S128x512_S128x128_0_0).toLoadRect f,
    m.view.readAt (Elt F) (Rect.unit (s := S128x512) ![0, 128] S128x128.size inb_S128x512_S128x128_0_128).toLoadRect f,
    m.view.readAt (Elt F) (Rect.unit (s := S128x512) ![0, 256] S128x128.size inb_S128x512_S128x128_0_256).toLoadRect f,
    m.view.readAt (Elt F) (Rect.unit (s := S128x512) ![0, 384] S128x128.size inb_S128x512_S128x128_0_384).toLoadRect f]

theorem rdQ_eq {e : EltTy} (m : Memref sig .tc .vmem S128x512 e) (f : m.view.ty.Contents (Elt F)) :
    rdQ m f = fun p => colB p (m.view.read (Elt F) f) := by
  funext p; fin_cases p <;> rfl

/-- The four loads of a window of key rows. -/
def rdW {e : EltTy} (i : grid0.Coords) (m : Memref sig .tc .vmem S2560x512 e) (f : m.view.ty.Contents (Elt F)) : Fin 4 → Vec F S640x128 e :=
  ![m.view.readAt (Elt F) (Rect.unit (s := S2560x512) (k0_off1 i) S640x128.size (k0_off1_inb i)).toLoadRect f,
    m.view.readAt (Elt F) (Rect.unit (s := S2560x512) (k0_off2 i) S640x128.size (k0_off2_inb i)).toLoadRect f,
    m.view.readAt (Elt F) (Rect.unit (s := S2560x512) (k0_off3 i) S640x128.size (k0_off3_inb i)).toLoadRect f,
    m.view.readAt (Elt F) (Rect.unit (s := S2560x512) (k0_off4 i) S640x128.size (k0_off4_inb i)).toLoadRect f]

theorem rdW_eq {e : EltTy} (i : grid0.Coords) (m : Memref sig .tc .vmem S2560x512 e) (f : m.view.ty.Contents (Elt F)) :
    rdW i m f = fun p => winB i p (m.view.read (Elt F) f) := by
  funext p
  fin_cases p
  · exact View.readAt_unit m.view f _ (off1_eq i) (offW_inb i 0)
  · exact View.readAt_unit m.view f _ (off2_eq i) (offW_inb i 1)
  · exact View.readAt_unit m.view f _ (off3_eq i) (offW_inb i 2)
  · exact View.readAt_unit m.view f _ (off4_eq i) (offW_inb i 3)

/-- The eight loads of one head's slab. -/
def rdH (m : Memref sig .tc .vmem S8x128x640 .f32) (f : m.view.ty.Contents (Elt F)) : Fin 8 → Vec F S1x128x640 .f32 :=
  ![m.view.readAt (Elt F) (Rect.unit (s := S8x128x640) ![0, 0, 0] S1x128x640.size inb_S8x128x640_S1x128x640_0_0_0).toLoadRect f,
    m.view.readAt (Elt F) (Rect.unit (s := S8x128x640) ![1, 0, 0] S1x128x640.size inb_S8x128x640_S1x128x640_1_0_0).toLoadRect f,
    m.view.readAt (Elt F) (Rect.unit (s := S8x128x640) ![2, 0, 0] S1x128x640.size inb_S8x128x640_S1x128x640_2_0_0).toLoadRect f,
    m.view.readAt (Elt F) (Rect.unit (s := S8x128x640) ![3, 0, 0] S1x128x640.size inb_S8x128x640_S1x128x640_3_0_0).toLoadRect f,
    m.view.readAt (Elt F) (Rect.unit (s := S8x128x640) ![4, 0, 0] S1x128x640.size inb_S8x128x640_S1x128x640_4_0_0).toLoadRect f,
    m.view.readAt (Elt F) (Rect.unit (s := S8x128x640) ![5, 0, 0] S1x128x640.size inb_S8x128x640_S1x128x640_5_0_0).toLoadRect f,
    m.view.readAt (Elt F) (Rect.unit (s := S8x128x640) ![6, 0, 0] S1x128x640.size inb_S8x128x640_S1x128x640_6_0_0).toLoadRect f,
    m.view.readAt (Elt F) (Rect.unit (s := S8x128x640) ![7, 0, 0] S1x128x640.size inb_S8x128x640_S1x128x640_7_0_0).toLoadRect f]

theorem rdH_eq (m : Memref sig .tc .vmem S8x128x640 .f32) (f : m.view.ty.Contents (Elt F)) :
    rdH m f = fun h => slabB h (m.view.read (Elt F) f) := by
  funext p; fin_cases p <;> rfl

section Pieces

variable (i : grid0.Coords) (q : Fin 4 → Vec F S128x128 .bf16) (kw vw : Fin 4 → Vec F S640x128 .bf16) (d : Fin 4 → Vec F S128x128 .f32)
  (b : Fin 8 → Vec F S1x128x640 .f32)

/-- The four stores of query gradients, last first. -/
def dqPieces : List (View.Piece (Elt F) S128x512 .bf16) :=
  [⟨Rect.unit (s := S128x512) ![0, 384] S128x128.size inb_S128x512_S128x128_0_384, dqPair i (q 3) (kw 3) (vw 3) (d 3) (b 6) (b 7)⟩,
   ⟨Rect.unit (s := S128x512) ![0, 256] S128x128.size inb_S128x512_S128x128_0_256, dqPair i (q 2) (kw 2) (vw 2) (d 2) (b 4) (b 5)⟩,
   ⟨Rect.unit (s := S128x512) ![0, 128] S128x128.size inb_S128x512_S128x128_0_128, dqPair i (q 1) (kw 1) (vw 1) (d 1) (b 2) (b 3)⟩,
   ⟨Rect.unit (s := S128x512) ![0, 0] S128x128.size inb_S128x512_S128x128_0_0, dqPair i (q 0) (kw 0) (vw 0) (d 0) (b 0) (b 1)⟩]

/-- The eight stores of the kept gradient by the masked scores, last first, over what was kept. -/
def dbPieces (o : Fin 8 → Vec F S1x128x640 .f32) : List (View.Piece (Elt F) S8x128x640 .f32) :=
  [⟨Rect.unit (s := S8x128x640) ![7, 0, 0] S1x128x640.size inb_S8x128x640_S1x128x640_7_0_0, dbAdd (o 7) (dzHead i 1 (q 3) (kw 3) (vw 3) (d 3) (b 7))⟩,
   ⟨Rect.unit (s := S8x128x640) ![6, 0, 0] S1x128x640.size inb_S8x128x640_S1x128x640_6_0_0, dbAdd (o 6) (dzHead i 0 (q 3) (kw 3) (vw 3) (d 3) (b 6))⟩,
   ⟨Rect.unit (s := S8x128x640) ![5, 0, 0] S1x128x640.size inb_S8x128x640_S1x128x640_5_0_0, dbAdd (o 5) (dzHead i 1 (q 2) (kw 2) (vw 2) (d 2) (b 5))⟩,
   ⟨Rect.unit (s := S8x128x640) ![4, 0, 0] S1x128x640.size inb_S8x128x640_S1x128x640_4_0_0, dbAdd (o 4) (dzHead i 0 (q 2) (kw 2) (vw 2) (d 2) (b 4))⟩,
   ⟨Rect.unit (s := S8x128x640) ![3, 0, 0] S1x128x640.size inb_S8x128x640_S1x128x640_3_0_0, dbAdd (o 3) (dzHead i 1 (q 1) (kw 1) (vw 1) (d 1) (b 3))⟩,
   ⟨Rect.unit (s := S8x128x640) ![2, 0, 0] S1x128x640.size inb_S8x128x640_S1x128x640_2_0_0, dbAdd (o 2) (dzHead i 0 (q 1) (kw 1) (vw 1) (d 1) (b 2))⟩,
   ⟨Rect.unit (s := S8x128x640) ![1, 0, 0] S1x128x640.size inb_S8x128x640_S1x128x640_1_0_0, dbAdd (o 1) (dzHead i 1 (q 0) (kw 0) (vw 0) (d 0) (b 1))⟩,
   ⟨Rect.unit (s := S8x128x640) ![0, 0, 0] S1x128x640.size inb_S8x128x640_S1x128x640_0_0_0, dbAdd (o 0) (dzHead i 0 (q 0) (kw 0) (vw 0) (d 0) (b 0))⟩]

/-- The four stores of a kept gradient of key rows, last first. -/
def winPieces (w : Fin 4 → Vec F S640x128 .f32) : List (View.Piece (Elt F) S2560x512 .f32) :=
  [⟨Rect.unit (s := S2560x512) (k0_off4 i) S640x128.size (k0_off4_inb i), w 3⟩,
   ⟨Rect.unit (s := S2560x512) (k0_off3 i) S640x128.size (k0_off3_inb i), w 2⟩,
   ⟨Rect.unit (s := S2560x512) (k0_off2 i) S640x128.size (k0_off2_inb i), w 1⟩,
   ⟨Rect.unit (s := S2560x512) (k0_off1 i) S640x128.size (k0_off1_inb i), w 0⟩]

/-- The payloads of the stores of key gradients, over what was kept. -/
def dkVals (o : Fin 4 → Vec F S640x128 .f32) : Fin 4 → Vec F S640x128 .f32 :=
  ![winAdd (o 0) (dkPair i (q 0) (kw 0) (vw 0) (d 0) (b 0) (b 1)), winAdd (o 1) (dkPair i (q 1) (kw 1) (vw 1) (d 1) (b 2) (b 3)),
    winAdd (o 2) (dkPair i (q 2) (kw 2) (vw 2) (d 2) (b 4) (b 5)), winAdd (o 3) (dkPair i (q 3) (kw 3) (vw 3) (d 3) (b 6) (b 7))]

/-- The payloads of the stores of value gradients, over what was kept. -/
def dvVals (o : Fin 4 → Vec F S640x128 .f32) : Fin 4 → Vec F S640x128 .f32 :=
  ![winAdd (o 0) (dvPair i (q 0) (kw 0) (d 0) (b 0) (b 1)), winAdd (o 1) (dvPair i (q 1) (kw 1) (d 1) (b 2) (b 3)),
    winAdd (o 2) (dvPair i (q 2) (kw 2) (d 2) (b 4) (b 5)), winAdd (o 3) (dvPair i (q 3) (kw 3) (d 3) (b 6) (b 7))]

end Pieces

/-! ## What the lists of stores leave -/

theorem put4_cover (x x' : Vec F S128x512 .bf16) (w : Fin 4 → Vec F S128x128 .bf16) : put4 x w = put4 x' w := by
  funext y
  have h0 : (y (0 : Fin 2)).val < 128 := (y (0 : Fin 2)).isLt
  have h1 : (y (1 : Fin 2)).val < 512 := (y (1 : Fin 2)).isLt
  unfold put4 VecWindow.put
  split_ifs with a3 a2 a1 a0 <;> try rfl
  exfalso
  have k (o : ℕ) (ho : ¬ ∀ a : Fin 2, (![0, o] : Fin 2 → ℕ) a ≤ (y a).val ∧ (y a).val < (![0, o] : Fin 2 → ℕ) a + S128x128.size a) :
      ¬ (o ≤ (y (1 : Fin 2)).val ∧ (y (1 : Fin 2)).val < o + 128) := fun hh => ho (Fin.forall_fin_two.mpr ⟨⟨Nat.zero_le _, by
        show _ < 0 + 128; omega⟩, hh⟩)
  have := k _ a3; have := k _ a2; have := k _ a1; have := k _ a0
  omega

theorem read_dqPieces (i : grid0.Coords) (q : Fin 4 → Vec F S128x128 .bf16) (kw vw : Fin 4 → Vec F S640x128 .bf16) (d : Fin 4 → Vec F S128x128 .f32)
    (b : Fin 8 → Vec F S1x128x640 .f32) (m : Memref sig .tc .vmem S128x512 .bf16) (f : m.view.ty.Contents (Elt F)) :
    m.view.read (Elt F) (m.view.writes (Elt F) f (dqPieces i q kw vw d b))
      = put4 (fun _ => Scalar.ofBits .bf16 0x0000#16) fun p => dqPair i (q p) (kw p) (vw p) (d p) (b (headNo p 0)) (b (headNo p 1)) := by
  refine Eq.trans ?_ (put4_cover (m.view.read (Elt F) f) _ _)
  unfold dqPieces
  rw [View.read_writes_cons_put _ _ _ _ _ rfl, View.read_writes_cons_put _ _ _ _ _ rfl, View.read_writes_cons_put _ _ _ _ _ rfl,
    View.read_writes_cons_put _ _ _ _ _ rfl, View.writes_nil]
  rfl

theorem read_winPieces (i : grid0.Coords) (w : Fin 4 → Vec F S640x128 .f32) (L : List (View.Piece (Elt F) S2560x512 .f32))
    (m : Memref sig .tc .vmem S2560x512 .f32) (f : m.view.ty.Contents (Elt F)) :
    m.view.read (Elt F) (m.view.writes (Elt F) f (winPieces i w ++ L)) = putW i (m.view.read (Elt F) (m.view.writes (Elt F) f L)) w := by
  unfold winPieces
  simp only [List.cons_append, List.nil_append]
  rw [View.read_writes_cons_put _ _ _ _ _ (off4_eq i), View.read_writes_cons_put _ _ _ _ _ (off3_eq i),
    View.read_writes_cons_put _ _ _ _ _ (off2_eq i), View.read_writes_cons_put _ _ _ _ _ (off1_eq i)]
  rfl

theorem read_dbPieces (i : grid0.Coords) (q : Fin 4 → Vec F S128x128 .bf16) (kw vw : Fin 4 → Vec F S640x128 .bf16) (d : Fin 4 → Vec F S128x128 .f32)
    (b : Fin 8 → Vec F S1x128x640 .f32) (o : Fin 8 → Vec F S1x128x640 .f32) (L : List (View.Piece (Elt F) S8x128x640 .f32))
    (m : Memref sig .tc .vmem S8x128x640 .f32) (f : m.view.ty.Contents (Elt F)) :
    m.view.read (Elt F) (m.view.writes (Elt F) f (dbPieces i q kw vw d b o ++ L))
      = putH (m.view.read (Elt F) (m.view.writes (Elt F) f L)) fun h => dbAdd (o h)
          (dzHead i ⟨h.val % 2, by omega⟩ (q ⟨h.val / 2, by have := h.isLt; omega⟩) (kw ⟨h.val / 2, by have := h.isLt; omega⟩)
            (vw ⟨h.val / 2, by have := h.isLt; omega⟩) (d ⟨h.val / 2, by have := h.isLt; omega⟩) (b h)) := by
  unfold dbPieces
  simp only [List.cons_append, List.nil_append]
  rw [View.read_writes_cons_put _ _ _ _ _ rfl, View.read_writes_cons_put _ _ _ _ _ rfl, View.read_writes_cons_put _ _ _ _ _ rfl,
    View.read_writes_cons_put _ _ _ _ _ rfl, View.read_writes_cons_put _ _ _ _ _ rfl, View.read_writes_cons_put _ _ _ _ _ rfl,
    View.read_writes_cons_put _ _ _ _ _ rfl, View.read_writes_cons_put _ _ _ _ _ rfl]
  rfl

end Cert.KernelIdeal.Band

end
-- ==== Proof.Chain.lean ====
module

public import proofs.«01_k».proof.Proof.Pieces

@[expose] public section

set_option maxRecDepth 16384

/-!
# Stores that each read back their own rectangle first

A list of stores at rectangles apart from each other, where each store's payload is computed of what
its rectangle held after the stores before it, leaves what it leaves where each payload is computed of
the first contents.
-/

noncomputable section

namespace Cert.KernelIdeal.Band

open Cert.KernelIdeal Cert.KernelIdeal.Gen
open Idealize.ShloMosaic Idealize.ShloMosaic.TcCoe

variable {F : FTy → Type} [FloatOps F] [Named F]

section Chain

variable {s : Shape} {e : EltTy} {N : ℕ} (off : Fin N → Fin s.rank → ℕ) (size : Fin s.rank → ℕ)
  (inb : ∀ k a, off k a + size a ≤ s.size a)
  (g : Fin N → (((a : Fin s.rank) → Fin (size a)) → Elt F e) → (((a : Fin s.rank) → Fin (size a)) → Elt F e))

/-- The contents after `k` stores, each computed of what its rectangle held. -/
def chain (x : s.Idx → Elt F e) : (k : ℕ) → k ≤ N → s.Idx → Elt F e
  | 0, _ => x
  | k + 1, h => VecWindow.put (chain x k (Nat.le_of_lt h)) (off ⟨k, h⟩) size
      (g ⟨k, h⟩ (VecWindow.window (chain x k (Nat.le_of_lt h)) (off ⟨k, h⟩) size (inb ⟨k, h⟩)))

/-- The contents after `k` stores, each computed of the first contents. -/
def puts (x : s.Idx → Elt F e) : (k : ℕ) → k ≤ N → s.Idx → Elt F e
  | 0, _ => x
  | k + 1, h => VecWindow.put (puts x k (Nat.le_of_lt h)) (off ⟨k, h⟩) size
      (g ⟨k, h⟩ (VecWindow.window x (off ⟨k, h⟩) size (inb ⟨k, h⟩)))

/-- The list of stores, last first, over an earlier list. -/
def chainPieces (m : Memref sig .tc .vmem s e) (H : List (View.Piece (Elt F) s e)) : (k : ℕ) → k ≤ N → List (View.Piece (Elt F) s e)
  | 0, _ => H
  | k + 1, h => ⟨Rect.unit (off ⟨k, h⟩) size (inb ⟨k, h⟩), g ⟨k, h⟩ (m.view.readAt (Elt F) (Rect.unit (off ⟨k, h⟩) size (inb ⟨k, h⟩)).toLoadRect
      (m.view.writes (Elt F) m.view.junk (chainPieces m H k (Nat.le_of_lt h))))⟩ :: chainPieces m H k (Nat.le_of_lt h)

theorem window_chain (hd : ∀ k l : Fin N, k ≠ l → ∃ a, off k a + size a ≤ off l a ∨ off l a + size a ≤ off k a) (x : s.Idx → Elt F e) (l : Fin N) :
    ∀ (k : ℕ) (h : k ≤ N), k ≤ l.val → VecWindow.window (chain off size inb g x k h) (off l) size (inb l) = VecWindow.window x (off l) size (inb l)
  | 0, _, _ => rfl
  | k + 1, h, hl => by
    obtain ⟨a, ha⟩ := hd l ⟨k, h⟩ (fun e => by have := congrArg Fin.val e; simp only at this; omega)
    exact (VecWindow.window_put_of_disjoint _ _ _ _ _ (inb l) _ a ha).trans (window_chain hd x l k _ (by omega))

theorem chain_eq_puts (hd : ∀ k l : Fin N, k ≠ l → ∃ a, off k a + size a ≤ off l a ∨ off l a + size a ≤ off k a) (x : s.Idx → Elt F e) :
    ∀ (k : ℕ) (h : k ≤ N), chain off size inb g x k h = puts off size inb g x k h
  | 0, _ => rfl
  | k + 1, h => by
    show VecWindow.put (chain off size inb g x k _) _ _ _ = VecWindow.put (puts off size inb g x k _) _ _ _
    rw [window_chain off size inb g hd x ⟨k, h⟩ k _ le_rfl, chain_eq_puts hd x k]

theorem read_chainPieces (m : Memref sig .tc .vmem s e) (H : List (View.Piece (Elt F) s e)) (x : s.Idx → Elt F e)
    (hH : ∀ f, m.view.read (Elt F) (m.view.writes (Elt F) f H) = x) :
    ∀ (k : ℕ) (h : k ≤ N) (f), m.view.read (Elt F) (m.view.writes (Elt F) f (chainPieces off size inb g m H k h)) = chain off size inb g x k h
  | 0, _, f => hH f
  | k + 1, h, f => by
    refine (View.read_writes_cons_put m.view f _ _ _ rfl).trans ?_
    rw [View.readAt_unit m.view _ _ rfl (inb ⟨k, h⟩), read_chainPieces m H x hH k _ f, read_chainPieces m H x hH k _ m.view.junk]
    rfl

/-- One more store of such a list. -/
theorem chainPieces_step (m : Memref sig .tc .vmem s e) (H L L' : List (View.Piece (Elt F) s e)) (k : ℕ) (h : k + 1 ≤ N)
    (ih : L = chainPieces off size inb g m H k (Nat.le_of_lt h))
    (he : L' = ⟨Rect.unit (off ⟨k, h⟩) size (inb ⟨k, h⟩), g ⟨k, h⟩ (m.view.readAt (Elt F) (Rect.unit (off ⟨k, h⟩) size (inb ⟨k, h⟩)).toLoadRect
      (m.view.writes (Elt F) m.view.junk L))⟩ :: L) :
    L' = chainPieces off size inb g m H (k + 1) h := by
  rw [he, ih]; rfl

end Chain

/-- The offsets of the four stores to a window. -/
def offK (i : grid0.Coords) : Fin 4 → Fin 2 → ℕ := ![k0_off1 i, k0_off2 i, k0_off3 i, k0_off4 i]

theorem offK_eq (i : grid0.Coords) (p : Fin 4) : offK i p = offW i p := by
  fin_cases p
  · exact off1_eq i
  · exact off2_eq i
  · exact off3_eq i
  · exact off4_eq i

theorem offK_inb (i : grid0.Coords) (p : Fin 4) (a : Fin 2) : offK i p a + S640x128.size a ≤ S2560x512.size a := by
  rw [offK_eq]; exact offW_inb i p a

theorem read_winChain (i : grid0.Coords) (w : Fin 4 → Vec F S640x128 .f32) (m : Memref sig .tc .vmem S2560x512 .f32)
    (H : List (View.Piece (Elt F) S2560x512 .f32)) (x : Vec F S2560x512 .f32) (hH : ∀ f, m.view.read (Elt F) (m.view.writes (Elt F) f H) = x)
    (f : m.view.ty.Contents (Elt F)) :
    m.view.read (Elt F) (m.view.writes (Elt F) f
      (chainPieces (s := S2560x512) (e := .f32) (offK i) S640x128.size (offK_inb i) (fun p o => winAdd o (w p)) m H 4 le_rfl))
      = putW i x fun p => winAdd (winB i p x) (w p) := by
  rw [read_chainPieces (s := S2560x512) (e := .f32) (offK i) S640x128.size (offK_inb i) (fun p o => winAdd o (w p)) m H x hH,
    chain_eq_puts (s := S2560x512) (e := .f32) (offK i) S640x128.size (offK_inb i) (fun p o => winAdd o (w p))]
  · have h : offK i = offW i := funext (offK_eq i)
    have key : ∀ (o : Fin 4 → Fin 2 → ℕ) (ho : ∀ p a, o p a + S640x128.size a ≤ S2560x512.size a), o = offW i →
        puts (s := S2560x512) (e := .f32) o S640x128.size ho (fun p o => winAdd o (w p)) x 4 le_rfl = putW i x fun p => winAdd (winB i p x) (w p) := by
      rintro o ho rfl; rfl
    exact key _ _ h
  · intro k l hkl
    refine ⟨(1 : Fin 2), ?_⟩
    rw [offK_eq, offK_eq]
    have : k.val ≠ l.val := fun h => hkl (Fin.ext h)
    show 128 * k.val + 128 ≤ 128 * l.val ∨ 128 * l.val + 128 ≤ 128 * k.val
    omega

/-- The offsets of the eight stores to a head's slab. -/
def offH : Fin 8 → Fin 3 → ℕ := fun h => ![h.val, 0, 0]

theorem read_headChain (g : Fin 8 → Vec F S128x640 .f32) (m : Memref sig .tc .vmem S8x128x640 .f32)
    (H : List (View.Piece (Elt F) S8x128x640 .f32)) (x : Vec F S8x128x640 .f32) (hH : ∀ f, m.view.read (Elt F) (m.view.writes (Elt F) f H) = x)
    (f : m.view.ty.Contents (Elt F)) :
    m.view.read (Elt F) (m.view.writes (Elt F) f
      (chainPieces (s := S8x128x640) (e := .f32) offH S1x128x640.size head_inb (fun h o => dbAdd o (g h)) m H 8 le_rfl))
      = putH x fun h => dbAdd (slabB h x) (g h) := by
  rw [read_chainPieces (s := S8x128x640) (e := .f32) offH S1x128x640.size head_inb (fun h o => dbAdd o (g h)) m H x hH,
    chain_eq_puts (s := S8x128x640) (e := .f32) offH S1x128x640.size head_inb (fun h o => dbAdd o (g h))]
  · rfl
  · intro k l hkl
    refine ⟨(0 : Fin 3), ?_⟩
    have : k.val ≠ l.val := fun h => hkl (Fin.ext h)
    show k.val + 1 ≤ l.val ∨ l.val + 1 ≤ k.val
    omega

/-- The stores that pad an array of rows with 512 rows of zeros above. -/
def padPieces (x : Vec F S2048x512 .bf16) : List (View.Piece (Elt F) S2560x512 .bf16) :=
  [⟨Rect.unit (s := S2560x512) ![512, 0] S2048x512.size inb_S2560x512_S2048x512_512_0, k0_pay4 x⟩,
   ⟨Rect.unit (s := S2560x512) ![0, 0] S512x512.size inb_S2560x512_S512x512_0_0, k0_pay3⟩]

theorem read_padPieces (x : Vec F S2048x512 .bf16) (m : Memref sig .tc .vmem S2560x512 .bf16) (f : m.view.ty.Contents (Elt F)) :
    m.view.read (Elt F) (m.view.writes (Elt F) f (padPieces x)) = padded x := by
  unfold padPieces
  rw [View.read_writes_cons_put _ _ _ _ _ rfl, View.read_writes_cons_put _ _ _ _ _ rfl, View.writes_nil]
  funext y
  have h0 : (y (0 : Fin 2)).val < 2560 := (y (0 : Fin 2)).isLt
  have h1 : (y (1 : Fin 2)).val < 512 := (y (1 : Fin 2)).isLt
  unfold padded VecWindow.put
  split_ifs with a3 a2 <;> try rfl
  exfalso
  have k3 : ¬ (512 ≤ (y (0 : Fin 2)).val) := fun hh => a3 (Fin.forall_fin_two.mpr ⟨⟨hh, by show _ < 512 + 2048; omega⟩, ⟨Nat.zero_le _, by show _ < 0 + 512; omega⟩⟩)
  exact a2 (Fin.forall_fin_two.mpr ⟨⟨Nat.zero_le _, by show _ < 0 + 512; omega⟩, ⟨Nat.zero_le _, by show _ < 0 + 512; omega⟩⟩)

end Cert.KernelIdeal.Band

end
-- ==== Proof.RunFirst.lean ====
module

public import proofs.«01_k».proof.Proof.Gen.KernelIdeal.Skeleton
public import proofs.«01_k».proof.Proof.Gen.KernelIdeal.Frame
public import proofs.«01_k».proof.Proof.RunMid

@[expose] public section

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runFirst (c : Dev nD) (i : grid0.Coords) (arg1 : Memref sig .tc .hbm S8x128 .f32) (harg1 : arg1.IsWhole) (arg2 : Memref sig .tc .vmem S128x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S8x128x640 .f32) (harg5 : arg5.IsWhole) (arg6 : Memref sig .tc .vmem S128x512 .f32) (harg6 : arg6.IsWhole) (arg7 : Memref sig .tc .vmem S128x512 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S8x128x640 .f32) (harg10 : arg10.IsWhole) (arg11 : Memref sig .tc .vmem S2560x512 .bf16) (harg11 : arg11.IsWhole) (arg12 : Memref sig .tc .vmem S2560x512 .bf16) (harg12 : arg12.IsWhole) (arg13 : Memref sig .tc .vmem S2560x512 .f32) (harg13 : arg13.IsWhole) (arg14 : Memref sig .tc .vmem S2560x512 .f32) (harg14 : arg14.IsWhole) (h0 : isFirst i) (h1 : ¬k0_cond2 i = 1#1)
    (x2 : Vec F S128x512 .bf16) (x3 x4 : Vec F S2048x512 .bf16) (x5 : Vec F S8x128x640 .f32) (x6 : Vec F S128x512 .f32) :
    { L : List (View.Piece (Elt F) S128x512 .bf16) × List (View.Piece (Elt F) S8x128x640 .f32) × List (View.Piece (Elt F) S2560x512 .bf16) × List (View.Piece (Elt F) S2560x512 .bf16) × List (View.Piece (Elt F) S2560x512 .f32) × List (View.Piece (Elt F) S2560x512 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L.1) ∗ (∃ f, arg10.view.loc (c : Thread nD τ) ↦[arg10.view.set]{fullShare} arg10.view.writes (Elt F) f L.2.1) ∗ (∃ f, arg11.view.loc (c : Thread nD τ) ↦[arg11.view.set]{fullShare} arg11.view.writes (Elt F) f L.2.2.1) ∗ (∃ f, arg12.view.loc (c : Thread nD τ) ↦[arg12.view.set]{fullShare} arg12.view.writes (Elt F) f L.2.2.2.1) ∗ (∃ f, arg13.view.loc (c : Thread nD τ) ↦[arg13.view.set]{fullShare} arg13.view.writes (Elt F) f L.2.2.2.2.1) ∗ (∃ f, arg14.view.loc (c : Thread nD τ) ↦[arg14.view.set]{fullShare} arg14.view.writes (Elt F) f L.2.2.2.2.2)) -∗ K ⟨⟩))
          ⊢ wp frame (wpE (defs₀ (F := F)) Variants.none c none) E (cc0_ch_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨(?_, ?_, ?_, ?_, ?_, ?_), fun E K => ?run⟩
  case run =>
    simp only [cc0_ch_bwd_eq_skeleton]; unfold cc0_ch_bwd_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d10, %f10, -, H10⟩, ⟨%d11, %f11, -, H11⟩, ⟨%d12, %f12, -, H12⟩, ⟨%d13, %f13, -, H13⟩, ⟨%d14, %f14, -, H14⟩, Hk⟩
    obtain rfl := harg2.eq_unread hf2; obtain rfl := harg3.eq_unread hf3; obtain rfl := harg4.eq_unread hf4; obtain rfl := harg5.eq_unread hf5; obtain rfl := harg6.eq_unread hf6
    sl_exec (disch := first | sl_exact h0 | sl_exact h1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H10]
    · iexists _; iexact H10
    isplitl [H11]
    · iexists _; iexact H11
    isplitl [H12]
    · iexists _; iexact H12
    isplitl [H13]
    · iexists _; iexact H13
    iexists _; iexact H14

end Cert.KernelIdeal.Band

end
-- ==== Proof.ValFirst.lean ====
module

public import proofs.«01_k».proof.Proof.Chain
public import proofs.«01_k».proof.Proof.RunFirst

@[expose] public section

set_option maxRecDepth 16384

/-! # What the body leaves at the first point -/

noncomputable section

namespace Cert.KernelIdeal.Band

open Cert.KernelIdeal Cert.KernelIdeal.Gen
open Idealize.ShloMosaic Idealize.ShloMosaic.TcCoe

variable {F : FTy → Type} [FloatOps F] [Named F]

/-- The load of the whole array of keys or values. -/
def rdA (m : Memref sig .tc .vmem S2048x512 .bf16) (f : m.view.ty.Contents (Elt F)) : Vec F S2048x512 .bf16 :=
  m.view.readAt (Elt F) (Rect.unit (s := S2048x512) ![0, 0] S2048x512.size inb_S2048x512_S2048x512_0_0).toLoadRect f

theorem rdA_eq (m : Memref sig .tc .vmem S2048x512 .bf16) (f : m.view.ty.Contents (Elt F)) : rdA m f = m.view.read (Elt F) f :=
  View.readAt_full m.view f _

section First

variable  (c : Dev nD) (i : grid0.Coords) (arg1 : Memref sig .tc .hbm S8x128 .f32) (harg1 : arg1.IsWhole) (arg2 : Memref sig .tc .vmem S128x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S8x128x640 .f32) (harg5 : arg5.IsWhole) (arg6 : Memref sig .tc .vmem S128x512 .f32) (harg6 : arg6.IsWhole) (arg7 : Memref sig .tc .vmem S128x512 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S8x128x640 .f32) (harg10 : arg10.IsWhole) (arg11 : Memref sig .tc .vmem S2560x512 .bf16) (harg11 : arg11.IsWhole) (arg12 : Memref sig .tc .vmem S2560x512 .bf16) (harg12 : arg12.IsWhole) (arg13 : Memref sig .tc .vmem S2560x512 .f32) (harg13 : arg13.IsWhole) (arg14 : Memref sig .tc .vmem S2560x512 .f32) (harg14 : arg14.IsWhole) (h0 : isFirst i) (h1 : ¬k0_cond2 i = 1#1)
    (x2 : Vec F S128x512 .bf16) (x3 x4 : Vec F S2048x512 .bf16) (x5 : Vec F S8x128x640 .f32) (x6 : Vec F S128x512 .f32)

theorem first_kp (f) : arg11.view.read (Elt F) (arg11.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6).1.2.2.1) = padded x3 := by
  refine Eq.trans (congrArg (fun L => arg11.view.read (Elt F) (arg11.view.writes (Elt F) f L))
    (show _ = padPieces (rdA arg3 (harg3.unread x3)) from rfl)) ?_
  rw [read_padPieces, rdA_eq, Memref.IsWhole.read_unread]

theorem first_vp (f) : arg12.view.read (Elt F) (arg12.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6).1.2.2.2.1) = padded x4 := by
  refine Eq.trans (congrArg (fun L => arg12.view.read (Elt F) (arg12.view.writes (Elt F) f L))
    (show _ = padPieces (rdA arg4 (harg4.unread x4)) from rfl)) ?_
  rw [read_padPieces, rdA_eq, Memref.IsWhole.read_unread]

theorem first_dq (f) : arg7.view.read (Elt F) (arg7.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6).1.1) = outDq i x2 x5 x6 (padded x3) (padded x4) := by
  refine Eq.trans (congrArg (fun L => arg7.view.read (Elt F) (arg7.view.writes (Elt F) f L))
    (show _ = dqPieces i (rdQ arg2 (harg2.unread x2)) (rdW i arg11 (arg11.view.writes (Elt F) arg11.view.junk (padPieces (rdA arg3 (harg3.unread x3)))))
      (rdW i arg12 (arg12.view.writes (Elt F) arg12.view.junk (padPieces (rdA arg4 (harg4.unread x4)))))
      (rdQ arg6 (harg6.unread x6)) (rdH arg5 (harg5.unread x5)) from rfl)) ?_
  simp only [rdQ_eq, rdW_eq, rdH_eq, rdA_eq, read_padPieces, Memref.IsWhole.read_unread]
  exact read_dqPieces i _ _ _ _ _ arg7 f

set_option maxHeartbeats 2000000 in
theorem first_dk (f) : arg13.view.read (Elt F) (arg13.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6).1.2.2.2.2.1)
    = stepDk i x2 x5 x6 (padded x3) (padded x4) k0_pay7 := by
  refine Eq.trans (congrArg (fun L => arg13.view.read (Elt F) (arg13.view.writes (Elt F) f L))
    (show _ = chainPieces (s := S2560x512) (e := .f32) (offK i) S640x128.size (offK_inb i) (fun p o => winAdd o
      ((fun p : Fin 4 => dkPair i (rdQ arg2 (harg2.unread x2) p)
        (rdW i arg11 (arg11.view.writes (Elt F) arg11.view.junk (padPieces (rdA arg3 (harg3.unread x3)))) p)
        (rdW i arg12 (arg12.view.writes (Elt F) arg12.view.junk (padPieces (rdA arg4 (harg4.unread x4)))) p)
        (rdQ arg6 (harg6.unread x6) p) (rdH arg5 (harg5.unread x5) (headNo p 0)) (rdH arg5 (harg5.unread x5) (headNo p 1))) p)) arg13
      [⟨Rect.unit (s := S2560x512) ![0, 0] S2560x512.size inb_S2560x512_S2560x512_0_0, k0_pay7⟩] 4 le_rfl from
        (chainPieces_step _ _ _ _ _ _ (runFirst.sl.H13_4 c i arg2 harg2 arg3 harg3 arg4 harg4 arg5 harg5 arg6 harg6 arg11 arg12 arg13 x2 x3 x4 x5 x6) _ 3 _
        (chainPieces_step _ _ _ _ _ _ (runFirst.sl.H13_3 c i arg2 harg2 arg3 harg3 arg4 harg4 arg5 harg5 arg6 harg6 arg11 arg12 arg13 x2 x3 x4 x5 x6) (runFirst.sl.H13_4 c i arg2 harg2 arg3 harg3 arg4 harg4 arg5 harg5 arg6 harg6 arg11 arg12 arg13 x2 x3 x4 x5 x6) 2 _
        (chainPieces_step _ _ _ _ _ _ (runFirst.sl.H13_2 c i arg2 harg2 arg3 harg3 arg4 harg4 arg5 harg5 arg6 harg6 arg11 arg12 arg13 x2 x3 x4 x5 x6) (runFirst.sl.H13_3 c i arg2 harg2 arg3 harg3 arg4 harg4 arg5 harg5 arg6 harg6 arg11 arg12 arg13 x2 x3 x4 x5 x6) 1 _
        (chainPieces_step _ _ _ _ _ _ _ (runFirst.sl.H13_2 c i arg2 harg2 arg3 harg3 arg4 harg4 arg5 harg5 arg6 harg6 arg11 arg12 arg13 x2 x3 x4 x5 x6) 0 _ rfl rfl) rfl) rfl) rfl))) ?_
  rw [read_winChain i _ arg13 _ k0_pay7 (fun f => View.read_writes_full arg13.view f inb_S2560x512_S2560x512_0_0 _ [])]
  simp only [rdQ_eq, rdW_eq, rdH_eq, rdA_eq, read_padPieces, Memref.IsWhole.read_unread]
  rfl

set_option maxHeartbeats 2000000 in
theorem first_dv (f) : arg14.view.read (Elt F) (arg14.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6).1.2.2.2.2.2)
    = stepDv i x2 x5 x6 (padded x3) k0_pay7 := by
  refine Eq.trans (congrArg (fun L => arg14.view.read (Elt F) (arg14.view.writes (Elt F) f L))
    (show _ = chainPieces (s := S2560x512) (e := .f32) (offK i) S640x128.size (offK_inb i) (fun p o => winAdd o
      ((fun p : Fin 4 => dvPair i (rdQ arg2 (harg2.unread x2) p)
        (rdW i arg11 (arg11.view.writes (Elt F) arg11.view.junk (padPieces (rdA arg3 (harg3.unread x3)))) p)
        (rdQ arg6 (harg6.unread x6) p) (rdH arg5 (harg5.unread x5) (headNo p 0)) (rdH arg5 (harg5.unread x5) (headNo p 1))) p)) arg14
      [⟨Rect.unit (s := S2560x512) ![0, 0] S2560x512.size inb_S2560x512_S2560x512_0_0, k0_pay7⟩] 4 le_rfl from
        (chainPieces_step _ _ _ _ _ _ (runFirst.sl.H14_4 c i arg2 harg2 arg3 harg3 arg5 harg5 arg6 harg6 arg11 arg14 x2 x3 x5 x6) _ 3 _
        (chainPieces_step _ _ _ _ _ _ (runFirst.sl.H14_3 c i arg2 harg2 arg3 harg3 arg5 harg5 arg6 harg6 arg11 arg14 x2 x3 x5 x6) (runFirst.sl.H14_4 c i arg2 harg2 arg3 harg3 arg5 harg5 arg6 harg6 arg11 arg14 x2 x3 x5 x6) 2 _
        (chainPieces_step _ _ _ _ _ _ (runFirst.sl.H14_2 c i arg2 harg2 arg3 harg3 arg5 harg5 arg6 harg6 arg11 arg14 x2 x3 x5 x6) (runFirst.sl.H14_3 c i arg2 harg2 arg3 harg3 arg5 harg5 arg6 harg6 arg11 arg14 x2 x3 x5 x6) 1 _
        (chainPieces_step _ _ _ _ _ _ _ (runFirst.sl.H14_2 c i arg2 harg2 arg3 harg3 arg5 harg5 arg6 harg6 arg11 arg14 x2 x3 x5 x6) 0 _ rfl rfl) rfl) rfl) rfl))) ?_
  rw [read_winChain i _ arg14 _ k0_pay7 (fun f => View.read_writes_full arg14.view f inb_S2560x512_S2560x512_0_0 _ [])]
  simp only [rdQ_eq, rdW_eq, rdH_eq, rdA_eq, read_padPieces, Memref.IsWhole.read_unread]
  rfl

end First

end Cert.KernelIdeal.Band

end
-- ==== Proof.ValFirstDb.lean ====
module

public import proofs.«01_k».proof.Proof.ValFirst

@[expose] public section

set_option maxRecDepth 16384

/-! # What the body leaves of the bias gradient at the first point -/

noncomputable section

namespace Cert.KernelIdeal.Band

open Cert.KernelIdeal Cert.KernelIdeal.Gen
open Idealize.ShloMosaic Idealize.ShloMosaic.TcCoe

variable {F : FTy → Type} [FloatOps F] [Named F]

section First

variable  (c : Dev nD) (i : grid0.Coords) (arg1 : Memref sig .tc .hbm S8x128 .f32) (harg1 : arg1.IsWhole) (arg2 : Memref sig .tc .vmem S128x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S8x128x640 .f32) (harg5 : arg5.IsWhole) (arg6 : Memref sig .tc .vmem S128x512 .f32) (harg6 : arg6.IsWhole) (arg7 : Memref sig .tc .vmem S128x512 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S8x128x640 .f32) (harg10 : arg10.IsWhole) (arg11 : Memref sig .tc .vmem S2560x512 .bf16) (harg11 : arg11.IsWhole) (arg12 : Memref sig .tc .vmem S2560x512 .bf16) (harg12 : arg12.IsWhole) (arg13 : Memref sig .tc .vmem S2560x512 .f32) (harg13 : arg13.IsWhole) (arg14 : Memref sig .tc .vmem S2560x512 .f32) (harg14 : arg14.IsWhole) (h0 : isFirst i) (h1 : ¬k0_cond2 i = 1#1)
    (x2 : Vec F S128x512 .bf16) (x3 x4 : Vec F S2048x512 .bf16) (x5 : Vec F S8x128x640 .f32) (x6 : Vec F S128x512 .f32)

/-- The logit gradients of the eight heads, by their loads. -/
def firstDz : Fin 8 → Vec F S128x640 .f32 :=
  ![dzHead i 0 (rdQ arg2 (harg2.unread x2) 0) (rdW i arg11 (arg11.view.writes (Elt F) arg11.view.junk (padPieces (rdA arg3 (harg3.unread x3)))) 0) (rdW i arg12 (arg12.view.writes (Elt F) arg12.view.junk (padPieces (rdA arg4 (harg4.unread x4)))) 0) (rdQ arg6 (harg6.unread x6) 0) (rdH arg5 (harg5.unread x5) 0),
    dzHead i 1 (rdQ arg2 (harg2.unread x2) 0) (rdW i arg11 (arg11.view.writes (Elt F) arg11.view.junk (padPieces (rdA arg3 (harg3.unread x3)))) 0) (rdW i arg12 (arg12.view.writes (Elt F) arg12.view.junk (padPieces (rdA arg4 (harg4.unread x4)))) 0) (rdQ arg6 (harg6.unread x6) 0) (rdH arg5 (harg5.unread x5) 1),
    dzHead i 0 (rdQ arg2 (harg2.unread x2) 1) (rdW i arg11 (arg11.view.writes (Elt F) arg11.view.junk (padPieces (rdA arg3 (harg3.unread x3)))) 1) (rdW i arg12 (arg12.view.writes (Elt F) arg12.view.junk (padPieces (rdA arg4 (harg4.unread x4)))) 1) (rdQ arg6 (harg6.unread x6) 1) (rdH arg5 (harg5.unread x5) 2),
    dzHead i 1 (rdQ arg2 (harg2.unread x2) 1) (rdW i arg11 (arg11.view.writes (Elt F) arg11.view.junk (padPieces (rdA arg3 (harg3.unread x3)))) 1) (rdW i arg12 (arg12.view.writes (Elt F) arg12.view.junk (padPieces (rdA arg4 (harg4.unread x4)))) 1) (rdQ arg6 (harg6.unread x6) 1) (rdH arg5 (harg5.unread x5) 3),
    dzHead i 0 (rdQ arg2 (harg2.unread x2) 2) (rdW i arg11 (arg11.view.writes (Elt F) arg11.view.junk (padPieces (rdA arg3 (harg3.unread x3)))) 2) (rdW i arg12 (arg12.view.writes (Elt F) arg12.view.junk (padPieces (rdA arg4 (harg4.unread x4)))) 2) (rdQ arg6 (harg6.unread x6) 2) (rdH arg5 (harg5.unread x5) 4),
    dzHead i 1 (rdQ arg2 (harg2.unread x2) 2) (rdW i arg11 (arg11.view.writes (Elt F) arg11.view.junk (padPieces (rdA arg3 (harg3.unread x3)))) 2) (rdW i arg12 (arg12.view.writes (Elt F) arg12.view.junk (padPieces (rdA arg4 (harg4.unread x4)))) 2) (rdQ arg6 (harg6.unread x6) 2) (rdH arg5 (harg5.unread x5) 5),
    dzHead i 0 (rdQ arg2 (harg2.unread x2) 3) (rdW i arg11 (arg11.view.writes (Elt F) arg11.view.junk (padPieces (rdA arg3 (harg3.unread x3)))) 3) (rdW i arg12 (arg12.view.writes (Elt F) arg12.view.junk (padPieces (rdA arg4 (harg4.unread x4)))) 3) (rdQ arg6 (harg6.unread x6) 3) (rdH arg5 (harg5.unread x5) 6),
    dzHead i 1 (rdQ arg2 (harg2.unread x2) 3) (rdW i arg11 (arg11.view.writes (Elt F) arg11.view.junk (padPieces (rdA arg3 (harg3.unread x3)))) 3) (rdW i arg12 (arg12.view.writes (Elt F) arg12.view.junk (padPieces (rdA arg4 (harg4.unread x4)))) 3) (rdQ arg6 (harg6.unread x6) 3) (rdH arg5 (harg5.unread x5) 7)]

theorem first_db_step0 : (runFirst.sl.H10_2 c i arg2 harg2 arg3 harg3 arg4 harg4 arg5 harg5 arg6 harg6 arg10 arg11 arg12 x2 x3 x4 x5 x6)
    = ⟨Rect.unit (s := S8x128x640) ![0, 0, 0] S1x128x640.size inb_S8x128x640_S1x128x640_0_0_0, dbAdd (rdH arg10 (arg10.view.writes (Elt F) arg10.view.junk (runFirst.sl.H10_1 (F := F))) 0)
      (dzHead i 0 (rdQ arg2 (harg2.unread x2) 0) (rdW i arg11 (arg11.view.writes (Elt F) arg11.view.junk (padPieces (rdA arg3 (harg3.unread x3)))) 0) (rdW i arg12 (arg12.view.writes (Elt F) arg12.view.junk (padPieces (rdA arg4 (harg4.unread x4)))) 0) (rdQ arg6 (harg6.unread x6) 0) (rdH arg5 (harg5.unread x5) 0))⟩ :: (runFirst.sl.H10_1 (F := F)) := rfl

theorem first_db_step1 : (runFirst.sl.H10_3 c i arg2 harg2 arg3 harg3 arg4 harg4 arg5 harg5 arg6 harg6 arg10 arg11 arg12 x2 x3 x4 x5 x6)
    = ⟨Rect.unit (s := S8x128x640) ![1, 0, 0] S1x128x640.size inb_S8x128x640_S1x128x640_1_0_0, dbAdd (rdH arg10 (arg10.view.writes (Elt F) arg10.view.junk (runFirst.sl.H10_2 c i arg2 harg2 arg3 harg3 arg4 harg4 arg5 harg5 arg6 harg6 arg10 arg11 arg12 x2 x3 x4 x5 x6)) 1)
      (dzHead i 1 (rdQ arg2 (harg2.unread x2) 0) (rdW i arg11 (arg11.view.writes (Elt F) arg11.view.junk (padPieces (rdA arg3 (harg3.unread x3)))) 0) (rdW i arg12 (arg12.view.writes (Elt F) arg12.view.junk (padPieces (rdA arg4 (harg4.unread x4)))) 0) (rdQ arg6 (harg6.unread x6) 0) (rdH arg5 (harg5.unread x5) 1))⟩ :: (runFirst.sl.H10_2 c i arg2 harg2 arg3 harg3 arg4 harg4 arg5 harg5 arg6 harg6 arg10 arg11 arg12 x2 x3 x4 x5 x6) := rfl

theorem first_db_step2 : (runFirst.sl.H10_4 c i arg2 harg2 arg3 harg3 arg4 harg4 arg5 harg5 arg6 harg6 arg10 arg11 arg12 x2 x3 x4 x5 x6)
    = ⟨Rect.unit (s := S8x128x640) ![2, 0, 0] S1x128x640.size inb_S8x128x640_S1x128x640_2_0_0, dbAdd (rdH arg10 (arg10.view.writes (Elt F) arg10.view.junk (runFirst.sl.H10_3 c i arg2 harg2 arg3 harg3 arg4 harg4 arg5 harg5 arg6 harg6 arg10 arg11 arg12 x2 x3 x4 x5 x6)) 2)
      (dzHead i 0 (rdQ arg2 (harg2.unread x2) 1) (rdW i arg11 (arg11.view.writes (Elt F) arg11.view.junk (padPieces (rdA arg3 (harg3.unread x3)))) 1) (rdW i arg12 (arg12.view.writes (Elt F) arg12.view.junk (padPieces (rdA arg4 (harg4.unread x4)))) 1) (rdQ arg6 (harg6.unread x6) 1) (rdH arg5 (harg5.unread x5) 2))⟩ :: (runFirst.sl.H10_3 c i arg2 harg2 arg3 harg3 arg4 harg4 arg5 harg5 arg6 harg6 arg10 arg11 arg12 x2 x3 x4 x5 x6) := rfl

theorem first_db_step3 : (runFirst.sl.H10_5 c i arg2 harg2 arg3 harg3 arg4 harg4 arg5 harg5 arg6 harg6 arg10 arg11 arg12 x2 x3 x4 x5 x6)
    = ⟨Rect.unit (s := S8x128x640) ![3, 0, 0] S1x128x640.size inb_S8x128x640_S1x128x640_3_0_0, dbAdd (rdH arg10 (arg10.view.writes (Elt F) arg10.view.junk (runFirst.sl.H10_4 c i arg2 harg2 arg3 harg3 arg4 harg4 arg5 harg5 arg6 harg6 arg10 arg11 arg12 x2 x3 x4 x5 x6)) 3)
      (dzHead i 1 (rdQ arg2 (harg2.unread x2) 1) (rdW i arg11 (arg11.view.writes (Elt F) arg11.view.junk (padPieces (rdA arg3 (harg3.unread x3)))) 1) (rdW i arg12 (arg12.view.writes (Elt F) arg12.view.junk (padPieces (rdA arg4 (harg4.unread x4)))) 1) (rdQ arg6 (harg6.unread x6) 1) (rdH arg5 (harg5.unread x5) 3))⟩ :: (runFirst.sl.H10_4 c i arg2 harg2 arg3 harg3 arg4 harg4 arg5 harg5 arg6 harg6 arg10 arg11 arg12 x2 x3 x4 x5 x6) := rfl

theorem first_db_step4 : (runFirst.sl.H10_6 c i arg2 harg2 arg3 harg3 arg4 harg4 arg5 harg5 arg6 harg6 arg10 arg11 arg12 x2 x3 x4 x5 x6)
    = ⟨Rect.unit (s := S8x128x640) ![4, 0, 0] S1x128x640.size inb_S8x128x640_S1x128x640_4_0_0, dbAdd (rdH arg10 (arg10.view.writes (Elt F) arg10.view.junk (runFirst.sl.H10_5 c i arg2 harg2 arg3 harg3 arg4 harg4 arg5 harg5 arg6 harg6 arg10 arg11 arg12 x2 x3 x4 x5 x6)) 4)
      (dzHead i 0 (rdQ arg2 (harg2.unread x2) 2) (rdW i arg11 (arg11.view.writes (Elt F) arg11.view.junk (padPieces (rdA arg3 (harg3.unread x3)))) 2) (rdW i arg12 (arg12.view.writes (Elt F) arg12.view.junk (padPieces (rdA arg4 (harg4.unread x4)))) 2) (rdQ arg6 (harg6.unread x6) 2) (rdH arg5 (harg5.unread x5) 4))⟩ :: (runFirst.sl.H10_5 c i arg2 harg2 arg3 harg3 arg4 harg4 arg5 harg5 arg6 harg6 arg10 arg11 arg12 x2 x3 x4 x5 x6) := rfl

theorem first_db_step5 : (runFirst.sl.H10_7 c i arg2 harg2 arg3 harg3 arg4 harg4 arg5 harg5 arg6 harg6 arg10 arg11 arg12 x2 x3 x4 x5 x6)
    = ⟨Rect.unit (s := S8x128x640) ![5, 0, 0] S1x128x640.size inb_S8x128x640_S1x128x640_5_0_0, dbAdd (rdH arg10 (arg10.view.writes (Elt F) arg10.view.junk (runFirst.sl.H10_6 c i arg2 harg2 arg3 harg3 arg4 harg4 arg5 harg5 arg6 harg6 arg10 arg11 arg12 x2 x3 x4 x5 x6)) 5)
      (dzHead i 1 (rdQ arg2 (harg2.unread x2) 2) (rdW i arg11 (arg11.view.writes (Elt F) arg11.view.junk (padPieces (rdA arg3 (harg3.unread x3)))) 2) (rdW i arg12 (arg12.view.writes (Elt F) arg12.view.junk (padPieces (rdA arg4 (harg4.unread x4)))) 2) (rdQ arg6 (harg6.unread x6) 2) (rdH arg5 (harg5.unread x5) 5))⟩ :: (runFirst.sl.H10_6 c i arg2 harg2 arg3 harg3 arg4 harg4 arg5 harg5 arg6 harg6 arg10 arg11 arg12 x2 x3 x4 x5 x6) := rfl

theorem first_db_step6 : (runFirst.sl.H10_8 c i arg2 harg2 arg3 harg3 arg4 harg4 arg5 harg5 arg6 harg6 arg10 arg11 arg12 x2 x3 x4 x5 x6)
    = ⟨Rect.unit (s := S8x128x640) ![6, 0, 0] S1x128x640.size inb_S8x128x640_S1x128x640_6_0_0, dbAdd (rdH arg10 (arg10.view.writes (Elt F) arg10.view.junk (runFirst.sl.H10_7 c i arg2 harg2 arg3 harg3 arg4 harg4 arg5 harg5 arg6 harg6 arg10 arg11 arg12 x2 x3 x4 x5 x6)) 6)
      (dzHead i 0 (rdQ arg2 (harg2.unread x2) 3) (rdW i arg11 (arg11.view.writes (Elt F) arg11.view.junk (padPieces (rdA arg3 (harg3.unread x3)))) 3) (rdW i arg12 (arg12.view.writes (Elt F) arg12.view.junk (padPieces (rdA arg4 (harg4.unread x4)))) 3) (rdQ arg6 (harg6.unread x6) 3) (rdH arg5 (harg5.unread x5) 6))⟩ :: (runFirst.sl.H10_7 c i arg2 harg2 arg3 harg3 arg4 harg4 arg5 harg5 arg6 harg6 arg10 arg11 arg12 x2 x3 x4 x5 x6) := rfl

theorem first_db_step7 : (runFirst c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6).1.2.1
    = ⟨Rect.unit (s := S8x128x640) ![7, 0, 0] S1x128x640.size inb_S8x128x640_S1x128x640_7_0_0, dbAdd (rdH arg10 (arg10.view.writes (Elt F) arg10.view.junk (runFirst.sl.H10_8 c i arg2 harg2 arg3 harg3 arg4 harg4 arg5 harg5 arg6 harg6 arg10 arg11 arg12 x2 x3 x4 x5 x6)) 7)
      (dzHead i 1 (rdQ arg2 (harg2.unread x2) 3) (rdW i arg11 (arg11.view.writes (Elt F) arg11.view.junk (padPieces (rdA arg3 (harg3.unread x3)))) 3) (rdW i arg12 (arg12.view.writes (Elt F) arg12.view.junk (padPieces (rdA arg4 (harg4.unread x4)))) 3) (rdQ arg6 (harg6.unread x6) 3) (rdH arg5 (harg5.unread x5) 7))⟩ :: (runFirst.sl.H10_8 c i arg2 harg2 arg3 harg3 arg4 harg4 arg5 harg5 arg6 harg6 arg10 arg11 arg12 x2 x3 x4 x5 x6) := rfl

theorem firstDz_eq (h : Fin 8) : firstDz i arg2 harg2 arg3 harg3 arg4 harg4 arg5 harg5 arg6 harg6 arg11 arg12 x2 x3 x4 x5 x6 h
    = dzAt i x2 x5 x6 (padded x3) (padded x4) ⟨h.val / 2, by have := h.isLt; omega⟩ ⟨h.val % 2, by omega⟩ := by
  simp only [firstDz, rdQ_eq, rdW_eq, rdH_eq, rdA_eq, read_padPieces, Memref.IsWhole.read_unread]
  fin_cases h <;> rfl

/-- The bias gradient the first point leaves. -/
theorem first_db (f) : arg10.view.read (Elt F) (arg10.view.writes (Elt F) f (runFirst c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6).1.2.1)
    = stepDb i x2 x5 x6 (padded x3) (padded x4) k0_pay9 := by
  refine Eq.trans (congrArg (fun L => arg10.view.read (Elt F) (arg10.view.writes (Elt F) f L))
    (show _ = chainPieces (s := S8x128x640) (e := .f32) offH S1x128x640.size head_inb (fun h o => dbAdd o (firstDz i arg2 harg2 arg3 harg3 arg4 harg4 arg5 harg5 arg6 harg6 arg11 arg12 x2 x3 x4 x5 x6 h)) arg10
      [⟨Rect.unit (s := S8x128x640) ![0, 0, 0] S8x128x640.size inb_S8x128x640_S8x128x640_0_0_0, k0_pay9⟩] 8 le_rfl from
      (chainPieces_step _ _ _ _ _ _ (runFirst.sl.H10_8 c i arg2 harg2 arg3 harg3 arg4 harg4 arg5 harg5 arg6 harg6 arg10 arg11 arg12 x2 x3 x4 x5 x6) _ 7 _
      (chainPieces_step _ _ _ _ _ _ (runFirst.sl.H10_7 c i arg2 harg2 arg3 harg3 arg4 harg4 arg5 harg5 arg6 harg6 arg10 arg11 arg12 x2 x3 x4 x5 x6) _ 6 _
      (chainPieces_step _ _ _ _ _ _ (runFirst.sl.H10_6 c i arg2 harg2 arg3 harg3 arg4 harg4 arg5 harg5 arg6 harg6 arg10 arg11 arg12 x2 x3 x4 x5 x6) _ 5 _
      (chainPieces_step _ _ _ _ _ _ (runFirst.sl.H10_5 c i arg2 harg2 arg3 harg3 arg4 harg4 arg5 harg5 arg6 harg6 arg10 arg11 arg12 x2 x3 x4 x5 x6) _ 4 _
      (chainPieces_step _ _ _ _ _ _ (runFirst.sl.H10_4 c i arg2 harg2 arg3 harg3 arg4 harg4 arg5 harg5 arg6 harg6 arg10 arg11 arg12 x2 x3 x4 x5 x6) _ 3 _
      (chainPieces_step _ _ _ _ _ _ (runFirst.sl.H10_3 c i arg2 harg2 arg3 harg3 arg4 harg4 arg5 harg5 arg6 harg6 arg10 arg11 arg12 x2 x3 x4 x5 x6) _ 2 _
      (chainPieces_step _ _ _ _ _ _ (runFirst.sl.H10_2 c i arg2 harg2 arg3 harg3 arg4 harg4 arg5 harg5 arg6 harg6 arg10 arg11 arg12 x2 x3 x4 x5 x6) _ 1 _
      (chainPieces_step _ _ _ _ _ _ (runFirst.sl.H10_1 (F := F)) _ 0 _ rfl
        (first_db_step0 c i arg2 harg2 arg3 harg3 arg4 harg4 arg5 harg5 arg6 harg6 arg10 arg11 arg12 x2 x3 x4 x5 x6))
        (first_db_step1 c i arg2 harg2 arg3 harg3 arg4 harg4 arg5 harg5 arg6 harg6 arg10 arg11 arg12 x2 x3 x4 x5 x6))
        (first_db_step2 c i arg2 harg2 arg3 harg3 arg4 harg4 arg5 harg5 arg6 harg6 arg10 arg11 arg12 x2 x3 x4 x5 x6))
        (first_db_step3 c i arg2 harg2 arg3 harg3 arg4 harg4 arg5 harg5 arg6 harg6 arg10 arg11 arg12 x2 x3 x4 x5 x6))
        (first_db_step4 c i arg2 harg2 arg3 harg3 arg4 harg4 arg5 harg5 arg6 harg6 arg10 arg11 arg12 x2 x3 x4 x5 x6))
        (first_db_step5 c i arg2 harg2 arg3 harg3 arg4 harg4 arg5 harg5 arg6 harg6 arg10 arg11 arg12 x2 x3 x4 x5 x6))
        (first_db_step6 c i arg2 harg2 arg3 harg3 arg4 harg4 arg5 harg5 arg6 harg6 arg10 arg11 arg12 x2 x3 x4 x5 x6))
        (first_db_step7 c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6)))) ?_
  rw [read_headChain _ arg10 _ k0_pay9 (fun f => View.read_writes_full arg10.view f inb_S8x128x640_S8x128x640_0_0_0 _ [])]
  simp only [firstDz_eq]
  rfl

end First

end Cert.KernelIdeal.Band

end
-- ==== Proof.SoundFirst.lean ====
module

public import proofs.«01_k».proof.Proof.Body
public import proofs.«01_k».proof.Proof.ValFirst
public import proofs.«01_k».proof.Proof.ValFirstDb

@[expose] public section

set_option maxRecDepth 16384

/-! # The body at the first grid point -/

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 6400000 in
/-- The first point. -/
theorem sound_first (c : Dev nD) (t : Fin cfg0.N) (h0 : t.val = 0) :
    bodyPre m c t ⊢ wp frame (wpE (defs₀ (F := F)) Variants.none c none) Set.univ (bodyAt0 t) (fun _ => bodyPost m c t) := by
  have h15 : t.val ≠ 15 := by omega
  have hA : isFirst (grid0.coords t) := (first_iff t).mpr h0
  have hB : ¬k0_cond2 (grid0.coords t) = 1#1 := fun h => h15 ((last_iff t).mp h)
  have ht : t = t0_0 := Fin.ext h0
  unfold bodyPre bodyPost bodyAt0
  simp only [before_0, before_1, before_2, before_3, before_4]
  rw [show (dats m 0 c).owesAt () t.succ = (dats m 0 c).owesAt () t.castSucc from rfl]
  rw [show (dats m 0 c).Φ t.succ = Kept m c t.val t.isLt from rfl]
  rw [show (dats m 0 c).leavesExact 0 t = owns (c : Thread nD τ) (ms0 t) fullShare ((dats m 0 c).after 0 t) from by
    unfold Dat.leavesExact; rw [show cfg0.idle 0 (grid0.coords t) = false from rfl], after_0]
  rw [show (dats m 0 c).leavesExact 1 t = owns (c : Thread nD τ) (ms1 t) fullShare ((dats m 0 c).after 1 t) from by
    unfold Dat.leavesExact; rw [show cfg0.idle 1 (grid0.coords t) = false from rfl], after_1]
  rw [show (dats m 0 c).leavesExact 2 t = owns (c : Thread nD τ) (ms2 t) fullShare ((dats m 0 c).after 2 t) from by
    unfold Dat.leavesExact; rw [show cfg0.idle 2 (grid0.coords t) = false from rfl], after_2]
  rw [show (dats m 0 c).leavesExact 3 t = owns (c : Thread nD τ) (ms3 t) fullShare ((dats m 0 c).after 3 t) from by
    unfold Dat.leavesExact; rw [show cfg0.idle 3 (grid0.coords t) = false from rfl], after_3]
  rw [show (dats m 0 c).leavesExact 4 t = owns (c : Thread nD τ) (ms4 t) fullShare ((dats m 0 c).after 4 t) from by
    unfold Dat.leavesExact; rw [show cfg0.idle 4 (grid0.coords t) = false from rfl], after_4]
  rw [show (dats m 0 c).leavesExact 5 t = owns (c : Thread nD τ) (ms5 t) fullShare ((dats m 0 c).after 5 t) from by
    unfold Dat.leavesExact; rw [show cfg0.idle 5 (grid0.coords t) = false from rfl], after_5]
  rw [(dats m 0 c).leavesExact_idle 6 t (idle_6 t h15) (flush_6 t h15)]
  rw [(dats m 0 c).leavesExact_idle 7 t (idle_7 t h15) (flush_7 t h15)]
  rw [show (dats m 0 c).leavesExact 8 t = owns (c : Thread nD τ) (ms8 t) fullShare ((dats m 0 c).after 8 t) from by
    unfold Dat.leavesExact; rw [show cfg0.idle 8 (grid0.coords t) = false from rfl], after_8]
  rw [PhiS_castSucc m c t, PhiS_zero m c _ _ h0, PhiA_eq]
  unfold Kept
  rw [acc_first m c t h0]
  unfold step keysA valsA
  rw [show iblk m c 1 t0_0 = iblk m c 1 t from by rw [ht], show iblk m c 2 t0_0 = iblk m c 2 t from by rw [ht]]
  dsimp only
  iintro ⟨⟨⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runFirst c (grid0.coords t) _ _ _ _ _ _ _ _ _ _ _ _ _ _ _ _ _ _ _ _ _ _ _ _ _ _ _ _ hA hB (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H8]; · iexists _; iexact H8
  isplitl [S0]; · iexact S0
  isplitl [S1]; · iexact S1
  isplitl [S2]; · iexact S2
  isplitl [S3]; · iexact S3
  iintro ⟨H0, H1, H2, H3, H4, ⟨%e5, H5⟩, ⟨%e8, H8⟩, ⟨%s0, S0⟩, ⟨%s1, S1⟩, ⟨%s2, S2⟩, ⟨%s3, S3⟩⟩
  isplitl [S0 S1 S2 S3 Hg]
  · isplitl [S0]
    · unfold owns; iexists _; isplitr; swap; · iexact S0
      ipureintro; exact first_kp c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) _
    isplitl [S1]
    · unfold owns; iexists _; isplitr; swap; · iexact S1
      ipureintro; exact first_vp c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) _
    isplitl [S2]
    · unfold owns; iexists _; isplitr; swap; · iexact S2
      ipureintro; exact first_dk c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) _
    isplitl [S3]
    · unfold owns; iexists _; isplitr; swap; · iexact S3
      ipureintro; exact first_dv c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) _
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr; swap; · iexact H5
    ipureintro; exact first_dq c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) _
  isplitl [H6]; · iexists _; iexact H6
  isplitl [H7]; · iexists _; iexact H7
  unfold owns; iexists _; isplitr; swap; · iexact H8
  ipureintro; exact first_db c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) _

end Cert.KernelIdeal.Band

end
-- ==== Proof.ValMid.lean ====
module

public import proofs.«01_k».proof.Proof.Pieces
public import proofs.«01_k».proof.Proof.RunMid

@[expose] public section

set_option maxRecDepth 16384

/-! # What the body leaves at a point that is neither the first nor the last -/

noncomputable section

namespace Cert.KernelIdeal.Band

open Cert.KernelIdeal Cert.KernelIdeal.Gen
open Idealize.ShloMosaic Idealize.ShloMosaic.TcCoe

variable {F : FTy → Type} [FloatOps F] [Named F]

section Mid

variable  (c : Dev nD) (i : grid0.Coords) (arg1 : Memref sig .tc .hbm S8x128 .f32) (harg1 : arg1.IsWhole) (arg2 : Memref sig .tc .vmem S128x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S8x128x640 .f32) (harg5 : arg5.IsWhole) (arg6 : Memref sig .tc .vmem S128x512 .f32) (harg6 : arg6.IsWhole) (arg7 : Memref sig .tc .vmem S128x512 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S8x128x640 .f32) (harg10 : arg10.IsWhole) (arg11 : Memref sig .tc .vmem S2560x512 .bf16) (harg11 : arg11.IsWhole) (arg12 : Memref sig .tc .vmem S2560x512 .bf16) (harg12 : arg12.IsWhole) (arg13 : Memref sig .tc .vmem S2560x512 .f32) (harg13 : arg13.IsWhole) (arg14 : Memref sig .tc .vmem S2560x512 .f32) (harg14 : arg14.IsWhole) (h0 : ¬isFirst i) (h1 : ¬k0_cond2 i = 1#1)
    (x2 : Vec F S128x512 .bf16) (x3 x4 : Vec F S2048x512 .bf16) (x5 : Vec F S8x128x640 .f32) (x6 : Vec F S128x512 .f32) (x10 : Vec F S8x128x640 .f32) (x11 x12 : Vec F S2560x512 .bf16) (x13 x14 : Vec F S2560x512 .f32)

theorem mid_dq (f) : arg7.view.read (Elt F) (arg7.view.writes (Elt F) f (runMid c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6 x10 x11 x12 x13 x14).1.1) = outDq i x2 x5 x6 x11 x12 := by
  refine Eq.trans (congrArg (fun L => arg7.view.read (Elt F) (arg7.view.writes (Elt F) f L))
    (show _ = dqPieces i (rdQ arg2 (harg2.unread x2)) (rdW i arg11 (harg11.unread x11)) (rdW i arg12 (harg12.unread x12))
      (rdQ arg6 (harg6.unread x6)) (rdH arg5 (harg5.unread x5)) from rfl)) ?_
  simp only [rdQ_eq, rdW_eq, rdH_eq, Memref.IsWhole.read_unread]
  exact read_dqPieces i _ _ _ _ _ arg7 f

theorem mid_db : arg10.view.read (Elt F) (arg10.view.writes (Elt F) (harg10.unread x10) (runMid c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6 x10 x11 x12 x13 x14).1.2.1) = stepDb i x2 x5 x6 x11 x12 x10 := by
  refine Eq.trans (congrArg (fun L => arg10.view.read (Elt F) (arg10.view.writes (Elt F) (harg10.unread x10) L))
    (show _ = dbPieces i (rdQ arg2 (harg2.unread x2)) (rdW i arg11 (harg11.unread x11)) (rdW i arg12 (harg12.unread x12))
      (rdQ arg6 (harg6.unread x6)) (rdH arg5 (harg5.unread x5)) (rdH arg10 (harg10.unread x10)) ++ [] from rfl)) ?_
  rw [read_dbPieces]
  simp only [rdQ_eq, rdW_eq, rdH_eq, View.writes_nil, Memref.IsWhole.read_unread]
  rfl

theorem mid_dk : arg13.view.read (Elt F) (arg13.view.writes (Elt F) (harg13.unread x13) (runMid c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6 x10 x11 x12 x13 x14).1.2.2.1) = stepDk i x2 x5 x6 x11 x12 x13 := by
  refine Eq.trans (congrArg (fun L => arg13.view.read (Elt F) (arg13.view.writes (Elt F) (harg13.unread x13) L))
    (show _ = winPieces i (dkVals i (rdQ arg2 (harg2.unread x2)) (rdW i arg11 (harg11.unread x11)) (rdW i arg12 (harg12.unread x12))
      (rdQ arg6 (harg6.unread x6)) (rdH arg5 (harg5.unread x5)) (rdW i arg13 (harg13.unread x13))) ++ [] from rfl)) ?_
  rw [read_winPieces]
  simp only [rdQ_eq, rdW_eq, rdH_eq, View.writes_nil, Memref.IsWhole.read_unread]
  rfl

theorem mid_dv : arg14.view.read (Elt F) (arg14.view.writes (Elt F) (harg14.unread x14) (runMid c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6 x10 x11 x12 x13 x14).1.2.2.2) = stepDv i x2 x5 x6 x11 x14 := by
  refine Eq.trans (congrArg (fun L => arg14.view.read (Elt F) (arg14.view.writes (Elt F) (harg14.unread x14) L))
    (show _ = winPieces i (dvVals i (rdQ arg2 (harg2.unread x2)) (rdW i arg11 (harg11.unread x11))
      (rdQ arg6 (harg6.unread x6)) (rdH arg5 (harg5.unread x5)) (rdW i arg14 (harg14.unread x14))) ++ [] from rfl)) ?_
  rw [read_winPieces]
  simp only [rdQ_eq, rdW_eq, rdH_eq, View.writes_nil, Memref.IsWhole.read_unread]
  rfl

end Mid

end Cert.KernelIdeal.Band

end
-- ==== Proof.SoundMid.lean ====
module

public import proofs.«01_k».proof.Proof.Body
public import proofs.«01_k».proof.Proof.ValMid

@[expose] public section

set_option maxRecDepth 16384

/-! # The body at a grid point between the first and the last -/

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 6400000 in
/-- A point between the first and the last. -/
theorem sound_mid (c : Dev nD) (t : Fin cfg0.N) (h0 : t.val ≠ 0) (h15 : t.val ≠ 15) :
    bodyPre m c t ⊢ wp frame (wpE (defs₀ (F := F)) Variants.none c none) Set.univ (bodyAt0 t) (fun _ => bodyPost m c t) := by
  have hA : ¬isFirst (grid0.coords t) := fun h => h0 ((first_iff t).mp h)
  have hB : ¬k0_cond2 (grid0.coords t) = 1#1 := fun h => h15 ((last_iff t).mp h)
  unfold bodyPre bodyPost bodyAt0
  simp only [before_0, before_1, before_2, before_3, before_4]
  rw [show (dats m 0 c).owesAt () t.succ = (dats m 0 c).owesAt () t.castSucc from rfl]
  rw [show (dats m 0 c).Φ t.succ = Kept m c t.val t.isLt from rfl]
  simp only [before_8 m c t h0]
  rw [show (dats m 0 c).leavesExact 0 t = owns (c : Thread nD τ) (ms0 t) fullShare ((dats m 0 c).after 0 t) from by
    unfold Dat.leavesExact; rw [show cfg0.idle 0 (grid0.coords t) = false from rfl], after_0]
  rw [show (dats m 0 c).leavesExact 1 t = owns (c : Thread nD τ) (ms1 t) fullShare ((dats m 0 c).after 1 t) from by
    unfold Dat.leavesExact; rw [show cfg0.idle 1 (grid0.coords t) = false from rfl], after_1]
  rw [show (dats m 0 c).leavesExact 2 t = owns (c : Thread nD τ) (ms2 t) fullShare ((dats m 0 c).after 2 t) from by
    unfold Dat.leavesExact; rw [show cfg0.idle 2 (grid0.coords t) = false from rfl], after_2]
  rw [show (dats m 0 c).leavesExact 3 t = owns (c : Thread nD τ) (ms3 t) fullShare ((dats m 0 c).after 3 t) from by
    unfold Dat.leavesExact; rw [show cfg0.idle 3 (grid0.coords t) = false from rfl], after_3]
  rw [show (dats m 0 c).leavesExact 4 t = owns (c : Thread nD τ) (ms4 t) fullShare ((dats m 0 c).after 4 t) from by
    unfold Dat.leavesExact; rw [show cfg0.idle 4 (grid0.coords t) = false from rfl], after_4]
  rw [show (dats m 0 c).leavesExact 5 t = owns (c : Thread nD τ) (ms5 t) fullShare ((dats m 0 c).after 5 t) from by
    unfold Dat.leavesExact; rw [show cfg0.idle 5 (grid0.coords t) = false from rfl], after_5]
  rw [(dats m 0 c).leavesExact_idle 6 t (idle_6 t h15) (flush_6 t h15)]
  rw [(dats m 0 c).leavesExact_idle 7 t (idle_7 t h15) (flush_7 t h15)]
  rw [show (dats m 0 c).leavesExact 8 t = owns (c : Thread nD τ) (ms8 t) fullShare ((dats m 0 c).after 8 t) from by
    unfold Dat.leavesExact; rw [show cfg0.idle 8 (grid0.coords t) = false from rfl], after_8]
  rw [PhiS_castSucc m c t, PhiS_pos m c _ _ h0]
  unfold Kept
  rw [acc_later m c t h0]
  unfold step
  dsimp only
  iintro ⟨⟨S0, S1, S2, S3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runMid c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) (acc m c (t.val - 1) (Nat.lt_of_le_of_lt (Nat.sub_le _ _) t.isLt)).1 (keysA m c) (valsA m c) (acc m c (t.val - 1) (Nat.lt_of_le_of_lt (Nat.sub_le _ _) t.isLt)).2.1 (acc m c (t.val - 1) (Nat.lt_of_le_of_lt (Nat.sub_le _ _) t.isLt)).2.2).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H8]; · iexact H8
  isplitl [S0]; · iexact S0
  isplitl [S1]; · iexact S1
  isplitl [S2]; · iexact S2
  isplitl [S3]; · iexact S3
  iintro ⟨H0, H1, H2, H3, H4, ⟨%e5, H5⟩, H8, S0, S1, S2, S3⟩
  isplitl [S0 S1 S2 S3 Hg]
  · isplitl [S0]; · iexact S0
    isplitl [S1]; · iexact S1
    isplitl [S2]
    · unfold owns; iexists _; isplitr; swap; · iexact S2
      ipureintro; exact mid_dk c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) (acc m c (t.val - 1) (Nat.lt_of_le_of_lt (Nat.sub_le _ _) t.isLt)).1 (keysA m c) (valsA m c) (acc m c (t.val - 1) (Nat.lt_of_le_of_lt (Nat.sub_le _ _) t.isLt)).2.1 (acc m c (t.val - 1) (Nat.lt_of_le_of_lt (Nat.sub_le _ _) t.isLt)).2.2
    isplitl [S3]
    · unfold owns; iexists _; isplitr; swap; · iexact S3
      ipureintro; exact mid_dv c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) (acc m c (t.val - 1) (Nat.lt_of_le_of_lt (Nat.sub_le _ _) t.isLt)).1 (keysA m c) (valsA m c) (acc m c (t.val - 1) (Nat.lt_of_le_of_lt (Nat.sub_le _ _) t.isLt)).2.1 (acc m c (t.val - 1) (Nat.lt_of_le_of_lt (Nat.sub_le _ _) t.isLt)).2.2
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr; swap; · iexact H5
    ipureintro; exact mid_dq c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) (acc m c (t.val - 1) (Nat.lt_of_le_of_lt (Nat.sub_le _ _) t.isLt)).1 (keysA m c) (valsA m c) (acc m c (t.val - 1) (Nat.lt_of_le_of_lt (Nat.sub_le _ _) t.isLt)).2.1 (acc m c (t.val - 1) (Nat.lt_of_le_of_lt (Nat.sub_le _ _) t.isLt)).2.2 _
  isplitl [H6]; · iexists _; iexact H6
  isplitl [H7]; · iexists _; iexact H7
  unfold owns; iexists _; isplitr; swap; · iexact H8
  ipureintro; exact mid_db c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) (acc m c (t.val - 1) (Nat.lt_of_le_of_lt (Nat.sub_le _ _) t.isLt)).1 (keysA m c) (valsA m c) (acc m c (t.val - 1) (Nat.lt_of_le_of_lt (Nat.sub_le _ _) t.isLt)).2.1 (acc m c (t.val - 1) (Nat.lt_of_le_of_lt (Nat.sub_le _ _) t.isLt)).2.2

end Cert.KernelIdeal.Band

end
-- ==== Proof.RunLast.lean ====
module

public import proofs.«01_k».proof.Proof.Gen.KernelIdeal.Skeleton
public import proofs.«01_k».proof.Proof.Gen.KernelIdeal.Frame
public import proofs.«01_k».proof.Proof.RunMid

@[expose] public section

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runLast (c : Dev nD) (i : grid0.Coords) (arg1 : Memref sig .tc .hbm S8x128 .f32) (harg1 : arg1.IsWhole) (arg2 : Memref sig .tc .vmem S128x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S8x128x640 .f32) (harg5 : arg5.IsWhole) (arg6 : Memref sig .tc .vmem S128x512 .f32) (harg6 : arg6.IsWhole) (arg7 : Memref sig .tc .vmem S128x512 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S8x128x640 .f32) (harg10 : arg10.IsWhole) (arg11 : Memref sig .tc .vmem S2560x512 .bf16) (harg11 : arg11.IsWhole) (arg12 : Memref sig .tc .vmem S2560x512 .bf16) (harg12 : arg12.IsWhole) (arg13 : Memref sig .tc .vmem S2560x512 .f32) (harg13 : arg13.IsWhole) (arg14 : Memref sig .tc .vmem S2560x512 .f32) (harg14 : arg14.IsWhole) (h0 : ¬isFirst i) (h1 : k0_cond2 i = 1#1)
    (x2 : Vec F S128x512 .bf16) (x3 x4 : Vec F S2048x512 .bf16) (x5 : Vec F S8x128x640 .f32) (x6 : Vec F S128x512 .f32) (x10 : Vec F S8x128x640 .f32) (x11 x12 : Vec F S2560x512 .bf16) (x13 x14 : Vec F S2560x512 .f32) :
    { L : List (View.Piece (Elt F) S128x512 .bf16) × List (View.Piece (Elt F) S2048x512 .bf16) × List (View.Piece (Elt F) S2048x512 .bf16) × List (View.Piece (Elt F) S8x128x640 .f32) × List (View.Piece (Elt F) S2560x512 .f32) × List (View.Piece (Elt F) S2560x512 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L.1) ∗ (∃ f, arg8.view.loc (c : Thread nD τ) ↦[arg8.view.set]{fullShare} arg8.view.writes (Elt F) f L.2.1) ∗ (∃ f, arg9.view.loc (c : Thread nD τ) ↦[arg9.view.set]{fullShare} arg9.view.writes (Elt F) f L.2.2.1) ∗ (arg10.view.loc (c : Thread nD τ) ↦[arg10.view.set]{fullShare} arg10.view.writes (Elt F) (harg10.unread x10) L.2.2.2.1) ∗ owns (c : Thread nD τ) arg11 fullShare x11 ∗ owns (c : Thread nD τ) arg12 fullShare x12 ∗ (arg13.view.loc (c : Thread nD τ) ↦[arg13.view.set]{fullShare} arg13.view.writes (Elt F) (harg13.unread x13) L.2.2.2.2.1) ∗ (arg14.view.loc (c : Thread nD τ) ↦[arg14.view.set]{fullShare} arg14.view.writes (Elt F) (harg14.unread x14) L.2.2.2.2.2)) -∗ K ⟨⟩))
          ⊢ wp frame (wpE (defs₀ (F := F)) Variants.none c none) E (cc0_ch_bwd i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨(?_, ?_, ?_, ?_, ?_, ?_), fun E K => ?run⟩
  case run =>
    simp only [cc0_ch_bwd_eq_skeleton]; unfold cc0_ch_bwd_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, ⟨%f12, %hf12, H12⟩, ⟨%f13, %hf13, H13⟩, ⟨%f14, %hf14, H14⟩, Hk⟩
    obtain rfl := harg2.eq_unread hf2; obtain rfl := harg3.eq_unread hf3; obtain rfl := harg4.eq_unread hf4; obtain rfl := harg5.eq_unread hf5; obtain rfl := harg6.eq_unread hf6; obtain rfl := harg10.eq_unread hf10; obtain rfl := harg11.eq_unread hf11; obtain rfl := harg12.eq_unread hf12; obtain rfl := harg13.eq_unread hf13; obtain rfl := harg14.eq_unread hf14
    sl_exec (disch := first | sl_exact h0 | sl_exact h1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H8]
    · iexists _; iexact H8
    isplitl [H9]
    · iexists _; iexact H9
    isplitl [H10]
    · iexact H10
    isplitl [H11]
    · iexists _; isplitr; · ipureintro; exact harg11.read_unread _
      iexact H11
    isplitl [H12]
    · iexists _; isplitr; · ipureintro; exact harg12.read_unread _
      iexact H12
    isplitl [H13]
    · iexact H13
    iexact H14

end Cert.KernelIdeal.Band

end
-- ==== Proof.ValLast.lean ====
module

public import proofs.«01_k».proof.Proof.Pieces
public import proofs.«01_k».proof.Proof.RunLast

@[expose] public section

set_option maxRecDepth 16384

/-! # What the body leaves at the last point -/

noncomputable section

namespace Cert.KernelIdeal.Band

open Cert.KernelIdeal Cert.KernelIdeal.Gen
open Idealize.ShloMosaic Idealize.ShloMosaic.TcCoe

variable {F : FTy → Type} [FloatOps F] [Named F]

section Last

variable  (c : Dev nD) (i : grid0.Coords) (arg1 : Memref sig .tc .hbm S8x128 .f32) (harg1 : arg1.IsWhole) (arg2 : Memref sig .tc .vmem S128x512 .bf16) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S8x128x640 .f32) (harg5 : arg5.IsWhole) (arg6 : Memref sig .tc .vmem S128x512 .f32) (harg6 : arg6.IsWhole) (arg7 : Memref sig .tc .vmem S128x512 .bf16) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S8x128x640 .f32) (harg10 : arg10.IsWhole) (arg11 : Memref sig .tc .vmem S2560x512 .bf16) (harg11 : arg11.IsWhole) (arg12 : Memref sig .tc .vmem S2560x512 .bf16) (harg12 : arg12.IsWhole) (arg13 : Memref sig .tc .vmem S2560x512 .f32) (harg13 : arg13.IsWhole) (arg14 : Memref sig .tc .vmem S2560x512 .f32) (harg14 : arg14.IsWhole) (h0 : ¬isFirst i) (h1 : k0_cond2 i = 1#1)
    (x2 : Vec F S128x512 .bf16) (x3 x4 : Vec F S2048x512 .bf16) (x5 : Vec F S8x128x640 .f32) (x6 : Vec F S128x512 .f32) (x10 : Vec F S8x128x640 .f32) (x11 x12 : Vec F S2560x512 .bf16) (x13 x14 : Vec F S2560x512 .f32)

theorem last_dq (f) : arg7.view.read (Elt F) (arg7.view.writes (Elt F) f (runLast c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6 x10 x11 x12 x13 x14).1.1) = outDq i x2 x5 x6 x11 x12 := by
  refine Eq.trans (congrArg (fun L => arg7.view.read (Elt F) (arg7.view.writes (Elt F) f L))
    (show _ = dqPieces i (rdQ arg2 (harg2.unread x2)) (rdW i arg11 (harg11.unread x11)) (rdW i arg12 (harg12.unread x12))
      (rdQ arg6 (harg6.unread x6)) (rdH arg5 (harg5.unread x5)) from rfl)) ?_
  simp only [rdQ_eq, rdW_eq, rdH_eq, Memref.IsWhole.read_unread]
  exact read_dqPieces i _ _ _ _ _ arg7 f

theorem last_db : arg10.view.read (Elt F) (arg10.view.writes (Elt F) (harg10.unread x10) (runLast c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6 x10 x11 x12 x13 x14).1.2.2.2.1) = stepDb i x2 x5 x6 x11 x12 x10 := by
  refine Eq.trans (congrArg (fun L => arg10.view.read (Elt F) (arg10.view.writes (Elt F) (harg10.unread x10) L))
    (show _ = dbPieces i (rdQ arg2 (harg2.unread x2)) (rdW i arg11 (harg11.unread x11)) (rdW i arg12 (harg12.unread x12))
      (rdQ arg6 (harg6.unread x6)) (rdH arg5 (harg5.unread x5)) (rdH arg10 (harg10.unread x10)) ++ [] from rfl)) ?_
  rw [read_dbPieces]
  simp only [rdQ_eq, rdW_eq, rdH_eq, View.writes_nil, Memref.IsWhole.read_unread]
  rfl

theorem last_dk : arg13.view.read (Elt F) (arg13.view.writes (Elt F) (harg13.unread x13) (runLast c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6 x10 x11 x12 x13 x14).1.2.2.2.2.1) = stepDk i x2 x5 x6 x11 x12 x13 := by
  refine Eq.trans (congrArg (fun L => arg13.view.read (Elt F) (arg13.view.writes (Elt F) (harg13.unread x13) L))
    (show _ = winPieces i (dkVals i (rdQ arg2 (harg2.unread x2)) (rdW i arg11 (harg11.unread x11)) (rdW i arg12 (harg12.unread x12))
      (rdQ arg6 (harg6.unread x6)) (rdH arg5 (harg5.unread x5)) (rdW i arg13 (harg13.unread x13))) ++ [] from rfl)) ?_
  rw [read_winPieces]
  simp only [rdQ_eq, rdW_eq, rdH_eq, View.writes_nil, Memref.IsWhole.read_unread]
  rfl

theorem last_dv : arg14.view.read (Elt F) (arg14.view.writes (Elt F) (harg14.unread x14) (runLast c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6 x10 x11 x12 x13 x14).1.2.2.2.2.2) = stepDv i x2 x5 x6 x11 x14 := by
  refine Eq.trans (congrArg (fun L => arg14.view.read (Elt F) (arg14.view.writes (Elt F) (harg14.unread x14) L))
    (show _ = winPieces i (dvVals i (rdQ arg2 (harg2.unread x2)) (rdW i arg11 (harg11.unread x11))
      (rdQ arg6 (harg6.unread x6)) (rdH arg5 (harg5.unread x5)) (rdW i arg14 (harg14.unread x14))) ++ [] from rfl)) ?_
  rw [read_winPieces]
  simp only [rdQ_eq, rdW_eq, rdH_eq, View.writes_nil, Memref.IsWhole.read_unread]
  rfl

theorem last_dkOut (f) : arg8.view.read (Elt F) (arg8.view.writes (Elt F) f (runLast c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6 x10 x11 x12 x13 x14).1.2.1) = unpad (stepDk i x2 x5 x6 x11 x12 x13) := by
  rw [← last_dk c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6 x10 x11 x12 x13 x14]
  exact View.read_writes_full arg8.view f inb_S2048x512_S2048x512_0_0 _ []

theorem last_dvOut (f) : arg9.view.read (Elt F) (arg9.view.writes (Elt F) f (runLast c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6 x10 x11 x12 x13 x14).1.2.2.1) = unpad (stepDv i x2 x5 x6 x11 x14) := by
  rw [← last_dv c i arg1 harg1 arg2 harg2 arg3 harg3 arg4 harg4 arg5 harg5 arg6 harg6 arg7 harg7 arg8 harg8 arg9 harg9 arg10 harg10 arg11 harg11 arg12 harg12 arg13 harg13 arg14 harg14 h0 h1 x2 x3 x4 x5 x6 x10 x11 x12 x13 x14]
  exact View.read_writes_full arg9.view f inb_S2048x512_S2048x512_0_0 _ []

end Last

end Cert.KernelIdeal.Band

end
-- ==== Proof.SoundLast.lean ====
module

public import proofs.«01_k».proof.Proof.Body
public import proofs.«01_k».proof.Proof.ValLast

@[expose] public section

set_option maxRecDepth 16384

/-! # The body at the last grid point -/

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 6400000 in
/-- The last point. -/
theorem sound_last (c : Dev nD) (t : Fin cfg0.N) (h15 : t.val = 15) :
    bodyPre m c t ⊢ wp frame (wpE (defs₀ (F := F)) Variants.none c none) Set.univ (bodyAt0 t) (fun _ => bodyPost m c t) := by
  have h0 : t.val ≠ 0 := by omega
  have hA : ¬isFirst (grid0.coords t) := fun h => h0 ((first_iff t).mp h)
  have hB : k0_cond2 (grid0.coords t) = 1#1 := (last_iff t).mpr h15
  unfold bodyPre bodyPost bodyAt0
  simp only [before_0, before_1, before_2, before_3, before_4]
  rw [show (dats m 0 c).owesAt () t.succ = (dats m 0 c).owesAt () t.castSucc from rfl]
  rw [show (dats m 0 c).Φ t.succ = Kept m c t.val t.isLt from rfl]
  simp only [before_8 m c t h0]
  rw [show (dats m 0 c).leavesExact 0 t = owns (c : Thread nD τ) (ms0 t) fullShare ((dats m 0 c).after 0 t) from by
    unfold Dat.leavesExact; rw [show cfg0.idle 0 (grid0.coords t) = false from rfl], after_0]
  rw [show (dats m 0 c).leavesExact 1 t = owns (c : Thread nD τ) (ms1 t) fullShare ((dats m 0 c).after 1 t) from by
    unfold Dat.leavesExact; rw [show cfg0.idle 1 (grid0.coords t) = false from rfl], after_1]
  rw [show (dats m 0 c).leavesExact 2 t = owns (c : Thread nD τ) (ms2 t) fullShare ((dats m 0 c).after 2 t) from by
    unfold Dat.leavesExact; rw [show cfg0.idle 2 (grid0.coords t) = false from rfl], after_2]
  rw [show (dats m 0 c).leavesExact 3 t = owns (c : Thread nD τ) (ms3 t) fullShare ((dats m 0 c).after 3 t) from by
    unfold Dat.leavesExact; rw [show cfg0.idle 3 (grid0.coords t) = false from rfl], after_3]
  rw [show (dats m 0 c).leavesExact 4 t = owns (c : Thread nD τ) (ms4 t) fullShare ((dats m 0 c).after 4 t) from by
    unfold Dat.leavesExact; rw [show cfg0.idle 4 (grid0.coords t) = false from rfl], after_4]
  rw [show (dats m 0 c).leavesExact 5 t = owns (c : Thread nD τ) (ms5 t) fullShare ((dats m 0 c).after 5 t) from by
    unfold Dat.leavesExact; rw [show cfg0.idle 5 (grid0.coords t) = false from rfl], after_5]
  rw [show (dats m 0 c).leavesExact 6 t = owns (c : Thread nD τ) (ms6 t) fullShare ((dats m 0 c).after 6 t) from by
    unfold Dat.leavesExact; rw [show cfg0.idle 6 (grid0.coords t) = false from busy_6 t h15], after_6]
  rw [show (dats m 0 c).leavesExact 7 t = owns (c : Thread nD τ) (ms7 t) fullShare ((dats m 0 c).after 7 t) from by
    unfold Dat.leavesExact; rw [show cfg0.idle 7 (grid0.coords t) = false from busy_7 t h15], after_7]
  rw [show (dats m 0 c).leavesExact 8 t = owns (c : Thread nD τ) (ms8 t) fullShare ((dats m 0 c).after 8 t) from by
    unfold Dat.leavesExact; rw [show cfg0.idle 8 (grid0.coords t) = false from rfl], after_8]
  rw [PhiS_castSucc m c t, PhiS_pos m c _ _ h0]
  unfold Kept
  rw [acc_later m c t h0]
  unfold step
  dsimp only
  iintro ⟨⟨S0, S1, S2, S3, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((runLast c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) (acc m c (t.val - 1) (Nat.lt_of_le_of_lt (Nat.sub_le _ _) t.isLt)).1 (keysA m c) (valsA m c) (acc m c (t.val - 1) (Nat.lt_of_le_of_lt (Nat.sub_le _ _) t.isLt)).2.1 (acc m c (t.val - 1) (Nat.lt_of_le_of_lt (Nat.sub_le _ _) t.isLt)).2.2).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [S0]; · iexact S0
  isplitl [S1]; · iexact S1
  isplitl [S2]; · iexact S2
  isplitl [S3]; · iexact S3
  iintro ⟨H0, H1, H2, H3, H4, ⟨%e5, H5⟩, ⟨%e6, H6⟩, ⟨%e7, H7⟩, H8, S0, S1, S2, S3⟩
  isplitl [S0 S1 S2 S3 Hg]
  · isplitl [S0]; · iexact S0
    isplitl [S1]; · iexact S1
    isplitl [S2]
    · unfold owns; iexists _; isplitr; swap; · iexact S2
      ipureintro; exact last_dk c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) (acc m c (t.val - 1) (Nat.lt_of_le_of_lt (Nat.sub_le _ _) t.isLt)).1 (keysA m c) (valsA m c) (acc m c (t.val - 1) (Nat.lt_of_le_of_lt (Nat.sub_le _ _) t.isLt)).2.1 (acc m c (t.val - 1) (Nat.lt_of_le_of_lt (Nat.sub_le _ _) t.isLt)).2.2
    isplitl [S3]
    · unfold owns; iexists _; isplitr; swap; · iexact S3
      ipureintro; exact last_dv c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) (acc m c (t.val - 1) (Nat.lt_of_le_of_lt (Nat.sub_le _ _) t.isLt)).1 (keysA m c) (valsA m c) (acc m c (t.val - 1) (Nat.lt_of_le_of_lt (Nat.sub_le _ _) t.isLt)).2.1 (acc m c (t.val - 1) (Nat.lt_of_le_of_lt (Nat.sub_le _ _) t.isLt)).2.2
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr; swap; · iexact H5
    ipureintro; exact last_dq c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) (acc m c (t.val - 1) (Nat.lt_of_le_of_lt (Nat.sub_le _ _) t.isLt)).1 (keysA m c) (valsA m c) (acc m c (t.val - 1) (Nat.lt_of_le_of_lt (Nat.sub_le _ _) t.isLt)).2.1 (acc m c (t.val - 1) (Nat.lt_of_le_of_lt (Nat.sub_le _ _) t.isLt)).2.2 _
  isplitl [H6]
  · unfold owns; iexists _; isplitr; swap; · iexact H6
    ipureintro; exact last_dkOut c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) (acc m c (t.val - 1) (Nat.lt_of_le_of_lt (Nat.sub_le _ _) t.isLt)).1 (keysA m c) (valsA m c) (acc m c (t.val - 1) (Nat.lt_of_le_of_lt (Nat.sub_le _ _) t.isLt)).2.1 (acc m c (t.val - 1) (Nat.lt_of_le_of_lt (Nat.sub_le _ _) t.isLt)).2.2 _
  isplitl [H7]
  · unfold owns; iexists _; isplitr; swap; · iexact H7
    ipureintro; exact last_dvOut c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) (acc m c (t.val - 1) (Nat.lt_of_le_of_lt (Nat.sub_le _ _) t.isLt)).1 (keysA m c) (valsA m c) (acc m c (t.val - 1) (Nat.lt_of_le_of_lt (Nat.sub_le _ _) t.isLt)).2.1 (acc m c (t.val - 1) (Nat.lt_of_le_of_lt (Nat.sub_le _ _) t.isLt)).2.2 _
  unfold owns; iexists _; isplitr; swap; · iexact H8
  ipureintro; exact last_db c (grid0.coords t) _ _ _ _ _ _ _ _ _ _ _ _ _ _ _ _ _ _ _ _ _ _ _ _ _ _ _ _ hA hB (iblk m c 0 t) (iblk m c 1 t) (iblk m c 2 t) (iblk m c 3 t) (iblk m c 4 t) (acc m c (t.val - 1) (Nat.lt_of_le_of_lt (Nat.sub_le _ _) t.isLt)).1 (keysA m c) (valsA m c) (acc m c (t.val - 1) (Nat.lt_of_le_of_lt (Nat.sub_le _ _) t.isLt)).2.1 (acc m c (t.val - 1) (Nat.lt_of_le_of_lt (Nat.sub_le _ _) t.isLt)).2.2

end Cert.KernelIdeal.Band

end
-- ==== Proof.Sound.lean ====
module

public import Idealize.ShloMosaic.Lib.Pipeline.FrameBody
public import proofs.«01_k».proof.Proof.SoundFirst
public import proofs.«01_k».proof.Proof.SoundMid
public import proofs.«01_k».proof.Proof.SoundLast

@[expose] public section

set_option maxRecDepth 16384

/-! # The body at every grid point, and the run of the whole kernel -/

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_first m c t h0
  · by_cases h15 : t.val = 15
    · exact sound_last m c t h15
    · exact sound_mid m c t h0 h15

/-- The body table's row at a point's slots is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact Idealize.ShloMosaic.triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have hn : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl,
    PhiS_pos m c _ _ hn, PhiA_eq]
  unfold Kept
  iintro ⟨S0, S1, S2, S3, Hg⟩
  isplitl [S0 S1 S2 S3]
  · isplitl [S0]; · iexists _; iexact S0
    isplitl [S1]; · iexists _; iexact S1
    isplitl [S2]; · iexists _; iexact S2
    iexists _; iexact S3
  iexact Hg

set_option backward.isDefEq.respectTransparency.types false in
/-- The run: every execution ends, the staged arrays as the proof data say, every other buffer as the host lines after the
    kernel leave it, and every semaphore at zero. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Band

end
-- ==== Proof.Transfer.lean ====
module

public import proofs.«01_k».proof.Defs
public import proofs.«01_k».proof.Proof.Gen.Kernel
public import proofs.«01_k».proof.Proof.Sound

@[expose] public section

set_option maxRecDepth 16384

/-!
# The frame of the kernel over bit patterns

The two prints of the kernel differ in one constant: the mask, which one names and the other spells in
bits. With each name read as its bits the two are one program, so the run of the named one, which holds
over any reading of the floats, is a run of the other.
-/

noncomputable section

namespace Cert.Kernel.Band

open Idealize.ShloMosaic Idealize.SL.Sem

/-- Named constants over bit patterns: each name keeps its bits. -/
@[reducible] def namedBits : Named Bits := ⟨fun _ _ φ b => FloatOps.ofBits (F := Bits) φ b⟩

attribute [local instance] namedBits
attribute [local instance] Cert.Kernel.Gen.facts Cert.KernelIdeal.Gen.facts

/-- The two bodies are one program. -/
theorem body_same (i) (a1 h1 a2 h2 a3 h3 a4 h4 a5 h5 a6 h6 a7 h7 a8 h8 a9 h9 a10 h10 a11 h11 a12 h12 a13 h13 a14 h14) :
    Cert.Kernel.cc0_ch_bwd (F := Bits) i a1 h1 a2 h2 a3 h3 a4 h4 a5 h5 a6 h6 a7 h7 a8 h8 a9 h9 a10 h10 a11 h11 a12 h12 a13 h13 a14 h14
    = Cert.KernelIdeal.cc0_ch_bwd (F := Bits) i a1 h1 a2 h2 a3 h3 a4 h4 a5 h5 a6 h6 a7 h7 a8 h8 a9 h9 a10 h10 a11 h11 a12 h12 a13 h13 a14 h14 := rfl

theorem defs0_same : (Cert.Kernel.defs₀ (F := Bits)) = (Cert.KernelIdeal.defs₀ (F := Bits)) := by
  unfold Cert.Kernel.defs₀ Cert.KernelIdeal.defs₀
  refine congrArg Defs.onTc ?_
  funext l x
  obtain ⟨n, hn⟩ := l
  cases n with
  | zero => exact body_same ..
  | succ n => exact absurd hn (Nat.not_lt.2 (Nat.le_add_left _ _))

/-- The two body tables are one. -/
theorem defs_same : (Cert.Kernel.defs (F := Bits)) = (Cert.KernelIdeal.defs (F := Bits)) :=
  congrArg (Pipeline.defs _) defs0_same

/-- The two host programs are one. -/
theorem main_same : (Cert.Kernel.main (F := Bits)) = (Cert.KernelIdeal.main (F := Bits)) := rfl

theorem frame (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [main_same, defs_same]
  exact Cert.KernelIdeal.Band.frame (F := Bits) m ρ

end Cert.Kernel.Band

end
-- ==== Proof.Spec.lean ====
module

public import Idealize.ShloMosaic.Lib.Pointwise

@[expose] public section

/-!
# The gradient of one head's banded attention, over the extended reals

Row `R` of the 2048 queries looks at the padded keys `j` of its own chunk of 64 and of the eight chunks before it; the
first 512 padded keys are padding and are not looked at. Sums run over ALL padded keys, or over all queries: where a
query does not look, the terms are zero.
-/

noncomputable section

namespace Cert.Attn

open Idealize.ShloMosaic

/-- Query row `R` looks at padded key `j`. -/
def att (R j : ℕ) : Prop := 64 * (R / 64) ≤ j ∧ j < 64 * (R / 64) + 576 ∧ 512 ≤ j

instance (R j : ℕ) : Decidable (att R j) := by unfold att; infer_instance

/-- The scores' scale. -/
def scale : EReal := Ideal.ofBits .f32 0x3E000000#32

/-- A sum over a window is the sum over everything, where the terms outside are zero. -/
theorem sum_window (f : ℕ → EReal) (N o n : ℕ) (ho : o + n ≤ N) (hz : ∀ j, j < N → ¬(o ≤ j ∧ j < o + n) → f j = 0) :
    ∑ u : Fin n, f (o + u.val) = ∑ j : Fin N, f j.val := by
  rw [Fin.sum_univ_eq_sum_range (fun u => f (o + u)) n, Fin.sum_univ_eq_sum_range f N, Finset.range_eq_Ico,
    Finset.sum_Ico_add f 0 n o, Nat.zero_add, Nat.add_comm n o]
  refine Finset.sum_subset (fun j hj => ?_) (fun j hj hj' => ?_)
  · rw [Finset.mem_Ico] at hj; rw [Finset.mem_range]; omega
  · rw [Finset.mem_range] at hj; rw [Finset.mem_Ico] at hj'
    exact hz j hj hj'

/-- A maximum over a window is the maximum over everything, where the entries outside are minus infinity. -/
theorem max_window (f : ℕ → EReal) (N o n : ℕ) (ho : o + n ≤ N) (hz : ∀ j, j < N → ¬(o ≤ j ∧ j < o + n) → f j = ⊥) :
    (Finset.univ : Finset (Fin n)).sup (fun u => f (o + u.val)) = (Finset.univ : Finset (Fin N)).sup fun j => f j.val := by
  apply le_antisymm
  · refine Finset.sup_le fun u _ => ?_
    exact Finset.le_sup (f := fun j : Fin N => f j.val) (Finset.mem_univ (⟨o + u.val, by have := u.isLt; omega⟩ : Fin N))
  · refine Finset.sup_le fun j _ => ?_
    by_cases h : o ≤ j.val ∧ j.val < o + n
    · have hj : f j.val = f (o + (⟨j.val - o, by omega⟩ : Fin n).val) := congrArg f (by show j.val = o + (j.val - o); omega)
      rw [hj]
      exact Finset.le_sup (f := fun u : Fin n => f (o + u.val)) (Finset.mem_univ _)
    · rw [hz j.val j.isLt h]; exact bot_le

/-- A nonnegative real factor comes out of a sum. -/
theorem sum_mul_real {ι : Type*} (s : Finset ι) (f : ι → EReal) (r : EReal) (h0 : 0 ≤ r) (ht : r ≠ ⊤) :
    (∑ i ∈ s, f i) * r = ∑ i ∈ s, f i * r := by
  classical
  induction s using Finset.induction_on with
  | empty => simp
  | insert a s ha ih => rw [Finset.sum_insert ha, Finset.sum_insert ha, EReal.right_distrib_of_nonneg_of_ne_top h0 ht, ih]

section Head

variable (q k v g b : ℕ → ℕ → EReal)

/-- The score of a query against a key. -/
def score (R j : ℕ) : EReal := ∑ d : Fin 64, q R d.val * k j d.val

/-- The masked score: minus infinity where the query does not look. -/
def zed (R j : ℕ) : EReal := if att R j then score q k R j * scale + b (R % 64) (j - 64 * (R / 64)) else ⊥

/-- A row's greatest masked score. -/
def top (R : ℕ) : EReal := (Finset.univ : Finset (Fin 2560)).sup fun j => zed q k b R j.val

/-- The unnormalised weight. -/
def wt (R j : ℕ) : EReal := Ideal.exp (zed q k b R j - top q k b R)

/-- A row's sum of unnormalised weights. -/
def tot (R : ℕ) : EReal := ∑ j : Fin 2560, wt q k b R j.val

/-- The weight. -/
def prob (R j : ℕ) : EReal := Ideal.div (wt q k b R j) (tot q k b R)

/-- The gradient by the weight. -/
def dprob (R j : ℕ) : EReal := ∑ d : Fin 64, g R d.val * v j d.val

/-- The gradient by the masked score. -/
def dzed (R j : ℕ) : EReal := prob q k b R j * (dprob v g R j - ∑ i : Fin 2560, dprob v g R i.val * prob q k b R i.val)

/-- The gradient by the queries. -/
def dquery (R d : ℕ) : EReal := ∑ j : Fin 2560, dzed q k v g b R j.val * scale * k j.val d

/-- The gradient by the padded keys. -/
def dkey (j d : ℕ) : EReal := ∑ R : Fin 2048, dzed q k v g b R.val j * scale * q R.val d

/-- The gradient by the padded values. -/
def dvalue (j d : ℕ) : EReal := ∑ R : Fin 2048, prob q k b R.val j * g R.val d

/-- The gradient by the bias. -/
def dbias (r w : ℕ) : EReal := ∑ n : Fin 32, dzed q k v g b (64 * n.val + r) (64 * n.val + w)

theorem zed_off {R j : ℕ} (h : ¬ att R j) : zed q k b R j = ⊥ := by unfold zed; rw [if_neg h]

theorem wt_off {R j : ℕ} (h : ¬ att R j) : wt q k b R j = 0 := by
  unfold wt; rw [zed_off q k b h, EReal.bot_sub]; rfl

theorem exp_nonneg (x : EReal) : 0 ≤ Ideal.exp x := by
  induction x with
  | bot => exact le_refl _
  | top => exact le_top
  | coe r => rw [Ideal.exp_coe]; exact_mod_cast (Real.exp_pos r).le

theorem exp_le_one {x : EReal} (h : x ≤ 0) : Ideal.exp x ≤ 1 := by
  induction x with
  | bot => rw [Ideal.exp_bot]; exact zero_le_one
  | top => exact absurd h (by simp)
  | coe r =>
    rw [Ideal.exp_coe]
    have : r ≤ 0 := by exact_mod_cast h
    exact_mod_cast Real.exp_le_one_iff.mpr this

theorem wt_nonneg (R j : ℕ) : 0 ≤ wt q k b R j := exp_nonneg _

theorem tot_nonneg (R : ℕ) : 0 ≤ tot q k b R := Finset.sum_nonneg fun j _ => wt_nonneg q k b R j.val

/-- The numbers the scores are made of are real. -/
structure Finite : Prop where
  hq : ∀ R d, ∃ x : ℝ, q R d = x
  hk : ∀ j d, ∃ x : ℝ, k j d = x
  hb : ∀ r w, ∃ x : ℝ, b r w = x

theorem real_sum {ι : Type*} (s : Finset ι) (f : ι → EReal) (h : ∀ i ∈ s, ∃ x : ℝ, f i = x) : ∃ x : ℝ, ∑ i ∈ s, f i = x := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

theorem scale_real : ∃ x : ℝ, scale = x := by
  unfold scale
  exact ⟨_, rfl⟩

variable {q k v g b}

theorem zed_real (hf : Finite q k b) {R j : ℕ} (h : att R j) : ∃ x : ℝ, zed q k b R j = x := by
  unfold zed; rw [if_pos h]
  obtain ⟨s, hs⟩ : ∃ x : ℝ, score q k R j = x := real_sum _ _ fun d _ => by
    obtain ⟨x, hx⟩ := hf.hq R d.val
    obtain ⟨y, hy⟩ := hf.hk j d.val
    exact ⟨x * y, by rw [hx, hy, EReal.coe_mul]⟩
  obtain ⟨c, hc⟩ := scale_real
  obtain ⟨w, hw⟩ := hf.hb (R % 64) (j - 64 * (R / 64))
  exact ⟨s * c + w, by rw [hs, hc, hw, EReal.coe_add, EReal.coe_mul]⟩

/-- Every row looks at its own chunk. -/
theorem att_self {R : ℕ} : att R (64 * (R / 64) + 512) := by unfold att; omega

theorem zed_ne_top (hf : Finite q k b) (R j : ℕ) : zed q k b R j ≠ ⊤ := by
  by_cases h : att R j
  · obtain ⟨x, hx⟩ := zed_real hf h; rw [hx]; exact EReal.coe_ne_top x
  · rw [zed_off q k b h]; exact bot_ne_top

theorem top_real (hf : Finite q k b) {R : ℕ} (hR : R < 2048) : ∃ x : ℝ, top q k b R = x := by
  obtain ⟨j, _, hj⟩ := Finset.exists_mem_eq_sup (Finset.univ : Finset (Fin 2560)) ⟨0, Finset.mem_univ _⟩ fun j => zed q k b R j.val
  have h1 : top q k b R ≠ ⊤ := by unfold top; rw [hj]; exact zed_ne_top hf R j.val
  have h2 : top q k b R ≠ ⊥ := by
    have hle : zed q k b R (64 * (R / 64) + 512) ≤ top q k b R :=
      Finset.le_sup (f := fun j : Fin 2560 => zed q k b R j.val)
        (Finset.mem_univ (⟨64 * (R / 64) + 512, by omega⟩ : Fin 2560))
    obtain ⟨x, hx⟩ := zed_real hf (att_self (R := R))
    intro hc; rw [hc, hx] at hle
    exact absurd (le_bot_iff.mp hle) (EReal.coe_ne_bot x)
  exact ⟨(top q k b R).toReal, (EReal.coe_toReal h1 h2).symm⟩

theorem wt_real (hf : Finite q k b) {R : ℕ} (hR : R < 2048) (j : ℕ) : ∃ x : ℝ, wt q k b R j = x := by
  by_cases h : att R j
  · obtain ⟨x, hx⟩ := zed_real hf h
    obtain ⟨y, hy⟩ := top_real hf hR
    exact ⟨Real.exp (x - y), by unfold wt; rw [hx, hy, ← EReal.coe_sub, Ideal.exp_coe]⟩
  · exact ⟨0, by rw [wt_off q k b h]; rfl⟩

theorem tot_real (hf : Finite q k b) {R : ℕ} (hR : R < 2048) : ∃ x : ℝ, 0 < x ∧ tot q k b R = x := by
  obtain ⟨x, hx⟩ := real_sum (Finset.univ : Finset (Fin 2560)) (fun j => wt q k b R j.val) fun j _ => wt_real hf hR j.val
  refine ⟨x, ?_, hx⟩
  have hle : wt q k b R (64 * (R / 64) + 512) ≤ tot q k b R :=
    Finset.single_le_sum (f := fun j : Fin 2560 => wt q k b R j.val) (fun j _ => wt_nonneg q k b R j.val)
      (Finset.mem_univ (⟨64 * (R / 64) + 512, by omega⟩ : Fin 2560))
  obtain ⟨z, hz⟩ := zed_real hf (att_self (R := R))
  obtain ⟨y, hy⟩ := top_real hf hR
  have hw : wt q k b R (64 * (R / 64) + 512) = (Real.exp (z - y) : EReal) := by
    unfold wt; rw [hz, hy, ← EReal.coe_sub, Ideal.exp_coe]
  have : (Real.exp (z - y) : EReal) ≤ (x : EReal) := by rw [← hw]; exact hle.trans_eq hx
  exact (Real.exp_pos _).trans_le (EReal.coe_le_coe_iff.mp this)

theorem tot_ne_zero (hf : Finite q k b) {R : ℕ} (hR : R < 2048) : tot q k b R ≠ 0 := by
  obtain ⟨x, hx, h⟩ := tot_real hf hR
  rw [h]; exact_mod_cast hx.ne'

theorem prob_off (hf : Finite q k b) {R j : ℕ} (hR : R < 2048) (h : ¬ att R j) : prob q k b R j = 0 := by
  unfold prob Ideal.div; rw [if_neg (tot_ne_zero hf hR), wt_off q k b h, zero_mul]

theorem dzed_off (hf : Finite q k b) {R j : ℕ} (hR : R < 2048) (h : ¬ att R j) : dzed q k v g b R j = 0 := by
  unfold dzed; rw [prob_off hf hR h, zero_mul]

/-- The gradient by the masked score, as the quotient rule writes it. -/
theorem dzed_quotient (hf : Finite q k b) {R : ℕ} (hR : R < 2048) (j : ℕ) :
    (Ideal.div (dprob v g R j) (tot q k b R)
        + -(∑ i : Fin 2560, dprob v g R i.val * Ideal.div 1 (tot q k b R * tot q k b R) * wt q k b R i.val)) * wt q k b R j
      = dzed q k v g b R j := by
  obtain ⟨x, hx, h⟩ := tot_real hf hR
  have hx' : x ≠ 0 := hx.ne'
  unfold dzed prob
  rw [h, ← EReal.coe_mul, Ideal.div_coe hx', Ideal.div_coe (mul_ne_zero hx' hx'), Ideal.div_coe hx']
  simp only [Ideal.div_coe hx']
  have h0 : (0 : EReal) ≤ ((1 / x : ℝ) : EReal) := by exact_mod_cast (one_div_pos.mpr hx).le
  have ht : ((1 / x : ℝ) : EReal) ≠ ⊤ := EReal.coe_ne_top _
  have hsq : ((1 / (x * x) : ℝ) : EReal) = ((1 / x : ℝ) : EReal) * ((1 / x : ℝ) : EReal) := by
    rw [← EReal.coe_mul]; congr 1; field_simp
  generalize ((1 / x : ℝ) : EReal) = r at h0 ht hsq ⊢
  rw [hsq, one_mul]
  have hs : (∑ i : Fin 2560, dprob v g R i.val * (r * r) * wt q k b R i.val)
      = (∑ i : Fin 2560, dprob v g R i.val * (wt q k b R i.val * r)) * r := by
    rw [sum_mul_real _ _ r h0 ht]
    refine Finset.sum_congr rfl fun i _ => ?_
    ac_rfl
  rw [hs, ← EReal.neg_mul, ← EReal.right_distrib_of_nonneg_of_ne_top h0 ht, sub_eq_add_neg]
  ac_rfl

end Head

end Cert.Attn

end
-- ==== Proof.KerVal.lean ====
module

public import proofs.«01_k».proof.Proof.Model
public import proofs.«01_k».proof.Proof.Spec

@[expose] public section

set_option maxRecDepth 16384

/-!
# One grid point of the kernel, over the extended reals

What the grid point's arrays are in the terms of the gradient of one head's banded attention (`Cert.Attn`).
-/

noncomputable section

namespace Cert.KernelIdeal.Band

open Cert.KernelIdeal Cert.KernelIdeal.Gen Cert.Attn
open Idealize.ShloMosaic

/-- The quotient by 64 rounded down, as the words compute it. -/
theorem floor_word : ∀ n : Fin 640,
    Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 n.val) 64#32) 0#32))
      (IntOp.subi (IntOp.divsi ArithUnit.vector (BitVec.ofNat 32 n.val) 64#32) 1#32)
      (IntOp.divsi ArithUnit.vector (BitVec.ofNat 32 n.val) 64#32) = BitVec.ofNat 32 (n.val / 64) := by
  decide +kernel

theorem band_word : ∀ (a : Fin 10) (b : Fin 2),
    IntOp.andi (IntOp.cmpi CmpIPredicate.sge (IntOp.subi (BitVec.ofNat 32 a.val) (BitVec.ofNat 32 b.val)) 0#32)
      (IntOp.cmpi CmpIPredicate.sle (IntOp.subi (BitVec.ofNat 32 a.val) (BitVec.ofNat 32 b.val)) 8#32)
      = BitVec.ofBool (decide (b.val ≤ a.val ∧ a.val ≤ b.val + 8)) := by
  decide +kernel

theorem past_word : ∀ (i : Fin 16) (n : Fin 640),
    IntOp.cmpi CmpIPredicate.sge (IntOp.addi (Scalar.muli (BitVec.ofNat 32 i.val) 128#32) (BitVec.ofNat 32 n.val)) 512#32
      = BitVec.ofBool (decide (512 ≤ 128 * i.val + n.val)) := by
  decide +kernel

theorem and_word (p q : Bool) : IntOp.andi (BitVec.ofBool p) (BitVec.ofBool q) = BitVec.ofBool (p && q) := by
  cases p <;> cases q <;> rfl

theorem select_word {α : Type} (p : Bool) (x y : α) : Scalar.select (BitVec.ofBool p) x y = if p = true then x else y := by
  cases p <;> rfl

/-- Which slots of the window a query row looks at. -/
theorem validOf_apply (i : grid0.Coords) (r : Fin 128) (u : Fin 640) :
    validOf i (ix2 r u) = BitVec.ofBool (decide (att (128 * (i 0).val + r.val) (128 * (i 0).val + u.val))) := by
  have h1 := floor_word u
  have h2 := floor_word ⟨r.val, by have := r.isLt; omega⟩
  have hu := u.isLt
  have hr := r.isLt
  pointwise [validOf, k0_pay13, k0_pay10, k0_pay11, k0_pay12]
  dsimp only at h1 h2
  rw [h1, h2]
  have h3 := band_word ⟨u.val / 64, by omega⟩ ⟨r.val / 64, by omega⟩
  have h4 := past_word (i 0) u
  dsimp only at h3
  rw [h3, h4, and_word]
  congr 1
  rw [Bool.eq_iff_iff, Bool.and_eq_true, decide_eq_true_eq, decide_eq_true_eq, decide_eq_true_eq]
  unfold att
  constructor <;> intro h <;> omega

theorem lane_apply (h : Fin 2) (l : Fin 128) :
    lane h (ix2 0 l) = BitVec.ofBool (decide (64 * h.val ≤ l.val ∧ l.val < 64 * h.val + 64)) := by
  have key : ∀ (h : Fin 2) (l : Fin 128), (match h with
      | 0 => IntOp.cmpi CmpIPredicate.slt (BitVec.ofNat 32 l.val) 64#32
      | 1 => IntOp.cmpi CmpIPredicate.sge (BitVec.ofNat 32 l.val) 64#32)
      = BitVec.ofBool (decide (64 * h.val ≤ l.val ∧ l.val < 64 * h.val + 64)) := by decide +kernel
  have := key h l
  fin_cases h
  · rw [← this]; show k0_pay14 (ix2 0 l) = _; pointwise [k0_pay14]
  · rw [← this]; show k0_pay15 (ix2 0 l) = _; pointwise [k0_pay15]

/-- Column `d` of one head of a pair. -/
def col (h : Fin 2) (d : Fin 64) : Fin 128 := ⟨64 * h.val + d.val, by have := h.isLt; have := d.isLt; omega⟩

/-- A sum over a pair's columns of terms that are zero off one head's. -/
theorem sum_lane (h : Fin 2) (f : Fin 128 → EReal) :
    (∑ l : Fin 128, if decide (64 * h.val ≤ l.val ∧ l.val < 64 * h.val + 64) = true then f l else 0) = ∑ d : Fin 64, f (col h d) := by
  have hh := h.isLt
  have := sum_window (fun l => if hl : l < 128 then (if 64 * h.val ≤ l ∧ l < 64 * h.val + 64 then f ⟨l, hl⟩ else 0) else 0) 128
    (64 * h.val) 64 (by omega) (fun j hj hn => by rw [dif_pos hj, if_neg hn])
  refine Eq.trans (Finset.sum_congr rfl fun l _ => ?_) (this.symm.trans (Finset.sum_congr rfl fun d _ => ?_))
  · rw [dif_pos l.isLt]; simp only [decide_eq_true_eq]
  · have hd := d.isLt
    rw [dif_pos (show 64 * h.val + d.val < 128 by omega), if_pos (by omega)]; rfl

theorem qOf_apply (h : Fin 2) (q : Vec Ideal S128x128 .bf16) (r l : Fin 128) :
    qOf h q (ix2 r l) = if decide (64 * h.val ≤ l.val ∧ l.val < 64 * h.val + 64) = true then (q (ix2 r l) : EReal) else 0 := by
  have := lane_apply h l
  pointwise [qOf, k0_pay16]
  rw [this, select_word]

theorem doOf_apply (h : Fin 2) (q : Vec Ideal S128x128 .f32) (r l : Fin 128) :
    doOf h q (ix2 r l) = if decide (64 * h.val ≤ l.val ∧ l.val < 64 * h.val + 64) = true then (q (ix2 r l) : EReal) else 0 := by
  have := lane_apply h l
  pointwise [doOf, k0_pay24]
  rw [this, select_word]

theorem dot_key (a : FVec Ideal S128x128 .bf16) (kw : FVec Ideal S640x128 .bf16) (r : Fin 128) (u : Fin 640) :
    (k0_pay33 (F := Ideal) kw a (ix2 r u) : EReal) = ∑ l : Fin 128, (a (ix2 r l) : EReal) * kw (ix2 u l) := by
  pointwise [k0_pay33]

theorem dot_value (a : FVec Ideal S128x128 .bf16) (kw : FVec Ideal S640x128 .bf16) (r : Fin 128) (u : Fin 640) :
    (k0_pay39 (F := Ideal) kw a (ix2 r u) : EReal) = ∑ l : Fin 128, (a (ix2 r l) : EReal) * kw (ix2 u l) := by
  pointwise [k0_pay39]

theorem scoreOf_apply (h : Fin 2) (q : Vec Ideal S128x128 .bf16) (kw : Vec Ideal S640x128 .bf16) (r : Fin 128) (u : Fin 640) :
    (scoreOf h q kw (ix2 r u) : EReal) = ∑ d : Fin 64, (q (ix2 r (col h d)) : EReal) * kw (ix2 u (col h d)) := by
  unfold scoreOf
  refine (dot_key _ _ r u).trans ?_
  rw [← sum_lane h fun l => (q (ix2 r l) : EReal) * kw (ix2 u l)]
  refine Finset.sum_congr rfl fun l _ => ?_
  rw [qOf_apply, ite_mul, zero_mul]

theorem dpOf_apply (h : Fin 2) (g : Vec Ideal S128x128 .f32) (vw : Vec Ideal S640x128 .bf16) (r : Fin 128) (u : Fin 640) :
    (dpOf h g vw (ix2 r u) : EReal) = ∑ d : Fin 64, (g (ix2 r (col h d)) : EReal) * vw (ix2 u (col h d)) := by
  unfold dpOf
  refine (dot_value _ _ r u).trans ?_
  rw [← sum_lane h fun l => (g (ix2 r l) : EReal) * vw (ix2 u l)]
  refine Finset.sum_congr rfl fun l _ => ?_
  rw [doOf_apply, ite_mul, zero_mul]

theorem mask_bot : (Named.named κ "mask" 0xF149F2CA#32 : Ideal .f32) = (⊥ : EReal) := rfl

theorem neg_inf : Ideal.ofBits .f32 0xFF800000#32 = (⊥ : EReal) := by decide +kernel

theorem softmax_apply (V : IVec S128x640 1) (s : Vec Ideal S128x640 .f32) (b : Vec Ideal S1x128x640 .f32) (r : Fin 128) (u : Fin 640)
    (f : Fin 640 → EReal)
    (hf : ∀ x : Fin 640, Scalar.select (V (ix2 r x)) ((s (ix2 r x) : EReal) * scale + b (ix3 0 r x)) ⊥ = f x) :
    (k0_pay50 V s b (ix2 r u) : EReal)
      = Ideal.div (Ideal.exp (f u - Finset.univ.sup f)) (∑ x, Ideal.exp (f x - Finset.univ.sup f)) := by
  have e : (fun x : Fin 640 => (Scalar.select (V (ix2 r x)) ((s (ix2 r x) : EReal) * Ideal.ofBits FTy.f32 1040187392#32 + b (ix3 0 r x))
      (Named.named κ "mask" 4048155338#32 : Ideal .f32) : EReal)) = f := funext hf
  pointwise [k0_pay50]
  rw [e, neg_inf]
  have e' := fun x => congrFun e x
  simp only [e']
  rfl

theorem dzOf_apply (p dp : Vec Ideal S128x640 .f32) (r : Fin 128) (u : Fin 640) :
    (dzOf p dp (ix2 r u) : EReal) = (p (ix2 r u) : EReal) * ((dp (ix2 r u) : EReal) - ∑ x : Fin 640, (dp (ix2 r x) : EReal) * p (ix2 r x)) := by
  pointwise [dzOf, k0_pay62]

/-- One head's loaded blocks are the rows of its arrays. -/
structure Blocks (i : grid0.Coords) (h : Fin 2) (q k v g b : ℕ → ℕ → EReal) (qb : Vec Ideal S128x128 .bf16)
    (kw vw : Vec Ideal S640x128 .bf16) (gb : Vec Ideal S128x128 .f32) (bb : Vec Ideal S1x128x640 .f32) : Prop where
  hq : ∀ (r : Fin 128) (d : Fin 64), (qb (ix2 r (col h d)) : EReal) = q (128 * (i 0).val + r.val) d.val
  hk : ∀ (u : Fin 640) (d : Fin 64), (kw (ix2 u (col h d)) : EReal) = k (128 * (i 0).val + u.val) d.val
  hv : ∀ (u : Fin 640) (d : Fin 64), (vw (ix2 u (col h d)) : EReal) = v (128 * (i 0).val + u.val) d.val
  hg : ∀ (r : Fin 128) (d : Fin 64), (gb (ix2 r (col h d)) : EReal) = g (128 * (i 0).val + r.val) d.val
  hb : ∀ (r : Fin 128) (u : Fin 640), att (128 * (i 0).val + r.val) (128 * (i 0).val + u.val) →
    (bb (ix3 0 r u) : EReal) = b (r.val % 64) (u.val - 64 * (r.val / 64))

section Head

variable {i : grid0.Coords} {h : Fin 2} {q k v g b : ℕ → ℕ → EReal} {qb : Vec Ideal S128x128 .bf16}
    {kw vw : Vec Ideal S640x128 .bf16} {gb : Vec Ideal S128x128 .f32} {bb : Vec Ideal S1x128x640 .f32}
    (B : Blocks i h q k v g b qb kw vw gb bb)

include B

theorem score_blocks (r : Fin 128) (u : Fin 640) :
    (scoreOf h qb kw (ix2 r u) : EReal) = score q k (128 * (i 0).val + r.val) (128 * (i 0).val + u.val) := by
  rw [scoreOf_apply]; unfold score
  exact Finset.sum_congr rfl fun d _ => by rw [B.hq, B.hk]

theorem dp_blocks (r : Fin 128) (u : Fin 640) :
    (dpOf h gb vw (ix2 r u) : EReal) = dprob v g (128 * (i 0).val + r.val) (128 * (i 0).val + u.val) := by
  rw [dpOf_apply]; unfold dprob
  exact Finset.sum_congr rfl fun d _ => by rw [B.hg, B.hv]

omit B in
theorem row_lt (i : grid0.Coords) (r : Fin 128) : 128 * (i 0).val + r.val < 2048 := by
  have h : (i 0).val < 16 := (i 0).isLt
  have := r.isLt; omega

omit B in
/-- A slot off the grid point's window is not looked at. -/
theorem off_window (i : grid0.Coords) (r : Fin 128) (j : ℕ) (hn : ¬(128 * (i 0).val ≤ j ∧ j < 128 * (i 0).val + 640)) :
    ¬ att (128 * (i 0).val + r.val) j := by
  have := r.isLt
  unfold att; omega

theorem prob_blocks (r : Fin 128) (u : Fin 640) :
    (probOf i h qb kw bb (ix2 r u) : EReal) = prob q k b (128 * (i 0).val + r.val) (128 * (i 0).val + u.val) := by
  have hi : (i 0).val < 16 := (i 0).isLt
  have hr := r.isLt
  unfold probOf
  rw [softmax_apply (validOf i) (scoreOf h qb kw) bb r u (fun x => zed q k b (128 * (i 0).val + r.val) (128 * (i 0).val + x.val))]
  · have ht := max_window (fun j => zed q k b (128 * (i 0).val + r.val) j) 2560 (128 * (i 0).val) 640 (by omega)
      (fun j _ hn => zed_off q k b (off_window i r j hn))
    rw [ht]
    have hs := sum_window (fun j => wt q k b (128 * (i 0).val + r.val) j) 2560 (128 * (i 0).val) 640 (by omega)
      (fun j _ hn => wt_off q k b (off_window i r j hn))
    unfold prob
    congr 1
  · intro x
    have hx := x.isLt
    rw [validOf_apply, select_word, score_blocks B]
    unfold zed
    simp only [decide_eq_true_eq]
    split
    · rename_i ha
      rw [B.hb r x ha]
      congr 2
      · omega
      · unfold att at ha; omega
    · rfl

theorem dz_blocks (hf : Finite q k b) (r : Fin 128) (u : Fin 640) :
    (dzHead i h qb kw vw gb bb (ix2 r u) : EReal) = dzed q k v g b (128 * (i 0).val + r.val) (128 * (i 0).val + u.val) := by
  have hi : (i 0).val < 16 := (i 0).isLt
  unfold dzHead
  rw [dzOf_apply, prob_blocks B, dp_blocks B]
  unfold dzed
  congr 2
  have hs := sum_window (fun j => dprob v g (128 * (i 0).val + r.val) j * prob q k b (128 * (i 0).val + r.val) j) 2560
    (128 * (i 0).val) 640 (by omega) (fun j _ hn => by
      show _ * prob q k b _ j = 0
      rw [prob_off hf (row_lt i r) (off_window i r j hn), mul_zero])
  rw [← hs]
  exact Finset.sum_congr rfl fun x _ => by rw [prob_blocks B, dp_blocks B]

end Head

end Cert.KernelIdeal.Band

end
-- ==== Proof.KerGrad.lean ====
module

public import proofs.«01_k».proof.Proof.KerVal

@[expose] public section

set_option maxRecDepth 16384

/-!
# What one grid point stores and adds, over the extended reals

The gradient of a pair's queries at the point's rows is whole; to the gradients of the padded keys and values the point
adds its own rows' terms.
-/

noncomputable section

namespace Cert.KernelIdeal.Band

open Cert.KernelIdeal Cert.KernelIdeal.Gen Cert.Attn
open Idealize.ShloMosaic

theorem add_dq (x y : FVec Ideal S128x128 .f32) (r l : Fin 128) :
    (k0_pay112 (F := Ideal) x y (ix2 r l) : EReal) = (x (ix2 r l) : EReal) + y (ix2 r l) := by
  pointwise [k0_pay112]

theorem scaled_apply (z : FVec Ideal S128x640 .f32) (r : Fin 128) (u : Fin 640) :
    (k0_pay79 (F := Ideal) z (ix2 r u) : EReal) = (z (ix2 r u) : EReal) * scale := by
  pointwise [k0_pay79]; rfl

theorem dot_dq (h : Fin 2) (kw : FVec Ideal S640x128 .bf16) (z : FVec Ideal S128x640 .bf16) (r l : Fin 128) :
    (k0_pay88 (F := Ideal) (lane h) kw z (ix2 r l) : EReal)
      = if decide (64 * h.val ≤ l.val ∧ l.val < 64 * h.val + 64) = true then ∑ u : Fin 640, (z (ix2 r u) : EReal) * kw (ix2 u l) else 0 := by
  have hl := lane_apply h l
  pointwise [k0_pay88]
  simp only [hl, select_word]
  split
  · rfl
  · exact Finset.sum_const_zero

theorem dot_dk (a : FVec Ideal S128x128 .bf16) (z : FVec Ideal S128x640 .bf16) (u : Fin 640) (l : Fin 128) :
    (k0_pay96 (F := Ideal) a z (ix2 u l) : EReal) = ∑ r : Fin 128, (z (ix2 r u) : EReal) * a (ix2 r l) := by
  pointwise [k0_pay96]

theorem dot_dv (a : FVec Ideal S128x128 .bf16) (z : FVec Ideal S128x640 .f32) (u : Fin 640) (l : Fin 128) :
    (k0_pay103 (F := Ideal) a z (ix2 u l) : EReal) = ∑ r : Fin 128, (z (ix2 r u) : EReal) * a (ix2 r l) := by
  pointwise [k0_pay103]

theorem in_lane (h h' : Fin 2) (d : Fin 64) :
    decide (64 * h'.val ≤ (col h d).val ∧ (col h d).val < 64 * h'.val + 64) = decide (h' = h) := by
  have := d.isLt
  have e : (col h d).val = 64 * h.val + d.val := rfl
  rw [e]
  fin_cases h <;> fin_cases h' <;> simp <;> omega

theorem one_of_two (h : Fin 2) (x : EReal) : (if (0 : Fin 2) = h then x else 0) + (if (1 : Fin 2) = h then x else 0) = x := by
  fin_cases h <;> simp

section Pair

variable {i : grid0.Coords} {q k v g b : Fin 2 → ℕ → ℕ → EReal} {qb : Vec Ideal S128x128 .bf16}
    {kw vw : Vec Ideal S640x128 .bf16} {gb : Vec Ideal S128x128 .f32} {bb : Fin 2 → Vec Ideal S1x128x640 .f32}
    (B : ∀ h, Blocks i h (q h) (k h) (v h) (g h) (b h) qb kw vw gb (bb h)) (hf : ∀ h, Finite (q h) (k h) (b h))

include B hf

theorem dq_one (r : Fin 128) (h h' : Fin 2) (d : Fin 64) :
    (k0_pay88 (F := Ideal) (lane h') kw (k0_pay79 (dzHead i h' qb kw vw gb (bb h'))) (ix2 r (col h d)) : EReal)
      = if h' = h then dquery (q h) (k h) (v h) (g h) (b h) (128 * (i 0).val + r.val) d.val else 0 := by
  have hi : (i 0).val < 16 := (i 0).isLt
  rw [dot_dq, in_lane]
  simp only [decide_eq_true_eq]
  split
  · rename_i e; subst e
    unfold dquery
    have hs := sum_window (fun j => dzed (q h') (k h') (v h') (g h') (b h') (128 * (i 0).val + r.val) j * scale * k h' j d.val) 2560
      (128 * (i 0).val) 640 (by omega) (fun j _ hn => by
        show dzed _ _ _ _ _ _ j * _ * _ = 0
        rw [dzed_off (hf h') (row_lt i r) (off_window i r j hn), zero_mul, zero_mul])
    rw [← hs]
    exact Finset.sum_congr rfl fun u _ => by rw [scaled_apply, dz_blocks (B h') (hf h'), (B h').hk]
  · rfl

theorem dq_blocks (r : Fin 128) (h : Fin 2) (d : Fin 64) :
    (dqPair i qb kw vw gb (bb 0) (bb 1) (ix2 r (col h d)) : EReal)
      = dquery (q h) (k h) (v h) (g h) (b h) (128 * (i 0).val + r.val) d.val := by
  unfold dqPair
  rw [add_dq, dq_one B hf, dq_one B hf]
  exact one_of_two h _

theorem dk_one (u : Fin 640) (h h' : Fin 2) (d : Fin 64) :
    (k0_pay96 (F := Ideal) (qOf h' qb) (k0_pay79 (dzHead i h' qb kw vw gb (bb h'))) (ix2 u (col h d)) : EReal)
      = if h' = h then ∑ r : Fin 128, dzed (q h) (k h) (v h) (g h) (b h) (128 * (i 0).val + r.val) (128 * (i 0).val + u.val) * scale
          * q h (128 * (i 0).val + r.val) d.val else 0 := by
  rw [dot_dk]
  simp only [qOf_apply, in_lane, decide_eq_true_eq]
  split
  · rename_i e; subst e
    exact Finset.sum_congr rfl fun r _ => by rw [scaled_apply, dz_blocks (B h') (hf h'), (B h').hq]
  · exact Finset.sum_eq_zero fun r _ => mul_zero _

theorem dk_blocks (u : Fin 640) (h : Fin 2) (d : Fin 64) :
    (dkPair i qb kw vw gb (bb 0) (bb 1) (ix2 u (col h d)) : EReal)
      = ∑ r : Fin 128, dzed (q h) (k h) (v h) (g h) (b h) (128 * (i 0).val + r.val) (128 * (i 0).val + u.val) * scale
          * q h (128 * (i 0).val + r.val) d.val := by
  unfold dkPair
  refine Eq.trans (congrArg₂ (fun x y : EReal => x + y) (dk_one B hf u h 0 d) (dk_one B hf u h 1 d)) ?_
  exact one_of_two h _

theorem dv_one (u : Fin 640) (h h' : Fin 2) (d : Fin 64) :
    (k0_pay103 (F := Ideal) (doOf h' gb) (probOf i h' qb kw (bb h')) (ix2 u (col h d)) : EReal)
      = if h' = h then ∑ r : Fin 128, prob (q h) (k h) (b h) (128 * (i 0).val + r.val) (128 * (i 0).val + u.val)
          * g h (128 * (i 0).val + r.val) d.val else 0 := by
  rw [dot_dv]
  simp only [doOf_apply, in_lane, decide_eq_true_eq]
  split
  · rename_i e; subst e
    exact Finset.sum_congr rfl fun r _ => by rw [prob_blocks (B h'), (B h').hg]
  · exact Finset.sum_eq_zero fun r _ => mul_zero _

theorem dv_blocks (u : Fin 640) (h : Fin 2) (d : Fin 64) :
    (dvPair i qb kw gb (bb 0) (bb 1) (ix2 u (col h d)) : EReal)
      = ∑ r : Fin 128, prob (q h) (k h) (b h) (128 * (i 0).val + r.val) (128 * (i 0).val + u.val)
          * g h (128 * (i 0).val + r.val) d.val := by
  unfold dvPair
  refine Eq.trans (congrArg₂ (fun x y : EReal => x + y) (dv_one B hf u h 0 d) (dv_one B hf u h 1 d)) ?_
  exact one_of_two h _

end Pair

/-! ## Blocks laid over an array -/

/-- Column `l` of one pair. -/
def pcol (p : Fin 4) (l : Fin 128) : Fin 512 := ⟨128 * p.val + l.val, by have := p.isLt; have := l.isLt; omega⟩

theorem put2_apply {α : Type} {A B N M : ℕ} (x : (⟨2, ![A, B]⟩ : Shape).Idx → α) (o₀ o₁ : ℕ) (w : (⟨2, ![N, M]⟩ : Shape).Idx → α)
    (r : Fin A) (l : Fin B) :
    VecWindow.put x ![o₀, o₁] ![N, M] w (ix2 r l)
      = if h : (o₀ ≤ r.val ∧ r.val < o₀ + N) ∧ (o₁ ≤ l.val ∧ l.val < o₁ + M) then w (ix2 ⟨r.val - o₀, by omega⟩ ⟨l.val - o₁, by omega⟩)
        else x (ix2 r l) := by
  unfold VecWindow.put
  by_cases h : (o₀ ≤ r.val ∧ r.val < o₀ + N) ∧ (o₁ ≤ l.val ∧ l.val < o₁ + M)
  · rw [dif_pos h, dif_pos (Fin.forall_fin_two.mpr h)]
    congr 1
    funext a; revert a
    exact Fin.forall_fin_two.mpr ⟨rfl, rfl⟩
  · rw [dif_neg h, dif_neg (fun hc => h (Fin.forall_fin_two.mp hc))]

theorem put4_apply (x : Vec Ideal S128x512 .bf16) (w : Fin 4 → Vec Ideal S128x128 .bf16) (p : Fin 4) (r l : Fin 128) :
    put4 x w (ix2 r (pcol p l)) = w p (ix2 r l) := by
  have hl := l.isLt
  have hr := r.isLt
  obtain ⟨p, hp⟩ := p
  have e : (pcol ⟨p, hp⟩ l).val = 128 * p + l.val := rfl
  unfold put4
  rw [put2_apply, put2_apply, put2_apply, put2_apply]
  interval_cases p <;> split_ifs <;> first
    | (exfalso; omega)
    | exact congrArg _ (congrArg₂ ix2 (Fin.ext (by dsimp only; omega)) (Fin.ext (by dsimp only; omega)))

theorem putW_apply (i : grid0.Coords) (x : Vec Ideal S2560x512 .f32) (w : Fin 4 → Vec Ideal S640x128 .f32) (p : Fin 4)
    (j : Fin 2560) (l : Fin 128) :
    putW i x w (ix2 j (pcol p l))
      = if h : 128 * (i 0).val ≤ j.val ∧ j.val < 128 * (i 0).val + 640 then w p (ix2 ⟨j.val - 128 * (i 0).val, by omega⟩ l)
        else x (ix2 j (pcol p l)) := by
  have hl := l.isLt
  obtain ⟨p, hp⟩ := p
  have e : (pcol ⟨p, hp⟩ l).val = 128 * p + l.val := rfl
  unfold putW offW
  rw [put2_apply, put2_apply, put2_apply, put2_apply]
  have e0 : ((0 : Fin 4) : ℕ) = 0 := rfl
  have e1 : ((1 : Fin 4) : ℕ) = 1 := rfl
  have e2 : ((2 : Fin 4) : ℕ) = 2 := rfl
  have e3 : ((3 : Fin 4) : ℕ) = 3 := rfl
  simp only [e0, e1, e2, e3]
  interval_cases p <;> split_ifs <;> first
    | rfl
    | (exfalso; omega)
    | exact congrArg _ (congrArg₂ ix2 (Fin.ext (by dsimp only)) (Fin.ext (by dsimp only; omega)))

theorem put3_apply (x : Vec Ideal S8x128x640 .f32) (o : Fin 8) (w : Vec Ideal S1x128x640 .f32) (h : Fin 8) (r : Fin 128) (u : Fin 640) :
    VecWindow.put x ![o.val, 0, 0] S1x128x640.size w (ix3 h r u) = if h = o then w (ix3 0 r u) else x (ix3 h r u) := by
  have hr := r.isLt
  have hu := u.isLt
  unfold VecWindow.put
  by_cases e : h = o
  · subst e
    rw [if_pos rfl, dif_pos (by
      intro a; fin_cases a
      · show h.val ≤ h.val ∧ h.val < h.val + 1; omega
      · show 0 ≤ r.val ∧ r.val < 0 + 128; omega
      · show 0 ≤ u.val ∧ u.val < 0 + 640; omega)]
    congr 1
    funext a; fin_cases a
    · exact Fin.ext (by show h.val - h.val = 0; omega)
    · exact Fin.ext (by show r.val - 0 = r.val; omega)
    · exact Fin.ext (by show u.val - 0 = u.val; omega)
  · rw [if_neg e, dif_neg]
    intro hc
    have h0 : o.val ≤ h.val ∧ h.val < o.val + 1 := hc 0
    exact e (Fin.ext (by omega))

theorem putH_apply (x : Vec Ideal S8x128x640 .f32) (w : Fin 8 → Vec Ideal S1x128x640 .f32) (h : Fin 8) (r : Fin 128) (u : Fin 640) :
    putH x w (ix3 h r u) = w h (ix3 0 r u) := by
  unfold putH
  have k := fun (y : Vec Ideal S8x128x640 .f32) (o : Fin 8) (v : Vec Ideal S1x128x640 .f32) => put3_apply y o v h r u
  refine (k _ 7 _).trans ?_
  split_ifs with h7
  · rw [h7]
  refine (k _ 6 _).trans ?_
  split_ifs with h6
  · rw [h6]
  refine (k _ 5 _).trans ?_
  split_ifs with h5
  · rw [h5]
  refine (k _ 4 _).trans ?_
  split_ifs with h4
  · rw [h4]
  refine (k _ 3 _).trans ?_
  split_ifs with h3
  · rw [h3]
  refine (k _ 2 _).trans ?_
  split_ifs with h2
  · rw [h2]
  refine (k _ 1 _).trans ?_
  split_ifs with h1
  · rw [h1]
  refine (k _ 0 _).trans ?_
  rw [if_pos (by have := h.isLt; omega)]
  congr 1
  omega

end Cert.KernelIdeal.Band

end
-- ==== Proof.Heads.lean ====
module

public import proofs.«01_k».proof.Proof.Spec
public import Idealize.ShloMosaic.Lib.Pointwise

@[expose] public section

/-!
# One head's queries, keys, values, cotangent and bias, of the launched arrays

The 3072 columns of the first array hold queries, keys and values: the banded attention has columns 1536 to 2047 of the
queries, 2048 to 2559 of the keys and 2560 to 3071 of the values, 64 columns a head. Keys and values are padded with 512 zero rows.
-/

noncomputable section

namespace Cert.Attn

open Idealize.ShloMosaic

/-- Reading an array by numbers: zero outside. -/
def rd2 {A B : ℕ} (x : (⟨2, ![A, B]⟩ : Shape).Idx → EReal) (i j : ℕ) : EReal :=
  if h : i < A ∧ j < B then x (ix2 ⟨i, h.1⟩ ⟨j, h.2⟩) else 0

/-- The same of an array of three axes. -/
def rd3 {A B C : ℕ} (x : (⟨3, ![A, B, C]⟩ : Shape).Idx → EReal) (i j k : ℕ) : EReal :=
  if h : i < A ∧ j < B ∧ k < C then x (ix3 ⟨i, h.1⟩ ⟨j, h.2.1⟩ ⟨k, h.2.2⟩) else 0

/-- The launched arrays' shapes: queries, keys and values; bias; cotangent. -/
abbrev ArrX := (⟨2, ![2048, 3072]⟩ : Shape).Idx → EReal
abbrev ArrB := (⟨3, ![8, 64, 576]⟩ : Shape).Idx → EReal
abbrev ArrD := (⟨2, ![2048, 512]⟩ : Shape).Idx → EReal

variable (X : ArrX) (B : ArrB) (D : ArrD)

/-- A head's queries. -/
def headQ (h R d : ℕ) : EReal := if d < 64 then rd2 X R (1536 + (64 * h + d)) else 0

/-- A head's padded keys. -/
def headK (h j d : ℕ) : EReal := if d < 64 ∧ 512 ≤ j then rd2 X (j - 512) (2048 + (64 * h + d)) else 0

/-- A head's padded values. -/
def headV (h j d : ℕ) : EReal := if d < 64 ∧ 512 ≤ j then rd2 X (j - 512) (2560 + (64 * h + d)) else 0

/-- A head's cotangent. -/
def headG (h R d : ℕ) : EReal := rd2 D R (64 * h + d)

/-- A head's bias. -/
def headB (h r w : ℕ) : EReal := rd3 B h r w

/-- The queries, the keys and the bias are real numbers. -/
structure Reals : Prop where
  hx : ∀ (i : Fin 2048) (j : Fin 3072), 1536 ≤ j.val → j.val < 2560 → ∃ x : ℝ, X (ix2 i j) = x
  hb : ∀ (h : Fin 8) (r : Fin 64) (w : Fin 576), ∃ x : ℝ, B (ix3 h r w) = x

variable {X B}

theorem Reals.finite (hr : Reals X B) (h : Fin 8) : Finite (headQ X h.val) (headK X h.val) (headB B h.val) where
  hq R d := by
    unfold headQ rd2
    split_ifs with h1 h2
    · exact hr.hx _ _ (by dsimp only; omega) (by dsimp only; omega)
    · exact ⟨0, rfl⟩
    · exact ⟨0, rfl⟩
  hk j d := by
    unfold headK rd2
    split_ifs with h1 h2
    · exact hr.hx _ _ (by dsimp only; omega) (by dsimp only; omega)
    · exact ⟨0, rfl⟩
    · exact ⟨0, rfl⟩
  hb r w := by
    unfold headB rd3
    split_ifs with h1
    · exact hr.hb _ _ _
    · exact ⟨0, rfl⟩

/-! ## The four gradients as arrays -/

/-- The gradients of one head, of the launched arrays. -/
def gradQ (X : ArrX) (B : ArrB) (D : ArrD) (h R d : ℕ) : EReal := dquery (headQ X h) (headK X h) (headV X h) (headG D h) (headB B h) R d
def gradK (X : ArrX) (B : ArrB) (D : ArrD) (h j d : ℕ) : EReal := dkey (headQ X h) (headK X h) (headV X h) (headG D h) (headB B h) j d
def gradV (X : ArrX) (B : ArrB) (D : ArrD) (h j d : ℕ) : EReal := dvalue (headQ X h) (headK X h) (headG D h) (headB B h) j d
def gradB (X : ArrX) (B : ArrB) (D : ArrD) (h r w : ℕ) : EReal := dbias (headQ X h) (headK X h) (headV X h) (headG D h) (headB B h) r w

/-- The gradient of the queries, of the keys (past the padding), of the values (past the padding), and of the bias. -/
def resQ (X : ArrX) (B : ArrB) (D : ArrD) : ArrD := fun i => gradQ X B D ((i 1).val / 64) (i 0).val ((i 1).val % 64)
def resK (X : ArrX) (B : ArrB) (D : ArrD) : ArrD := fun i => gradK X B D ((i 1).val / 64) ((i 0).val + 512) ((i 1).val % 64)
def resV (X : ArrX) (B : ArrB) (D : ArrD) : ArrD := fun i => gradV X B D ((i 1).val / 64) ((i 0).val + 512) ((i 1).val % 64)
def resB (X : ArrX) (B : ArrB) (D : ArrD) : ArrB := fun i => gradB X B D (i 0).val (i 1).val (i 2).val

end Cert.Attn

end
-- ==== Proof.Arrays.lean ====
module

public import proofs.«01_k».proof.Proof.State
public import proofs.«01_k».proof.Proof.KerGrad
public import proofs.«01_k».proof.Proof.Heads
public import Idealize.ShloMosaic.Lib.Pipeline.ValueKit

@[expose] public section

set_option maxRecDepth 16384

/-!
# The blocks a grid point loads, of the launched arrays

A grid point holds 128 rows of queries and of the cotangent, all keys and values, and the bias with 64 columns of zeros
after it for the first of its two chunks and before it for the second.
-/

noncomputable section

namespace Cert.KernelIdeal.Band

open Cert.KernelIdeal Cert.KernelIdeal.Gen Cert.Attn
open Idealize.ShloMosaic Idealize.ShloMosaic.TcCoe

variable (m : (ℓ : Loc nD τ sig) → Buf (Elt Ideal) ℓ)

/-- The launched arrays. -/
def argX (c : Dev nD) : ArrX := m ((c : Thread nD τ).loc main_arg0)
def argB (c : Dev nD) : ArrB := m ((c : Thread nD τ).loc main_arg1)
def argD (c : Dev nD) : ArrD := m ((c : Thread nD τ).loc main_arg2)

theorem idx : ∀ t : Fin grid0.N, win0_0.index t = ![t.val, 3] ∧ win0_1.index t = ![0, 4] ∧ win0_2.index t = ![0, 5]
  ∧ win0_3.index t = ![0, 0, 0] ∧ win0_4.index t = ![t.val, 0] := by decide +kernel

theorem read0 (c : Dev nD) (t : Fin cfg0.N) (r : Fin 128) (l : Fin 512) :
    (iblk m c 0 t (ix2 r l) : EReal) = rd2 (argX m c) (128 * t.val + r.val) (1536 + l.val) := by
  have := lt16 t
  rw [rd2, dif_pos ⟨by omega, by omega⟩]
  unfold argX
  blk_ext! [iblk, V, idx t]

theorem read1 (c : Dev nD) (t : Fin cfg0.N) (r : Fin 2048) (l : Fin 512) :
    (iblk m c 1 t (ix2 r l) : EReal) = rd2 (argX m c) r.val (2048 + l.val) := by
  rw [rd2, dif_pos ⟨by omega, by omega⟩]
  unfold argX
  blk_ext! [iblk, V, idx t]

theorem read2 (c : Dev nD) (t : Fin cfg0.N) (r : Fin 2048) (l : Fin 512) :
    (iblk m c 2 t (ix2 r l) : EReal) = rd2 (argX m c) r.val (2560 + l.val) := by
  rw [rd2, dif_pos ⟨by omega, by omega⟩]
  unfold argX
  blk_ext! [iblk, V, idx t]

theorem read4 (c : Dev nD) (t : Fin cfg0.N) (r : Fin 128) (l : Fin 512) :
    (iblk m c 4 t (ix2 r l) : EReal) = rd2 (argD m c) (128 * t.val + r.val) l.val := by
  have := lt16 t
  rw [rd2, dif_pos ⟨by omega, by omega⟩]
  unfold argD
  blk_ext! [iblk, V, idx t]

/-- The bias as the host gives it to the kernel: 64 columns of zeros after it for a block's first chunk, and before it for
    its second. -/
def biasPair (x : FVec Ideal S8x64x576 .f32) : FVec Ideal S8x128x640 .f32 :=
  concatenate S8x128x640 1
    [⟨S8x64x640, pad S8x64x640 ![0, 0, 0] ![0, 0, 64] ![0, 0, 0] x (sitofp .f32 (constantI S_ 32 0#32)) pads_S8x64x576_S8x64x640_000_000_0640 h_S_⟩,
     ⟨S8x64x640, pad S8x64x640 ![0, 0, 64] ![0, 0, 0] ![0, 0, 0] x (sitofp .f32 (constantI S_ 32 0#32)) pads_S8x64x576_S8x64x640_000_000_6400 h_S_⟩]
    concatenates_S8x64x640_S8x64x640_S8x128x640_d1

theorem biasPair_apply (x : FVec Ideal S8x64x576 .f32) (h : Fin 8) (r : Fin 128) (u : Fin 640)
    (hw : 64 * (r.val / 64) ≤ u.val ∧ u.val < 64 * (r.val / 64) + 576) :
    (biasPair x (ix3 h r u) : EReal) = rd3 x h.val (r.val % 64) (u.val - 64 * (r.val / 64)) := by
  have hr := r.isLt
  rw [rd3, dif_pos ⟨by omega, by omega, by omega⟩]
  pointwise [biasPair]
  split_ifs <;> first
    | (exfalso; omega)
    | exact congrArg x (congrArg₂ (ix3 h) (Fin.ext (by dsimp only; omega)) (Fin.ext (by dsimp only; omega)))

theorem entry2 (c : Dev nD) : V m c main_v2 = biasPair (m ((c : Thread nD τ).loc main_arg1)) := by
  show StableHlo.after (hostOps0 ++ (hostOps0_1 ++ (hostOps0_2 ++ (hostOps0_3 ++ (hostOps0_4 ++ []))))) _ _ = _
  simp only [hostOps0, hostOps0_1, hostOps0_2, hostOps0_3, hostOps0_4, List.append_nil, List.cons_append, List.nil_append]
  entry_read
  rfl

theorem read3 (c : Dev nD) (t : Fin cfg0.N) (h : Fin 8) (r : Fin 128) (u : Fin 640)
    (hw : 64 * (r.val / 64) ≤ u.val ∧ u.val < 64 * (r.val / 64) + 576) :
    (iblk m c 3 t (ix3 h r u) : EReal) = rd3 (argB m c) h.val (r.val % 64) (u.val - 64 * (r.val / 64)) := by
  refine Eq.trans ?_ (biasPair_apply (argB m c) h r u hw)
  have e := entry2 m c
  have e' : (iblk m c 3 t (ix3 h r u) : EReal) = V m c main_v2 (((cfg0.win 3).blk t).view.emb (ix3 h r u)) := rfl
  rw [e', e]
  show biasPair (argB m c) _ = _
  congr 1
  have hi := (idx t).2.2.2.1
  blk_ext [idx t]

/-! ## Windows of arrays, at an index -/

theorem colB_apply {e : EltTy} (p : Fin 4) (x : Vec Ideal S128x512 e) (r l : Fin 128) : colB p x (ix2 r l) = x (ix2 r (pcol p l)) := by
  unfold colB VecWindow.window
  congr 1
  funext a; revert a
  exact Fin.forall_fin_two.mpr ⟨Fin.ext (by show 0 + 1 * r.val = r.val; omega), Fin.ext (by show 128 * p.val + 1 * l.val = 128 * p.val + l.val; omega)⟩

/-- A window's row of the padded arrays. -/
def wrow (i : grid0.Coords) (u : Fin 640) : Fin 2560 :=
  ⟨128 * (i 0).val + u.val, by have h : (i 0).val < 16 := (i 0).isLt; have := u.isLt; omega⟩

theorem winB_apply {e : EltTy} (i : grid0.Coords) (p : Fin 4) (x : Vec Ideal S2560x512 e) (u : Fin 640) (l : Fin 128) :
    winB i p x (ix2 u l) = x (ix2 (wrow i u) (pcol p l)) := by
  unfold winB VecWindow.window
  congr 1
  funext a; revert a
  exact Fin.forall_fin_two.mpr ⟨Fin.ext (by show 128 * (i 0).val + 1 * u.val = 128 * (i 0).val + u.val; omega),
    Fin.ext (by show 128 * p.val + 1 * l.val = 128 * p.val + l.val; omega)⟩

theorem slabB_apply (h : Fin 8) (x : Vec Ideal S8x128x640 .f32) (r : Fin 128) (u : Fin 640) : slabB h x (ix3 0 r u) = x (ix3 h r u) := by
  unfold slabB VecWindow.window
  congr 1
  funext a; fin_cases a
  · exact Fin.ext (by show h.val + 1 * 0 = h.val; omega)
  · exact Fin.ext (by show 0 + 1 * r.val = r.val; omega)
  · exact Fin.ext (by show 0 + 1 * u.val = u.val; omega)

theorem same_apply (x : Vec Ideal S2048x512 .bf16) (y : Fin 2048) (l : Fin 512) : (k0_pay4 (F := Ideal) x (ix2 y l) : EReal) = x (ix2 y l) := by
  pointwise [k0_pay4]

theorem nought_apply (y : Fin 512) (l : Fin 512) : (k0_pay3 (F := Ideal) (ix2 y l) : EReal) = 0 := by
  pointwise [k0_pay3]

theorem padded_apply (x : Vec Ideal S2048x512 .bf16) (j : Fin 2560) (l : Fin 512) :
    (padded x (ix2 j l) : EReal) = if h : 512 ≤ j.val then (x (ix2 ⟨j.val - 512, by omega⟩ l) : EReal) else 0 := by
  have hj := j.isLt
  have hl := l.isLt
  unfold padded
  rw [put2_apply, put2_apply]
  split_ifs <;> first
    | (exfalso; omega)
    | (rw [same_apply]; rfl)
    | exact nought_apply _ _

/-- A pair's column, as a head's column. -/
theorem pcol_col (p : Fin 4) (h : Fin 2) (d : Fin 64) : (pcol p (col h d)).val = 64 * (headNo p h).val + d.val := by
  show 128 * p.val + (64 * h.val + d.val) = 64 * (2 * p.val + h.val) + d.val
  omega

theorem keys_apply (c : Dev nD) (j : Fin 2560) (p : Fin 4) (h : Fin 2) (d : Fin 64) :
    (keysA m c (ix2 j (pcol p (col h d))) : EReal) = headK (argX m c) (headNo p h).val j.val d.val := by
  have hd := d.isLt
  unfold keysA headK
  rw [padded_apply]
  by_cases hj : 512 ≤ j.val
  · rw [dif_pos hj, if_pos ⟨hd, hj⟩, read1, pcol_col]
  · rw [dif_neg hj, if_neg (fun hc => hj hc.2)]

theorem vals_apply (c : Dev nD) (j : Fin 2560) (p : Fin 4) (h : Fin 2) (d : Fin 64) :
    (valsA m c (ix2 j (pcol p (col h d))) : EReal) = headV (argX m c) (headNo p h).val j.val d.val := by
  have hd := d.isLt
  unfold valsA headV
  rw [padded_apply]
  by_cases hj : 512 ≤ j.val
  · rw [dif_pos hj, if_pos ⟨hd, hj⟩, read2, pcol_col]
  · rw [dif_neg hj, if_neg (fun hc => hj hc.2)]

theorem coord (t : Fin cfg0.N) : (grid0.coords t 0).val = t.val := by
  have e0 : (grid0.coords t 0).val = t.val / 1 % 16 := Pipeline.Grid.coords_val t 0 (by decide) rfl
  have := lt16 t
  omega

/-- The blocks a grid point loads are the heads' rows. -/
theorem blocks (c : Dev nD) (t : Fin cfg0.N) (p : Fin 4) (h : Fin 2) :
    Blocks (grid0.coords t) h (headQ (argX m c) (headNo p h).val) (headK (argX m c) (headNo p h).val) (headV (argX m c) (headNo p h).val)
      (headG (argD m c) (headNo p h).val) (headB (argB m c) (headNo p h).val) (colB p (iblk m c 0 t)) (winB (grid0.coords t) p (keysA m c))
      (winB (grid0.coords t) p (valsA m c)) (colB p (iblk m c 4 t)) (slabB (headNo p h) (iblk m c 3 t)) where
  hq r d := by
    have hd := d.isLt
    refine (congrArg _ (colB_apply p (iblk m c 0 t) r (col h d))).trans ?_
    rw [coord]; unfold headQ; rw [if_pos hd, ← pcol_col]
    exact read0 m c t r _
  hk u d := (winB_apply _ p (keysA m c) u (col h d)).trans (keys_apply m c _ p h d)
  hv u d := (winB_apply _ p (valsA m c) u (col h d)).trans (vals_apply m c _ p h d)
  hg r d := by
    refine (congrArg _ (colB_apply p (iblk m c 4 t) r (col h d))).trans ?_
    rw [coord]; unfold headG; rw [← pcol_col]
    exact read4 m c t r _
  hb r u ha := by
    refine (congrArg _ (slabB_apply (headNo p h) (iblk m c 3 t) r u)).trans ?_
    refine read3 m c t _ r u ?_
    unfold att at ha
    have := r.isLt
    omega

end Cert.KernelIdeal.Band

end
-- ==== Proof.Acc.lean ====
module

public import proofs.«01_k».proof.Proof.Arrays

@[expose] public section

set_option maxRecDepth 16384

/-!
# What the kernel has summed after a grid point

Each sum kept from point to point is the sum, over the points so far, of that point's rows. A point adds only to its own window of
padded keys; outside it the rows do not look, so its terms there are zero and the sum may be written over all of them.
-/

noncomputable section

namespace Cert.Attn

/-- A sum over blocks of `b` is one sum. -/
theorem sum_blocks (f : ℕ → EReal) (a b : ℕ) :
    ∑ t ∈ Finset.range a, ∑ r : Fin b, f (b * t + r.val) = ∑ R : Fin (b * a), f R.val := by
  rw [Fin.sum_univ_eq_sum_range f (b * a)]
  induction a with
  | zero => simp
  | succ a ih =>
    rw [Finset.sum_range_succ, ih, Nat.mul_succ, Finset.sum_range_add, Fin.sum_univ_eq_sum_range (fun r => f (b * a + r)) b]

/-- Even and odd terms. -/
theorem sum_pairs (f : ℕ → EReal) (a : ℕ) :
    (∑ t ∈ Finset.range a, f (2 * t)) + ∑ t ∈ Finset.range a, f (2 * t + 1) = ∑ n : Fin (2 * a), f n.val := by
  rw [← sum_blocks f a 2, ← Finset.sum_add_distrib]
  refine Finset.sum_congr rfl fun t _ => ?_
  rw [Fin.sum_univ_two]; rfl

end Cert.Attn

namespace Cert.KernelIdeal.Band

open Cert.KernelIdeal Cert.KernelIdeal.Gen Cert.Attn
open Idealize.ShloMosaic Idealize.ShloMosaic.TcCoe

variable (m : (ℓ : Loc nD τ sig) → Buf (Elt Ideal) ℓ)

/-- A head's gradients, of the launched arrays of a device. -/
def dz (c : Dev nD) (h : Fin 8) (R j : ℕ) : EReal :=
  dzed (headQ (argX m c) h.val) (headK (argX m c) h.val) (headV (argX m c) h.val) (headG (argD m c) h.val) (headB (argB m c) h.val) R j

def pr (c : Dev nD) (h : Fin 8) (R j : ℕ) : EReal :=
  prob (headQ (argX m c) h.val) (headK (argX m c) h.val) (headB (argB m c) h.val) R j

/-- One query's term of a padded key's gradient, and of a padded value's. -/
def kterm (c : Dev nD) (h : Fin 8) (j d R : ℕ) : EReal := dz m c h R j * scale * headQ (argX m c) h.val R d
def vterm (c : Dev nD) (h : Fin 8) (j d R : ℕ) : EReal := pr m c h R j * headG (argD m c) h.val R d

theorem winAdd_apply (x y : Vec Ideal S640x128 .f32) (u : Fin 640) (l : Fin 128) :
    (winAdd x y (ix2 u l) : EReal) = (x (ix2 u l) : EReal) + y (ix2 u l) := by
  pointwise [winAdd]

theorem dbAdd_apply (x : Vec Ideal S1x128x640 .f32) (y : Vec Ideal S128x640 .f32) (r : Fin 128) (u : Fin 640) :
    (dbAdd x y (ix3 0 r u) : EReal) = (x (ix3 0 r u) : EReal) + y (ix2 r u) := by
  pointwise [dbAdd, k0_pay70]

theorem zeros_apply (j : Fin 2560) (l : Fin 512) : (k0_pay7 (F := Ideal) (ix2 j l) : EReal) = 0 := by
  pointwise [k0_pay7]

theorem zeros3_apply (h : Fin 8) (r : Fin 128) (u : Fin 640) : (k0_pay9 (F := Ideal) (ix3 h r u) : EReal) = 0 := by
  pointwise [k0_pay9]

variable {m} {c : Dev nD} (hr : Reals (argX m c) (argB m c))

include hr

theorem stepDk_apply (t : Fin cfg0.N) (s : Vec Ideal S2560x512 .f32) (j : Fin 2560) (p : Fin 4) (h : Fin 2) (d : Fin 64) :
    (stepDk (grid0.coords t) (iblk m c 0 t) (iblk m c 3 t) (iblk m c 4 t) (keysA m c) (valsA m c) s (ix2 j (pcol p (col h d))) : EReal)
      = (s (ix2 j (pcol p (col h d))) : EReal) + ∑ r : Fin 128, kterm m c (headNo p h) j.val d.val (128 * t.val + r.val) := by
  unfold stepDk
  rw [putW_apply]
  by_cases hw : 128 * (grid0.coords t 0).val ≤ j.val ∧ j.val < 128 * (grid0.coords t 0).val + 640
  · rw [dif_pos hw, winAdd_apply, winB_apply]
    have ej : wrow (grid0.coords t) ⟨j.val - 128 * (grid0.coords t 0).val, by omega⟩ = j :=
      Fin.ext (by show 128 * (grid0.coords t 0).val + (j.val - 128 * (grid0.coords t 0).val) = j.val; omega)
    rw [ej]
    have e := dk_blocks (bb := fun h => slabB (headNo p h) (iblk m c 3 t)) (fun h => blocks m c t p h) (fun h => hr.finite (headNo p h))
      ⟨j.val - 128 * (grid0.coords t 0).val, by omega⟩ h d
    refine congrArg (fun y : EReal => (s (ix2 j (pcol p (col h d))) : EReal) + y) (e.trans ?_)
    refine Finset.sum_congr rfl fun r _ => ?_
    unfold kterm dz
    have e1 : 128 * (grid0.coords t 0).val + (⟨j.val - 128 * (grid0.coords t 0).val, by omega⟩ : Fin 640).val = j.val := by
      dsimp only; omega
    rw [e1, coord]
  · rw [dif_neg hw]
    symm
    refine (congrArg (fun y : EReal => (s (ix2 j (pcol p (col h d))) : EReal) + y) (Finset.sum_eq_zero fun r _ => ?_)).trans (add_zero _)
    unfold kterm dz
    rw [← coord, dzed_off (hr.finite _) (row_lt _ r) (off_window _ r _ hw), zero_mul, zero_mul]

theorem stepDv_apply (t : Fin cfg0.N) (s : Vec Ideal S2560x512 .f32) (j : Fin 2560) (p : Fin 4) (h : Fin 2) (d : Fin 64) :
    (stepDv (grid0.coords t) (iblk m c 0 t) (iblk m c 3 t) (iblk m c 4 t) (keysA m c) s (ix2 j (pcol p (col h d))) : EReal)
      = (s (ix2 j (pcol p (col h d))) : EReal) + ∑ r : Fin 128, vterm m c (headNo p h) j.val d.val (128 * t.val + r.val) := by
  unfold stepDv
  rw [putW_apply]
  by_cases hw : 128 * (grid0.coords t 0).val ≤ j.val ∧ j.val < 128 * (grid0.coords t 0).val + 640
  · rw [dif_pos hw, winAdd_apply, winB_apply]
    have ej : wrow (grid0.coords t) ⟨j.val - 128 * (grid0.coords t 0).val, by omega⟩ = j :=
      Fin.ext (by show 128 * (grid0.coords t 0).val + (j.val - 128 * (grid0.coords t 0).val) = j.val; omega)
    rw [ej]
    have e := dv_blocks (bb := fun h => slabB (headNo p h) (iblk m c 3 t)) (fun h => blocks m c t p h) (fun h => hr.finite (headNo p h))
      ⟨j.val - 128 * (grid0.coords t 0).val, by omega⟩ h d
    refine congrArg (fun y : EReal => (s (ix2 j (pcol p (col h d))) : EReal) + y) (e.trans ?_)
    refine Finset.sum_congr rfl fun r _ => ?_
    unfold vterm pr
    have e1 : 128 * (grid0.coords t 0).val + (⟨j.val - 128 * (grid0.coords t 0).val, by omega⟩ : Fin 640).val = j.val := by
      dsimp only; omega
    rw [e1, coord]
  · rw [dif_neg hw]
    symm
    refine (congrArg (fun y : EReal => (s (ix2 j (pcol p (col h d))) : EReal) + y) (Finset.sum_eq_zero fun r _ => ?_)).trans (add_zero _)
    unfold vterm pr
    rw [← coord, prob_off (hr.finite _) (row_lt _ r) (off_window _ r _ hw), zero_mul]

theorem stepDb_apply (t : Fin cfg0.N) (s : Vec Ideal S8x128x640 .f32) (h : Fin 8) (r : Fin 128) (u : Fin 640) :
    (stepDb (grid0.coords t) (iblk m c 0 t) (iblk m c 3 t) (iblk m c 4 t) (keysA m c) (valsA m c) s (ix3 h r u) : EReal)
      = (s (ix3 h r u) : EReal) + dz m c h (128 * t.val + r.val) (128 * t.val + u.val) := by
  unfold stepDb
  rw [putH_apply, dbAdd_apply, slabB_apply]
  refine congrArg (fun y : EReal => (s (ix3 h r u) : EReal) + y) ?_
  obtain ⟨p, g, e⟩ : ∃ (p : Fin 4) (g : Fin 2), headNo p g = h :=
    ⟨⟨h.val / 2, by omega⟩, ⟨h.val % 2, by omega⟩, Fin.ext (by show 2 * (h.val / 2) + h.val % 2 = h.val; omega)⟩
  subst e
  have hv : (headNo p g).val = 2 * p.val + g.val := rfl
  have ep : (⟨(headNo p g).val / 2, by have := (headNo p g).isLt; omega⟩ : Fin 4) = p := Fin.ext (by dsimp only; omega)
  have eg : (⟨(headNo p g).val % 2, by omega⟩ : Fin 2) = g := Fin.ext (by dsimp only; omega)
  rw [ep, eg]
  unfold dzAt dz
  rw [dz_blocks (blocks m c t p g) (hr.finite (headNo p g)), coord]

theorem sum_dk (n : ℕ) (hn : n < cfg0.N) (j : Fin 2560) (p : Fin 4) (h : Fin 2) (d : Fin 64) :
    ((acc m c n hn).2.1 (ix2 j (pcol p (col h d))) : EReal)
      = ∑ t ∈ Finset.range (n + 1), ∑ r : Fin 128, kterm m c (headNo p h) j.val d.val (128 * t + r.val) := by
  induction n with
  | zero =>
    refine (stepDk_apply hr ⟨0, hn⟩ (k0_pay7 (F := Ideal)) j p h d).trans ?_
    rw [zeros_apply, zero_add, Finset.sum_range_one]
  | succ n ih =>
    refine (stepDk_apply hr ⟨n + 1, hn⟩ _ j p h d).trans ?_
    rw [Finset.sum_range_succ _ (n + 1), ih (Nat.lt_of_succ_lt hn)]

theorem sum_dv (n : ℕ) (hn : n < cfg0.N) (j : Fin 2560) (p : Fin 4) (h : Fin 2) (d : Fin 64) :
    ((acc m c n hn).2.2 (ix2 j (pcol p (col h d))) : EReal)
      = ∑ t ∈ Finset.range (n + 1), ∑ r : Fin 128, vterm m c (headNo p h) j.val d.val (128 * t + r.val) := by
  induction n with
  | zero =>
    refine (stepDv_apply hr ⟨0, hn⟩ (k0_pay7 (F := Ideal)) j p h d).trans ?_
    rw [zeros_apply, zero_add, Finset.sum_range_one]
  | succ n ih =>
    refine (stepDv_apply hr ⟨n + 1, hn⟩ _ j p h d).trans ?_
    rw [Finset.sum_range_succ _ (n + 1), ih (Nat.lt_of_succ_lt hn)]

theorem sum_db (n : ℕ) (hn : n < cfg0.N) (h : Fin 8) (r : Fin 128) (u : Fin 640) :
    ((acc m c n hn).1 (ix3 h r u) : EReal) = ∑ t ∈ Finset.range (n + 1), dz m c h (128 * t + r.val) (128 * t + u.val) := by
  induction n with
  | zero =>
    refine (stepDb_apply hr ⟨0, hn⟩ (k0_pay9 (F := Ideal)) h r u).trans ?_
    rw [zeros3_apply, zero_add, Finset.sum_range_one]
  | succ n ih =>
    refine (stepDb_apply hr ⟨n + 1, hn⟩ _ h r u).trans ?_
    rw [Finset.sum_range_succ _ (n + 1), ih (Nat.lt_of_succ_lt hn)]

/-- After the last point the padded keys' gradient is whole, -/
theorem whole_dk (hn : 15 < cfg0.N) (j : Fin 2560) (p : Fin 4) (h : Fin 2) (d : Fin 64) :
    ((acc m c 15 hn).2.1 (ix2 j (pcol p (col h d))) : EReal)
      = dkey (headQ (argX m c) (headNo p h).val) (headK (argX m c) (headNo p h).val) (headV (argX m c) (headNo p h).val)
          (headG (argD m c) (headNo p h).val) (headB (argB m c) (headNo p h).val) j.val d.val := by
  rw [sum_dk hr]
  exact sum_blocks (kterm m c (headNo p h) j.val d.val) 16 128

/-- and the padded values'. -/
theorem whole_dv (hn : 15 < cfg0.N) (j : Fin 2560) (p : Fin 4) (h : Fin 2) (d : Fin 64) :
    ((acc m c 15 hn).2.2 (ix2 j (pcol p (col h d))) : EReal)
      = dvalue (headQ (argX m c) (headNo p h).val) (headK (argX m c) (headNo p h).val)
          (headG (argD m c) (headNo p h).val) (headB (argB m c) (headNo p h).val) j.val d.val := by
  rw [sum_dv hr]
  exact sum_blocks (vterm m c (headNo p h) j.val d.val) 16 128

/-- The two halves of the kept sum of masked scores' gradients add up to the bias gradient. -/
theorem whole_db (hn : 15 < cfg0.N) (h : Fin 8) (r r' : Fin 128) (w w' : Fin 640) (hr' : r'.val = r.val + 64) (hw' : w'.val = w.val + 64) :
    ((acc m c 15 hn).1 (ix3 h r w) : EReal) + (acc m c 15 hn).1 (ix3 h r' w')
      = dbias (headQ (argX m c) h.val) (headK (argX m c) h.val) (headV (argX m c) h.val)
          (headG (argD m c) h.val) (headB (argB m c) h.val) r.val w.val := by
  rw [sum_db hr, sum_db hr]
  have e := sum_pairs (fun n => dz m c h (64 * n + r.val) (64 * n + w.val)) 16
  have e1 : ∑ t ∈ Finset.range 16, dz m c h (128 * t + r.val) (128 * t + w.val)
      = ∑ t ∈ Finset.range 16, dz m c h (64 * (2 * t) + r.val) (64 * (2 * t) + w.val) :=
    Finset.sum_congr rfl fun t _ => by rw [show 64 * (2 * t) = 128 * t by omega]
  have e2 : ∑ t ∈ Finset.range 16, dz m c h (128 * t + r'.val) (128 * t + w'.val)
      = ∑ t ∈ Finset.range 16, dz m c h (64 * (2 * t + 1) + r.val) (64 * (2 * t + 1) + w.val) :=
    Finset.sum_congr rfl fun t _ => by
      rw [show 64 * (2 * t + 1) + r.val = 128 * t + r'.val by omega, show 64 * (2 * t + 1) + w.val = 128 * t + w'.val by omega]
  refine (congrArg₂ (fun x y : EReal => x + y) e1 e2).trans (e.trans ?_)
  unfold dbias dz
  rfl

end Cert.KernelIdeal.Band

end
-- ==== Proof.Results.lean ====
module

public import proofs.«01_k».proof.Proof.Acc
public import proofs.«01_k».proof.Proof.Sound

@[expose] public section

set_option maxRecDepth 16384

/-!
# The kernel's result arrays
-/

noncomputable section

namespace Cert.KernelIdeal.Band

open Cert.KernelIdeal Cert.KernelIdeal.Gen Cert.Attn
open Idealize.ShloMosaic Idealize.ShloMosaic.TcCoe
open Idealize.ShloMosaic.Pipeline (Dat)
open Idealize.SL.Sem

variable {m : (ℓ : Loc nD τ sig) → Buf (Elt Ideal) ℓ} {c : Dev nD} (hr : Reals (argX m c) (argB m c))

theorem col_split (l : Fin 512) : ∃ (p : Fin 4) (h : Fin 2) (d : Fin 64), l = pcol p (col h d) ∧ (headNo p h).val = l.val / 64 ∧ d.val = l.val % 64 := by
  refine ⟨⟨l.val / 128, by omega⟩, ⟨l.val / 64 % 2, by omega⟩, ⟨l.val % 64, by omega⟩, ?_, ?_, rfl⟩
  · exact Fin.ext (by show l.val = 128 * (l.val / 128) + (64 * (l.val / 64 % 2) + l.val % 64); omega)
  · show 2 * (l.val / 128) + l.val / 64 % 2 = l.val / 64; omega

theorem idx_out : ∀ t : Fin grid0.N, win0_5.index t = ![t.val, 0] ∧ win0_6.index t = ![0, 0] ∧ win0_7.index t = ![0, 0]
  ∧ win0_8.index t = ![0, 0, 0] := by decide +kernel

theorem unpad_apply (x : Vec Ideal S2560x512 .f32) (j : Fin 2048) (l : Fin 512) :
    (unpad x (ix2 j l) : EReal) = x (ix2 ⟨j.val + 512, by omega⟩ l) := by
  have e : (VecWindow.window x ![512, 0] S2048x512.size pad_inb (ix2 j l) : EReal) = x (ix2 ⟨j.val + 512, by omega⟩ l) := by
    unfold VecWindow.window
    congr 1
    funext a; revert a
    exact Fin.forall_fin_two.mpr ⟨Fin.ext (by show 512 + 1 * j.val = j.val + 512; omega), Fin.ext (by show 0 + 1 * l.val = l.val; omega)⟩
  refine Eq.trans ?_ e
  unfold unpad
  generalize VecWindow.window x ![512, 0] S2048x512.size pad_inb = y
  revert y
  intro (y : Vec Ideal S2048x512 .f32)
  pointwise [k0_pay1]

theorem last_lt : 15 < cfg0.N := lt_of_lt_of_eq (by omega) (show 16 = cfg0.N from N_0.symm)

include hr

theorem block_dq (t : Fin cfg0.N) (r : Fin 128) (l : Fin 512) :
    (outDq (grid0.coords t) (iblk m c 0 t) (iblk m c 3 t) (iblk m c 4 t) (keysA m c) (valsA m c) (ix2 r l) : EReal)
      = gradQ (argX m c) (argB m c) (argD m c) (l.val / 64) (128 * t.val + r.val) (l.val % 64) := by
  obtain ⟨p, h, d, e, e1, e2⟩ := col_split l
  rw [← e1, ← e2, e]
  unfold outDq
  rw [put4_apply]
  unfold dqAt
  have e := dq_blocks (bb := fun h => slabB (headNo p h) (iblk m c 3 t)) (fun h => blocks m c t p h) (fun h => hr.finite (headNo p h)) r h d
  refine e.trans ?_
  unfold gradQ
  rw [coord]

/-- The queries' gradient: every grid point writes its block. -/
theorem final5 : (dats m 0 c).arrAt 5 (cfgs 0).N = resQ (argX m c) (argB m c) (argD m c) := by
  refine (dats m 0 c).arrAt_eq_of_covers 5 _ (by decide +kernel) fun t _ y => ?_
  blk_simp
  rw [after_5]
  obtain ⟨r, l, rfl⟩ : ∃ (r : Fin 128) (l : Fin 512), y = ix2 r l := ⟨y 0, y 1, by funext a; revert a; exact Fin.forall_fin_two.mpr ⟨rfl, rfl⟩⟩
  refine (block_dq hr t r l).trans ?_
  unfold resQ
  blk_simp [idx_out t]
  rw [Nat.mul_comm 128 t.val]

/-- The keys' gradient: the last grid point writes it. -/
theorem final6 : (dats m 0 c).arrAt 6 (cfgs 0).N = resK (argX m c) (argB m c) (argD m c) := by
  refine (dats m 0 c).arrAt_eq_of_after_last 6 t0_15 (by decide +kernel) _ fun y => ?_
  blk_simp [idx_out t0_15]
  rw [after_6]
  obtain ⟨j, l, rfl⟩ : ∃ (j : Fin 2048) (l : Fin 512), y = ix2 j l := ⟨y 0, y 1, by funext a; revert a; exact Fin.forall_fin_two.mpr ⟨rfl, rfl⟩⟩
  refine (unpad_apply (acc m c 15 last_lt).2.1 j l).trans ?_
  obtain ⟨p, h, d, e, e1, e2⟩ := col_split l
  show _ = gradK (argX m c) (argB m c) (argD m c) (l.val / 64) (j.val + 512) (l.val % 64)
  rw [← e1, ← e2, e]
  exact whole_dk hr last_lt ⟨j.val + 512, by omega⟩ p h d

/-- The values' gradient: the last grid point writes it. -/
theorem final7 : (dats m 0 c).arrAt 7 (cfgs 0).N = resV (argX m c) (argB m c) (argD m c) := by
  refine (dats m 0 c).arrAt_eq_of_after_last 7 t0_15 (by decide +kernel) _ fun y => ?_
  blk_simp [idx_out t0_15]
  rw [after_7]
  obtain ⟨j, l, rfl⟩ : ∃ (j : Fin 2048) (l : Fin 512), y = ix2 j l := ⟨y 0, y 1, by funext a; revert a; exact Fin.forall_fin_two.mpr ⟨rfl, rfl⟩⟩
  refine (unpad_apply (acc m c 15 last_lt).2.2 j l).trans ?_
  obtain ⟨p, h, d, e, e1, e2⟩ := col_split l
  show _ = gradV (argX m c) (argB m c) (argD m c) (l.val / 64) (j.val + 512) (l.val % 64)
  rw [← e1, ← e2, e]
  exact whole_dv hr last_lt ⟨j.val + 512, by omega⟩ p h d

omit hr in
/-- The kept sum of masked scores' gradients: what the last grid point leaves. -/
theorem final8 : (dats m 0 c).arrAt 8 (cfgs 0).N = (acc m c 15 last_lt).1 := by
  refine (dats m 0 c).arrAt_eq_of_after_last 8 t0_15 (by decide +kernel) _ fun y => ?_
  blk_simp [idx_out t0_15]
  rw [after_8]
  rfl

omit hr in
/-- The host's fold of the kept sum: its upper left corner and the corner 64 rows and columns on. -/
def foldPair (x : FVec Ideal S8x128x640 .f32) : FVec Ideal S8x64x576 .f32 :=
  addf (extractStridedSlice S8x64x576 ![0, 0, 0] x slices_S8x128x640_S8x64x576_0_0_0)
    (extractStridedSlice S8x64x576 ![0, 64, 64] x slices_S8x128x640_S8x64x576_0_64_64)

omit hr in
theorem foldPair_apply (x : FVec Ideal S8x128x640 .f32) (h : Fin 8) (r : Fin 64) (w : Fin 576) :
    (foldPair x (ix3 h r w) : EReal) = (x (ix3 h ⟨r.val, by omega⟩ ⟨w.val, by omega⟩) : EReal) + x (ix3 h ⟨64 + r.val, by omega⟩ ⟨64 + w.val, by omega⟩) := by
  pointwise [foldPair]

omit hr in
/-- What the host leaves in the bias gradient's buffer. -/
theorem tail_db : Pipeline.afterTail₀ cfgs (dats m) 0 (V0 m) [hostOps1] c main_v6 = foldPair (acc m c 15 last_lt).1 := by
  have e : Pipeline.withArrays (cfgs 0).spec c (V0 m c) (fun w => (dats m 0 c).arrAt w (cfgs 0).N) (Proc.devRef .tc main_v3_3)
      = (acc m c 15 last_lt).1 :=
    (Pipeline.withArrays_arr_shared (cfgs 0).spec c (V0 m c) (fun w => (dats m 0 c).arrAt w (cfgs 0).N)
      ((dats m 0 c).arrAt_sharedIn sharedIn0 (V0 m c) (A_eq m c) _) 8).trans final8
  unfold Pipeline.afterTail₀
  show StableHlo.after (hostOps1 ++ []) _ _ = _
  simp only [hostOps1, List.append_nil]
  generalize Pipeline.withArrays (cfgs 0).spec c (V0 m c) (fun w => (dats m 0 c).arrAt w (cfgs 0).N) = σ at e ⊢
  entry_read
  rw [e]
  rfl

theorem bias_eq : foldPair (acc m c 15 last_lt).1 = resB (argX m c) (argB m c) (argD m c) := by
  funext y
  obtain ⟨h, r, w, rfl⟩ : ∃ (h : Fin 8) (r : Fin 64) (w : Fin 576), y = ix3 h r w :=
    ⟨y 0, y 1, y 2, by funext a; fin_cases a <;> rfl⟩
  refine (foldPair_apply _ h r w).trans ?_
  exact whole_db hr last_lt h ⟨r.val, by omega⟩ ⟨64 + r.val, by omega⟩ ⟨w.val, by omega⟩ ⟨64 + w.val, by omega⟩
    (Nat.add_comm _ _) (Nat.add_comm _ _)

omit hr in
/-- The kernel's run: its results and arguments. -/
theorem values (ρ : Dev nD → PrngReg) (hr : ∀ c : Dev nD, Reals (argX m c) (argB m c)) :
    θ_run defs (onTc (τ := τ) (main (F := Ideal))) ⟨m, fun _ => 0, ρ⟩ (fun r => ∀ c : Dev nD,
      r.2.mem ((c.tc : Thread nD τ).loc main_v3_0) = resQ (argX m c) (argB m c) (argD m c)
      ∧ r.2.mem ((c.tc : Thread nD τ).loc main_v3_1) = resK (argX m c) (argB m c) (argD m c)
      ∧ r.2.mem ((c.tc : Thread nD τ).loc main_v3_2) = resV (argX m c) (argB m c) (argD m c)
      ∧ r.2.mem ((c.tc : Thread nD τ).loc main_v6) = resB (argX m c) (argB m c) (argD m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_)
    (θ_run_and (frame_of m ρ (dats m) (A_eq m) (run_main m ρ)) (run_main m ρ))
  obtain ⟨hf, h⟩ := h
  refine ⟨((h c).1 5).trans (final5 (hr c)), ((h c).1 6).trans (final6 (hr c)), ((h c).1 7).trans (final7 (hr c)), ?_, hf c⟩
  refine ((h c).2 main_v6 (Pipeline.mem_restRefs_of main_v6 (by decide) (by decide))).trans ?_
  exact tail_db.trans (bias_eq (hr c))

end Cert.KernelIdeal.Band

end
-- ==== Proof.RefIn.lean ====
module

public import proofs.«01_k».proof.Proof.Gen.ReferenceIdeal.Run
public import proofs.«01_k».proof.Proof.Heads
public import Idealize.ShloMosaic.Lib.Pointwise
public import Idealize.ShloMosaic.Lib.Tactic.CleanTypes

@[expose] public section

set_option maxRecDepth 16384

/-!
# The reference's heads, bands and mask, at an index

Chunk `n` of 64 rows sees a band of 576 padded keys, from padded key `64 * n` on.
-/

noncomputable section

namespace Cert.ReferenceIdeal.Attn

open Cert.ReferenceIdeal Cert.ReferenceIdeal.Gen Cert.ReferenceIdeal.Value Cert.Attn
open Idealize.ShloMosaic Idealize.ShloMosaic.TcCoe

variable (V0 : Valuation τ sig (Elt Ideal))

/-- The launched arrays. -/
def refX : ArrX := V0 (Proc.devRef .tc main_arg0)
def refB : ArrB := V0 (Proc.devRef .tc main_arg1)
def refD : ArrD := V0 (Proc.devRef .tc main_arg2)

/-- A read at equal numbers. -/
theorem read2 {A B : ℕ} (x : (⟨2, ![A, B]⟩ : Shape).Idx → EReal) {i i' : Fin A} {j j' : Fin B} (hi : i.val = i'.val) (hj : j.val = j'.val) :
    x (ix2 i j) = x (ix2 i' j') := by
  rw [Fin.ext hi, Fin.ext hj]

theorem v15_apply (h : Fin 8) (n : Fin 32) (r d : Fin 64) :
    (res_main_v15 V0 (ix5 0 h n r d) : EReal) = headQ (refX V0) h.val (64 * n.val + r.val) d.val := by
  unfold headQ refX
  rw [if_pos d.isLt, rd2, dif_pos ⟨by omega, by omega⟩]
  unfold res_main_v15; clean_types; pointwise
  exact read2 (refX V0) (by (try dsimp only) <;> omega) (by (try dsimp only) <;> omega)

theorem v18_apply (h : Fin 8) (n : Fin 40) (r d : Fin 64) :
    (res_main_v18 V0 (ix5 0 h n r d) : EReal) = headK (refX V0) h.val (64 * n.val + r.val) d.val := by
  have hr := r.isLt
  by_cases h8 : n.val < 8
  · have e : headK (refX V0) h.val (64 * n.val + r.val) d.val = 0 := if_neg (by omega)
    rw [e]
    unfold res_main_v18; clean_types; pointwise
    exact dif_pos h8
  · have e : headK (refX V0) h.val (64 * n.val + r.val) d.val
        = refX V0 (ix2 ⟨64 * n.val + r.val - 512, by omega⟩ ⟨2048 + (64 * h.val + d.val), by omega⟩) := by
      unfold headK rd2; rw [if_pos ⟨d.isLt, by omega⟩, dif_pos ⟨by omega, by omega⟩]
    rw [e]
    unfold res_main_v18 refX; clean_types; pointwise
    refine (dif_neg h8).trans ?_
    exact read2 (refX V0) (by (try dsimp only) <;> omega) (by (try dsimp only) <;> omega)

theorem v32_apply (h : Fin 8) (n : Fin 40) (r d : Fin 64) :
    (res_main_v32 V0 (ix5 0 h n r d) : EReal) = headV (refX V0) h.val (64 * n.val + r.val) d.val := by
  have hr := r.isLt
  by_cases h8 : n.val < 8
  · have e : headV (refX V0) h.val (64 * n.val + r.val) d.val = 0 := if_neg (by omega)
    rw [e]
    unfold res_main_v32; clean_types; pointwise
    exact dif_pos h8
  · have e : headV (refX V0) h.val (64 * n.val + r.val) d.val
        = refX V0 (ix2 ⟨64 * n.val + r.val - 512, by omega⟩ ⟨2560 + (64 * h.val + d.val), by omega⟩) := by
      unfold headV rd2; rw [if_pos ⟨d.isLt, by omega⟩, dif_pos ⟨by omega, by omega⟩]
    rw [e]
    unfold res_main_v32 refX; clean_types; pointwise
    refine (dif_neg h8).trans ?_
    exact read2 (refX V0) (by (try dsimp only) <;> omega) (by (try dsimp only) <;> omega)

/-- Nine chunks side by side. -/
theorem nine (x : Fin 40 → Fin 64 → EReal) (f : ℕ → EReal) (key : ∀ n r, x n r = f (64 * n.val + r.val)) (n : Fin 32) (s : Fin 576) :
    (if h₁ : s.val < 64 then x ⟨n.val, by omega⟩ ⟨s.val, by omega⟩ else
      if h₂ : s.val - 64 < 64 then x ⟨1 + n.val, by omega⟩ ⟨s.val - 64, by omega⟩ else
      if h₃ : s.val - 64 - 64 < 64 then x ⟨2 + n.val, by omega⟩ ⟨s.val - 64 - 64, by omega⟩ else
      if h₄ : s.val - 64 - 64 - 64 < 64 then x ⟨3 + n.val, by omega⟩ ⟨s.val - 64 - 64 - 64, by omega⟩ else
      if h₅ : s.val - 64 - 64 - 64 - 64 < 64 then x ⟨4 + n.val, by omega⟩ ⟨s.val - 64 - 64 - 64 - 64, by omega⟩ else
      if h₆ : s.val - 64 - 64 - 64 - 64 - 64 < 64 then x ⟨5 + n.val, by omega⟩ ⟨s.val - 64 - 64 - 64 - 64 - 64, by omega⟩ else
      if h₇ : s.val - 64 - 64 - 64 - 64 - 64 - 64 < 64 then x ⟨6 + n.val, by omega⟩ ⟨s.val - 64 - 64 - 64 - 64 - 64 - 64, by omega⟩ else
      if h₈ : s.val - 64 - 64 - 64 - 64 - 64 - 64 - 64 < 64 then x ⟨7 + n.val, by omega⟩ ⟨s.val - 64 - 64 - 64 - 64 - 64 - 64 - 64, by omega⟩ else
      x ⟨8 + n.val, by omega⟩ ⟨s.val - 64 - 64 - 64 - 64 - 64 - 64 - 64 - 64, by omega⟩) = f (64 * n.val + s.val) := by
  simp only [key]
  split_ifs <;> exact congrArg f (by omega)

theorem v29_apply (h : Fin 8) (n : Fin 32) (s : Fin 576) (d : Fin 64) :
    (res_main_v29 V0 (ix5 0 h n s d) : EReal) = headK (refX V0) h.val (64 * n.val + s.val) d.val := by
  have key := fun n r => v18_apply V0 h n r d
  unfold res_main_v29; clean_types; pointwise
  generalize res_main_v18 V0 = x at key ⊢
  generalize headK (refX V0) h.val = f at key ⊢
  exact nine (fun n r => x (ix5 0 h n r d)) (fun j => f j d.val) key n s

theorem v43_apply (h : Fin 8) (n : Fin 32) (s : Fin 576) (d : Fin 64) :
    (res_main_v43 V0 (ix5 0 h n s d) : EReal) = headV (refX V0) h.val (64 * n.val + s.val) d.val := by
  have key := fun n r => v32_apply V0 h n r d
  unfold res_main_v43; clean_types; pointwise
  generalize res_main_v32 V0 = x at key ⊢
  generalize headV (refX V0) h.val = f at key ⊢
  exact nine (fun n r => x (ix5 0 h n r d)) (fun j => f j d.val) key n s

theorem v99_apply (h : Fin 8) (n : Fin 32) (r d : Fin 64) :
    (res_main_v99 V0 (ix5 0 h n r d) : EReal) = headG (refD V0) h.val (64 * n.val + r.val) d.val := by
  unfold headG refD
  rw [rd2, dif_pos ⟨by omega, by omega⟩]
  unfold res_main_v99; clean_types; pointwise
  exact read2 (refD V0) (by (try dsimp only) <;> omega) (by (try dsimp only) <;> omega)

/-- The chunk a slot of the band lies in, as the reference divides. -/
theorem slot_word : ∀ s : Fin 576,
    (Scalar.select
      (IntOp.andi
        (IntOp.cmpi CmpIPredicate.ne
          (if BitVec.ofNat 32 s.val = 0 then (0 : BitVec 32) else if (BitVec.ofNat 32 s.val).msb = true then -1 else 1)
          (if 64#32 = 0 then (0 : BitVec 32) else if BitVec.msb 64#32 = true then -1 else 1))
        (IntOp.cmpi CmpIPredicate.ne (IntOp.remsi ArithUnit.host (BitVec.ofNat 32 s.val) 64#32) 0#32))
      (IntOp.subi (IntOp.divsi ArithUnit.host (BitVec.ofNat 32 s.val) 64#32) 1#32)
      (IntOp.divsi ArithUnit.host (BitVec.ofNat 32 s.val) 64#32)) = BitVec.ofNat 32 (s.val / 64) := by
  decide +kernel

theorem chunk_word : ∀ (n : Fin 32) (k : Fin 9),
    IntOp.cmpi CmpIPredicate.sge (IntOp.subi (IntOp.addi (BitVec.ofNat 32 n.val) (BitVec.ofNat 32 k.val)) 8#32) 0#32
      = BitVec.ofBool (decide (8 ≤ n.val + k.val)) := by
  decide +kernel

theorem valid_apply (h : Fin 8) (n : Fin 32) (r : Fin 64) (s : Fin 576) :
    res_main_v63_1 V0 (ix5 0 h n r s) = BitVec.ofBool (decide (att (64 * n.val + r.val) (64 * n.val + s.val))) := by
  have hr := r.isLt
  have hs := s.isLt
  have e : decide (att (64 * n.val + r.val) (64 * n.val + s.val)) = decide (8 ≤ n.val + (⟨s.val / 64, by omega⟩ : Fin 9).val) := by
    rw [decide_eq_decide]; unfold att; dsimp only; omega
  rw [e, ← chunk_word]
  unfold res_main_v63_1 res_main_call0_v2 res_main_call0_v0 res_main_v50; clean_types; pointwise
  refine congrArg (fun w => IntOp.cmpi CmpIPredicate.sge (IntOp.subi (IntOp.addi (BitVec.ofNat 32 n.val) w) 8#32) 0#32) ?_
  exact slot_word s

end Cert.ReferenceIdeal.Attn

end
-- ==== Proof.RefVal.lean ====
module

public import proofs.«01_k».proof.Proof.RefIn

@[expose] public section

set_option maxRecDepth 16384

/-!
# The reference's weights and their gradients, at an index
-/

noncomputable section

namespace Cert.ReferenceIdeal.Attn

open Cert.ReferenceIdeal Cert.ReferenceIdeal.Gen Cert.ReferenceIdeal.Value Cert.Attn
open Idealize.ShloMosaic Idealize.ShloMosaic.TcCoe

variable (V0 : Valuation τ sig (Elt Ideal))

theorem minus_inf : Ideal.ofBits .f32 4286578688#32 = (⊥ : EReal) := by decide +kernel

theorem choose_word {α : Type} (p : Prop) [Decidable p] (x y : α) :
    Scalar.select (BitVec.ofBool (decide p)) x y = if p then x else y := by
  by_cases h : p <;> simp only [h, decide_true, decide_false, if_true, if_false] <;> rfl

theorem z_apply (h : Fin 8) (n : Fin 32) (r : Fin 64) (s : Fin 576) :
    (res_main_v63_0 V0 (ix5 0 h n r s) : EReal)
      = zed (headQ (refX V0) h.val) (headK (refX V0) h.val) (headB (refB V0) h.val) (64 * n.val + r.val) (64 * n.val + s.val) := by
  have hv := valid_apply V0 h n r s
  have hq := fun r d => v15_apply V0 h n r d
  have hk := fun s d => v29_apply V0 h n s d
  have hb : headB (refB V0) h.val ((64 * n.val + r.val) % 64) ((64 * n.val + s.val) - 64 * ((64 * n.val + r.val) / 64))
      = refB V0 (ix3 h r s) := by
    have hr := r.isLt
    have e1 : (64 * n.val + r.val) % 64 = r.val := by omega
    have e2 : (64 * n.val + s.val) - 64 * ((64 * n.val + r.val) / 64) = s.val := by omega
    rw [e1, e2]; unfold headB rd3; exact dif_pos ⟨h.isLt, r.isLt, s.isLt⟩
  unfold zed score
  rw [hb]
  unfold refB
  unfold res_main_v63_0
  generalize res_main_v63_1 V0 = m at hv ⊢
  generalize res_main_v15 V0 = q at hq ⊢
  generalize res_main_v29 V0 = k at hk ⊢
  clean_types; pointwise
  rw [hv, choose_word]
  refine if_congr Iff.rfl ?_ minus_inf
  refine congrArg₂ (· + ·) (congrArg (· * scale) (Finset.sum_congr rfl fun d _ => ?_)) rfl
  exact congrArg₂ (· * ·) (hq r d) (hk s d)

theorem fold_max {n : ℕ} (f : Fin n → EReal) : Finset.fold max (⊥ : EReal) f Finset.univ = Finset.univ.sup f := rfl

theorem top_apply (h : Fin 8) (n : Fin 32) (r : Fin 64) :
    (res_main_v64 V0 (ix4 0 h n r) : EReal)
      = top (headQ (refX V0) h.val) (headK (refX V0) h.val) (headB (refB V0) h.val) (64 * n.val + r.val) := by
  have hz := fun s => z_apply V0 h n r s
  unfold res_main_v64
  generalize res_main_v63_0 V0 = z at hz ⊢
  clean_types; pointwise
  rw [minus_inf]
  refine (fold_max _).trans ?_
  unfold top
  rw [← max_window (fun j => zed (headQ (refX V0) h.val) (headK (refX V0) h.val) (headB (refB V0) h.val) (64 * n.val + r.val) j) 2560 (64 * n.val) 576
    (by omega) fun j _ hj => zed_off _ _ _ fun ha => hj (by unfold att at ha; omega)]
  exact Finset.sup_congr rfl fun s _ => hz s

/-- The exponential of an entry less its row's maximum. -/
theorem exp_step (z : FVec Ideal S1x8x32x64x576 .f32) (t : FVec Ideal S1x8x32x64 .f32) (h : Fin 8) (n : Fin 32) (r : Fin 64) (s : Fin 576) :
    (Host.exp (subf z (broadcastInDim S1x8x32x64x576 ![0, 1, 2, 3, 4] bcast_S1x8x32x64x1_S1x8x32x64x576_0_1_2_3_4
      (broadcastInDim S1x8x32x64x1 ![0, 1, 2, 3] bcast_S1x8x32x64_S1x8x32x64x1_0_1_2_3
        (maximumf (broadcastInDim S1x8x32x64 ![] bcast_S_S1x8x32x64 (constant S_ .f32 0xFF800000#32)) t)))) (ix5 0 h n r s) : EReal)
      = Ideal.exp (z (ix5 0 h n r s) - t (ix4 0 h n r)) := by
  have hm : (maximumf (broadcastInDim S1x8x32x64 ![] bcast_S_S1x8x32x64 (constant S_ .f32 0xFF800000#32)) t (ix4 0 h n r) : EReal)
      = t (ix4 0 h n r) := by
    pointwise
    rw [minus_inf, max_eq_right bot_le]
  generalize maximumf (broadcastInDim S1x8x32x64 ![] bcast_S_S1x8x32x64 (constant S_ .f32 0xFF800000#32)) t = x at hm ⊢
  pointwise
  rw [hm]

theorem e_apply (h : Fin 8) (n : Fin 32) (r : Fin 64) (s : Fin 576) :
    (res_main_v84 V0 (ix5 0 h n r s) : EReal)
      = wt (headQ (refX V0) h.val) (headK (refX V0) h.val) (headB (refB V0) h.val) (64 * n.val + r.val) (64 * n.val + s.val) := by
  have hz := z_apply V0 h n r s
  have ht := top_apply V0 h n r
  unfold wt
  rw [← hz, ← ht]
  clear hz ht
  unfold res_main_v84
  generalize res_main_v63_0 V0 = z
  generalize res_main_v64 V0 = t
  exact exp_step z t h n r s

theorem tot_apply (h : Fin 8) (n : Fin 32) (r : Fin 64) :
    (res_main_v86 V0 (ix5 0 h n r 0) : EReal)
      = tot (headQ (refX V0) h.val) (headK (refX V0) h.val) (headB (refB V0) h.val) (64 * n.val + r.val) := by
  have he := fun s => e_apply V0 h n r s
  unfold res_main_v86
  generalize res_main_v84 V0 = e at he ⊢
  clean_types; pointwise
  unfold tot
  rw [← sum_window (fun j => wt (headQ (refX V0) h.val) (headK (refX V0) h.val) (headB (refB V0) h.val) (64 * n.val + r.val) j) 2560 (64 * n.val) 576
    (by omega) fun j _ hj => wt_off _ _ _ fun ha => hj (by unfold att at ha; omega)]
  exact Finset.sum_congr rfl fun s _ => he s

theorem p_apply (h : Fin 8) (n : Fin 32) (r : Fin 64) (s : Fin 576) :
    (res_main_v88 V0 (ix5 0 h n r s) : EReal)
      = prob (headQ (refX V0) h.val) (headK (refX V0) h.val) (headB (refB V0) h.val) (64 * n.val + r.val) (64 * n.val + s.val) := by
  have he := e_apply V0 h n r s
  have ht := tot_apply V0 h n r
  unfold prob
  rw [← he, ← ht]
  clear he ht
  unfold res_main_v88
  generalize res_main_v84 V0 = e
  generalize res_main_v86 V0 = t
  clean_types; pointwise

theorem dp_apply (h : Fin 8) (n : Fin 32) (r : Fin 64) (s : Fin 576) :
    (res_main_v102 V0 (ix5 0 h n r s) : EReal)
      = dprob (headV (refX V0) h.val) (headG (refD V0) h.val) (64 * n.val + r.val) (64 * n.val + s.val) := by
  have hg := fun d => v99_apply V0 h n r d
  have hv := fun d => v43_apply V0 h n s d
  unfold res_main_v102
  generalize res_main_v99 V0 = g at hg ⊢
  generalize res_main_v43 V0 = v at hv ⊢
  clean_types; pointwise
  exact Finset.sum_congr rfl fun d _ => congrArg₂ (· * ·) (hg d) (hv d)

/-- A sum over axes of size one has one term. -/
theorem reduce_ends (hR : (⟨5, ![1, 8, 32, 64, 1]⟩ : Shape).ReducesTo [0, 4] ⟨3, ![8, 32, 64]⟩)
    (v : (⟨5, ![1, 8, 32, 64, 1]⟩ : Shape).Idx → EReal) (z : EReal) (h : Fin 8) (n : Fin 32) (r : Fin 64) :
    Ideal.hostReduceAdd hR v z (ix3 h n r) = z + v (ix5 0 h n r 0) := by
  refine congrArg (z + ·) ?_
  refine (Finset.sum_congr (s₂ := {ix5 0 h n r 0}) ?_ fun _ _ => rfl).trans (Finset.sum_singleton _ _)
  ext i
  rw [Finset.mem_filter, Finset.mem_singleton]
  constructor
  · rintro ⟨-, e⟩
    funext a; apply Fin.ext
    match a with
    | ⟨0, _⟩ => exact Nat.lt_one_iff.mp (i 0).isLt
    | ⟨1, _⟩ => exact congrArg Fin.val (congrFun e 0)
    | ⟨2, _⟩ => exact congrArg Fin.val (congrFun e 1)
    | ⟨3, _⟩ => exact congrArg Fin.val (congrFun e 2)
    | ⟨4, _⟩ => exact Nat.lt_one_iff.mp (i 4).isLt
  · rintro rfl
    refine ⟨Finset.mem_univ _, ?_⟩
    funext b; apply Fin.ext
    match b with
    | ⟨0, _⟩ => rfl
    | ⟨1, _⟩ => rfl
    | ⟨2, _⟩ => rfl

theorem dz_apply (hr : Reals (refX V0) (refB V0)) (h : Fin 8) (n : Fin 32) (r : Fin 64) (s : Fin 576) :
    (res_main_v116 V0 (ix5 0 h n r s) : EReal)
      = dzed (headQ (refX V0) h.val) (headK (refX V0) h.val) (headV (refX V0) h.val) (headG (refD V0) h.val) (headB (refB V0) h.val) (64 * n.val + r.val) (64 * n.val + s.val) := by
  have hlt : 64 * n.val + r.val < 2048 := by omega
  have hv := valid_apply V0 h n r s
  have he := fun s => e_apply V0 h n r s
  have ht := tot_apply V0 h n r
  have hd := fun s => dp_apply V0 h n r s
  have key := dzed_quotient (v := headV (refX V0) h.val) (g := headG (refD V0) h.val) (hr.finite h) hlt (64 * n.val + s.val)
  have off := dzed_off (v := headV (refX V0) h.val) (g := headG (refD V0) h.val) (hr.finite h) hlt (j := 64 * n.val + s.val)
  rw [← sum_window (fun j => dprob (headV (refX V0) h.val) (headG (refD V0) h.val) (64 * n.val + r.val) j
      * Ideal.div 1 (tot (headQ (refX V0) h.val) (headK (refX V0) h.val) (headB (refB V0) h.val) (64 * n.val + r.val)
        * tot (headQ (refX V0) h.val) (headK (refX V0) h.val) (headB (refB V0) h.val) (64 * n.val + r.val))
      * wt (headQ (refX V0) h.val) (headK (refX V0) h.val) (headB (refB V0) h.val) (64 * n.val + r.val) j) 2560 (64 * n.val) 576
    (by omega) fun j _ hj => by
      rw [wt_off _ _ _ fun ha => hj (by unfold att at ha; omega), mul_zero]] at key
  simp only [← he, ← ht, ← hd] at key
  unfold res_main_v116
  generalize res_main_v63_1 V0 = m at hv ⊢
  generalize res_main_v84 V0 = e at he key ⊢
  generalize res_main_v86 V0 = t at ht key ⊢
  generalize res_main_v102 V0 = d at hd key ⊢
  clean_types; pointwise
  rw [hv, choose_word]
  by_cases ha : att (64 * n.val + r.val) (64 * n.val + s.val)
  · rw [if_pos ha, ← key, reduce_ends]
    pointwise
  · rw [if_neg ha, off ha]

theorem dv_apply (h : Fin 8) (n : Fin 32) (s : Fin 576) (d : Fin 64) :
    (res_main_v101 V0 (ix5 0 h n s d) : EReal)
      = ∑ r : Fin 64, prob (headQ (refX V0) h.val) (headK (refX V0) h.val) (headB (refB V0) h.val) (64 * n.val + r.val) (64 * n.val + s.val)
          * headG (refD V0) h.val (64 * n.val + r.val) d.val := by
  have hg := fun r => v99_apply V0 h n r d
  have hp := fun r => p_apply V0 h n r s
  unfold res_main_v101
  generalize res_main_v99 V0 = g at hg ⊢
  generalize res_main_v88 V0 = p at hp ⊢
  clean_types; pointwise
  exact Finset.sum_congr rfl fun r _ => (mul_comm _ _).trans (congrArg₂ (· * ·) (hp r) (hg r))

theorem dk_apply (hr : Reals (refX V0) (refB V0)) (h : Fin 8) (n : Fin 32) (s : Fin 576) (d : Fin 64) :
    (res_main_v122 V0 (ix5 0 h n s d) : EReal)
      = ∑ r : Fin 64, dzed (headQ (refX V0) h.val) (headK (refX V0) h.val) (headV (refX V0) h.val) (headG (refD V0) h.val) (headB (refB V0) h.val) (64 * n.val + r.val) (64 * n.val + s.val) * scale
          * headQ (refX V0) h.val (64 * n.val + r.val) d.val := by
  have hz := fun r => dz_apply V0 hr h n r s
  have hq := fun r => v15_apply V0 h n r d
  unfold res_main_v122 res_main_v121
  generalize res_main_v116 V0 = z at hz ⊢
  generalize res_main_v15 V0 = q at hq ⊢
  clean_types; pointwise
  exact Finset.sum_congr rfl fun r _ => congrArg₂ (· * ·) (congrArg (· * scale) (hz r)) (hq r)

end Cert.ReferenceIdeal.Attn

end
-- ==== Proof.RefRes.lean ====
module

public import proofs.«01_k».proof.Proof.RefVal
public import proofs.«01_k».proof.Proof.Acc

@[expose] public section

set_option maxRecDepth 16384

/-!
# The reference's four results

A padded key lies in the bands of nine chunks; the reference adds its nine shares. Each chunk's share is the sum over the
chunk's rows, and the other chunks' rows do not look at the key.
-/

noncomputable section

namespace Cert.ReferenceIdeal.Attn

open Cert.ReferenceIdeal Cert.ReferenceIdeal.Gen Cert.ReferenceIdeal.Value Cert.Attn
open Idealize.ShloMosaic Idealize.ShloMosaic.TcCoe Idealize.SL.Sem Idealize.ShloMosaic.StableHlo

/-- The shares of the nine chunks that see a padded key are the sum over all rows. -/
theorem nine_back (x : Fin 32 → Fin 576 → EReal) (f : ℕ → ℕ → EReal)
    (key : ∀ n s, x n s = ∑ r : Fin 64, f (64 * n.val + r.val) (64 * n.val + s.val))
    (off : ∀ R j, R < 2048 → ¬ att R j → f R j = 0) (c : Fin 40) (r : Fin 64) :
    (((((((((if h₁ : 8 ≤ c.val ∧ c.val - 8 < 32 then x ⟨c.val - 8, h₁.2⟩ ⟨512 + r.val, by omega⟩ else 0)
      + if h₁ : 7 ≤ c.val ∧ c.val - 7 < 32 then x ⟨c.val - 7, h₁.2⟩ ⟨448 + r.val, by omega⟩ else 0)
      + if h₁ : 6 ≤ c.val ∧ c.val - 6 < 32 then x ⟨c.val - 6, h₁.2⟩ ⟨384 + r.val, by omega⟩ else 0)
      + if h₁ : 5 ≤ c.val ∧ c.val - 5 < 32 then x ⟨c.val - 5, h₁.2⟩ ⟨320 + r.val, by omega⟩ else 0)
      + if h₁ : 4 ≤ c.val ∧ c.val - 4 < 32 then x ⟨c.val - 4, h₁.2⟩ ⟨256 + r.val, by omega⟩ else 0)
      + if h₁ : 3 ≤ c.val ∧ c.val - 3 < 32 then x ⟨c.val - 3, h₁.2⟩ ⟨192 + r.val, by omega⟩ else 0)
      + if h₁ : 2 ≤ c.val ∧ c.val - 2 < 32 then x ⟨c.val - 2, h₁.2⟩ ⟨128 + r.val, by omega⟩ else 0)
      + if h₁ : 1 ≤ c.val ∧ c.val - 1 < 32 then x ⟨c.val - 1, h₁.2⟩ ⟨64 + r.val, by omega⟩ else 0)
      + if h₁ : c.val < 32 then x ⟨c.val, h₁⟩ ⟨r.val, by omega⟩ else 0)
      = ∑ R : Fin 2048, f R.val (64 * c.val + r.val) := by
  set F : ℕ → EReal := fun n => ∑ r' : Fin 64, f (64 * n + r'.val) (64 * c.val + r.val) with hF
  set H : ℕ → EReal := fun m => if 8 ≤ m ∧ m - 8 < 32 then F (m - 8) else 0 with hH
  have term : ∀ (k : ℕ) (hk : k ≤ 8) (s : Fin 576) (hs : s.val = 64 * k + r.val),
      (if h₁ : k ≤ c.val ∧ c.val - k < 32 then x ⟨c.val - k, h₁.2⟩ s else 0) = H (c.val + (8 - k)) := by
    intro k hk s hs
    by_cases h₁ : k ≤ c.val ∧ c.val - k < 32
    · rw [dif_pos h₁, key]
      have hp : 8 ≤ c.val + (8 - k) ∧ c.val + (8 - k) - 8 < 32 := by omega
      have e1 : c.val + (8 - k) - 8 = c.val - k := by omega
      have e2 : 64 * (c.val - k) + s.val = 64 * c.val + r.val := by omega
      rw [hH]; dsimp only
      rw [if_pos hp, hF, e1]; dsimp only
      rw [e2]
    · have hn : ¬(8 ≤ c.val + (8 - k) ∧ c.val + (8 - k) - 8 < 32) := by omega
      rw [dif_neg h₁, hH]; dsimp only
      rw [if_neg hn]
  have t0 : (if h₁ : c.val < 32 then x ⟨c.val, h₁⟩ ⟨r.val, by omega⟩ else 0) = H (c.val + 8) := by
    have := term 0 (by omega) ⟨r.val, by omega⟩ (by simp)
    rw [← this]
    by_cases h₁ : c.val < 32
    · rw [dif_pos h₁, dif_pos ⟨Nat.zero_le _, h₁⟩]; rfl
    · rw [dif_neg h₁, dif_neg fun h => h₁ h.2]
  rw [term 8 (by omega) ⟨512 + r.val, by omega⟩ rfl, term 7 (by omega) ⟨448 + r.val, by omega⟩ rfl,
    term 6 (by omega) ⟨384 + r.val, by omega⟩ rfl, term 5 (by omega) ⟨320 + r.val, by omega⟩ rfl,
    term 4 (by omega) ⟨256 + r.val, by omega⟩ rfl, term 3 (by omega) ⟨192 + r.val, by omega⟩ rfl,
    term 2 (by omega) ⟨128 + r.val, by omega⟩ rfl, term 1 (by omega) ⟨64 + r.val, by omega⟩ rfl, t0]
  have hsum : ∑ u : Fin 9, H (c.val + u.val) = ∑ u : Fin 32, H (8 + u.val) := by
    rw [sum_window H 48 c.val 9 (by omega) ?_, sum_window H 48 8 32 (by omega) ?_]
    · intro j hj hn
      rw [hH]; dsimp only
      rw [if_neg (by omega)]
    · intro j hj hn
      rw [hH]; dsimp only
      by_cases h8 : 8 ≤ j ∧ j - 8 < 32
      · rw [if_pos h8, hF]; dsimp only
        refine Finset.sum_eq_zero fun r' _ => off _ _ (by omega) ?_
        unfold att; omega
      · rw [if_neg h8]
  have hall : ∑ u : Fin 32, H (8 + u.val) = ∑ R : Fin 2048, f R.val (64 * c.val + r.val) := by
    refine Eq.trans ?_ (sum_blocks (fun R => f R (64 * c.val + r.val)) 32 64)
    rw [← Fin.sum_univ_eq_sum_range (fun t => ∑ r' : Fin 64, f (64 * t + r'.val) (64 * c.val + r.val)) 32]
    refine Finset.sum_congr rfl fun u _ => ?_
    have hp : 8 ≤ 8 + u.val ∧ 8 + u.val - 8 < 32 := by omega
    have e1 : 8 + u.val - 8 = u.val := by omega
    rw [hH]; dsimp only
    rw [if_pos hp, e1]
  rw [← hall, ← hsum]
  rw [Fin.sum_univ_castSucc, Fin.sum_univ_eight]
  rfl

/-- A row and a column. -/
theorem rows_cols (i : S2048x512.Idx) : ∃ (a : Fin 2048) (b : Fin 512), i = ix2 a b := by
  refine ⟨i 0, i 1, ?_⟩
  funext a
  match a with
  | ⟨0, _⟩ => rfl
  | ⟨1, _⟩ => rfl

variable (V0 : Valuation τ sig (Elt Ideal))

theorem keys_apply (hr : Reals (refX V0) (refB V0)) (h : Fin 8) (n : Fin 40) (r : Fin 64) (d : Fin 64) :
    (res_main_v178 V0 (ix5 0 h n r d) : EReal) = gradK (refX V0) (refB V0) (refD V0) h.val (64 * n.val + r.val) d.val := by
  have hx := fun n s => dk_apply V0 hr h n s d
  unfold res_main_v178
  generalize res_main_v122 V0 = x at hx ⊢
  clean_types; pointwise
  exact nine_back (fun n s => x (ix5 0 h n s d)) (fun R j =>
      dzed (headQ (refX V0) h.val) (headK (refX V0) h.val) (headV (refX V0) h.val) (headG (refD V0) h.val) (headB (refB V0) h.val) R j * scale
        * headQ (refX V0) h.val R d.val) hx
    (fun R j hR ha => by rw [dzed_off (hr.finite h) hR ha, zero_mul, zero_mul]) n r

theorem values_apply (hr : Reals (refX V0) (refB V0)) (h : Fin 8) (n : Fin 40) (r : Fin 64) (d : Fin 64) :
    (res_main_v149 V0 (ix5 0 h n r d) : EReal) = gradV (refX V0) (refB V0) (refD V0) h.val (64 * n.val + r.val) d.val := by
  have hx := fun n s => dv_apply V0 h n s d
  unfold res_main_v149
  generalize res_main_v101 V0 = x at hx ⊢
  clean_types; pointwise
  exact nine_back (fun n s => x (ix5 0 h n s d)) (fun R j =>
      prob (headQ (refX V0) h.val) (headK (refX V0) h.val) (headB (refB V0) h.val) R j * headG (refD V0) h.val R d.val) hx
    (fun R j hR ha => by rw [prob_off (hr.finite h) hR ha, zero_mul]) n r

/-- The heads side by side, as the reference moves them: the rows after the padding. -/
theorem moved (x : FVec Ideal S1x8x40x64x64 .f32) :
    (truncf .bf16 (shapeCast S2048x512 (shapeCast S1x2048x512 (transpose S1x2048x8x64 [0, 2, 1, 3] (shapeCast S1x8x2048x64
      (extractStridedSlice S1x8x32x64x64 ![0, 0, 8, 0, 0] x slices_S1x8x40x64x64_S1x8x32x64x64_0_0_8_0_0)
      shapeCasts_S1x8x32x64x64_S1x8x2048x64) transposes_S1x8x2048x64_S1x2048x8x64_0_2_1_3) shapeCasts_S1x2048x8x64_S1x2048x512)
      shapeCasts_S1x2048x512_S2048x512) bitsLt_bf16_f32 : FVec Ideal S2048x512 .bf16)
      = fun i => x (ix5 0 ⟨(i 1).val / 64, Nat.div_lt_of_lt_mul (i 1).isLt⟩ ⟨8 + (i 0).val / 64, by have : (i 0).val < 2048 := (i 0).isLt; omega⟩
          ⟨(i 0).val % 64, Nat.mod_lt _ (by decide)⟩ ⟨(i 1).val % 64, Nat.mod_lt _ (by decide)⟩) := by
  funext i
  obtain ⟨a, b, rfl⟩ := rows_cols i
  pointwise

/-- The heads side by side, of the queries' gradient. -/
theorem movedQ (x : FVec Ideal S1x8x32x64x576 .f32) (y : FVec Ideal S1x8x32x576x64 .f32) (i : Fin 2048) (j : Fin 512) :
    ((truncf .bf16 (shapeCast S2048x512 (shapeCast S1x2048x512 (transpose S1x2048x8x64 [0, 2, 1, 3] (shapeCast S1x8x2048x64
      (Host.dotGeneral dot_S1x8x32x64x576_S1x8x32x576x64_S1x8x32x64x64_4_3_3_4_012_012 none
        (mulf x (broadcastInDim S1x8x32x64x576 ![] bcast_S_S1x8x32x64x576 (constant S_ .f32 0x3E000000#32))) y)
      shapeCasts_S1x8x32x64x64_S1x8x2048x64) transposes_S1x8x2048x64_S1x2048x8x64_0_2_1_3) shapeCasts_S1x2048x8x64_S1x2048x512)
      shapeCasts_S1x2048x512_S2048x512) bitsLt_bf16_f32 : FVec Ideal S2048x512 .bf16) (ix2 i j) : EReal)
      = ∑ s : Fin 576, (x (ix5 0 ⟨j.val / 64, by omega⟩ ⟨i.val / 64, by omega⟩ ⟨i.val % 64, by omega⟩ s) : EReal) * scale
          * y (ix5 0 ⟨j.val / 64, by omega⟩ ⟨i.val / 64, by omega⟩ s ⟨j.val % 64, by omega⟩) := by
  pointwise
  rfl

/-- A sum over axes of size one has one term. -/
theorem reduce_outer (hR : (⟨5, ![1, 8, 1, 64, 576]⟩ : Shape).ReducesTo [0, 2] ⟨3, ![8, 64, 576]⟩)
    (v : (⟨5, ![1, 8, 1, 64, 576]⟩ : Shape).Idx → EReal) (z : EReal) (h : Fin 8) (n : Fin 64) (r : Fin 576) :
    Ideal.hostReduceAdd hR v z (ix3 h n r) = z + v (ix5 0 h 0 n r) := by
  refine congrArg (z + ·) ?_
  refine (Finset.sum_congr (s₂ := {ix5 0 h 0 n r}) ?_ fun _ _ => rfl).trans (Finset.sum_singleton _ _)
  ext i
  rw [Finset.mem_filter, Finset.mem_singleton]
  constructor
  · rintro ⟨-, e⟩
    funext a; apply Fin.ext
    match a with
    | ⟨0, _⟩ => exact Nat.lt_one_iff.mp (i 0).isLt
    | ⟨1, _⟩ => exact congrArg Fin.val (congrFun e 0)
    | ⟨2, _⟩ => exact Nat.lt_one_iff.mp (i 2).isLt
    | ⟨3, _⟩ => exact congrArg Fin.val (congrFun e 1)
    | ⟨4, _⟩ => exact congrArg Fin.val (congrFun e 2)
  · rintro rfl
    refine ⟨Finset.mem_univ _, ?_⟩
    funext b; apply Fin.ext
    match b with
    | ⟨0, _⟩ => rfl
    | ⟨1, _⟩ => rfl
    | ⟨2, _⟩ => rfl

/-- The bias' gradient: the sum over the chunks. -/
theorem summedB (x : FVec Ideal S1x8x32x64x576 .f32) (h : Fin 8) (r : Fin 64) (w : Fin 576) :
    ((Host.reduceAdd (shapeCast S1x8x1x64x576 (Host.reduceAdd x (constant S_ .f32 0x00000000#32) reducesTo_S1x8x32x64x576_S1x8x64x576_d2 h_S_)
      shapeCasts_S1x8x64x576_S1x8x1x64x576) (constant S_ .f32 0x00000000#32) reducesTo_S1x8x1x64x576_S8x64x576_d0_2 h_S_ : FVec Ideal S8x64x576 .f32) (ix3 h r w) : EReal)
      = ∑ n : Fin 32, (x (ix5 0 h n r w) : EReal) := by
  pointwise
  rw [reduce_outer]
  pointwise

variable {V0}

/-- The queries' gradient. -/
theorem outQ (hr : Reals (refX V0) (refB V0)) :
    (truncf .bf16 (shapeCast S2048x512 (shapeCast S1x2048x512 (transpose S1x2048x8x64 [0, 2, 1, 3] (shapeCast S1x8x2048x64
      (Host.dotGeneral dot_S1x8x32x64x576_S1x8x32x576x64_S1x8x32x64x64_4_3_3_4_012_012 none (φ₁ := .f32) (φ₂ := .f32) (res_main_v121 V0) (res_main_v29 V0))
      shapeCasts_S1x8x32x64x64_S1x8x2048x64) transposes_S1x8x2048x64_S1x2048x8x64_0_2_1_3) shapeCasts_S1x2048x8x64_S1x2048x512)
      shapeCasts_S1x2048x512_S2048x512) bitsLt_bf16_f32 : FVec Ideal S2048x512 .bf16)
      = resQ (refX V0) (refB V0) (refD V0) := by
  funext i
  obtain ⟨i, j, rfl⟩ := rows_cols i
  refine (movedQ (res_main_v116 V0) (res_main_v29 V0) i j).trans ?_
  show _ = dquery (headQ (refX V0) (j.val / 64)) (headK (refX V0) (j.val / 64)) (headV (refX V0) (j.val / 64)) (headG (refD V0) (j.val / 64))
    (headB (refB V0) (j.val / 64)) i.val (j.val % 64)
  unfold dquery
  rw [← sum_window (fun k => dzed (headQ (refX V0) (j.val / 64)) (headK (refX V0) (j.val / 64)) (headV (refX V0) (j.val / 64)) (headG (refD V0) (j.val / 64))
    (headB (refB V0) (j.val / 64)) i.val k * scale * headK (refX V0) (j.val / 64) k (j.val % 64)) 2560 (64 * (i.val / 64)) 576 (by omega) fun k _ hk => by
      rw [dzed_off (hr.finite ⟨j.val / 64, by omega⟩) i.isLt fun ha => hk (by unfold att at ha; omega), zero_mul, zero_mul]]
  refine Finset.sum_congr rfl fun s _ => ?_
  have hz := dz_apply V0 hr ⟨j.val / 64, by omega⟩ ⟨i.val / 64, by omega⟩ ⟨i.val % 64, by omega⟩ s
  have hk := v29_apply V0 ⟨j.val / 64, by omega⟩ ⟨i.val / 64, by omega⟩ s ⟨j.val % 64, by omega⟩
  dsimp only at hz hk
  have ei : 64 * (i.val / 64) + i.val % 64 = i.val := Nat.div_add_mod _ _
  rw [ei] at hz
  exact congrArg₂ (· * ·) (congrArg (· * scale) hz) hk

/-- The keys' gradient. -/
theorem outK (hr : Reals (refX V0) (refB V0)) :
    (truncf .bf16 (shapeCast S2048x512 (shapeCast S1x2048x512 (transpose S1x2048x8x64 [0, 2, 1, 3] (shapeCast S1x8x2048x64
      (extractStridedSlice S1x8x32x64x64 ![0, 0, 8, 0, 0] (res_main_v178 V0) slices_S1x8x40x64x64_S1x8x32x64x64_0_0_8_0_0)
      shapeCasts_S1x8x32x64x64_S1x8x2048x64) transposes_S1x8x2048x64_S1x2048x8x64_0_2_1_3) shapeCasts_S1x2048x8x64_S1x2048x512)
      shapeCasts_S1x2048x512_S2048x512) bitsLt_bf16_f32 : FVec Ideal S2048x512 .bf16)
      = resK (refX V0) (refB V0) (refD V0) := by
  refine (moved (res_main_v178 V0)).trans ?_
  funext i
  refine (keys_apply V0 hr _ _ _ _).trans ?_
  show gradK _ _ _ _ (64 * (8 + (i 0).val / 64) + (i 0).val % 64) _ = gradK _ _ _ _ ((i 0).val + 512) _
  have e : 64 * (8 + (i 0).val / 64) + (i 0).val % 64 = (i 0).val + 512 := by omega
  rw [e]

/-- The values' gradient. -/
theorem outV (hr : Reals (refX V0) (refB V0)) :
    (truncf .bf16 (shapeCast S2048x512 (shapeCast S1x2048x512 (transpose S1x2048x8x64 [0, 2, 1, 3] (shapeCast S1x8x2048x64
      (extractStridedSlice S1x8x32x64x64 ![0, 0, 8, 0, 0] (res_main_v149 V0) slices_S1x8x40x64x64_S1x8x32x64x64_0_0_8_0_0)
      shapeCasts_S1x8x32x64x64_S1x8x2048x64) transposes_S1x8x2048x64_S1x2048x8x64_0_2_1_3) shapeCasts_S1x2048x8x64_S1x2048x512)
      shapeCasts_S1x2048x512_S2048x512) bitsLt_bf16_f32 : FVec Ideal S2048x512 .bf16)
      = resV (refX V0) (refB V0) (refD V0) := by
  refine (moved (res_main_v149 V0)).trans ?_
  funext i
  refine (values_apply V0 hr _ _ _ _).trans ?_
  show gradV _ _ _ _ (64 * (8 + (i 0).val / 64) + (i 0).val % 64) _ = gradV _ _ _ _ ((i 0).val + 512) _
  have e : 64 * (8 + (i 0).val / 64) + (i 0).val % 64 = (i 0).val + 512 := by omega
  rw [e]

/-- The bias' gradient. -/
theorem outB (hr : Reals (refX V0) (refB V0)) :
    (Host.reduceAdd (shapeCast S1x8x1x64x576 (Host.reduceAdd (res_main_v116 V0) (constant S_ .f32 0x00000000#32) reducesTo_S1x8x32x64x576_S1x8x64x576_d2 h_S_)
      shapeCasts_S1x8x64x576_S1x8x1x64x576) (constant S_ .f32 0x00000000#32) reducesTo_S1x8x1x64x576_S8x64x576_d0_2 h_S_ : FVec Ideal S8x64x576 .f32)
      = resB (refX V0) (refB V0) (refD V0) := by
  funext i
  obtain ⟨h, r, w, rfl⟩ : ∃ (a : Fin 8) (b : Fin 64) (c : Fin 576), i = ix3 a b c := by
    refine ⟨i 0, i 1, i 2, ?_⟩
    funext a
    match a with
    | ⟨0, _⟩ => rfl
    | ⟨1, _⟩ => rfl
    | ⟨2, _⟩ => rfl
  refine (summedB (res_main_v116 V0) h r w).trans ?_
  exact Finset.sum_congr (M := EReal) rfl fun n _ => dz_apply V0 hr h n r w

/-- What the reference computes. -/
theorem values (m : (ℓ : Loc nD τ sig) → Buf (Elt Ideal) ℓ) (ρ : Dev nD → PrngReg)
    (hr : ∀ c : Dev nD, Reals (refX (launchContents m c)) (refB (launchContents m c))) :
    θ_run defs (onTc (τ := τ) (main (F := Ideal))) ⟨m, fun _ => 0, ρ⟩ (fun r => ∀ c : Dev nD,
      r.2.mem ((c.tc : Thread nD τ).loc main_v190) = resQ (refX (launchContents m c)) (refB (launchContents m c)) (refD (launchContents m c))
      ∧ r.2.mem ((c.tc : Thread nD τ).loc main_v192) = resK (refX (launchContents m c)) (refB (launchContents m c)) (refD (launchContents m c))
      ∧ r.2.mem ((c.tc : Thread nD τ).loc main_v194) = resV (refX (launchContents m c)) (refB (launchContents m c)) (refD (launchContents m c))
      ∧ r.2.mem ((c.tc : Thread nD τ).loc main_v119) = resB (refX (launchContents m c)) (refB (launchContents m c)) (refD (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (outQ (hr c)), (h c).2.1.trans (outK (hr c)), (h c).2.2.1.trans (outV (hr c)),
    (h c).2.2.2.1.trans (outB (hr c)), (h c).2.2.2.2⟩) (Cert.ReferenceIdeal.Value.run (F := Ideal) m ρ)

end Cert.ReferenceIdeal.Attn

end
-- ==== Proof.Pre.lean ====
module

public import proofs.«01_k».proof.Defs
public import proofs.«01_k».proof.Proof.Heads
public import proofs.«01_k».proof.Proof.Arrays

@[expose] public section

/-!
# What the precondition says

Its words say that the magnitudes lie below infinity: the numbers are real.
-/

noncomputable section

namespace Cert.Attn

open Idealize.ShloMosaic

theorem inf_word : Ideal.ofBits .f32 0x7F800000#32 = (⊤ : EReal) := by decide +kernel

/-- A magnitude below infinity is a real number's. -/
theorem real_of_word {x : EReal} (h : BitVec.ofBool (decide (max x (-x) < Ideal.ofBits .f32 2139095040#32)) = 1#1) : ∃ r : ℝ, x = r := by
  have hlt : max x (-x) < ⊤ := by
    rw [← inf_word]
    by_contra hc
    rw [decide_eq_false hc] at h
    exact absurd h (by decide)
  refine ⟨x.toReal, (EReal.coe_toReal ?_ ?_).symm⟩
  · rintro rfl; exact absurd hlt (by simp)
  · rintro rfl; exact absurd hlt (by simp)

/-- The side conditions of the precondition's operations. -/
theorem pre_facts : Cert.Pre_finite.Facts := by constructor <;> decide

theorem reals_of_pre (m : (ℓ : Loc Cert.KernelIdeal.nD Cert.KernelIdeal.τ Cert.KernelIdeal.sig) → Buf (Elt Ideal) ℓ)
    (h : haveI := pre_facts; Cert.Pre_KernelIdeal_finite m) (c : Dev Cert.KernelIdeal.nD) :
    Reals (Cert.KernelIdeal.Band.argX m c) (Cert.KernelIdeal.Band.argB m c) := by
  haveI := pre_facts
  obtain ⟨hx, hb⟩ := h c
  constructor
  · intro i j h1 h2
    have e := congrFun hx (ix2 i ⟨j.val - 1536, by omega⟩)
    unfold Cert.Pre_finite.fn at e
    dsimp only at e
    pointwise at e
    have ej : (⟨1536 + (j.val - 1536), by omega⟩ : Fin 3072) = j := Fin.ext (by dsimp only; omega)
    rw [ej] at e
    exact real_of_word e
  · intro a r w
    have e := congrFun hb (ix3 a r w)
    unfold Cert.Pre_finite.fn at e
    dsimp only at e
    pointwise at e
    exact real_of_word e

end Cert.Attn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8Ideal.Skeleton
public import proofs.«01_k».proof.Proof.Gen.Kernel8Ideal.Frame
public import proofs.«01_k».proof.Proof.Gen.Reference8Ideal.Run
public import proofs.«01_k».proof.Proof.Gen.Kernel9
public import proofs.«01_k».proof.Proof.Gen.Kernel9Ideal.Skeleton
public import proofs.«01_k».proof.Proof.Gen.Kernel9Ideal.Frame
public import proofs.«01_k».proof.Proof.Gen.Reference9Ideal.Run
public import proofs.«01_k».proof.Proof.Gen.Kernel10
public import proofs.«01_k».proof.Proof.Gen.Kernel10Ideal.Skeleton
public import proofs.«01_k».proof.Proof.Gen.Kernel10Ideal.Frame
public import proofs.«01_k».proof.Proof.Gen.Reference10Ideal.Run
public import proofs.«01_k».proof.Proof.Dw
public import proofs.«01_k».proof.Proof.InVal
public import proofs.«01_k».proof.Proof.DwDown
public import proofs.«01_k».proof.Proof.Down
public import proofs.«01_k».proof.Proof.DwIn
public import proofs.«01_k».proof.Proof.QkvVal
public import proofs.«01_k».proof.Proof.UpVal
public import proofs.«01_k».proof.Proof.UpWord
public import proofs.«01_k».proof.Proof.FwdVal
public import proofs.«01_k».proof.Proof.FwdWord
public import proofs.«01_k».proof.Proof.ActVal
public import proofs.«01_k».proof.Proof.ActWord
public import proofs.«01_k».proof.Proof.Sound
public import proofs.«01_k».proof.Proof.Transfer
public import proofs.«01_k».proof.Proof.Results
public import proofs.«01_k».proof.Proof.RefRes
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The frame of the banded attention's kernel over the words. -/
theorem frame_kernel : Cert.quiescent_Kernel := fun m ρ _ => Cert.Kernel.Band.frame m ρ

/-- The frame of the banded attention's kernel over the extended reals. -/
theorem frame_ideal : Cert.quiescent_KernelIdeal := fun m ρ _ => Cert.KernelIdeal.Band.frame m ρ

/-- The frame of the banded attention's reference: it declares no semaphore. -/
theorem frame_reference : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The mask's literal is minus infinity at its name. -/
theorem preserved : Cert.preserves_Kernel_KernelIdeal :=
  IdealRules.named_const.statement Cert.KernelIdeal.κ "mask" .f32 0xF149F2CA#32 ⊥ rfl

/-- The kernel and the reference compute the same four gradients of real queries, keys and biases. -/
theorem algebra : haveI := Cert.Attn.pre_facts; Cert.algebraic_KernelIdeal_ReferenceIdeal_pre_finite := by
  haveI := Cert.Attn.pre_facts
  intro m g m' g' hpre hargs
  have hr := Cert.Attn.reals_of_pre m hpre
  have hX : ∀ c, Cert.ReferenceIdeal.Attn.refX (StableHlo.launchContents m' c) = Cert.KernelIdeal.Band.argX m c := fun c => (hargs c).1
  have hB : ∀ c, Cert.ReferenceIdeal.Attn.refB (StableHlo.launchContents m' c) = Cert.KernelIdeal.Band.argB m c := fun c => (hargs c).2.1
  have hD : ∀ c, Cert.ReferenceIdeal.Attn.refD (StableHlo.launchContents m' c) = Cert.KernelIdeal.Band.argD m c := fun c => (hargs c).2.2.1
  have href := Cert.ReferenceIdeal.Attn.values m' g' fun c => by rw [hX, hB]; exact hr c
  simp only [hX, hB, hD] at href
  exact ⟨_, _, _, _, Cert.KernelIdeal.Band.values g hr, href⟩

/-- The frame of the kernel over the words, of the FFN's gate and up weight gradients. -/
theorem frame_kernel2 : Cert.quiescent_Kernel2 := fun m ρ _ => Cert.Kernel2.Gen.frame m ρ

/-- The frame of the kernel over the extended reals, of the FFN's gate and up weight gradients. -/
theorem frame_ideal2 : Cert.quiescent_Kernel2Ideal := fun m ρ _ => Cert.Kernel2Ideal.Gen.frame m ρ

/-- The frame of the reference, of the FFN's gate and up weight gradients. -/
theorem frame_reference2 : Cert.quiescent_Reference2Ideal := fun m ρ _ =>
  (θ_run Cert.Reference2Ideal.defs _ _).mono (fun r h => ⟨fun c => (h c).2.2,
      Idealize.ShloMosaic.sem_eq_zero_of_no_sems (by decide) r.2⟩)
    (Cert.Reference2Ideal.Value.run (F := Ideal) m ρ)

/-- Kernel and reference compute the same, of the FFN's gate and up weight gradients. -/
theorem algebra2 : Cert.algebraic_Kernel2Ideal_Reference2Ideal := by
  intro m g m' g' _ hargs
  refine ⟨fun c => Cert.Kernel2Ideal.Dw.ref (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => truncf .bf16 (Cert.Kernel2Ideal.Dw.ref (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) Cert.Reference2Ideal.Gen.bitsLt_bf16_f32,
    (θ_run Cert.Kernel2Ideal.defs _ _).mono (fun r h c => ⟨(h c).1.trans (Cert.Kernel2Ideal.Dw.final m c), (h c).2.1.trans (Cert.Kernel2Ideal.Dw.final_half m c), (h c).2.2⟩) (Cert.Kernel2Ideal.Value.run_blocks m g),
    (θ_run Cert.Reference2Ideal.defs _ _).mono (fun r h c => ⟨(h c).1.trans ?_, (h c).2.1.trans ?_, (h c).2.2⟩) (Cert.Reference2Ideal.Value.run m' g')⟩
  · refine Eq.trans (b := Cert.Kernel2Ideal.Dw.ref (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) rfl ?_
    rw [(hargs c).1, (hargs c).2]
  · refine Eq.trans (b := truncf .bf16 (Cert.Kernel2Ideal.Dw.ref (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1))) Cert.Reference2Ideal.Gen.bitsLt_bf16_f32) rfl ?_
    rw [(hargs c).1, (hargs c).2]

/-- The frame of the kernel over the words, of the gradients at the FFN's input. -/
theorem frame_kernel3 : Cert.quiescent_Kernel3 := fun m ρ _ => Cert.Kernel3.Gen.frame m ρ

/-- The frame of the kernel over the extended reals, of the gradients at the FFN's input. -/
theorem frame_ideal3 : Cert.quiescent_Kernel3Ideal := fun m ρ _ => Cert.Kernel3Ideal.Gen.frame m ρ

/-- The frame of the reference, of the gradients at the FFN's input. -/
theorem frame_reference3 : Cert.quiescent_Reference3Ideal := fun m ρ _ =>
  (θ_run Cert.Reference3Ideal.defs _ _).mono (fun r h => ⟨fun c => (h c).2.2,
      Idealize.ShloMosaic.sem_eq_zero_of_no_sems (by decide) r.2⟩)
    (Cert.Reference3Ideal.Value.run (F := Ideal) m ρ)

/-- Kernel and reference compute the same, of the gradients at the FFN's input. -/
theorem algebra3 : Cert.algebraic_Kernel3Ideal_Reference3Ideal := by
  intro m g m' g' _ hargs
  refine ⟨fun c => Cert.Reference3Ideal.In.dxR (Cert.Reference3Ideal.In.dnR (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)),
    fun c => Cert.Reference3Ideal.In.dgR (Cert.Reference3Ideal.In.dnR (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) (m ((c.tc : Thread Cert.Kernel3Ideal.nD Cert.Kernel3Ideal.τ).loc Cert.Kernel3Ideal.main_arg4)),
    (θ_run Cert.Kernel3Ideal.defs _ _).mono (fun r h c => ⟨(h c).1.trans (Cert.Kernel3Ideal.In.final m c), (h c).2.1.trans (Cert.Kernel3Ideal.In.final_gain m c), (h c).2.2⟩) (Cert.Kernel3Ideal.Value.run_blocks m g),
    (θ_run Cert.Reference3Ideal.defs _ _).mono (fun r h c => ⟨(h c).1.trans ?_, (h c).2.1.trans ?_, (h c).2.2⟩) (Cert.Reference3Ideal.Value.run m' g')⟩
  · refine (Cert.Reference3Ideal.In.res_dx m' c).trans ?_
    rw [(hargs c).1, (hargs c).2.1, (hargs c).2.2.1, (hargs c).2.2.2.1, (hargs c).2.2.2.2.1, (hargs c).2.2.2.2.2.1, (hargs c).2.2.2.2.2.2]
  · refine Eq.trans (b := Cert.Reference3Ideal.In.dgR (Cert.Reference3Ideal.In.dnR (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))) (m' ((c.tc : Thread Cert.Reference3Ideal.nD Cert.Reference3Ideal.τ).loc Cert.Reference3Ideal.main_arg4))) rfl ?_
    rw [(hargs c).1, (hargs c).2.1, (hargs c).2.2.1, (hargs c).2.2.2.1, (hargs c).2.2.2.2.1]

/-- The frame of the kernel over the words, of the FFN's down weight gradients. -/
theorem frame_kernel4 : Cert.quiescent_Kernel4 := fun m ρ _ => Cert.Kernel4.Gen.frame m ρ

/-- The frame of the kernel over the extended reals, of the FFN's down weight gradients. -/
theorem frame_ideal4 : Cert.quiescent_Kernel4Ideal := fun m ρ _ => Cert.Kernel4Ideal.Gen.frame m ρ

/-- The frame of the reference, of the FFN's down weight gradients. -/
theorem frame_reference4 : Cert.quiescent_Reference4Ideal := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

/-- Kernel and reference compute the same, of the FFN's down weight gradients. -/
theorem algebra4 : Cert.algebraic_Kernel4Ideal_Reference4Ideal := by
  intro m g m' g' _ hargs
  refine ⟨fun c => Cert.Kernel4Ideal.Dw.ref (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    fun c => truncf .bf16 (Cert.Kernel4Ideal.Dw.ref (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) Cert.Reference4Ideal.Gen.bitsLt_bf16_f32,
    (θ_run Cert.Kernel4Ideal.defs _ _).mono (fun r h c => ⟨(h c).1.trans (Cert.Kernel4Ideal.Dw.final m c), (h c).2.1.trans (Cert.Kernel4Ideal.Dw.final_half m c), (h c).2.2⟩) (Cert.Kernel4Ideal.Value.run_blocks m g),
    (θ_run Cert.Reference4Ideal.defs _ _).mono (fun r h c => ⟨(h c).1.trans ?_, (h c).2.1.trans ?_, (h c).2.2⟩) (Cert.Reference4Ideal.Value.run m' g')⟩
  · refine Eq.trans (b := Cert.Kernel4Ideal.Dw.ref (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))) rfl ?_
    rw [(hargs c).1, (hargs c).2.1]
  · refine Eq.trans (b := truncf .bf16 (Cert.Kernel4Ideal.Dw.ref (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1))) Cert.Reference4Ideal.Gen.bitsLt_bf16_f32) rfl ?_
    rw [(hargs c).1, (hargs c).2.1]

/-- The frame of the kernel over the words, of the FFN's second projection. -/
theorem frame_kernel5 : Cert.quiescent_Kernel5 := fun m ρ _ => Cert.Kernel5.Gen.frame m ρ

/-- The frame of the kernel over the extended reals, of the FFN's second projection. -/
theorem frame_ideal5 : Cert.quiescent_Kernel5Ideal := fun m ρ _ => Cert.Kernel5Ideal.Gen.frame m ρ

/-- The frame of the reference, of the FFN's second projection. -/
theorem frame_reference5 : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

/-- Kernel and reference compute the same, of the FFN's second projection. -/
theorem algebra5 : Cert.algebraic_Kernel5Ideal_Reference5Ideal := by
  intro m g m' g' _ hargs
  refine ⟨fun c => Cert.Reference5Ideal.Down.hR (m ((c.tc : Thread Cert.Kernel5Ideal.nD Cert.Kernel5Ideal.τ).loc Cert.Kernel5Ideal.main_arg0)) (Cert.Reference5Ideal.Down.fR (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg3))) (m ((c.tc : Thread Cert.Kernel5Ideal.nD Cert.Kernel5Ideal.τ).loc Cert.Kernel5Ideal.main_arg2)),
    fun c => (Cert.Reference5Ideal.Down.fR (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg3))),
    (θ_run Cert.Kernel5Ideal.defs _ _).mono (fun r h c => ⟨(h c).1.trans (Cert.Kernel5Ideal.Down.final m c), (h c).2.1.trans (Cert.Kernel5Ideal.Down.final_f m c), (h c).2.2⟩) (Cert.Kernel5Ideal.Value.run_blocks m g),
    (θ_run Cert.Reference5Ideal.defs _ _).mono (fun r h c => ⟨(h c).1.trans ?_, (h c).2.1.trans ?_, (h c).2.2⟩) (Cert.Reference5Ideal.Value.run m' g')⟩
  · refine Eq.trans (b := Cert.Reference5Ideal.Down.hR (m' ((c.tc : Thread Cert.Reference5Ideal.nD Cert.Reference5Ideal.τ).loc Cert.Reference5Ideal.main_arg0)) (Cert.Reference5Ideal.Down.fR (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3))) (m' ((c.tc : Thread Cert.Reference5Ideal.nD Cert.Reference5Ideal.τ).loc Cert.Reference5Ideal.main_arg2))) rfl ?_
    rw [(hargs c).1, (hargs c).2.1, (hargs c).2.2.1, (hargs c).2.2.2]
  · refine Eq.trans (b := (Cert.Reference5Ideal.Down.fR (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg3)))) rfl ?_
    rw [(hargs c).2.1, (hargs c).2.2.2]

/-- The frame of the kernel over the words, of the weight gradients of the projection to queries, keys and values. -/
theorem frame_kernel6 : Cert.quiescent_Kernel6 := fun m ρ _ => Cert.Kernel6.Gen.frame m ρ

/-- The frame of the kernel over the extended reals, of the weight gradients of the projection to queries, keys and values. -/
theorem frame_ideal6 : Cert.quiescent_Kernel6Ideal := fun m ρ _ => Cert.Kernel6Ideal.Gen.frame m ρ

/-- The frame of the reference, of the weight gradients of the projection to queries, keys and values. -/
theorem frame_reference6 : Cert.quiescent_Reference6Ideal := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)

/-- Kernel and reference compute the same, of the weight gradients of the projection to queries, keys and values. -/
theorem algebra6 : Cert.algebraic_Kernel6Ideal_Reference6Ideal := by
  intro m g m' g' _ hargs
  refine ⟨fun c => Cert.Kernel6Ideal.DwIn.ref (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)),
    fun c => truncf .bf16 (Cert.Kernel6Ideal.DwIn.ref (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6))) Cert.Reference6Ideal.Gen.bitsLt_bf16_f32,
    (θ_run Cert.Kernel6Ideal.defs _ _).mono (fun r h c => ⟨(h c).1.trans (Cert.Kernel6Ideal.DwIn.final m c), (h c).2.1.trans (Cert.Kernel6Ideal.DwIn.final_half m c), (h c).2.2⟩) (Cert.Kernel6Ideal.Value.run_blocks m g),
    (θ_run Cert.Reference6Ideal.defs _ _).mono (fun r h c => ⟨(h c).1.trans ?_, (h c).2.1.trans ?_, (h c).2.2⟩) (Cert.Reference6Ideal.Value.run m' g')⟩
  · refine Eq.trans (b := Cert.Kernel6Ideal.DwIn.ref (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6))) rfl ?_
    rw [(hargs c).1, (hargs c).2.1, (hargs c).2.2.1, (hargs c).2.2.2.1, (hargs c).2.2.2.2.1, (hargs c).2.2.2.2.2.1, (hargs c).2.2.2.2.2.2]
  · refine Eq.trans (b := truncf .bf16 (Cert.Kernel6Ideal.DwIn.ref (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6))) Cert.Reference6Ideal.Gen.bitsLt_bf16_f32) rfl ?_
    rw [(hargs c).1, (hargs c).2.1, (hargs c).2.2.1, (hargs c).2.2.2.1, (hargs c).2.2.2.2.1, (hargs c).2.2.2.2.2.1, (hargs c).2.2.2.2.2.2]

/-- The frame of the kernel over the words, of the gradients at that projection's input. -/
theorem frame_kernel7 : Cert.quiescent_Kernel7 := fun m ρ _ => Cert.Kernel7.Gen.frame m ρ

/-- The frame of the kernel over the extended reals, of the gradients at that projection's input. -/
theorem frame_ideal7 : Cert.quiescent_Kernel7Ideal := fun m ρ _ => Cert.Kernel7Ideal.Gen.frame m ρ

/-- The frame of the reference, of the gradients at that projection's input. -/
theorem frame_reference7 : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

/-- Kernel and reference compute the same, of the gradients at that projection's input. -/
theorem algebra7 : Cert.algebraic_Kernel7Ideal_Reference7Ideal := by
  intro m g m' g' _ hargs
  refine ⟨fun c => Cert.Reference3Ideal.In.dxR (Cert.Reference7Ideal.Qkv.dnR (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)),
    fun c => Cert.Reference3Ideal.In.dgR (Cert.Reference7Ideal.Qkv.dnR (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) (m ((c.tc : Thread Cert.Kernel7Ideal.nD Cert.Kernel7Ideal.τ).loc Cert.Kernel7Ideal.main_arg7)),
    (θ_run Cert.Kernel7Ideal.defs _ _).mono (fun r h c => ⟨(h c).1.trans (Cert.Kernel7Ideal.Qkv.final m c), (h c).2.1.trans (Cert.Kernel7Ideal.Qkv.final_gain m c), (h c).2.2⟩) (Cert.Kernel7Ideal.Value.run_blocks m g),
    (θ_run Cert.Reference7Ideal.defs _ _).mono (fun r h c => ⟨(h c).1.trans ?_, (h c).2.1.trans ?_, (h c).2.2⟩) (Cert.Reference7Ideal.Value.run m' g')⟩
  · refine (Cert.Reference7Ideal.Qkv.res_dx m' c).trans ?_
    rw [(hargs c).1, (hargs c).2.1, (hargs c).2.2.1, (hargs c).2.2.2.1, (hargs c).2.2.2.2.1, (hargs c).2.2.2.2.2.1, (hargs c).2.2.2.2.2.2.1, (hargs c).2.2.2.2.2.2.2.1, (hargs c).2.2.2.2.2.2.2.2.1, (hargs c).2.2.2.2.2.2.2.2.2]
  · refine Eq.trans (b := Cert.Reference3Ideal.In.dgR (Cert.Reference7Ideal.Qkv.dnR (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) (m' ((c.tc : Thread Cert.Reference7Ideal.nD Cert.Reference7Ideal.τ).loc Cert.Reference7Ideal.main_arg4)) (m' ((c.tc : Thread Cert.Reference7Ideal.nD Cert.Reference7Ideal.τ).loc Cert.Reference7Ideal.main_arg5)) (m' ((c.tc : Thread Cert.Reference7Ideal.nD Cert.Reference7Ideal.τ).loc Cert.Reference7Ideal.main_arg6))) (m' ((c.tc : Thread Cert.Reference7Ideal.nD Cert.Reference7Ideal.τ).loc Cert.Reference7Ideal.main_arg7))) rfl ?_
    rw [(hargs c).1, (hargs c).2.1, (hargs c).2.2.1, (hargs c).2.2.2.1, (hargs c).2.2.2.2.1, (hargs c).2.2.2.2.2.1, (hargs c).2.2.2.2.2.2.1, (hargs c).2.2.2.2.2.2.2.1]

/-- The frame of the kernel over the words, of the FFN's first projections. -/
theorem frame_kernel8 : Cert.quiescent_Kernel8 := fun m ρ _ => Cert.Kernel8.Up.frame m ρ

/-- The frame of the kernel over the extended reals, of the FFN's first projections. -/
theorem frame_ideal8 : Cert.quiescent_Kernel8Ideal := fun m ρ _ => Cert.Kernel8Ideal.Up.frame m ρ

/-- The frame of the reference, of the FFN's first projections. -/
theorem frame_reference8 : Cert.quiescent_Reference8Ideal := fun m ρ _ =>
  (θ_run Cert.Reference8Ideal.defs _ _).mono (fun r h => ⟨fun c => (h c).2.2.2.2,
      Idealize.ShloMosaic.sem_eq_zero_of_no_sems (by decide) r.2⟩)
    (Cert.Reference8Ideal.Value.run (F := Ideal) m ρ)

/-- Kernel and reference compute the same, of the FFN's first projections. -/
theorem algebra8 : Cert.algebraic_Kernel8Ideal_Reference8Ideal := by
  intro m g m' g' _ hargs
  refine ⟨fun c => truncf .bf16 (Cert.Reference8Ideal.Up.nR (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) Cert.Reference8Ideal.Gen.bitsLt_bf16_f32,
    fun c => Cert.Reference8Ideal.Up.shardsR (Cert.Reference8Ideal.Up.projR (Cert.Reference8Ideal.Up.nR (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) (m ((c.tc : Thread Cert.Kernel8Ideal.nD Cert.Kernel8Ideal.τ).loc Cert.Kernel8Ideal.main_arg2))),
    fun c => Cert.Reference8Ideal.Up.shardsR (Cert.Reference8Ideal.Up.projR (Cert.Reference8Ideal.Up.nR (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) (m ((c.tc : Thread Cert.Kernel8Ideal.nD Cert.Kernel8Ideal.τ).loc Cert.Kernel8Ideal.main_arg3))),
    fun c => truncf .bf16 (Cert.Reference8Ideal.Up.shardsR (Cert.Reference8Ideal.Up.actR (Cert.Reference8Ideal.Up.projR (Cert.Reference8Ideal.Up.nR (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) (m ((c.tc : Thread Cert.Kernel8Ideal.nD Cert.Kernel8Ideal.τ).loc Cert.Kernel8Ideal.main_arg2))) (Cert.Reference8Ideal.Up.projR (Cert.Reference8Ideal.Up.nR (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) (m ((c.tc : Thread Cert.Kernel8Ideal.nD Cert.Kernel8Ideal.τ).loc Cert.Kernel8Ideal.main_arg3))))) Cert.Reference8Ideal.Gen.bitsLt_bf16_f32,
    (θ_run Cert.Kernel8Ideal.defs _ _).mono (fun r h c => ⟨(h c).1.trans (Cert.Kernel8Ideal.Up.final_rows m c), (h c).2.1.trans (Cert.Kernel8Ideal.Up.final_gate m c), (h c).2.2.1.trans (Cert.Kernel8Ideal.Up.final_up m c), (h c).2.2.2.1.trans (Cert.Kernel8Ideal.Up.final_act m c), (h c).2.2.2.2⟩) (Cert.Kernel8Ideal.Up.run_blocks m g),
    (θ_run Cert.Reference8Ideal.defs _ _).mono (fun r h c => ⟨(h c).1.trans ?_, (h c).2.1.trans ?_, (h c).2.2.1.trans ?_, (h c).2.2.2.1.trans ?_, (h c).2.2.2.2⟩) (Cert.Reference8Ideal.Value.run m' g')⟩
  · refine Eq.trans (b := truncf .bf16 (Cert.Reference8Ideal.Up.nR (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))) Cert.Reference8Ideal.Gen.bitsLt_bf16_f32) rfl ?_
    rw [(hargs c).1, (hargs c).2.1]
  · refine Eq.trans (b := Cert.Reference8Ideal.Up.shardsR (Cert.Reference8Ideal.Up.projR (Cert.Reference8Ideal.Up.nR (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))) (m' ((c.tc : Thread Cert.Reference8Ideal.nD Cert.Reference8Ideal.τ).loc Cert.Reference8Ideal.main_arg2)))) rfl ?_
    rw [(hargs c).1, (hargs c).2.1, (hargs c).2.2.1]
  · refine Eq.trans (b := Cert.Reference8Ideal.Up.shardsR (Cert.Reference8Ideal.Up.projR (Cert.Reference8Ideal.Up.nR (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))) (m' ((c.tc : Thread Cert.Reference8Ideal.nD Cert.Reference8Ideal.τ).loc Cert.Reference8Ideal.main_arg3)))) rfl ?_
    rw [(hargs c).1, (hargs c).2.1, (hargs c).2.2.2]
  · refine Eq.trans (b := truncf .bf16 (Cert.Reference8Ideal.Up.shardsR (Cert.Reference8Ideal.Up.actR (Cert.Reference8Ideal.Up.projR (Cert.Reference8Ideal.Up.nR (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))) (m' ((c.tc : Thread Cert.Reference8Ideal.nD Cert.Reference8Ideal.τ).loc Cert.Reference8Ideal.main_arg2))) (Cert.Reference8Ideal.Up.projR (Cert.Reference8Ideal.Up.nR (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))) (m' ((c.tc : Thread Cert.Reference8Ideal.nD Cert.Reference8Ideal.τ).loc Cert.Reference8Ideal.main_arg3))))) Cert.Reference8Ideal.Gen.bitsLt_bf16_f32) rfl ?_
    rw [(hargs c).1, (hargs c).2.1, (hargs c).2.2.1, (hargs c).2.2.2]

/-- The frame of the kernel over the words, of the whole FFN. -/
theorem frame_kernel9 : Cert.quiescent_Kernel9 := fun m ρ _ => Cert.Kernel9.Fwd.frame m ρ

/-- The frame of the kernel over the extended reals, of the whole FFN. -/
theorem frame_ideal9 : Cert.quiescent_Kernel9Ideal := fun m ρ _ => Cert.Kernel9Ideal.Fwd.frame m ρ

/-- The frame of the reference, of the whole FFN. -/
theorem frame_reference9 : Cert.quiescent_Reference9Ideal := fun m ρ _ =>
  (θ_run Cert.Reference9Ideal.defs _ _).mono (fun r h => ⟨fun c => (h c).2.2.2.2.2.2,
      Idealize.ShloMosaic.sem_eq_zero_of_no_sems (by decide) r.2⟩)
    (Cert.Reference9Ideal.Value.run (F := Ideal) m ρ)

/-- Kernel and reference compute the same, of the whole FFN. -/
theorem algebra9 : Cert.algebraic_Kernel9Ideal_Reference9Ideal := by
  intro m g m' g' _ hargs
  refine ⟨fun c => Cert.Reference9Ideal.Fwd.hR (m ((c.tc : Thread Cert.Kernel9Ideal.nD Cert.Kernel9Ideal.τ).loc Cert.Kernel9Ideal.main_arg0)) (Cert.Reference9Ideal.Fwd.fR (Cert.Reference8Ideal.Up.actR (Cert.Reference8Ideal.Up.projR (Cert.Reference8Ideal.Up.nR (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) (m ((c.tc : Thread Cert.Kernel9Ideal.nD Cert.Kernel9Ideal.τ).loc Cert.Kernel9Ideal.main_arg3))) (Cert.Reference8Ideal.Up.projR (Cert.Reference8Ideal.Up.nR (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) (m ((c.tc : Thread Cert.Kernel9Ideal.nD Cert.Kernel9Ideal.τ).loc Cert.Kernel9Ideal.main_arg4)))) (m ((c.tc : Thread Cert.Kernel9Ideal.nD Cert.Kernel9Ideal.τ).loc Cert.Kernel9Ideal.main_arg5))) (m ((c.tc : Thread Cert.Kernel9Ideal.nD Cert.Kernel9Ideal.τ).loc Cert.Kernel9Ideal.main_arg2)),
    fun c => truncf .bf16 (Cert.Reference8Ideal.Up.nR (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) Cert.Reference9Ideal.Gen.bitsLt_bf16_f32,
    fun c => Cert.Reference8Ideal.Up.shardsR (Cert.Reference8Ideal.Up.projR (Cert.Reference8Ideal.Up.nR (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) (m ((c.tc : Thread Cert.Kernel9Ideal.nD Cert.Kernel9Ideal.τ).loc Cert.Kernel9Ideal.main_arg3))),
    fun c => Cert.Reference8Ideal.Up.shardsR (Cert.Reference8Ideal.Up.projR (Cert.Reference8Ideal.Up.nR (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) (m ((c.tc : Thread Cert.Kernel9Ideal.nD Cert.Kernel9Ideal.τ).loc Cert.Kernel9Ideal.main_arg4))),
    fun c => truncf .bf16 (Cert.Reference8Ideal.Up.shardsR (Cert.Reference8Ideal.Up.actR (Cert.Reference8Ideal.Up.projR (Cert.Reference8Ideal.Up.nR (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) (m ((c.tc : Thread Cert.Kernel9Ideal.nD Cert.Kernel9Ideal.τ).loc Cert.Kernel9Ideal.main_arg3))) (Cert.Reference8Ideal.Up.projR (Cert.Reference8Ideal.Up.nR (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) (m ((c.tc : Thread Cert.Kernel9Ideal.nD Cert.Kernel9Ideal.τ).loc Cert.Kernel9Ideal.main_arg4))))) Cert.Reference9Ideal.Gen.bitsLt_bf16_f32,
    fun c => (Cert.Reference9Ideal.Fwd.fR (Cert.Reference8Ideal.Up.actR (Cert.Reference8Ideal.Up.projR (Cert.Reference8Ideal.Up.nR (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) (m ((c.tc : Thread Cert.Kernel9Ideal.nD Cert.Kernel9Ideal.τ).loc Cert.Kernel9Ideal.main_arg3))) (Cert.Reference8Ideal.Up.projR (Cert.Reference8Ideal.Up.nR (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1))) (m ((c.tc : Thread Cert.Kernel9Ideal.nD Cert.Kernel9Ideal.τ).loc Cert.Kernel9Ideal.main_arg4)))) (m ((c.tc : Thread Cert.Kernel9Ideal.nD Cert.Kernel9Ideal.τ).loc Cert.Kernel9Ideal.main_arg5))),
    (θ_run Cert.Kernel9Ideal.defs _ _).mono (fun r h c => ⟨(h c).1.trans (Cert.Kernel9Ideal.Fwd.final_sum m c), (h c).2.1.trans (Cert.Kernel9Ideal.Fwd.final_rows m c), (h c).2.2.1.trans (Cert.Kernel9Ideal.Fwd.final_gate m c), (h c).2.2.2.1.trans (Cert.Kernel9Ideal.Fwd.final_up m c), (h c).2.2.2.2.1.trans (Cert.Kernel9Ideal.Fwd.final_act m c), (h c).2.2.2.2.2.1.trans (Cert.Kernel9Ideal.Fwd.final_f m c), (h c).2.2.2.2.2.2⟩) (Cert.Kernel9Ideal.Fwd.run_blocks m g),
    (θ_run Cert.Reference9Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Reference9Ideal.Value.run m' g')⟩
  · refine Eq.trans (b := Cert.Reference9Ideal.Fwd.hR (m' ((c.tc : Thread Cert.Reference9Ideal.nD Cert.Reference9Ideal.τ).loc Cert.Reference9Ideal.main_arg0)) (Cert.Reference9Ideal.Fwd.fR (Cert.Reference8Ideal.Up.actR (Cert.Reference8Ideal.Up.projR (Cert.Reference8Ideal.Up.nR (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))) (m' ((c.tc : Thread Cert.Reference9Ideal.nD Cert.Reference9Ideal.τ).loc Cert.Reference9Ideal.main_arg3))) (Cert.Reference8Ideal.Up.projR (Cert.Reference8Ideal.Up.nR (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))) (m' ((c.tc : Thread Cert.Reference9Ideal.nD Cert.Reference9Ideal.τ).loc Cert.Reference9Ideal.main_arg4)))) (m' ((c.tc : Thread Cert.Reference9Ideal.nD Cert.Reference9Ideal.τ).loc Cert.Reference9Ideal.main_arg5))) (m' ((c.tc : Thread Cert.Reference9Ideal.nD Cert.Reference9Ideal.τ).loc Cert.Reference9Ideal.main_arg2))) rfl ?_
    rw [(hargs c).1, (hargs c).2.1, (hargs c).2.2.1, (hargs c).2.2.2.1, (hargs c).2.2.2.2.1, (hargs c).2.2.2.2.2]
  · refine Eq.trans (b := truncf .bf16 (Cert.Reference8Ideal.Up.nR (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))) Cert.Reference9Ideal.Gen.bitsLt_bf16_f32) rfl ?_
    rw [(hargs c).1, (hargs c).2.1]
  · refine Eq.trans (b := Cert.Reference8Ideal.Up.shardsR (Cert.Reference8Ideal.Up.projR (Cert.Reference8Ideal.Up.nR (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))) (m' ((c.tc : Thread Cert.Reference9Ideal.nD Cert.Reference9Ideal.τ).loc Cert.Reference9Ideal.main_arg3)))) rfl ?_
    rw [(hargs c).1, (hargs c).2.1, (hargs c).2.2.2.1]
  · refine Eq.trans (b := Cert.Reference8Ideal.Up.shardsR (Cert.Reference8Ideal.Up.projR (Cert.Reference8Ideal.Up.nR (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))) (m' ((c.tc : Thread Cert.Reference9Ideal.nD Cert.Reference9Ideal.τ).loc Cert.Reference9Ideal.main_arg4)))) rfl ?_
    rw [(hargs c).1, (hargs c).2.1, (hargs c).2.2.2.2.1]
  · refine Eq.trans (b := truncf .bf16 (Cert.Reference8Ideal.Up.shardsR (Cert.Reference8Ideal.Up.actR (Cert.Reference8Ideal.Up.projR (Cert.Reference8Ideal.Up.nR (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))) (m' ((c.tc : Thread Cert.Reference9Ideal.nD Cert.Reference9Ideal.τ).loc Cert.Reference9Ideal.main_arg3))) (Cert.Reference8Ideal.Up.projR (Cert.Reference8Ideal.Up.nR (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))) (m' ((c.tc : Thread Cert.Reference9Ideal.nD Cert.Reference9Ideal.τ).loc Cert.Reference9Ideal.main_arg4))))) Cert.Reference9Ideal.Gen.bitsLt_bf16_f32) rfl ?_
    rw [(hargs c).1, (hargs c).2.1, (hargs c).2.2.2.1, (hargs c).2.2.2.2.1]
  · refine Eq.trans (b := (Cert.Reference9Ideal.Fwd.fR (Cert.Reference8Ideal.Up.actR (Cert.Reference8Ideal.Up.projR (Cert.Reference8Ideal.Up.nR (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))) (m' ((c.tc : Thread Cert.Reference9Ideal.nD Cert.Reference9Ideal.τ).loc Cert.Reference9Ideal.main_arg3))) (Cert.Reference8Ideal.Up.projR (Cert.Reference8Ideal.Up.nR (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))) (m' ((c.tc : Thread Cert.Reference9Ideal.nD Cert.Reference9Ideal.τ).loc Cert.Reference9Ideal.main_arg4)))) (m' ((c.tc : Thread Cert.Reference9Ideal.nD Cert.Reference9Ideal.τ).loc Cert.Reference9Ideal.main_arg5)))) rfl ?_
    rw [(hargs c).1, (hargs c).2.1, (hargs c).2.2.2.1, (hargs c).2.2.2.2.1, (hargs c).2.2.2.2.2]

/-- The frame of the kernel over the words, of the FFN's backward pass to its activations. -/
theorem frame_kernel10 : Cert.quiescent_Kernel10 := fun m ρ _ => Cert.Kernel10.Act.frame m ρ

/-- The frame of the kernel over the extended reals, of the FFN's backward pass to its activations. -/
theorem frame_ideal10 : Cert.quiescent_Kernel10Ideal := fun m ρ _ => Cert.Kernel10Ideal.Act.frame m ρ

/-- The frame of the reference, of the FFN's backward pass to its activations. -/
theorem frame_reference10 : Cert.quiescent_Reference10Ideal := fun m ρ _ =>
  (θ_run Cert.Reference10Ideal.defs _ _).mono (fun r h => ⟨fun c => (h c).2.2.2.2,
      Idealize.ShloMosaic.sem_eq_zero_of_no_sems (by decide) r.2⟩)
    (Cert.Reference10Ideal.Value.run (F := Ideal) m ρ)

/-- Kernel and reference compute the same, of the FFN's backward pass to its activations. -/
theorem algebra10 : Cert.algebraic_Kernel10Ideal_Reference10Ideal := by
  intro m g m' g' _ hargs
  refine ⟨fun c => truncf .bf16 (Cert.Reference10Ideal.Act.dgateR (Cert.Reference10Ideal.Act.dactR (Cert.Reference10Ideal.Act.dfR (Cert.Reference10Ideal.Act.dnR (m ((c.tc : Thread Cert.Kernel10Ideal.nD Cert.Kernel10Ideal.τ).loc Cert.Kernel10Ideal.main_arg0))) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) (m ((c.tc : Thread Cert.Kernel10Ideal.nD Cert.Kernel10Ideal.τ).loc Cert.Kernel10Ideal.main_arg3))) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5))) Cert.Reference10Ideal.Gen.bitsLt_bf16_f32,
    fun c => truncf .bf16 (Cert.Reference10Ideal.Act.dupR (Cert.Reference10Ideal.Act.dactR (Cert.Reference10Ideal.Act.dfR (Cert.Reference10Ideal.Act.dnR (m ((c.tc : Thread Cert.Kernel10Ideal.nD Cert.Kernel10Ideal.τ).loc Cert.Kernel10Ideal.main_arg0))) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) (m ((c.tc : Thread Cert.Kernel10Ideal.nD Cert.Kernel10Ideal.τ).loc Cert.Kernel10Ideal.main_arg3))) (m ((c.tc : Thread Cert.Kernel10Ideal.nD Cert.Kernel10Ideal.τ).loc Cert.Kernel10Ideal.main_arg4))) Cert.Reference10Ideal.Gen.bitsLt_bf16_f32,
    fun c => truncf .bf16 (Cert.Reference10Ideal.Act.dfR (Cert.Reference10Ideal.Act.dnR (m ((c.tc : Thread Cert.Kernel10Ideal.nD Cert.Kernel10Ideal.τ).loc Cert.Kernel10Ideal.main_arg0))) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) Cert.Reference10Ideal.Gen.bitsLt_bf16_f32,
    fun c => Cert.Reference10Ideal.Act.dgR (Cert.Reference10Ideal.Act.dnR (m ((c.tc : Thread Cert.Kernel10Ideal.nD Cert.Kernel10Ideal.τ).loc Cert.Kernel10Ideal.main_arg0))) (m ((c.tc : Thread Cert.Kernel10Ideal.nD Cert.Kernel10Ideal.τ).loc Cert.Kernel10Ideal.main_arg1)),
    (θ_run Cert.Kernel10Ideal.defs _ _).mono (fun r h c => ⟨(h c).1.trans (Cert.Kernel10Ideal.Act.final_gate m c), (h c).2.1.trans (Cert.Kernel10Ideal.Act.final_up m c), (h c).2.2.1.trans (Cert.Kernel10Ideal.Act.final_df m c), (h c).2.2.2.1.trans (Cert.Kernel10Ideal.Act.final_gain m c), (h c).2.2.2.2⟩) (Cert.Kernel10Ideal.Act.run_blocks m g),
    (θ_run Cert.Reference10Ideal.defs _ _).mono (fun r h c => ⟨(h c).1.trans ?_, (h c).2.1.trans ?_, (h c).2.2.1.trans ?_, (h c).2.2.2.1.trans ?_, (h c).2.2.2.2⟩) (Cert.Reference10Ideal.Value.run m' g')⟩
  · refine Eq.trans (b := truncf .bf16 (Cert.Reference10Ideal.Act.dgateR (Cert.Reference10Ideal.Act.dactR (Cert.Reference10Ideal.Act.dfR (Cert.Reference10Ideal.Act.dnR (m' ((c.tc : Thread Cert.Reference10Ideal.nD Cert.Reference10Ideal.τ).loc Cert.Reference10Ideal.main_arg0))) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2))) (m' ((c.tc : Thread Cert.Reference10Ideal.nD Cert.Reference10Ideal.τ).loc Cert.Reference10Ideal.main_arg3))) (m' ((c.tc : Thread Cert.Reference10Ideal.nD Cert.Reference10Ideal.τ).loc Cert.Reference10Ideal.main_arg4)) (m' ((c.tc : Thread Cert.Reference10Ideal.nD Cert.Reference10Ideal.τ).loc Cert.Reference10Ideal.main_arg5))) Cert.Reference10Ideal.Gen.bitsLt_bf16_f32) rfl ?_
    rw [(hargs c).1, (hargs c).2.1, (hargs c).2.2.1, (hargs c).2.2.2.1, (hargs c).2.2.2.2.1, (hargs c).2.2.2.2.2]
  · refine Eq.trans (b := truncf .bf16 (Cert.Reference10Ideal.Act.dupR (Cert.Reference10Ideal.Act.dactR (Cert.Reference10Ideal.Act.dfR (Cert.Reference10Ideal.Act.dnR (m' ((c.tc : Thread Cert.Reference10Ideal.nD Cert.Reference10Ideal.τ).loc Cert.Reference10Ideal.main_arg0))) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2))) (m' ((c.tc : Thread Cert.Reference10Ideal.nD Cert.Reference10Ideal.τ).loc Cert.Reference10Ideal.main_arg3))) (m' ((c.tc : Thread Cert.Reference10Ideal.nD Cert.Reference10Ideal.τ).loc Cert.Reference10Ideal.main_arg4))) Cert.Reference10Ideal.Gen.bitsLt_bf16_f32) rfl ?_
    rw [(hargs c).1, (hargs c).2.1, (hargs c).2.2.1, (hargs c).2.2.2.1, (hargs c).2.2.2.2.1]
  · refine Eq.trans (b := truncf .bf16 (Cert.Reference10Ideal.Act.dfR (Cert.Reference10Ideal.Act.dnR (m' ((c.tc : Thread Cert.Reference10Ideal.nD Cert.Reference10Ideal.τ).loc Cert.Reference10Ideal.main_arg0))) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2))) Cert.Reference10Ideal.Gen.bitsLt_bf16_f32) rfl ?_
    rw [(hargs c).1, (hargs c).2.1, (hargs c).2.2.1]
  · refine Eq.trans (b := Cert.Reference10Ideal.Act.dgR (Cert.Reference10Ideal.Act.dnR (m' ((c.tc : Thread Cert.Reference10Ideal.nD Cert.Reference10Ideal.τ).loc Cert.Reference10Ideal.main_arg0))) (m' ((c.tc : Thread Cert.Reference10Ideal.nD Cert.Reference10Ideal.τ).loc Cert.Reference10Ideal.main_arg1))) rfl ?_
    rw [(hargs c).1, (hargs c).2.1]

/-- All the claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
    Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Attn.pre_facts,
    frame_kernel, frame_ideal, fun m ρ _ => frame_ideal m ρ trivial, frame_reference, fun m ρ _ => frame_reference m ρ trivial,
    frame_kernel2, frame_ideal2, frame_reference2, frame_kernel3, frame_ideal3, frame_reference3, frame_kernel4, frame_ideal4, frame_reference4, frame_kernel5, frame_ideal5, frame_reference5, frame_kernel6, frame_ideal6, frame_reference6, frame_kernel7, frame_ideal7, frame_reference7,
    frame_kernel8, frame_ideal8, frame_reference8, frame_kernel9, frame_ideal9, frame_reference9, frame_kernel10, frame_ideal10, frame_reference10, preserved, algebra,
    trivial, algebra2, trivial, algebra3, trivial, algebra4, trivial, algebra5, trivial, algebra6, trivial, algebra7, trivial, algebra8, trivial, algebra9, trivial, algebra10⟩

end Cert.Proof

end
